-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_conv_columns [hKernel2Ideal : Cert.Kernel2Ideal.Facts] [hReference2Ideal : Cert.Reference2Ideal.Facts] [hOn_conv_columns : Cert.On_conv_columns.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![4096, 2304]⟩ : Shape).Idx, (Cert.On_conv_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 i = 1#1 → r.2.mem ((c.tc : Thread Cert.Kernel2Ideal.nD Cert.Kernel2Ideal.τ).loc Cert.Kernel2Ideal.main_v1_0) i = v0 c i)
          ∧ (∀ i : (⟨2, ![3, 512]⟩ : Shape).Idx, (Cert.On_conv_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 i = 1#1 → r.2.mem ((c.tc : Thread Cert.Kernel2Ideal.nD Cert.Kernel2Ideal.τ).loc Cert.Kernel2Ideal.main_v1_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![4096, 2304]⟩ : Shape).Idx, (Cert.On_conv_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 i = 1#1 → r.2.mem ((c.tc : Thread Cert.Reference2Ideal.nD Cert.Reference2Ideal.τ).loc Cert.Reference2Ideal.main_v75) i = v0 c i)
          ∧ (∀ i : (⟨2, ![3, 512]⟩ : Shape).Idx, (Cert.On_conv_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 i = 1#1 → r.2.mem ((c.tc : Thread Cert.Reference2Ideal.nD Cert.Reference2Ideal.τ).loc Cert.Reference2Ideal.main_v63) i = v1 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v17)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_v19) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_v19) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_v15) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)) (v3 : (c : Dev Cert.Kernel13Ideal.nD) → Buf (Elt Ideal) ((c.tc : Thread Cert.Kernel13Ideal.nD Cert.Kernel13Ideal.τ).loc Cert.Kernel13Ideal.main_v2_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_v2_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_v14) = v1 c
          ∧ r.2.mem ((c.tc : Thread Cert.Reference13Ideal.nD Cert.Reference13Ideal.τ).loc Cert.Reference13Ideal.main_v15) = v2 c
          ∧ r.2.mem ((c.tc : Thread Cert.Reference13Ideal.nD Cert.Reference13Ideal.τ).loc Cert.Reference13Ideal.main_v16) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v51_0)) (v1 : (c : Dev Cert.Kernel15Ideal.nD) → Buf (Elt Ideal) ((c.tc : Thread Cert.Kernel15Ideal.nD Cert.Kernel15Ideal.τ).loc Cert.Kernel15Ideal.main_v51_1)) (v2 : (c : Dev Cert.Kernel15Ideal.nD) → Buf (Elt Ideal) ((c.tc : Thread Cert.Kernel15Ideal.nD Cert.Kernel15Ideal.τ).loc Cert.Kernel15Ideal.main_v51_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v51_0) = v0 c
          ∧ r.2.mem ((c.tc : Thread Cert.Kernel15Ideal.nD Cert.Kernel15Ideal.τ).loc Cert.Kernel15Ideal.main_v51_1) = v1 c
          ∧ r.2.mem ((c.tc : Thread Cert.Kernel15Ideal.nD Cert.Kernel15Ideal.τ).loc Cert.Kernel15Ideal.main_v51_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v61) = v0 c
          ∧ r.2.mem ((c.tc : Thread Cert.Reference15Ideal.nD Cert.Reference15Ideal.τ).loc Cert.Reference15Ideal.main_v64) = v1 c
          ∧ r.2.mem ((c.tc : Thread Cert.Reference15Ideal.nD Cert.Reference15Ideal.τ).loc Cert.Reference15Ideal.main_v67) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v49) = v1 c
          ∧ r.2.mem ((c.tc : Thread Cert.Reference16Ideal.nD Cert.Reference16Ideal.τ).loc Cert.Reference16Ideal.main_v33) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v24_0)) (v1 : (c : Dev Cert.Kernel17Ideal.nD) → Buf (Elt Ideal) ((c.tc : Thread Cert.Kernel17Ideal.nD Cert.Kernel17Ideal.τ).loc Cert.Kernel17Ideal.main_v24_1)) (v2 : (c : Dev Cert.Kernel17Ideal.nD) → Buf (Elt Ideal) ((c.tc : Thread Cert.Kernel17Ideal.nD Cert.Kernel17Ideal.τ).loc Cert.Kernel17Ideal.main_v24_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v24_0) = v0 c
          ∧ r.2.mem ((c.tc : Thread Cert.Kernel17Ideal.nD Cert.Kernel17Ideal.τ).loc Cert.Kernel17Ideal.main_v24_1) = v1 c
          ∧ r.2.mem ((c.tc : Thread Cert.Kernel17Ideal.nD Cert.Kernel17Ideal.τ).loc Cert.Kernel17Ideal.main_v24_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v28) = v0 c
          ∧ r.2.mem ((c.tc : Thread Cert.Reference17Ideal.nD Cert.Reference17Ideal.τ).loc Cert.Reference17Ideal.main_v32) = v1 c
          ∧ r.2.mem ((c.tc : Thread Cert.Reference17Ideal.nD Cert.Reference17Ideal.τ).loc Cert.Reference17Ideal.main_v25) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite10 : Cert.Pre_finite10.Facts) (hPre_finite11 : Cert.Pre_finite11.Facts) (hPre_finite15 : Cert.Pre_finite15.Facts) (hPre_finite16 : Cert.Pre_finite16.Facts) (hPre_finite17 : Cert.Pre_finite17.Facts) (hOn_conv_columns : Cert.On_conv_columns.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_conv_columns (hKernel2Ideal := hKernel2Ideal) (hReference2Ideal := hReference2Ideal) (hOn_conv_columns := hOn_conv_columns)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal_pre_finite17 (hKernel17Ideal := hKernel17Ideal) (hReference17Ideal := hReference17Ideal) (hPre_finite17 := hPre_finite17)
-- ==== On_conv_columns.lean ====
abbrev S4096x1536 : Shape := ⟨2, ![4096, 1536]⟩
abbrev S3x512 : Shape := ⟨2, ![3, 512]⟩
abbrev S4096x1024 : Shape := ⟨2, ![4096, 1024]⟩
abbrev S4096x2304 : Shape := ⟨2, ![4096, 2304]⟩
abbrev S_ : Shape := ⟨0, ![]⟩

class Facts : Prop where
  bcast_S_S4096x2304 : S_.BroadcastsInDim S4096x2304 (![] : Fin 0 → Fin S4096x2304.rank)
  bcast_S_S3x512 : S_.BroadcastsInDim S3x512 (![] : Fin 0 → Fin S3x512.rank)

variable [Facts]

def fn {F : FTy → Type} [FloatOps F] (main_arg0 : FVec F S4096x1536 .f32) (main_arg1 : FVec F S3x512 .f32) (main_arg2 : FVec F S4096x1024 .f32) : IVec S4096x2304 1 × IVec S3x512 1 :=
  let main_v0 : IVec S4096x2304 32 := iotaInDim S4096x2304 32 1
  let main_c : IVec S_ 32 := constantI S_ 32 1536#32
  let main_v1 : IVec S4096x2304 32 := broadcastInDim S4096x2304 ![] bcast_S_S4096x2304 main_c
  let main_v2 : IVec S4096x2304 1 := cmpi .slt main_v0 main_v1
  let main_c_0 : IVec S_ 1 := constantI S_ 1 1#1
  let main_v3 : IVec S3x512 1 := broadcastInDim S3x512 ![] bcast_S_S3x512 main_c_0
  (main_v2, main_v3)
-- ==== Pre_finite.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1x1024 .f32) (main_arg3 : FVec F S1024x5632 .f32) (main_arg4 : FVec F S2816x1024 .f32) : IVec S4096x1024 1 × IVec S4096x1024 1 × IVec S1x1024 1 × IVec S1024x5632 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite10.lean ====
abbrev S4096x2304 : Shape := ⟨2, ![4096, 2304]⟩
abbrev S4096x1024 : Shape := ⟨2, ![4096, 1024]⟩
abbrev S1x1024 : Shape := ⟨2, ![1, 1024]⟩
abbrev S1024x2304 : Shape := ⟨2, ![1024, 2304]⟩
abbrev S_ : Shape := ⟨0, ![]⟩

class Facts : Prop where
  bcast_S_S4096x2304 : S_.BroadcastsInDim S4096x2304 (![] : Fin 0 → Fin S4096x2304.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2304 : S_.BroadcastsInDim S1024x2304 (![] : Fin 0 → Fin S1024x2304.rank)

variable [Facts]

def fn {F : FTy → Type} [FloatOps F] (main_arg0 : FVec F S4096x2304 .f32) (main_arg1 : FVec F S4096x1024 .f32) (main_arg2 : FVec F S4096x1024 .f32) (main_arg3 : FVec F S1x1024 .f32) (main_arg4 : FVec F S1024x2304 .f32) : IVec S4096x2304 1 × IVec S4096x1024 1 × IVec S4096x1024 1 × IVec S1x1024 1 × IVec S1024x2304 1 :=
  let main_v0 : FVec F S4096x2304 .f32 := Host.absf main_arg0
  let main_cst : FVec F S_ .f32 := constant S_ .f32 0x7F800000#32
  let main_v1 : FVec F S4096x2304 .f32 := broadcastInDim S4096x2304 ![] bcast_S_S4096x2304 main_cst
  let main_v2 : IVec S4096x2304 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x2304 .f32 := Host.absf main_arg4
  let main_cst_3 : FVec F S_ .f32 := constant S_ .f32 0x7F800000#32
  let main_v13 : FVec F S1024x2304 .f32 := broadcastInDim S1024x2304 ![] bcast_S_S1024x2304 main_cst_3
  let main_v14 : IVec S1024x2304 1 := cmpf .olt main_v12 main_v13
  (main_v2, main_v5, main_v8, main_v11, main_v14)
-- ==== Pre_finite11.lean ====
abbrev S4096x1536 : Shape := ⟨2, ![4096, 1536]⟩
abbrev S4096x1024 : Shape := ⟨2, ![4096, 1024]⟩
abbrev S1x1024 : Shape := ⟨2, ![1, 1024]⟩
abbrev S1024x1536 : Shape := ⟨2, ![1024, 1536]⟩
abbrev S_ : Shape := ⟨0, ![]⟩

class Facts : Prop where
  bcast_S_S4096x1536 : S_.BroadcastsInDim S4096x1536 (![] : Fin 0 → Fin S4096x1536.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x1536 : S_.BroadcastsInDim S1024x1536 (![] : Fin 0 → Fin S1024x1536.rank)

variable [Facts]

def fn {F : FTy → Type} [FloatOps F] (main_arg0 : FVec F S4096x1536 .f32) (main_arg1 : FVec F S4096x1024 .f32) (main_arg2 : FVec F S4096x1024 .f32) (main_arg3 : FVec F S1x1024 .f32) (main_arg4 : FVec F S1024x1536 .f32) : IVec S4096x1536 1 × IVec S4096x1024 1 × IVec S4096x1024 1 × IVec S1x1024 1 × IVec S1024x1536 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x1536 .f32 := Host.absf main_arg4
  let main_cst_3 : FVec F S_ .f32 := constant S_ .f32 0x7F800000#32
  let main_v13 : FVec F S1024x1536 .f32 := broadcastInDim S1024x1536 ![] bcast_S_S1024x1536 main_cst_3
  let main_v14 : IVec S1024x1536 1 := cmpf .olt main_v12 main_v13
  (main_v2, main_v5, main_v8, main_v11, main_v14)
-- ==== Pre_finite15.lean ====
abbrev S4096x512 : Shape := ⟨2, ![4096, 512]⟩
abbrev S4096x128 : Shape := ⟨2, ![4096, 128]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)
  bcast_S_S4096x1024 : S_.BroadcastsInDim S4096x1024 (![] : Fin 0 → Fin S4096x1024.rank)

variable [Facts]

def fn {F : FTy → Type} [FloatOps F] (main_arg0 : FVec F S4096x512 .f32) (main_arg1 : FVec F S4096x128 .f32) (main_arg2 : FVec F S4096x128 .f32) (main_arg3 : FVec F S4096x1024 .f32) : IVec S4096x512 1 × IVec S4096x128 1 × IVec S4096x128 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : FVec F S4096x128 .f32 := Host.absf main_arg2
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite16.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1x1024 .f32) (main_arg2 : FVec F S4096x1024 .f32) : IVec S4096x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite17.lean ====
abbrev S4096x512 : Shape := ⟨2, ![4096, 512]⟩
abbrev S4096x128 : Shape := ⟨2, ![4096, 128]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)

variable [Facts]

def fn {F : FTy → Type} [FloatOps F] (main_arg0 : FVec F S4096x512 .f32) (main_arg1 : FVec F S4096x128 .f32) (main_arg2 : FVec F S4096x128 .f32) (main_arg3 : FVec F S4096x1024 .f32) : IVec S4096x512 1 × IVec S4096x128 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  (main_v2, main_v5)
-- ==== Kernel.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x11x256 : Shape := ⟨3, ![4096, 11, 256]⟩
abbrev S4096x11x512 : Shape := ⟨3, ![4096, 11, 512]⟩
abbrev S1024x1024 : Shape := ⟨2, ![1024, 1024]⟩
abbrev S1024x512 : Shape := ⟨2, ![1024, 512]⟩
abbrev S256x1024 : Shape := ⟨2, ![256, 1024]⟩
abbrev S1024x256 : Shape := ⟨2, ![1024, 256]⟩
abbrev S512x1024 : Shape := ⟨2, ![512, 1024]⟩
abbrev S512x256 : Shape := ⟨2, ![512, 256]⟩
abbrev S1024 : Shape := ⟨1, ![1024]⟩
abbrev S1024x1 : Shape := ⟨2, ![1024, 1]⟩

abbrev nBuf : Space → Nat
  | .hbm => 36
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S5632x1024, .f32⟩
  | .hbm, ⟨6, _⟩ => ⟨S5632x1024, .bf16⟩
  | .hbm, ⟨7, _⟩ => ⟨S2816x1024, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x11x256, .f32⟩
  | .hbm, ⟨27, _⟩ => ⟨S4096x11x256, .f32⟩
  | .hbm, ⟨28, _⟩ => ⟨S4096x11x512, .f32⟩
  | .hbm, ⟨29, _⟩ => ⟨S4096x5632, .f32⟩
  | .hbm, ⟨30, _⟩ => ⟨S4096x5632, .bf16⟩
  | .hbm, ⟨31, _⟩ => ⟨S4096x1024, .f32⟩
  | .hbm, ⟨32, _⟩ => ⟨S1x1024, .f32⟩
  | .hbm, ⟨33, _⟩ => ⟨S4096x2816, .bf16⟩
  | .hbm, ⟨34, _⟩ => ⟨S4096x5632, .bf16⟩
  | .hbm, ⟨35, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x256, .bf16⟩
  | .local _ .vmem, ⟨17, _⟩ => ⟨S1024x256, .bf16⟩
  | .local _ .vmem, ⟨18, _⟩ => ⟨S1024x512, .bf16⟩
  | .local _ .vmem, ⟨19, _⟩ => ⟨S1024x512, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v50 : BitVec 1 := Scalar.cmpi .eq arg1 c10_i32
  let v51 : BitVec 32 := Scalar.extui v50
  let c0_i32_29 : BitVec 32 := 0#32
  let v52 : BitVec 1 := Scalar.cmpi .ne v51 c0_i32_29
  v52

def k0_cond3 (i : grid0.Coords) : BitVec 1 :=
  let arg0 : BitVec 32 := BitVec.ofNat 32 (i 0).val
  let c0_i32_46 : BitVec 32 := 0#32
  let v84 : BitVec 1 := Scalar.cmpi .eq arg0 c0_i32_46
  let v85 : BitVec 32 := Scalar.extui v84
  let c0_i32_47 : BitVec 32 := 0#32
  let v86 : BitVec 1 := Scalar.cmpi .ne v85 c0_i32_47
  v86

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096x5632 : Shape := ⟨2, ![4096, 5632]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S4096x11x256 : Shape := ⟨3, ![4096, 11, 256]⟩
abbrev S4096x11x512 : Shape := ⟨3, ![4096, 11, 512]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S_, .f32⟩
  | .hbm, ⟨6, _⟩ => ⟨S4096x5632, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x5632, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x2816, .f32⟩
  | .hbm, ⟨90, _⟩ => ⟨S4096x2816, .f32⟩
  | .hbm, ⟨91, _⟩ => ⟨S4096x11x256, .f32⟩
  | .hbm, ⟨92, _⟩ => ⟨S4096x11x256, .f32⟩
  | .hbm, ⟨93, _⟩ => ⟨S4096x11x512, .f32⟩
  | .hbm, ⟨94, _⟩ => ⟨S4096x5632, .f32⟩
  | .hbm, ⟨95, _⟩ => ⟨S4096x2816, .bf16⟩
  | .hbm, ⟨96, _⟩ => ⟨S4096x5632, .bf16⟩
  | .hbm, ⟨97, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Kernel2.lean ====
abbrev S4096x1536 : Shape := ⟨2, ![4096, 1536]⟩
abbrev S3x512 : Shape := ⟨2, ![3, 512]⟩
abbrev S4096x1024 : Shape := ⟨2, ![4096, 1024]⟩
abbrev S4096x2304 : Shape := ⟨2, ![4096, 2304]⟩
abbrev S2048x512 : Shape := ⟨2, ![2048, 512]⟩
abbrev S2048x1536 : Shape := ⟨2, ![2048, 1536]⟩
abbrev S1x512 : Shape := ⟨2, ![1, 512]⟩
abbrev S512 : Shape := ⟨1, ![512]⟩
abbrev S2x512 : Shape := ⟨2, ![2, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x1536, .f32⟩
  | .hbm, ⟨1, _⟩ => ⟨S3x512, .f32⟩
  | .hbm, ⟨2, _⟩ => ⟨S4096x1024, .f32⟩
  | .hbm, ⟨3, _⟩ => ⟨S4096x1024, .bf16⟩
  | .hbm, ⟨4, _⟩ => ⟨S4096x2304, .bf16⟩
  | .hbm, ⟨5, _⟩ => ⟨S3x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S2048x512, .bf16⟩
  | .local _ .vmem, ⟨8, _⟩ => ⟨S2048x512, .bf16⟩
  | .local _ .vmem, ⟨9, _⟩ => ⟨S2048x1536, .bf16⟩
  | .local _ .vmem, ⟨10, _⟩ => ⟨S2048x1536, .bf16⟩
  | .local _ .vmem, ⟨11, _⟩ => ⟨S3x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x1536 : Shape := ⟨2, ![4096, 1536]⟩
abbrev S3x512 : Shape := ⟨2, ![3, 512]⟩
abbrev S4096x1024 : Shape := ⟨2, ![4096, 1024]⟩
abbrev S2x2048x1536 : Shape := ⟨3, ![2, 2048, 1536]⟩
abbrev S2x2048x512 : Shape := ⟨3, ![2, 2048, 512]⟩
abbrev S_ : Shape := ⟨0, ![]⟩
abbrev S2x1x512 : Shape := ⟨3, ![2, 1, 512]⟩
abbrev S2x2050x512 : Shape := ⟨3, ![2, 2050, 512]⟩
abbrev S1x512 : Shape := ⟨2, ![1, 512]⟩
abbrev S512 : Shape := ⟨1, ![512]⟩
abbrev S1x1x512 : Shape := ⟨3, ![1, 1, 512]⟩
abbrev S4096x512 : Shape := ⟨2, ![4096, 512]⟩
abbrev S4096x768 : Shape := ⟨2, ![4096, 768]⟩
abbrev S4096x2304 : Shape := ⟨2, ![4096, 2304]⟩

abbrev nBuf : Space → Nat
  | .hbm => 95
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S3x512, .f32⟩
  | .hbm, ⟨2, _⟩ => ⟨S4096x1024, .f32⟩
  | .hbm, ⟨3, _⟩ => ⟨S2x2048x1536, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S_, .f32⟩
  | .hbm, ⟨9, _⟩ => ⟨S2x1x512, .f32⟩
  | .hbm, ⟨10, _⟩ => ⟨S2x2050x512, .f32⟩
  | .hbm, ⟨11, _⟩ => ⟨S_, .f32⟩
  | .hbm, ⟨12, _⟩ => ⟨S2x1x512, .f32⟩
  | .hbm, ⟨13, _⟩ => ⟨S_, .f32⟩
  | .hbm, ⟨14, _⟩ => ⟨S2x1x512, .f32⟩
  | .hbm, ⟨15, _⟩ => ⟨S2x2048x512, .f32⟩
  | .hbm, ⟨16, _⟩ => ⟨S1x512, .f32⟩
  | .hbm, ⟨17, _⟩ => ⟨S512, .f32⟩
  | .hbm, ⟨18, _⟩ => ⟨S1x1x512, .f32⟩
  | .hbm, ⟨19, _⟩ => ⟨S2x2048x512, .f32⟩
  | .hbm, ⟨20, _⟩ => ⟨S2x2048x512, .f32⟩
  | .hbm, ⟨21, _⟩ => ⟨S2x2048x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S2x2048x512, .f32⟩
  | .hbm, ⟨26, _⟩ => ⟨S2x2048x512, .f32⟩
  | .hbm, ⟨27, _⟩ => ⟨S2x2048x512, .f32⟩
  | .hbm, ⟨28, _⟩ => ⟨S2x2048x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S2x2048x512, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S4096x512, .f32⟩
  | .hbm, ⟨37, _⟩ => ⟨S4096x512, .f32⟩
  | .hbm, ⟨38, _⟩ => ⟨S2x2048x512, .f32⟩
  | .hbm, ⟨39, _⟩ => ⟨S2x2048x512, .f32⟩
  | .hbm, ⟨40, _⟩ => ⟨S2x2048x512, .f32⟩
  | .hbm, ⟨41, _⟩ => ⟨S2x2048x512, .f32⟩
  | .hbm, ⟨42, _⟩ => ⟨S_, .f32⟩
  | .hbm, ⟨43, _⟩ => ⟨S512, .f32⟩
  | .hbm, ⟨44, _⟩ => ⟨S1x1x512, .f32⟩
  | .hbm, ⟨45, _⟩ => ⟨S2x2048x512, .f32⟩
  | .hbm, ⟨46, _⟩ => ⟨S2x2048x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S_, .f32⟩
  | .hbm, ⟨51, _⟩ => ⟨S3x512, .f32⟩
  | .hbm, ⟨52, _⟩ => ⟨S_, .f32⟩
  | .hbm, ⟨53, _⟩ => ⟨S2x2050x512, .f32⟩
  | .hbm, ⟨54, _⟩ => ⟨S2x2048x512, .f32⟩
  | .hbm, ⟨55, _⟩ => ⟨S_, .f32⟩
  | .hbm, ⟨56, _⟩ => ⟨S512, .f32⟩
  | .hbm, ⟨57, _⟩ => ⟨S1x1x512, .f32⟩
  | .hbm, ⟨58, _⟩ => ⟨S2x2048x512, .f32⟩
  | .hbm, ⟨59, _⟩ => ⟨S2x2048x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S_, .f32⟩
  | .hbm, ⟨64, _⟩ => ⟨S3x512, .f32⟩
  | .hbm, ⟨65, _⟩ => ⟨S3x512, .f32⟩
  | .hbm, ⟨66, _⟩ => ⟨S_, .f32⟩
  | .hbm, ⟨67, _⟩ => ⟨S2x2050x512, .f32⟩
  | .hbm, ⟨68, _⟩ => ⟨S2x2050x512, .f32⟩
  | .hbm, ⟨69, _⟩ => ⟨S2x2048x512, .f32⟩
  | .hbm, ⟨70, _⟩ => ⟨S_, .f32⟩
  | .hbm, ⟨71, _⟩ => ⟨S512, .f32⟩
  | .hbm, ⟨72, _⟩ => ⟨S1x1x512, .f32⟩
  | .hbm, ⟨73, _⟩ => ⟨S2x2048x512, .f32⟩
  | .hbm, ⟨74, _⟩ => ⟨S2x2048x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S_, .f32⟩
  | .hbm, ⟨79, _⟩ => ⟨S3x512, .f32⟩
  | .hbm, ⟨80, _⟩ => ⟨S3x512, .f32⟩
  | .hbm, ⟨81, _⟩ => ⟨S_, .f32⟩
  | .hbm, ⟨82, _⟩ => ⟨S2x2050x512, .f32⟩
  | .hbm, ⟨83, _⟩ => ⟨S2x2050x512, .f32⟩
  | .hbm, ⟨84, _⟩ => ⟨S2x1x512, .f32⟩
  | .hbm, ⟨85, _⟩ => ⟨S2x2048x512, .f32⟩
  | .hbm, ⟨86, _⟩ => ⟨S2x1x512, .f32⟩
  | .hbm, ⟨87, _⟩ => ⟨S2x2048x512, .f32⟩
  | .hbm, ⟨88, _⟩ => ⟨S2x2048x512, .f32⟩
  | .hbm, ⟨89, _⟩ => ⟨S2x2048x1536, .f32⟩
  | .hbm, ⟨90, _⟩ => ⟨S4096x1536, .f32⟩
  | .hbm, ⟨91, _⟩ => ⟨S_, .f32⟩
  | .hbm, ⟨92, _⟩ => ⟨S4096x768, .f32⟩
  | .hbm, ⟨93, _⟩ => ⟨S4096x2304, .f32⟩
  | .hbm, ⟨94, _⟩ => ⟨S4096x2304, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_14 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Kernel3.lean ====
abbrev S4096x5632 : Shape := ⟨2, ![4096, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x11x256 : Shape := ⟨3, ![4096, 11, 256]⟩
abbrev S4096x11x512 : Shape := ⟨3, ![4096, 11, 512]⟩
abbrev S5632x1024 : Shape := ⟨2, ![5632, 1024]⟩
abbrev S4096x256 : Shape := ⟨2, ![4096, 256]⟩
abbrev S256x1024 : Shape := ⟨2, ![256, 1024]⟩

abbrev nBuf : Space → Nat
  | .hbm => 27
  | .vmem => 5
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2816, .f32⟩
  | .hbm, ⟨19, _⟩ => ⟨S4096x2816, .f32⟩
  | .hbm, ⟨20, _⟩ => ⟨S4096x11x256, .f32⟩
  | .hbm, ⟨21, _⟩ => ⟨S4096x11x256, .f32⟩
  | .hbm, ⟨22, _⟩ => ⟨S4096x11x512, .f32⟩
  | .hbm, ⟨23, _⟩ => ⟨S4096x5632, .f32⟩
  | .hbm, ⟨24, _⟩ => ⟨S4096x5632, .bf16⟩
  | .hbm, ⟨25, _⟩ => ⟨S4096x1024, .bf16⟩
  | .hbm, ⟨26, _⟩ => ⟨S5632x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let v1 : BitVec 32 := Scalar.addi v0 arg0
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x5632 : Shape := ⟨2, ![4096, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S5632x1024 : Shape := ⟨2, ![5632, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1024x5632, .f32⟩
  | .hbm, ⟨20, _⟩ => ⟨S4096x5632, .f32⟩
  | .hbm, ⟨21, _⟩ => ⟨S5632x1024, .f32⟩
  | .hbm, ⟨22, _⟩ => ⟨S1024x5632, .f32⟩
  | .hbm, ⟨23, _⟩ => ⟨S5632x1024, .f32⟩
  | .hbm, ⟨24, _⟩ => ⟨S5632x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S4096x1408 : Shape := ⟨2, ![4096, 1408]⟩
abbrev S1408x1024 : Shape := ⟨2, ![1408, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S4096x5632 : Shape := ⟨2, ![4096, 5632]⟩
abbrev S1024x1024 : Shape := ⟨2, ![1024, 1024]⟩
abbrev S256x1024 : Shape := ⟨2, ![256, 1024]⟩
abbrev S1024x512 : Shape := ⟨2, ![1024, 512]⟩
abbrev S1024 : Shape := ⟨1, ![1024]⟩
abbrev S1024x1 : Shape := ⟨2, ![1024, 1]⟩
abbrev S1024x256 : Shape := ⟨2, ![1024, 256]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S2816x1024, .bf16⟩
  | .hbm, ⟨7, _⟩ => ⟨S4096x1024, .f32⟩
  | .hbm, ⟨8, _⟩ => ⟨S4096x5632, .bf16⟩
  | .hbm, ⟨9, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v27 : BitVec 1 := Scalar.cmpi .eq arg1 c10_i32
  let v28 : BitVec 32 := Scalar.extui v27
  let c0_i32_17 : BitVec 32 := 0#32
  let v29 : BitVec 1 := Scalar.cmpi .ne v28 c0_i32_17
  v29

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x11x256 : Shape := ⟨3, ![4096, 11, 256]⟩
abbrev S4096x11x512 : Shape := ⟨3, ![4096, 11, 512]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x11x256, .f32⟩
  | .hbm, ⟨23, _⟩ => ⟨S4096x11x256, .f32⟩
  | .hbm, ⟨24, _⟩ => ⟨S4096x11x512, .f32⟩
  | .hbm, ⟨25, _⟩ => ⟨S4096x5632, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x5632, .bf16⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x2304 : Shape := ⟨2, ![4096, 2304]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2304x1024 : Shape := ⟨2, ![2304, 1024]⟩
abbrev S4096x768 : Shape := ⟨2, ![4096, 768]⟩
abbrev S768x1024 : Shape := ⟨2, ![768, 1024]⟩

abbrev nBuf : Space → Nat
  | .hbm => 21
  | .vmem => 5
  | .smem => 0
  | _ => 0

abbrev bufTy : (tb : Table) → Fin (tcTables nBuf tb) → BufTy
  | .hbm, ⟨0, _⟩ => ⟨S4096x2304, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2304, .bf16⟩
  | .hbm, ⟨19, _⟩ => ⟨S4096x1024, .bf16⟩
  | .hbm, ⟨20, _⟩ => ⟨S2304x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x2304 : Shape := ⟨2, ![4096, 2304]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2304 : Shape := ⟨2, ![1024, 2304]⟩
abbrev S2304x1024 : Shape := ⟨2, ![2304, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x2304, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1024x2304, .f32⟩
  | .hbm, ⟨20, _⟩ => ⟨S4096x2304, .f32⟩
  | .hbm, ⟨21, _⟩ => ⟨S2304x1024, .f32⟩
  | .hbm, ⟨22, _⟩ => ⟨S1024x2304, .f32⟩
  | .hbm, ⟨23, _⟩ => ⟨S2304x1024, .f32⟩
  | .hbm, ⟨24, _⟩ => ⟨S2304x1024, .bf16⟩
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel8.lean ====
abbrev S4096x1536 : Shape := ⟨2, ![4096, 1536]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x512 : Shape := ⟨2, ![4096, 512]⟩
abbrev S1536x1024 : Shape := ⟨2, ![1536, 1024]⟩
abbrev S512x1024 : Shape := ⟨2, ![512, 1024]⟩

abbrev nBuf : Space → Nat
  | .hbm => 24
  | .vmem => 5
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x512, .f32⟩
  | .hbm, ⟨20, _⟩ => ⟨S4096x1536, .f32⟩
  | .hbm, ⟨21, _⟩ => ⟨S4096x1536, .bf16⟩
  | .hbm, ⟨22, _⟩ => ⟨S4096x1024, .bf16⟩
  | .hbm, ⟨23, _⟩ => ⟨S1536x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 1 := Scalar.cmpi .slt arg0 c2_i32
  let c1_i32 : BitVec 32 := 1#32
  let v1 : BitVec 32 := Scalar.addi arg0 c1_i32
  let c2_i32_0 : BitVec 32 := 2#32
  let v2 : BitVec 32 := Scalar.subi arg0 c2_i32_0
  let v3 : BitVec 32 := Scalar.select v0 v1 v2
  let c0_i32 : BitVec 32 := 0#32
  let c0_i32_1 : BitVec 32 := 0#32
  ![v3.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1536 : Shape := ⟨2, ![4096, 1536]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩
abbrev S1536x1024 : Shape := ⟨2, ![1536, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1024x1536, .f32⟩
  | .hbm, ⟨20, _⟩ => ⟨S4096x1536, .f32⟩
  | .hbm, ⟨21, _⟩ => ⟨S1536x1024, .f32⟩
  | .hbm, ⟨22, _⟩ => ⟨S1024x1536, .f32⟩
  | .hbm, ⟨23, _⟩ => ⟨S1536x1024, .f32⟩
  | .hbm, ⟨24, _⟩ => ⟨S1536x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2304 : Shape := ⟨2, ![4096, 2304]⟩
abbrev S4096x1024 : Shape := ⟨2, ![4096, 1024]⟩
abbrev S1x1024 : Shape := ⟨2, ![1, 1024]⟩
abbrev S1024x2304 : Shape := ⟨2, ![1024, 2304]⟩
abbrev S2304x1024 : Shape := ⟨2, ![2304, 1024]⟩
abbrev S512x2304 : Shape := ⟨2, ![512, 2304]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x2304, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x2304, .f32⟩
  | .hbm, ⟨5, _⟩ => ⟨S4096x2304, .bf16⟩
  | .hbm, ⟨6, _⟩ => ⟨S2304x1024, .f32⟩
  | .hbm, ⟨7, _⟩ => ⟨S2304x1024, .bf16⟩
  | .hbm, ⟨8, _⟩ => ⟨S4096x1024, .f32⟩
  | .hbm, ⟨9, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S2304x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S4096x2304 : Shape := ⟨2, ![4096, 2304]⟩
abbrev S4096x1024 : Shape := ⟨2, ![4096, 1024]⟩
abbrev S1x1024 : Shape := ⟨2, ![1, 1024]⟩
abbrev S1024x2304 : Shape := ⟨2, ![1024, 2304]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x2304, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x2304, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2304, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel11.lean ====
abbrev S4096x1536 : Shape := ⟨2, ![4096, 1536]⟩
abbrev S4096x1024 : Shape := ⟨2, ![4096, 1024]⟩
abbrev S1x1024 : Shape := ⟨2, ![1, 1024]⟩
abbrev S1024x1536 : Shape := ⟨2, ![1024, 1536]⟩
abbrev S4096x512 : Shape := ⟨2, ![4096, 512]⟩
abbrev S1536x1024 : Shape := ⟨2, ![1536, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x1536, .f32⟩
  | .hbm, ⟨5, _⟩ => ⟨S4096x1024, .f32⟩
  | .hbm, ⟨6, _⟩ => ⟨S4096x512, .f32⟩
  | .hbm, ⟨7, _⟩ => ⟨S4096x1536, .f32⟩
  | .hbm, ⟨8, _⟩ => ⟨S4096x1536, .bf16⟩
  | .hbm, ⟨9, _⟩ => ⟨S1536x1024, .f32⟩
  | .hbm, ⟨10, _⟩ => ⟨S1536x1024, .bf16⟩
  | .hbm, ⟨11, _⟩ => ⟨S4096x1024, .f32⟩
  | .hbm, ⟨12, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference11Ideal.lean ====
abbrev S4096x1536 : Shape := ⟨2, ![4096, 1536]⟩
abbrev S4096x1024 : Shape := ⟨2, ![4096, 1024]⟩
abbrev S1x1024 : Shape := ⟨2, ![1, 1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x1536, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1536, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1024x2304 : Shape := ⟨2, ![1024, 2304]⟩
abbrev S2304x1024 : Shape := ⟨2, ![2304, 1024]⟩
abbrev S4096x1536 : Shape := ⟨2, ![4096, 1536]⟩
abbrev S4096x768 : Shape := ⟨2, ![4096, 768]⟩
abbrev S512x1024 : Shape := ⟨2, ![512, 1024]⟩
abbrev S1536x1024 : Shape := ⟨2, ![1536, 1024]⟩
abbrev S768x1024 : Shape := ⟨2, ![768, 1024]⟩
abbrev S512x1536 : Shape := ⟨2, ![512, 1536]⟩
abbrev S512x768 : Shape := ⟨2, ![512, 768]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2304, .f32⟩
  | .hbm, ⟨3, _⟩ => ⟨S2304x1024, .f32⟩
  | .hbm, ⟨4, _⟩ => ⟨S2304x1024, .bf16⟩
  | .hbm, ⟨5, _⟩ => ⟨S4096x1536, .f32⟩
  | .hbm, ⟨6, _⟩ => ⟨S4096x768, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S768x1024, .bf16⟩
  | .local _ .vmem, ⟨5, _⟩ => ⟨S512x1536, .f32⟩
  | .local _ .vmem, ⟨6, _⟩ => ⟨S512x1536, .f32⟩
  | .local _ .vmem, ⟨7, _⟩ => ⟨S512x768, .f32⟩
  | .local _ .vmem, ⟨8, _⟩ => ⟨S512x768, .f32⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S4096x1024 : Shape := ⟨2, ![4096, 1024]⟩
abbrev S1x1024 : Shape := ⟨2, ![1, 1024]⟩
abbrev S1024x2304 : Shape := ⟨2, ![1024, 2304]⟩
abbrev S_ : Shape := ⟨0, ![]⟩
abbrev S4096 : Shape := ⟨1, ![4096]⟩
abbrev S4096x1 : Shape := ⟨2, ![4096, 1]⟩
abbrev S4096x2304 : Shape := ⟨2, ![4096, 2304]⟩
abbrev S4096x1536 : Shape := ⟨2, ![4096, 1536]⟩
abbrev S4096x768 : Shape := ⟨2, ![4096, 768]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2304, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2304, .f32⟩
  | .hbm, ⟨19, _⟩ => ⟨S4096x1536, .f32⟩
  | .hbm, ⟨20, _⟩ => ⟨S4096x768, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S1024x1536 : Shape := ⟨2, ![1024, 1536]⟩
abbrev S1536x1024 : Shape := ⟨2, ![1536, 1024]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S1536x1024, .f32⟩
  | .hbm, ⟨4, _⟩ => ⟨S1536x1024, .bf16⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S4096x1024 : Shape := ⟨2, ![4096, 1024]⟩
abbrev S1x1024 : Shape := ⟨2, ![1, 1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S4096x512 : Shape := ⟨2, ![4096, 512]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1536, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S4096x512 : Shape := ⟨2, ![4096, 512]⟩
abbrev S4096x128 : Shape := ⟨2, ![4096, 128]⟩
abbrev S4096x1024 : Shape := ⟨2, ![4096, 1024]⟩
abbrev S2x2048x2x4x64 : Shape := ⟨5, ![2, 2048, 2, 4, 64]⟩
abbrev S2x2048x2x64 : Shape := ⟨4, ![2, 2048, 2, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x8x2048 : Shape := ⟨3, ![2, 8, 2048]⟩
abbrev S2x2048x8 : Shape := ⟨3, ![2, 2048, 8]⟩
abbrev S4096x8 : Shape := ⟨2, ![4096, 8]⟩
abbrev S512x512 : Shape := ⟨2, ![512, 512]⟩
abbrev S512x8x64 : Shape := ⟨3, ![512, 8, 64]⟩
abbrev S512x8x128 : Shape := ⟨3, ![512, 8, 128]⟩
abbrev S512x1024 : Shape := ⟨2, ![512, 1024]⟩
abbrev S1024x512 : Shape := ⟨2, ![1024, 512]⟩
abbrev S4096x8x64 : Shape := ⟨3, ![4096, 8, 64]⟩
abbrev S4096x8x128 : Shape := ⟨3, ![4096, 8, 128]⟩
abbrev S4096x2x64 : Shape := ⟨3, ![4096, 2, 64]⟩
abbrev S4096x2x128 : Shape := ⟨3, ![4096, 2, 128]⟩
abbrev S4096x256 : Shape := ⟨2, ![4096, 256]⟩
abbrev S256x1024 : Shape := ⟨2, ![256, 1024]⟩
abbrev S2048x256 : Shape := ⟨2, ![2048, 256]⟩
abbrev S256x128 : Shape := ⟨2, ![256, 128]⟩
abbrev S256x512 : Shape := ⟨2, ![256, 512]⟩
abbrev S2048x128 : Shape := ⟨2, ![2048, 128]⟩
abbrev S256 : Shape := ⟨1, ![256]⟩
abbrev S256x1 : Shape := ⟨2, ![256, 1]⟩
abbrev S256x2048 : Shape := ⟨2, ![256, 2048]⟩

abbrev nBuf : Space → Nat
  | .hbm => 73
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x1024, .f32⟩
  | .hbm, ⟨4, _⟩ => ⟨S2x2048x2x4x64, .f32⟩
  | .hbm, ⟨5, _⟩ => ⟨S2x2048x2x64, .f32⟩
  | .hbm, ⟨6, _⟩ => ⟨S2x2048x2x64, .f32⟩
  | .hbm, ⟨7, _⟩ => ⟨S2x2x2048x2048x4, .f32⟩
  | .hbm, ⟨8, _⟩ => ⟨S2x2x4x2048x2048, .f32⟩
  | .hbm, ⟨9, _⟩ => ⟨S_, .f32⟩
  | .hbm, ⟨10, _⟩ => ⟨S2x2x4x2048, .f32⟩
  | .hbm, ⟨11, _⟩ => ⟨S2x2x4x2048x1, .f32⟩
  | .hbm, ⟨12, _⟩ => ⟨S2x2x4x2048x2048, .f32⟩
  | .hbm, ⟨13, _⟩ => ⟨S2x2x4x2048x2048, .f32⟩
  | .hbm, ⟨14, _⟩ => ⟨S2x2x4x2048x2048, .f32⟩
  | .hbm, ⟨15, _⟩ => ⟨S_, .f32⟩
  | .hbm, ⟨16, _⟩ => ⟨S2x2x4x2048, .f32⟩
  | .hbm, ⟨17, _⟩ => ⟨S2x2x4x2048x1, .f32⟩
  | .hbm, ⟨18, _⟩ => ⟨S2x2x4x2048x2048, .f32⟩
  | .hbm, ⟨19, _⟩ => ⟨S2x2x4x2048x2048, .f32⟩
  | .hbm, ⟨20, _⟩ => ⟨S2x2x64x4x2048, .f32⟩
  | .hbm, ⟨21, _⟩ => ⟨S2x2048x2x4x64, .f32⟩
  | .hbm, ⟨22, _⟩ => ⟨S4096x512, .f32⟩
  | .hbm, ⟨23, _⟩ => ⟨S2x2x4x2048x1, .f32⟩
  | .hbm, ⟨24, _⟩ => ⟨S2x2x4x2048x1, .f32⟩
  | .hbm, ⟨25, _⟩ => ⟨S2x8x2048, .f32⟩
  | .hbm, ⟨26, _⟩ => ⟨S2x2048x8, .f32⟩
  | .hbm, ⟨27, _⟩ => ⟨S4096x8, .f32⟩
  | .hbm, ⟨28, _⟩ => ⟨S_, .i32⟩
  | .hbm, ⟨29, _⟩ => ⟨S_, .f32⟩
  | .hbm, ⟨30, _⟩ => ⟨S4096x128, .f32⟩
  | .hbm, ⟨31, _⟩ => ⟨S512x512, .i32⟩
  | .hbm, ⟨32, _⟩ => ⟨S512x512, .i32⟩
  | .hbm, ⟨33, _⟩ => ⟨S_, .i32⟩
  | .hbm, ⟨34, _⟩ => ⟨S512x512, .i32⟩
  | .hbm, ⟨35, _⟩ => ⟨S512x512, .i32⟩
  | .hbm, ⟨36, _⟩ => ⟨S512x512, .i1⟩
  | .hbm, ⟨37, _⟩ => ⟨S512x512, .f32⟩
  | .hbm, ⟨38, _⟩ => ⟨S512x8x64, .f32⟩
  | .hbm, ⟨39, _⟩ => ⟨S_, .i32⟩
  | .hbm, ⟨40, _⟩ => ⟨S_, .f32⟩
  | .hbm, ⟨41, _⟩ => ⟨S512x8x128, .f32⟩
  | .hbm, ⟨42, _⟩ => ⟨S512x1024, .f32⟩
  | .hbm, ⟨43, _⟩ => ⟨S512x1024, .bf16⟩
  | .hbm, ⟨44, _⟩ => ⟨S1024x512, .bf16⟩
  | .hbm, ⟨45, _⟩ => ⟨S4096x8x64, .f32⟩
  | .hbm, ⟨46, _⟩ => ⟨S_, .i32⟩
  | .hbm, ⟨47, _⟩ => ⟨S_, .f32⟩
  | .hbm, ⟨48, _⟩ => ⟨S4096x8x128, .f32⟩
  | .hbm, ⟨49, _⟩ => ⟨S4096x1024, .f32⟩
  | .hbm, ⟨50, _⟩ => ⟨S4096x1024, .bf16⟩
  | .hbm, ⟨51, _⟩ => ⟨S4096x2x64, .f32⟩
  | .hbm, ⟨52, _⟩ => ⟨S_, .i32⟩
  | .hbm, ⟨53, _⟩ => ⟨S_, .f32⟩
  | .hbm, ⟨54, _⟩ => ⟨S4096x2x128, .f32⟩
  | .hbm, ⟨55, _⟩ => ⟨S4096x256, .f32⟩
  | .hbm, ⟨56, _⟩ => ⟨S4096x256, .bf16⟩
  | .hbm, ⟨57, _⟩ => ⟨S4096x2x64, .f32⟩
  | .hbm, ⟨58, _⟩ => ⟨S_, .i32⟩
  | .hbm, ⟨59, _⟩ => ⟨S_, .f32⟩
  | .hbm, ⟨60, _⟩ => ⟨S4096x2x128, .f32⟩
  | .hbm, ⟨61, _⟩ => ⟨S4096x256, .f32⟩
  | .hbm, ⟨62, _⟩ => ⟨S4096x256, .bf16⟩
  | .hbm, ⟨63, _⟩ => ⟨S4096x8x64, .f32⟩
  | .hbm, ⟨64, _⟩ => ⟨S_, .i32⟩
  | .hbm, ⟨65, _⟩ => ⟨S_, .f32⟩
  | .hbm, ⟨66, _⟩ => ⟨S4096x8x128, .f32⟩
  | .hbm, ⟨67, _⟩ => ⟨S4096x1024, .f32⟩
  | .hbm, ⟨68, _⟩ => ⟨S4096x1024, .bf16⟩
  | .hbm, ⟨69, _⟩ => ⟨S4096x1024, .bf16⟩
  | .hbm, ⟨70, _⟩ => ⟨S4096x512, .f32⟩
  | .hbm, ⟨71, _⟩ => ⟨S4096x256, .f32⟩
  | .hbm, ⟨72, _⟩ => ⟨S4096x256, .f32⟩
  | .local _ .vmem, ⟨0, _⟩ => ⟨S256x1024, .bf16⟩
  | .local _ .vmem, ⟨1, _⟩ => ⟨S256x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S256x512, .bf16⟩
  | .local _ .vmem, ⟨11, _⟩ => ⟨S256x512, .bf16⟩
  | .local _ .vmem, ⟨12, _⟩ => ⟨S512x1024, .bf16⟩
  | .local _ .vmem, ⟨13, _⟩ => ⟨S1024x512, .bf16⟩
  | .local _ .vmem, ⟨14, _⟩ => ⟨S256x512, .f32⟩
  | .local _ .vmem, ⟨15, _⟩ => ⟨S256x512, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_call1_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_3 : Ref sig .tc := ⟨.hbm, 46, rfl⟩
abbrev main_call2_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_call3_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_call4_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_6 : Ref sig .tc := ⟨.hbm, 64, rfl⟩
abbrev main_call5_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51_0 : Ref sig .tc := ⟨.hbm, 70, rfl⟩
abbrev main_v51_1 : Ref sig .tc := ⟨.hbm, 71, rfl⟩
abbrev main_v51_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference15Ideal.lean ====
abbrev S4096x512 : Shape := ⟨2, ![4096, 512]⟩
abbrev S4096x128 : Shape := ⟨2, ![4096, 128]⟩
abbrev S4096x1024 : Shape := ⟨2, ![4096, 1024]⟩
abbrev S2x2048x2x4x64 : Shape := ⟨5, ![2, 2048, 2, 4, 64]⟩
abbrev S2x2048x2x64 : Shape := ⟨4, ![2, 2048, 2, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2x64x2048 : Shape := ⟨4, ![2, 2, 64, 2048]⟩
abbrev S2x2x2048x4x64 : Shape := ⟨5, ![2, 2, 2048, 4, 64]⟩
abbrev S2x2x2048x64 : Shape := ⟨4, ![2, 2, 2048, 64]⟩
abbrev S4096x2x64 : Shape := ⟨3, ![4096, 2, 64]⟩
abbrev S4096x2x128 : Shape := ⟨3, ![4096, 2, 128]⟩
abbrev S4096x256 : Shape := ⟨2, ![4096, 256]⟩

abbrev nBuf : Space → Nat
  | .hbm => 88
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x1024, .f32⟩
  | .hbm, ⟨4, _⟩ => ⟨S2x2048x2x4x64, .f32⟩
  | .hbm, ⟨5, _⟩ => ⟨S2x2048x2x64, .f32⟩
  | .hbm, ⟨6, _⟩ => ⟨S2x2048x2x64, .f32⟩
  | .hbm, ⟨7, _⟩ => ⟨S2x2x2048x2048x4, .f32⟩
  | .hbm, ⟨8, _⟩ => ⟨S2x2x4x2048x2048, .f32⟩
  | .hbm, ⟨9, _⟩ => ⟨S_, .f32⟩
  | .hbm, ⟨10, _⟩ => ⟨S2x2x4x2048, .f32⟩
  | .hbm, ⟨11, _⟩ => ⟨S2x2x4x2048x1, .f32⟩
  | .hbm, ⟨12, _⟩ => ⟨S2x2x4x2048x2048, .f32⟩
  | .hbm, ⟨13, _⟩ => ⟨S2x2x4x2048x2048, .i1⟩
  | .hbm, ⟨14, _⟩ => ⟨S2x2x4x2048x2048, .f32⟩
  | .hbm, ⟨15, _⟩ => ⟨S_, .f32⟩
  | .hbm, ⟨16, _⟩ => ⟨S2x2x4x2048, .f32⟩
  | .hbm, ⟨17, _⟩ => ⟨S_, .f32⟩
  | .hbm, ⟨18, _⟩ => ⟨S2x2x4x2048, .f32⟩
  | .hbm, ⟨19, _⟩ => ⟨S2x2x4x2048, .f32⟩
  | .hbm, ⟨20, _⟩ => ⟨S_, .f32⟩
  | .hbm, ⟨21, _⟩ => ⟨S2x2x4x2048, .f32⟩
  | .hbm, ⟨22, _⟩ => ⟨S2x2x4x2048, .i1⟩
  | .hbm, ⟨23, _⟩ => ⟨S_, .f32⟩
  | .hbm, ⟨24, _⟩ => ⟨S2x2x4x2048, .f32⟩
  | .hbm, ⟨25, _⟩ => ⟨S2x2x4x2048, .i1⟩
  | .hbm, ⟨26, _⟩ => ⟨S_, .f32⟩
  | .hbm, ⟨27, _⟩ => ⟨S2x2x4x2048, .f32⟩
  | .hbm, ⟨28, _⟩ => ⟨S_, .f32⟩
  | .hbm, ⟨29, _⟩ => ⟨S2x2x4x2048, .f32⟩
  | .hbm, ⟨30, _⟩ => ⟨S_, .f32⟩
  | .hbm, ⟨31, _⟩ => ⟨S2x2x4x2048, .f32⟩
  | .hbm, ⟨32, _⟩ => ⟨S2x2x4x2048, .f32⟩
  | .hbm, ⟨33, _⟩ => ⟨S2x2x4x2048, .f32⟩
  | .hbm, ⟨34, _⟩ => ⟨S2x2x4x2048x1, .f32⟩
  | .hbm, ⟨35, _⟩ => ⟨S2x2x4x2048x2048, .f32⟩
  | .hbm, ⟨36, _⟩ => ⟨S2x2x4x2048x2048, .f32⟩
  | .hbm, ⟨37, _⟩ => ⟨S2x2x4x2048x2048, .f32⟩
  | .hbm, ⟨38, _⟩ => ⟨S_, .f32⟩
  | .hbm, ⟨39, _⟩ => ⟨S2x2x4x2048, .f32⟩
  | .hbm, ⟨40, _⟩ => ⟨S2x2x4x2048x1, .f32⟩
  | .hbm, ⟨41, _⟩ => ⟨S2x2x4x2048x2048, .f32⟩
  | .hbm, ⟨42, _⟩ => ⟨S2x2x4x2048x2048, .f32⟩
  | .hbm, ⟨43, _⟩ => ⟨S2x2x4x2048x1, .f32⟩
  | .hbm, ⟨44, _⟩ => ⟨S_, .f32⟩
  | .hbm, ⟨45, _⟩ => ⟨S2x2x4x2048x1, .f32⟩
  | .hbm, ⟨46, _⟩ => ⟨S2x2x4x2048x1, .f32⟩
  | .hbm, ⟨47, _⟩ => ⟨S2x2x64x4x2048, .f32⟩
  | .hbm, ⟨48, _⟩ => ⟨S2x2048x2x4x64, .f32⟩
  | .hbm, ⟨49, _⟩ => ⟨S4096x512, .f32⟩
  | .hbm, ⟨50, _⟩ => ⟨S4096x512, .f32⟩
  | .hbm, ⟨51, _⟩ => ⟨S2x2048x2x4x64, .f32⟩
  | .hbm, ⟨52, _⟩ => ⟨S2x2x64x4x2048, .f32⟩
  | .hbm, ⟨53, _⟩ => ⟨S2x2x4x2048x2048, .f32⟩
  | .hbm, ⟨54, _⟩ => ⟨S2x2x64x2048, .f32⟩
  | .hbm, ⟨55, _⟩ => ⟨S2x2048x2x64, .f32⟩
  | .hbm, ⟨56, _⟩ => ⟨S2x2x4x2048x2048, .f32⟩
  | .hbm, ⟨57, _⟩ => ⟨S2x2x4x2048x2048, .f32⟩
  | .hbm, ⟨58, _⟩ => ⟨S2x2x4x2048x2048, .f32⟩
  | .hbm, ⟨59, _⟩ => ⟨S_, .f32⟩
  | .hbm, ⟨60, _⟩ => ⟨S2x2x4x2048, .f32⟩
  | .hbm, ⟨61, _⟩ => ⟨S2x2x4x2048x1, .f32⟩
  | .hbm, ⟨62, _⟩ => ⟨S2x2x4x2048x1, .f32⟩
  | .hbm, ⟨63, _⟩ => ⟨S2x2x4x2048x2048, .f32⟩
  | .hbm, ⟨64, _⟩ => ⟨S2x2x4x2048x2048, .f32⟩
  | .hbm, ⟨65, _⟩ => ⟨S_, .f32⟩
  | .hbm, ⟨66, _⟩ => ⟨S2x2x4x2048, .f32⟩
  | .hbm, ⟨67, _⟩ => ⟨S2x2x4x2048x2048, .f32⟩
  | .hbm, ⟨68, _⟩ => ⟨S2x2x4x2048x2048, .f32⟩
  | .hbm, ⟨69, _⟩ => ⟨S2x2x4x2048x2048, .f32⟩
  | .hbm, ⟨70, _⟩ => ⟨S2x2x2048x2048x4, .f32⟩
  | .hbm, ⟨71, _⟩ => ⟨S2x2x2048x4x64, .f32⟩
  | .hbm, ⟨72, _⟩ => ⟨S2x2048x2x4x64, .f32⟩
  | .hbm, ⟨73, _⟩ => ⟨S2x2x2048x64, .f32⟩
  | .hbm, ⟨74, _⟩ => ⟨S2x2048x2x64, .f32⟩
  | .hbm, ⟨75, _⟩ => ⟨S4096x128, .f32⟩
  | .hbm, ⟨76, _⟩ => ⟨S4096x128, .f32⟩
  | .hbm, ⟨77, _⟩ => ⟨S4096x512, .f32⟩
  | .hbm, ⟨78, _⟩ => ⟨S4096x2x64, .f32⟩
  | .hbm, ⟨79, _⟩ => ⟨S_, .i32⟩
  | .hbm, ⟨80, _⟩ => ⟨S_, .f32⟩
  | .hbm, ⟨81, _⟩ => ⟨S4096x2x128, .f32⟩
  | .hbm, ⟨82, _⟩ => ⟨S4096x256, .f32⟩
  | .hbm, ⟨83, _⟩ => ⟨S4096x2x64, .f32⟩
  | .hbm, ⟨84, _⟩ => ⟨S_, .i32⟩
  | .hbm, ⟨85, _⟩ => ⟨S_, .f32⟩
  | .hbm, ⟨86, _⟩ => ⟨S4096x2x128, .f32⟩
  | .hbm, ⟨87, _⟩ => ⟨S4096x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c : Ref sig .tc := ⟨.hbm, 79, rfl⟩
abbrev main_call0_v0 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_11 : Ref sig .tc := ⟨.hbm, 84, rfl⟩
abbrev main_call1_v0 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Kernel16.lean ====
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference16Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1 : Shape := ⟨2, ![1, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel17.lean ====
abbrev S4096x512 : Shape := ⟨2, ![4096, 512]⟩
abbrev S4096x128 : Shape := ⟨2, ![4096, 128]⟩
abbrev S4096x1024 : Shape := ⟨2, ![4096, 1024]⟩
abbrev S512x512 : Shape := ⟨2, ![512, 512]⟩
abbrev S_ : Shape := ⟨0, ![]⟩
abbrev S512x8x64 : Shape := ⟨3, ![512, 8, 64]⟩
abbrev S512x8x128 : Shape := ⟨3, ![512, 8, 128]⟩
abbrev S512x1024 : Shape := ⟨2, ![512, 1024]⟩
abbrev S1024x512 : Shape := ⟨2, ![1024, 512]⟩
abbrev S4096x8x64 : Shape := ⟨3, ![4096, 8, 64]⟩
abbrev S4096x8x128 : Shape := ⟨3, ![4096, 8, 128]⟩
abbrev S4096x2x64 : Shape := ⟨3, ![4096, 2, 64]⟩
abbrev S4096x2x128 : Shape := ⟨3, ![4096, 2, 128]⟩
abbrev S4096x256 : Shape := ⟨2, ![4096, 256]⟩
abbrev S2048x256 : Shape := ⟨2, ![2048, 256]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 40
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x1024, .f32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .f32⟩
  | .hbm, ⟨11, _⟩ => ⟨S512x8x64, .f32⟩
  | .hbm, ⟨12, _⟩ => ⟨S_, .i32⟩
  | .hbm, ⟨13, _⟩ => ⟨S_, .f32⟩
  | .hbm, ⟨14, _⟩ => ⟨S512x8x128, .f32⟩
  | .hbm, ⟨15, _⟩ => ⟨S512x1024, .f32⟩
  | .hbm, ⟨16, _⟩ => ⟨S1024x512, .f32⟩
  | .hbm, ⟨17, _⟩ => ⟨S1024x512, .bf16⟩
  | .hbm, ⟨18, _⟩ => ⟨S4096x8x64, .f32⟩
  | .hbm, ⟨19, _⟩ => ⟨S_, .i32⟩
  | .hbm, ⟨20, _⟩ => ⟨S_, .f32⟩
  | .hbm, ⟨21, _⟩ => ⟨S4096x8x128, .f32⟩
  | .hbm, ⟨22, _⟩ => ⟨S4096x1024, .f32⟩
  | .hbm, ⟨23, _⟩ => ⟨S4096x1024, .bf16⟩
  | .hbm, ⟨24, _⟩ => ⟨S4096x2x64, .f32⟩
  | .hbm, ⟨25, _⟩ => ⟨S_, .i32⟩
  | .hbm, ⟨26, _⟩ => ⟨S_, .f32⟩
  | .hbm, ⟨27, _⟩ => ⟨S4096x2x128, .f32⟩
  | .hbm, ⟨28, _⟩ => ⟨S4096x256, .f32⟩
  | .hbm, ⟨29, _⟩ => ⟨S4096x256, .bf16⟩
  | .hbm, ⟨30, _⟩ => ⟨S4096x2x64, .f32⟩
  | .hbm, ⟨31, _⟩ => ⟨S_, .i32⟩
  | .hbm, ⟨32, _⟩ => ⟨S_, .f32⟩
  | .hbm, ⟨33, _⟩ => ⟨S4096x2x128, .f32⟩
  | .hbm, ⟨34, _⟩ => ⟨S4096x256, .f32⟩
  | .hbm, ⟨35, _⟩ => ⟨S4096x256, .bf16⟩
  | .hbm, ⟨36, _⟩ => ⟨S4096x1024, .bf16⟩
  | .hbm, ⟨37, _⟩ => ⟨S4096x1024, .bf16⟩
  | .hbm, ⟨38, _⟩ => ⟨S4096x1024, .bf16⟩
  | .hbm, ⟨39, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1024x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S512x128, .f32⟩
  | .local _ .vmem, ⟨12, _⟩ => ⟨S512x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call2_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call3_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S4096x512 : Shape := ⟨2, ![4096, 512]⟩
abbrev S4096x128 : Shape := ⟨2, ![4096, 128]⟩
abbrev S4096x1024 : Shape := ⟨2, ![4096, 1024]⟩
abbrev S2x2048x2x4x64 : Shape := ⟨5, ![2, 2048, 2, 4, 64]⟩
abbrev S2x2048x2x64 : Shape := ⟨4, ![2, 2048, 2, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x8x2048 : Shape := ⟨3, ![2, 8, 2048]⟩
abbrev S2x2048x8 : Shape := ⟨3, ![2, 2048, 8]⟩
abbrev S4096x8 : Shape := ⟨2, ![4096, 8]⟩
abbrev S4096x8x64 : Shape := ⟨3, ![4096, 8, 64]⟩
abbrev S4096x8x128 : Shape := ⟨3, ![4096, 8, 128]⟩

abbrev nBuf : Space → Nat
  | .hbm => 45
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x1024, .f32⟩
  | .hbm, ⟨4, _⟩ => ⟨S2x2048x2x4x64, .f32⟩
  | .hbm, ⟨5, _⟩ => ⟨S2x2048x2x64, .f32⟩
  | .hbm, ⟨6, _⟩ => ⟨S2x2048x2x64, .f32⟩
  | .hbm, ⟨7, _⟩ => ⟨S2x2x2048x2048x4, .f32⟩
  | .hbm, ⟨8, _⟩ => ⟨S2x2x4x2048x2048, .f32⟩
  | .hbm, ⟨9, _⟩ => ⟨S_, .f32⟩
  | .hbm, ⟨10, _⟩ => ⟨S2x2x4x2048, .f32⟩
  | .hbm, ⟨11, _⟩ => ⟨S_, .f32⟩
  | .hbm, ⟨12, _⟩ => ⟨S2x2x4x2048, .f32⟩
  | .hbm, ⟨13, _⟩ => ⟨S2x2x4x2048, .f32⟩
  | .hbm, ⟨14, _⟩ => ⟨S2x2x4x2048x1, .f32⟩
  | .hbm, ⟨15, _⟩ => ⟨S2x2x4x2048x2048, .f32⟩
  | .hbm, ⟨16, _⟩ => ⟨S2x2x4x2048x2048, .f32⟩
  | .hbm, ⟨17, _⟩ => ⟨S2x2x4x2048x2048, .f32⟩
  | .hbm, ⟨18, _⟩ => ⟨S_, .f32⟩
  | .hbm, ⟨19, _⟩ => ⟨S2x2x4x2048, .f32⟩
  | .hbm, ⟨20, _⟩ => ⟨S2x2x4x2048x1, .f32⟩
  | .hbm, ⟨21, _⟩ => ⟨S2x2x4x2048x2048, .f32⟩
  | .hbm, ⟨22, _⟩ => ⟨S2x2x4x2048x2048, .f32⟩
  | .hbm, ⟨23, _⟩ => ⟨S2x2x64x4x2048, .f32⟩
  | .hbm, ⟨24, _⟩ => ⟨S2x2048x2x4x64, .f32⟩
  | .hbm, ⟨25, _⟩ => ⟨S4096x512, .f32⟩
  | .hbm, ⟨26, _⟩ => ⟨S2x2x4x2048x2048, .f32⟩
  | .hbm, ⟨27, _⟩ => ⟨S_, .f32⟩
  | .hbm, ⟨28, _⟩ => ⟨S2x2x4x2048, .f32⟩
  | .hbm, ⟨29, _⟩ => ⟨S2x2x4x2048, .f32⟩
  | .hbm, ⟨30, _⟩ => ⟨S2x8x2048, .f32⟩
  | .hbm, ⟨31, _⟩ => ⟨S2x2048x8, .f32⟩
  | .hbm, ⟨32, _⟩ => ⟨S4096x8, .f32⟩
  | .hbm, ⟨33, _⟩ => ⟨S_, .i32⟩
  | .hbm, ⟨34, _⟩ => ⟨S_, .f32⟩
  | .hbm, ⟨35, _⟩ => ⟨S4096x128, .f32⟩
  | .hbm, ⟨36, _⟩ => ⟨S4096x512, .f32⟩
  | .hbm, ⟨37, _⟩ => ⟨S4096x1024, .f32⟩
  | .hbm, ⟨38, _⟩ => ⟨S4096x1024, .bf16⟩
  | .hbm, ⟨39, _⟩ => ⟨S4096x8x64, .f32⟩
  | .hbm, ⟨40, _⟩ => ⟨S_, .i32⟩
  | .hbm, ⟨41, _⟩ => ⟨S_, .f32⟩
  | .hbm, ⟨42, _⟩ => ⟨S4096x8x128, .f32⟩
  | .hbm, ⟨43, _⟩ => ⟨S4096x1024, .f32⟩
  | .hbm, ⟨44, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_call1_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.FfnBlocks.lean ====
/- What one grid point of the feed-forward backward call computes from its blocks, written out as functions. -/
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows 0–511 of a block of 1024 rows. -/
abbrev rTop : Rect S1024x1024 := Rect.unit (s := S1024x1024) ![0, 0] S512x1024.size inb_S1024x1024_S512x1024_0_0
/-- Rows 512–1023. -/
abbrev rBot : Rect S1024x1024 := Rect.unit (s := S1024x1024) ![512, 0] S512x1024.size inb_S1024x1024_S512x1024_512_0
/-- The gate's 256 columns of a block of the interleaved pre-activations. -/
abbrev rG : Rect S1024x512 := Rect.unit (s := S1024x512) ![0, 0] S1024x256.size inb_S1024x512_S1024x256_0_0
/-- The other factor's 256 columns. -/
abbrev rU : Rect S1024x512 := Rect.unit (s := S1024x512) ![0, 256] S1024x256.size inb_S1024x512_S1024x256_0_256

/-- The half cotangent of a row tile, as the products take it. -/
def dobV (dout : Vec F S1024x1024 .f32) : Vec F S1024x1024 .bf16 := k0_pay7 dout

/-- The activation of one column tile. -/
def aV (gu : Vec F S1024x512 .bf16) : Vec F S1024x256 .bf16 := k0_pay14 (View.ld gu rG) (View.ld gu rU)

/-- The gate's cotangent on one column tile. -/
def dgV (dob : Vec F S1024x1024 .bf16) (wo : Vec F S256x1024 .bf16) (gu : Vec F S1024x512 .bf16) : Vec F S1024x256 .bf16 :=
  k0_pay15 (View.ld dob rTop) wo (View.ld dob rBot) wo (View.ld gu rG) (View.ld gu rU)

/-- The other factor's cotangent on one column tile. -/
def duV (dob : Vec F S1024x1024 .bf16) (wo : Vec F S256x1024 .bf16) (gu : Vec F S1024x512 .bf16) : Vec F S1024x256 .bf16 :=
  k0_pay16 (View.ld dob rTop) wo (View.ld dob rBot) wo (View.ld gu rG)

/-- Both cotangents side by side, as the tile is stored. -/
def dguV (dob : Vec F S1024x1024 .bf16) (wo : Vec F S256x1024 .bf16) (gu : Vec F S1024x512 .bf16) : Vec F S1024x512 .bf16 :=
  View.canon (Val := Elt F) [⟨rU, duV dob wo gu⟩, ⟨rG, dgV dob wo gu⟩]

/-- The row tile's running cotangent of the normalised input after one more column tile. -/
def accV (acc : Vec F S1024x1024 .f32) (dob : Vec F S1024x1024 .bf16) (wo : Vec F S256x1024 .bf16) (gu : Vec F S1024x512 .bf16)
    (wg wu : Vec F S256x1024 .bf16) : Vec F S1024x1024 .f32 :=
  k0_pay1 (dgV dob wo gu) (duV dob wo gu) acc wg wu

/-- The gain's cotangent after one more row tile. -/
def dgnV (x acc : Vec F S1024x1024 .f32) (prev : Vec F S1x1024 .f32) : Vec F S1x1024 .f32 := k0_pay6 x acc prev

/-- The input's cotangent on one row tile. -/
def dxV (x : Vec F S1024x1024 .f32) (gain : Vec F S1x1024 .f32) (acc dout : Vec F S1024x1024 .f32) : Vec F S1024x1024 .f32 :=
  k0_pay4 x gain acc dout

theorem zero2 (off : Fin 2 → ℕ) (h0 : off 0 = 0) (h1 : off 1 = 0) : off = fun _ => 0 := by
  funext a; fin_cases a <;> assumption

/-- A store of the whole buffer covers it. -/
theorem cover_whole {S : Shape} {e : EltTy} (off : Fin S.rank → ℕ) (h : off = fun _ => 0) (inb : ∀ a, off a + S.size a ≤ S.size a)
    (w : S.Idx → Elt F e) (L : List (View.Piece (Elt F) S e)) :
    ∀ y, ∃ p ∈ ((⟨Rect.unit off S.size inb, w⟩ : View.Piece (Elt F) S e) :: L), y ∈ p.1.set := fun y =>
  ⟨_, List.mem_cons_self, View.mem_set_unit_zero h inb y⟩

/-- The two stored halves cover the tile. -/
theorem cover_gu (w w' : Vec F S1024x256 .bf16) :
    ∀ y, ∃ p ∈ ([⟨rU, w⟩, ⟨rG, w'⟩] : List (View.Piece (Elt F) S1024x512 .bf16)), y ∈ p.1.set := fun y =>
  View.cover_of_tiledL (s := S1024x512) ([⟨rU, w⟩, ⟨rG, w'⟩] : List (View.Piece (Elt F) S1024x512 .bf16)) S1024x256.size (by sl_kernel_rfl) y

end Cert.KernelIdeal.Ffn

end
-- ==== Proof.FfnRunA.lean ====
/- The first column tile of a row tile: the half cotangent is stored and the running sum starts at zero. -/
module

public import proofs.«01_k».proof.Proof.FfnBlocks

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1024x1024 .f32) (harg3 : arg3.IsWhole)
  (arg4 : Memref sig .tc .vmem S1x1024 .f32) (harg4 : arg4.IsWhole)
  (arg5 : Memref sig .tc .vmem S1024x512 .bf16) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x1024 .bf16) (harg8 : arg8.IsWhole)
  (arg9 : Memref sig .tc .vmem S1024x1024 .f32) (harg9 : arg9.IsWhole)
  (arg10 : Memref sig .tc .vmem S1x1024 .f32) (harg10 : arg10.IsWhole)
  (arg11 : Memref sig .tc .vmem S1024x256 .bf16) (harg11 : arg11.IsWhole)
  (arg12 : Memref sig .tc .vmem S1024x512 .bf16) (harg12 : arg12.IsWhole)
  (arg13 : Memref sig .tc .vmem S1024x1024 .bf16) (harg13 : arg13.IsWhole)
  (arg14 : Memref sig .tc .vmem S1024x1024 .f32) (harg14 : arg14.IsWhole)
variable (x0 : Vec F S1024x1024 .f32) (x1 : Vec F S1024x1024 .f32) (x2 : Vec F S1x1024 .f32) (x3 : Vec F S1024x512 .bf16) (x4 : Vec F S256x1024 .bf16) (x5 : Vec F S256x1024 .bf16) (x6 : Vec F S256x1024 .bf16)

set_option maxHeartbeats 2000000 in
/-- The first column tile of a row tile: the half cotangent is stored and the running sum starts at zero. -/
theorem run_A (hc0 : k0_cond1 i = 1#1) (hc1 : ¬k0_cond2 i = 1#1) (d7 : Vec F S1024x1024 .f32) (d8 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare d7 ∗ owns (c : Thread nD τ) arg10 fullShare d8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare d7 ∗ owns (c : Thread nD τ) arg10 fullShare d8 ∗ owns (c : Thread nD τ) arg11 fullShare (aV x3) ∗ owns (c : Thread nD τ) arg12 fullShare (dguV (dobV x0) x6 x3) ∗ owns (c : Thread nD τ) arg13 fullShare (dobV x0) ∗ owns (c : Thread nD τ) arg14 fullShare (accV (k0_pay8 (F := F)) (dobV x0) x6 x3 x4 x5)) -∗ K ⟨⟩))
      ⊢ wp frame (wpE (defs₀ (F := F)) Variants.none c none) E (cc0_ffn_bwd_x i arg2 harg2 arg3 harg3 arg4 harg4 arg5 harg5 arg6 harg6 arg7 harg7 arg8 harg8 arg9 harg9 arg10 harg10 arg11 harg11 arg12 harg12 arg13 harg13 arg14 harg14) K := by
  simp only [cc0_ffn_bwd_x_eq_skeleton]; unfold cc0_ffn_bwd_x_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    sl_unfold_words
    rw [View.read_writes_eq_canon _ _ _ (cover_whole (S := S1024x256) _ (zero2 _ rfl rfl) _ _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf7, hf8]
    rfl
  isplitl [H10]
  · iexists _; isplitr
    swap; · iexact H10
    ipureintro
    sl_unfold_words
    rw [View.read_writes_eq_canon _ _ _ (cover_gu _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf7, hf8]
    rfl
  isplitl [H11]
  · iexists _; isplitr
    swap; · iexact H11
    ipureintro
    sl_unfold_words
    rw [View.read_writes_eq_canon _ _ _ (cover_whole (S := S1024x1024) _ (zero2 _ rfl rfl) _ _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf7, hf8]
    rfl
  iexists _; isplitr
  swap; · iexact H12
  ipureintro
  sl_unfold_words
  rw [View.read_writes_eq_canon _ _ _ (cover_whole (S := S1024x1024) _ (zero2 _ rfl rfl) _ _ _)]
  try simp (disch := decide) only [View.readCov_unit_lit', View.readCov_cons_unit_lit']
  simp (disch := decide) only [View.readAt_eq_ld, View.readCov_unit_lit', View.readCov_cons_unit_lit', View.readCov_eq_canon', View.canon_cons_unit_lit', View.ld_unit_lit', hf0, hf1, hf2, hf3, hf4, hf5, hf6, hf7, hf8]
  rfl

end Cert.KernelIdeal.Ffn

end
-- ==== Proof.FfnRunB.lean ====
/- A column tile in the middle of a row tile. -/
module

public import proofs.«01_k».proof.Proof.FfnRunA

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1024x1024 .f32) (harg3 : arg3.IsWhole)
  (arg4 : Memref sig .tc .vmem S1x1024 .f32) (harg4 : arg4.IsWhole)
  (arg5 : Memref sig .tc .vmem S1024x512 .bf16) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x1024 .bf16) (harg8 : arg8.IsWhole)
  (arg9 : Memref sig .tc .vmem S1024x1024 .f32) (harg9 : arg9.IsWhole)
  (arg10 : Memref sig .tc .vmem S1x1024 .f32) (harg10 : arg10.IsWhole)
  (arg11 : Memref sig .tc .vmem S1024x256 .bf16) (harg11 : arg11.IsWhole)
  (arg12 : Memref sig .tc .vmem S1024x512 .bf16) (harg12 : arg12.IsWhole)
  (arg13 : Memref sig .tc .vmem S1024x1024 .bf16) (harg13 : arg13.IsWhole)
  (arg14 : Memref sig .tc .vmem S1024x1024 .f32) (harg14 : arg14.IsWhole)
variable (x0 : Vec F S1024x1024 .f32) (x1 : Vec F S1024x1024 .f32) (x2 : Vec F S1x1024 .f32) (x3 : Vec F S1024x512 .bf16) (x4 : Vec F S256x1024 .bf16) (x5 : Vec F S256x1024 .bf16) (x6 : Vec F S256x1024 .bf16)

set_option maxHeartbeats 2000000 in
/-- A column tile in the middle of a row tile. -/
theorem run_B (hc0 : ¬k0_cond1 i = 1#1) (hc1 : ¬k0_cond2 i = 1#1) (d7 : Vec F S1024x1024 .f32) (d8 : Vec F S1x1024 .f32) (dob : Vec F S1024x1024 .bf16) (acc : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare d7 ∗ owns (c : Thread nD τ) arg10 fullShare d8 ∗ (∃ d, owns (c : Thread nD τ) arg11 fullShare d) ∗ (∃ d, owns (c : Thread nD τ) arg12 fullShare d) ∗ owns (c : Thread nD τ) arg13 fullShare dob ∗ owns (c : Thread nD τ) arg14 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare d7 ∗ owns (c : Thread nD τ) arg10 fullShare d8 ∗ owns (c : Thread nD τ) arg11 fullShare (aV x3) ∗ owns (c : Thread nD τ) arg12 fullShare (dguV dob x6 x3) ∗ owns (c : Thread nD τ) arg13 fullShare dob ∗ owns (c : Thread nD τ) arg14 fullShare (accV acc dob x6 x3 x4 x5)) -∗ K ⟨⟩))
      ⊢ wp frame (wpE (defs₀ (F := F)) Variants.none c none) E (cc0_ffn_bwd_x i arg2 harg2 arg3 harg3 arg4 harg4 arg5 harg5 arg6 harg6 arg7 harg7 arg8 harg8 arg9 harg9 arg10 harg10 arg11 harg11 arg12 harg12 arg13 harg13 arg14 harg14) K := by
  simp only [cc0_ffn_bwd_x_eq_skeleton]; unfold cc0_ffn_bwd_x_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hf11; obtain rfl := harg14.eq_unread hf12
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    sl_unfold_words
    rw [View.read_writes_eq_canon _ _ _ (cover_whole (S := S1024x256) _ (zero2 _ rfl rfl) _ _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf7, hf8, hf11, hf12]
    rfl
  isplitl [H10]
  · iexists _; isplitr
    swap; · iexact H10
    ipureintro
    sl_unfold_words
    rw [View.read_writes_eq_canon _ _ _ (cover_gu _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf7, hf8, hf11, hf12]
    rfl
  isplitl [H11]
  · iexists _; isplitr; · ipureintro; exact harg13.read_unread _
    iexact H11
  iexists _; isplitr
  swap; · iexact H12
  ipureintro
  sl_unfold_words
  rw [View.read_writes_eq_canon _ _ _ (cover_whole (S := S1024x1024) _ (zero2 _ rfl rfl) _ _ _)]
  try simp (disch := decide) only [View.readCov_unit_lit', View.readCov_cons_unit_lit']
  simp (disch := decide) only [View.readAt_eq_ld, View.readCov_unit_lit', View.readCov_cons_unit_lit', View.readCov_eq_canon', View.canon_cons_unit_lit', View.ld_unit_lit', hf0, hf1, hf2, hf3, hf4, hf5, hf6, hf7, hf8, hf11, hf12]
  rfl

end Cert.KernelIdeal.Ffn

end
-- ==== Proof.FfnRunC.lean ====
/- The last column tile of the first row tile: the input cotangent is stored and the gain cotangent starts. -/
module

public import proofs.«01_k».proof.Proof.FfnRunB

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1024x1024 .f32) (harg3 : arg3.IsWhole)
  (arg4 : Memref sig .tc .vmem S1x1024 .f32) (harg4 : arg4.IsWhole)
  (arg5 : Memref sig .tc .vmem S1024x512 .bf16) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x1024 .bf16) (harg8 : arg8.IsWhole)
  (arg9 : Memref sig .tc .vmem S1024x1024 .f32) (harg9 : arg9.IsWhole)
  (arg10 : Memref sig .tc .vmem S1x1024 .f32) (harg10 : arg10.IsWhole)
  (arg11 : Memref sig .tc .vmem S1024x256 .bf16) (harg11 : arg11.IsWhole)
  (arg12 : Memref sig .tc .vmem S1024x512 .bf16) (harg12 : arg12.IsWhole)
  (arg13 : Memref sig .tc .vmem S1024x1024 .bf16) (harg13 : arg13.IsWhole)
  (arg14 : Memref sig .tc .vmem S1024x1024 .f32) (harg14 : arg14.IsWhole)
variable (x0 : Vec F S1024x1024 .f32) (x1 : Vec F S1024x1024 .f32) (x2 : Vec F S1x1024 .f32) (x3 : Vec F S1024x512 .bf16) (x4 : Vec F S256x1024 .bf16) (x5 : Vec F S256x1024 .bf16) (x6 : Vec F S256x1024 .bf16)

set_option maxHeartbeats 2000000 in
/-- The last column tile of the first row tile: the input cotangent is stored and the gain cotangent starts. -/
theorem run_C (hc0 : ¬k0_cond1 i = 1#1) (hc1 : k0_cond2 i = 1#1) (hc2 : k0_cond3 i = 1#1) (dob : Vec F S1024x1024 .bf16) (acc : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare dob ∗ owns (c : Thread nD τ) arg14 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (dxV x1 x2 (accV acc dob x6 x3 x4 x5) x0) ∗ owns (c : Thread nD τ) arg10 fullShare (dgnV x1 (accV acc dob x6 x3 x4 x5) (k0_pay5 (F := F))) ∗ owns (c : Thread nD τ) arg11 fullShare (aV x3) ∗ owns (c : Thread nD τ) arg12 fullShare (dguV dob x6 x3) ∗ owns (c : Thread nD τ) arg13 fullShare dob ∗ owns (c : Thread nD τ) arg14 fullShare (accV acc dob x6 x3 x4 x5)) -∗ K ⟨⟩))
      ⊢ wp frame (wpE (defs₀ (F := F)) Variants.none c none) E (cc0_ffn_bwd_x i arg2 harg2 arg3 harg3 arg4 harg4 arg5 harg5 arg6 harg6 arg7 harg7 arg8 harg8 arg9 harg9 arg10 harg10 arg11 harg11 arg12 harg12 arg13 harg13 arg14 harg14) K := by
  simp only [cc0_ffn_bwd_x_eq_skeleton]; unfold cc0_ffn_bwd_x_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hf11; obtain rfl := harg14.eq_unread hf12
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_words
    rw [View.read_writes_eq_canon _ _ _ (cover_whole (S := S1024x1024) _ (zero2 _ rfl rfl) _ _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf11, hf12]
    rfl
  isplitl [H8]
  · iexists _; isplitr
    swap; · iexact H8
    ipureintro
    sl_unfold_words
    rw [View.read_writes_eq_canon _ _ _ (cover_whole (S := S1x1024) _ (zero2 _ rfl rfl) _ _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf11, hf12]
    rfl
  isplitl [H9]
  · iexists _; isplitr
    swap; · iexact H9
    ipureintro
    sl_unfold_words
    rw [View.read_writes_eq_canon _ _ _ (cover_whole (S := S1024x256) _ (zero2 _ rfl rfl) _ _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf11, hf12]
    rfl
  isplitl [H10]
  · iexists _; isplitr
    swap; · iexact H10
    ipureintro
    sl_unfold_words
    rw [View.read_writes_eq_canon _ _ _ (cover_gu _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf11, hf12]
    rfl
  isplitl [H11]
  · iexists _; isplitr; · ipureintro; exact harg13.read_unread _
    iexact H11
  iexists _; isplitr
  swap; · iexact H12
  ipureintro
  sl_unfold_words
  rw [View.read_writes_eq_canon _ _ _ (cover_whole (S := S1024x1024) _ (zero2 _ rfl rfl) _ _ _)]
  try simp (disch := decide) only [View.readCov_unit_lit', View.readCov_cons_unit_lit']
  simp (disch := decide) only [View.readAt_eq_ld, View.readCov_unit_lit', View.readCov_cons_unit_lit', View.readCov_eq_canon', View.canon_cons_unit_lit', View.ld_unit_lit', hf0, hf1, hf2, hf3, hf4, hf5, hf6, hf11, hf12]
  rfl

end Cert.KernelIdeal.Ffn

end
-- ==== Proof.FfnRunD.lean ====
/- The last column tile of a later row tile: the gain cotangent goes on from the earlier row tiles. -/
module

public import proofs.«01_k».proof.Proof.FfnRunC

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1024x1024 .f32) (harg3 : arg3.IsWhole)
  (arg4 : Memref sig .tc .vmem S1x1024 .f32) (harg4 : arg4.IsWhole)
  (arg5 : Memref sig .tc .vmem S1024x512 .bf16) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x1024 .bf16) (harg8 : arg8.IsWhole)
  (arg9 : Memref sig .tc .vmem S1024x1024 .f32) (harg9 : arg9.IsWhole)
  (arg10 : Memref sig .tc .vmem S1x1024 .f32) (harg10 : arg10.IsWhole)
  (arg11 : Memref sig .tc .vmem S1024x256 .bf16) (harg11 : arg11.IsWhole)
  (arg12 : Memref sig .tc .vmem S1024x512 .bf16) (harg12 : arg12.IsWhole)
  (arg13 : Memref sig .tc .vmem S1024x1024 .bf16) (harg13 : arg13.IsWhole)
  (arg14 : Memref sig .tc .vmem S1024x1024 .f32) (harg14 : arg14.IsWhole)
variable (x0 : Vec F S1024x1024 .f32) (x1 : Vec F S1024x1024 .f32) (x2 : Vec F S1x1024 .f32) (x3 : Vec F S1024x512 .bf16) (x4 : Vec F S256x1024 .bf16) (x5 : Vec F S256x1024 .bf16) (x6 : Vec F S256x1024 .bf16)

set_option maxHeartbeats 2000000 in
/-- The last column tile of a later row tile: the gain cotangent goes on from the earlier row tiles. -/
theorem run_D (hc0 : ¬k0_cond1 i = 1#1) (hc1 : k0_cond2 i = 1#1) (hc2 : ¬k0_cond3 i = 1#1) (d8 : Vec F S1x1024 .f32) (dob : Vec F S1024x1024 .bf16) (acc : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare d8 ∗ (∃ d, owns (c : Thread nD τ) arg11 fullShare d) ∗ (∃ d, owns (c : Thread nD τ) arg12 fullShare d) ∗ owns (c : Thread nD τ) arg13 fullShare dob ∗ owns (c : Thread nD τ) arg14 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (dxV x1 x2 (accV acc dob x6 x3 x4 x5) x0) ∗ owns (c : Thread nD τ) arg10 fullShare (dgnV x1 (accV acc dob x6 x3 x4 x5) d8) ∗ owns (c : Thread nD τ) arg11 fullShare (aV x3) ∗ owns (c : Thread nD τ) arg12 fullShare (dguV dob x6 x3) ∗ owns (c : Thread nD τ) arg13 fullShare dob ∗ owns (c : Thread nD τ) arg14 fullShare (accV acc dob x6 x3 x4 x5)) -∗ K ⟨⟩))
      ⊢ wp frame (wpE (defs₀ (F := F)) Variants.none c none) E (cc0_ffn_bwd_x i arg2 harg2 arg3 harg3 arg4 harg4 arg5 harg5 arg6 harg6 arg7 harg7 arg8 harg8 arg9 harg9 arg10 harg10 arg11 harg11 arg12 harg12 arg13 harg13 arg14 harg14) K := by
  simp only [cc0_ffn_bwd_x_eq_skeleton]; unfold cc0_ffn_bwd_x_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg13.eq_unread hf11; obtain rfl := harg14.eq_unread hf12
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_words
    rw [View.read_writes_eq_canon _ _ _ (cover_whole (S := S1024x1024) _ (zero2 _ rfl rfl) _ _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf8, hf11, hf12]
    rfl
  isplitl [H8]
  · iexists _; isplitr
    swap; · iexact H8
    ipureintro
    sl_unfold_words
    rw [View.read_writes_eq_canon _ _ _ (cover_whole (S := S1x1024) _ (zero2 _ rfl rfl) _ _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf8, hf11, hf12]
    rfl
  isplitl [H9]
  · iexists _; isplitr
    swap; · iexact H9
    ipureintro
    sl_unfold_words
    rw [View.read_writes_eq_canon _ _ _ (cover_whole (S := S1024x256) _ (zero2 _ rfl rfl) _ _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf8, hf11, hf12]
    rfl
  isplitl [H10]
  · iexists _; isplitr
    swap; · iexact H10
    ipureintro
    sl_unfold_words
    rw [View.read_writes_eq_canon _ _ _ (cover_gu _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf6, hf8, hf11, hf12]
    rfl
  isplitl [H11]
  · iexists _; isplitr; · ipureintro; exact harg13.read_unread _
    iexact H11
  iexists _; isplitr
  swap; · iexact H12
  ipureintro
  sl_unfold_words
  rw [View.read_writes_eq_canon _ _ _ (cover_whole (S := S1024x1024) _ (zero2 _ rfl rfl) _ _ _)]
  try simp (disch := decide) only [View.readCov_unit_lit', View.readCov_cons_unit_lit']
  simp (disch := decide) only [View.readAt_eq_ld, View.readCov_unit_lit', View.readCov_cons_unit_lit', View.readCov_eq_canon', View.canon_cons_unit_lit', View.ld_unit_lit', hf0, hf1, hf2, hf3, hf4, hf5, hf6, hf8, hf11, hf12]
  rfl

end Cert.KernelIdeal.Ffn

end
-- ==== Proof.FfnFrame.lean ====
/- The run of the feed-forward backward call: what each output buffer and the running sum hold after every grid point,
   and from it the frame claim. -/
module

public import proofs.«01_k».proof.Proof.FfnRunD
public import proofs.«01_k».proof.Proof.Gen.KernelIdeal.Frame

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point, and where an output rests -/

/-- The first column tile of a row tile. -/
theorem at_cond1 : ∀ t : Fin cfg0.N, k0_cond1 (grid0.coords t) = 1#1 ↔ t.val % 11 = 0 :=
  (fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

/-- The last column tile of a row tile. -/
theorem at_cond2 : ∀ t : Fin cfg0.N, k0_cond2 (grid0.coords t) = 1#1 ↔ t.val % 11 = 10 :=
  (fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [k0_cond2, e0, e1]
    word_cmp
   : ∀ t : Fin grid0.N, k0_cond2 (grid0.coords t) = 1#1 ↔ t.val % 11 = 10)

/-- The first row tile. -/
theorem at_cond3 : ∀ t : Fin cfg0.N, k0_cond3 (grid0.coords t) = 1#1 ↔ t.val < 11 :=
  (fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [k0_cond3, e0, e1]
    word_cmp
   : ∀ t : Fin grid0.N, k0_cond3 (grid0.coords t) = 1#1 ↔ t.val < 11)

theorem live7 (t : Fin cfg0.N) (h : t.val % 11 = 10) : cfg0.idle 7 (grid0.coords t) = false := by
  change (!(k0_cond2 (grid0.coords t) == 1#1)) = false
  rw [(at_cond2 t).mpr h]; rfl
theorem idle7 (t : Fin cfg0.N) (h : ¬t.val % 11 = 10) : cfg0.idle 7 (grid0.coords t) = true := by
  change (!(k0_cond2 (grid0.coords t) == 1#1)) = true
  rw [beq_eq_false_iff_ne.mpr (fun e => h ((at_cond2 t).mp e))]; rfl
theorem live8 (t : Fin cfg0.N) (h : t.val % 11 = 10) : cfg0.idle 8 (grid0.coords t) = false := by
  change (!(k0_cond2 (grid0.coords t) == 1#1 && k0_cond3 (grid0.coords t) == 1#1) && !(k0_cond2 (grid0.coords t) == 1#1)) = false
  rw [(at_cond2 t).mpr h]; simp
theorem idle8 (t : Fin cfg0.N) (h : ¬t.val % 11 = 10) : cfg0.idle 8 (grid0.coords t) = true := by
  change (!(k0_cond2 (grid0.coords t) == 1#1 && k0_cond3 (grid0.coords t) == 1#1) && !(k0_cond2 (grid0.coords t) == 1#1)) = true
  rw [beq_eq_false_iff_ne.mpr (fun e => h ((at_cond2 t).mp e))]; simp
theorem live11 (t : Fin cfg0.N) (h : t.val % 11 = 0) : cfg0.idle 11 (grid0.coords t) = false := by
  change (!(k0_cond1 (grid0.coords t) == 1#1)) = false
  rw [(at_cond1 t).mpr h]; rfl
theorem idle11 (t : Fin cfg0.N) (h : ¬t.val % 11 = 0) : cfg0.idle 11 (grid0.coords t) = true := by
  change (!(k0_cond1 (grid0.coords t) == 1#1)) = true
  rw [beq_eq_false_iff_ne.mpr (fun e => h ((at_cond1 t).mp e))]; rfl

/-! ## The operands' memrefs and blocks -/

abbrev st0 (t : Fin cfg0.N) := win0_0.stage (cfg0.slots t 0)
theorem wh0 (t : Fin cfg0.N) : (st0 t).IsWhole := hstage0_0 ((cfg0.slots t 0).cast nbuf0_0)
abbrev st1 (t : Fin cfg0.N) := win0_1.stage (cfg0.slots t 1)
theorem wh1 (t : Fin cfg0.N) : (st1 t).IsWhole := hstage0_1 ((cfg0.slots t 1).cast nbuf0_1)
abbrev st2 (t : Fin cfg0.N) := win0_2.stage (cfg0.slots t 2)
theorem wh2 (t : Fin cfg0.N) : (st2 t).IsWhole := hstage0_2 ((cfg0.slots t 2).cast nbuf0_2)
abbrev st3 (t : Fin cfg0.N) := win0_3.stage (cfg0.slots t 3)
theorem wh3 (t : Fin cfg0.N) : (st3 t).IsWhole := hstage0_3 ((cfg0.slots t 3).cast nbuf0_3)
abbrev st4 (t : Fin cfg0.N) := win0_4.stage (cfg0.slots t 4)
theorem wh4 (t : Fin cfg0.N) : (st4 t).IsWhole := hstage0_4 ((cfg0.slots t 4).cast nbuf0_4)
abbrev st5 (t : Fin cfg0.N) := win0_5.stage (cfg0.slots t 5)
theorem wh5 (t : Fin cfg0.N) : (st5 t).IsWhole := hstage0_5 ((cfg0.slots t 5).cast nbuf0_5)
abbrev st6 (t : Fin cfg0.N) := win0_6.stage (cfg0.slots t 6)
theorem wh6 (t : Fin cfg0.N) : (st6 t).IsWhole := hstage0_6 ((cfg0.slots t 6).cast nbuf0_6)
abbrev st7 (t : Fin cfg0.N) := win0_7.stage (cfg0.slots t 7)
theorem wh7 (t : Fin cfg0.N) : (st7 t).IsWhole := hstage0_7 ((cfg0.slots t 7).cast nbuf0_7)
abbrev st8 (t : Fin cfg0.N) := win0_8.stage (cfg0.slots t 8)
theorem wh8 (t : Fin cfg0.N) : (st8 t).IsWhole := hstage0_8 ((cfg0.slots t 8).cast nbuf0_8)
abbrev st9 (t : Fin cfg0.N) := win0_9.stage (cfg0.slots t 9)
theorem wh9 (t : Fin cfg0.N) : (st9 t).IsWhole := hstage0_9 ((cfg0.slots t 9).cast nbuf0_9)
abbrev st10 (t : Fin cfg0.N) := win0_10.stage (cfg0.slots t 10)
theorem wh10 (t : Fin cfg0.N) : (st10 t).IsWhole := hstage0_10 ((cfg0.slots t 10).cast nbuf0_10)
abbrev st11 (t : Fin cfg0.N) := win0_11.stage (cfg0.slots t 11)
theorem wh11 (t : Fin cfg0.N) : (st11 t).IsWhole := hstage0_11 ((cfg0.slots t 11).cast nbuf0_11)
/-- The running sum's buffer. -/
abbrev scr : Memref sig .tc .vmem S1024x1024 .f32 := Memref.whole cc0_scratch0

/-- The block of the cotangent at a point. -/
abbrev in0 (c : Dev nD) (t : Fin cfg0.N) : Vec F S1024x1024 .f32 := iblk m c 0 t
/-- The block of x at a point. -/
abbrev in1 (c : Dev nD) (t : Fin cfg0.N) : Vec F S1024x1024 .f32 := iblk m c 1 t
/-- The block of the gain at a point. -/
abbrev in2 (c : Dev nD) (t : Fin cfg0.N) : Vec F S1x1024 .f32 := iblk m c 2 t
/-- The block of the gate and up values at a point. -/
abbrev in3 (c : Dev nD) (t : Fin cfg0.N) : Vec F S1024x512 .bf16 := iblk m c 3 t
/-- The block of the gate weights at a point. -/
abbrev in4 (c : Dev nD) (t : Fin cfg0.N) : Vec F S256x1024 .bf16 := iblk m c 4 t
/-- The block of the up weights at a point. -/
abbrev in5 (c : Dev nD) (t : Fin cfg0.N) : Vec F S256x1024 .bf16 := iblk m c 5 t
/-- The block of the output weights at a point. -/
abbrev in6 (c : Dev nD) (t : Fin cfg0.N) : Vec F S256x1024 .bf16 := iblk m c 6 t

/-- The half cotangent of the row tile a point lies in. -/
def dobAt (c : Dev nD) (t : Fin cfg0.N) : Vec F S1024x1024 .bf16 := dobV (in0 m c t)

/-- The running sum after a point: begun at the first column tile, each later tile adding its two products. -/
def accAt (c : Dev nD) : (n : ℕ) → n < cfg0.N → Vec F S1024x1024 .f32
  | 0, hn => accV (k0_pay8 (F := F)) (dobAt m c ⟨0, hn⟩) (in6 m c ⟨0, hn⟩) (in3 m c ⟨0, hn⟩) (in4 m c ⟨0, hn⟩) (in5 m c ⟨0, hn⟩)
  | n + 1, hn => accV (if (n + 1) % 11 = 0 then k0_pay8 (F := F) else accAt c n (Nat.lt_of_succ_lt hn))
      (dobAt m c ⟨n + 1, hn⟩) (in6 m c ⟨n + 1, hn⟩) (in3 m c ⟨n + 1, hn⟩) (in4 m c ⟨n + 1, hn⟩) (in5 m c ⟨n + 1, hn⟩)

theorem accAt_first (c : Dev nD) (t : Fin cfg0.N) (h : t.val % 11 = 0) :
    accAt m c t.val t.isLt = accV (k0_pay8 (F := F)) (dobAt m c t) (in6 m c t) (in3 m c t) (in4 m c t) (in5 m c t) := by
  obtain ⟨n, hn⟩ := t
  cases n with
  | zero => rfl
  | succ n => simp only [accAt]; rw [if_pos h]

theorem accAt_next (c : Dev nD) (t : Fin cfg0.N) (h : ¬t.val % 11 = 0) :
    accAt m c t.val t.isLt = accV (accAt m c (t.val - 1) (Nat.lt_of_le_of_lt (Nat.sub_le _ _) t.isLt))
      (dobAt m c t) (in6 m c t) (in3 m c t) (in4 m c t) (in5 m c t) := by
  obtain ⟨n, hn⟩ := t
  cases n with
  | zero => exact absurd rfl h
  | succ n => simp only [accAt]; rw [if_neg h]; rfl

/-- The gain's gradient after a point: each row tile's last point adds that tile's sum over its rows. -/
def dgnAt (c : Dev nD) : (n : ℕ) → n < cfg0.N → Vec F S1x1024 .f32
  | 0, _ => k0_pay5 (F := F)
  | n + 1, hn => if (n + 1) % 11 = 10 then dgnV (in1 m c ⟨n + 1, hn⟩) (accAt m c (n + 1) hn) (dgnAt c n (Nat.lt_of_succ_lt hn))
      else dgnAt c n (Nat.lt_of_succ_lt hn)

theorem dgnAt_rest (c : Dev nD) (n : ℕ) (hn : n + 1 < cfg0.N) (h : ¬(n + 1) % 11 = 10) :
    dgnAt m c (n + 1) hn = dgnAt m c n (Nat.lt_of_succ_lt hn) := by
  simp only [dgnAt]; rw [if_neg h]

theorem dgnAt_last (c : Dev nD) (n : ℕ) (hn : n + 1 < cfg0.N) (h : (n + 1) % 11 = 10) :
    dgnAt m c (n + 1) hn = dgnV (in1 m c ⟨n + 1, hn⟩) (accAt m c (n + 1) hn) (dgnAt m c n (Nat.lt_of_succ_lt hn)) := by
  simp only [dgnAt]; rw [if_pos h]

/-- Before the first row tile ends the gain's gradient is still the zeros. -/
theorem dgnAt_zero (c : Dev nD) : ∀ (n : ℕ) (hn : n < cfg0.N), n < 10 → dgnAt m c n hn = k0_pay5 (F := F)
  | 0, _, _ => rfl
  | n + 1, hn, h => by
    rw [dgnAt_rest m c n hn (by omega)]; exact dgnAt_zero c n _ (by omega)

/-! ## The region invariant and the proof data -/

/-- Between points: the running sum as the point before left it. -/
def PhiS (c : Dev nD) : (n : ℕ) → n ≤ cfg0.N → sProp 𝕄
  | 0, _ => Pipeline.ΦA spec0 c
  | n + 1, hn => iprop(owns (c : Thread nD τ) scr fullShare (accAt m c n hn) ∗ (∃ r, prngReg c r))

theorem PhiS_pos (c : Dev nD) (n : ℕ) (h : n ≤ cfg0.N) (hz : n ≠ 0) :
    PhiS m c n h = iprop(owns (c : Thread nD τ) scr fullShare (accAt m c (n - 1) (by omega)) ∗ (∃ r, prngReg c r)) := by
  cases n with
  | zero => exact absurd rfl hz
  | succ n => rfl

theorem PhiA_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- Before any point the running sum's buffer is held at some contents. -/
theorem PhiS_any (c : Dev nD) (n : ℕ) (h : n ≤ cfg0.N) :
    PhiS m c n h ⊢ iprop((∃ d, owns (c : Thread nD τ) scr fullShare d) ∗ (∃ r, prngReg c r)) := by
  cases n with
  | zero => rw [← PhiA_eq]; exact Idealize.SL.BI.Entails.refl _
  | succ n =>
    unfold PhiS
    iintro ⟨HS, Hg⟩
    isplitl [HS]
    · iexists _; iexact HS
    iexact Hg

/-- What every buffer holds after each point. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => in4 m c t
    | ⟨5, _⟩ => in5 m c t
    | ⟨6, _⟩ => in6 m c t
    | ⟨7, _⟩ => dxV (in1 m c t) (in2 m c t) (accAt m c t.val t.isLt) (in0 m c t)
    | ⟨8, _⟩ => dgnAt m c t.val t.isLt
    | ⟨9, _⟩ => aV (in3 m c t)
    | ⟨10, _⟩ => dguV (dobAt m c t) (in6 m c t) (in3 m c t)
    | ⟨11, _⟩ => dobAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = in0 m c t := by dsimp only [dats]
theorem after1 (c : Dev nD) (t : Fin cfg0.N) : (dats m 0 c).after 1 t = in1 m c t := by dsimp only [dats]
theorem after2 (c : Dev nD) (t : Fin cfg0.N) : (dats m 0 c).after 2 t = in2 m c t := by dsimp only [dats]
theorem after3 (c : Dev nD) (t : Fin cfg0.N) : (dats m 0 c).after 3 t = in3 m c t := by dsimp only [dats]
theorem after4 (c : Dev nD) (t : Fin cfg0.N) : (dats m 0 c).after 4 t = in4 m c t := by dsimp only [dats]
theorem after5 (c : Dev nD) (t : Fin cfg0.N) : (dats m 0 c).after 5 t = in5 m c t := by dsimp only [dats]
theorem after6 (c : Dev nD) (t : Fin cfg0.N) : (dats m 0 c).after 6 t = in6 m c t := by dsimp only [dats]
theorem after7 (c : Dev nD) (t : Fin cfg0.N) : (dats m 0 c).after 7 t = dxV (in1 m c t) (in2 m c t) (accAt m c t.val t.isLt) (in0 m c t) := by dsimp only [dats]
theorem after8 (c : Dev nD) (t : Fin cfg0.N) : (dats m 0 c).after 8 t = dgnAt m c t.val t.isLt := by dsimp only [dats]
theorem after9 (c : Dev nD) (t : Fin cfg0.N) : (dats m 0 c).after 9 t = aV (in3 m c t) := by dsimp only [dats]
theorem after10 (c : Dev nD) (t : Fin cfg0.N) : (dats m 0 c).after 10 t = dguV (dobAt m c t) (in6 m c t) (in3 m c t) := by dsimp only [dats]
theorem after11 (c : Dev nD) (t : Fin cfg0.N) : (dats m 0 c).after 11 t = dobAt m c t := by dsimp only [dats]

theorem before0 (c : Dev nD) (t : Fin cfg0.N) (d) : (dats m 0 c).before 0 t d = in0 m c t :=
  before0_0_of m (dats m 0 c) (A_eq m c 0) (after0 m c) t d
theorem before1 (c : Dev nD) (t : Fin cfg0.N) (d) : (dats m 0 c).before 1 t d = in1 m c t :=
  before0_1_of m (dats m 0 c) (A_eq m c 1) (after1 m c) t d
theorem before2 (c : Dev nD) (t : Fin cfg0.N) (d) : (dats m 0 c).before 2 t d = in2 m c t :=
  before0_2_of m (dats m 0 c) (A_eq m c 2) (after2 m c) t d
theorem before3 (c : Dev nD) (t : Fin cfg0.N) (d) : (dats m 0 c).before 3 t d = in3 m c t :=
  before0_3_of m (dats m 0 c) (A_eq m c 3) (after3 m c) t d
theorem before4 (c : Dev nD) (t : Fin cfg0.N) (d) : (dats m 0 c).before 4 t d = in4 m c t :=
  before0_4_of m (dats m 0 c) (A_eq m c 4) (after4 m c) t d
theorem before5 (c : Dev nD) (t : Fin cfg0.N) (d) : (dats m 0 c).before 5 t d = in5 m c t :=
  before0_5_of m (dats m 0 c) (A_eq m c 5) (after5 m c) t d
theorem before6 (c : Dev nD) (t : Fin cfg0.N) (d) : (dats m 0 c).before 6 t d = in6 m c t :=
  before0_6_of m (dats m 0 c) (A_eq m c 6) (after6 m c) t d

/-- Within a row tile the cotangent's block does not move. -/
theorem same_row : ∀ t t' : Fin cfg0.N, t.val / 11 = t'.val / 11 → win0_0.index t = win0_0.index t' :=
  (by decide +kernel : ∀ t t' : Fin grid0.N, _)

theorem in0_congr (c : Dev nD) {t t' : Fin cfg0.N} (h : t.val / 11 = t'.val / 11) : in0 m c t = in0 m c t' := by
  rw [← before0 m c t (in0 m c t), ← before0 m c t' (in0 m c t)]
  rw [before0, before0]
  exact (dats m 0 c).fetched_congr 0 (same_row t t' h) rfl (in0 m c t)

/-- Past the first column tile the half cotangent's buffer still holds what the first tile stored. -/
theorem before11 (c : Dev nD) (d) : ∀ (n : ℕ) (hn : n < cfg0.N), ¬n % 11 = 0 →
    (dats m 0 c).before 11 ⟨n, hn⟩ d = dobAt m c ⟨n, hn⟩
  | 0, _, h => absurd rfl h
  | n + 1, hn, h => by
    have hp : n < cfg0.N := Nat.lt_of_succ_lt hn
    have hf : (cfg0.win 11).flush ⟨n, hp⟩ = false := by
      rw [Bool.eq_false_iff]; intro e; have := (flush0_11 ⟨n, hp⟩).mp e; simp only at this; omega
    have hrow : dobAt m c ⟨n + 1, hn⟩ = dobAt m c ⟨n, hp⟩ := by
      unfold dobAt; rw [in0_congr m c (t := ⟨n + 1, hn⟩) (t' := ⟨n, hp⟩) (show (n + 1) / 11 = n / 11 by omega)]
    rw [(dats m 0 c).before_of_pos 11 ⟨n + 1, hn⟩ (Nat.succ_ne_zero n) rfl d]
    change (if (cfg0.win 11).flush ⟨n, hp⟩ then d else (dats m 0 c).left 11 ⟨n, hp⟩ d) = _
    rw [hf, if_neg Bool.false_ne_true, hrow]
    unfold Dat.left
    by_cases h0 : n % 11 = 0
    · rw [live11 ⟨n, hp⟩ h0]
      exact after11 m c ⟨n, hp⟩
    · rw [idle11 ⟨n, hp⟩ h0]
      exact before11 c d n hp h0

/-- Past the first row tile the gain gradient's buffer holds what the point before left. -/
theorem before8 (c : Dev nD) (d) : ∀ (n : ℕ) (hn : n + 1 < cfg0.N), 11 ≤ n + 1 →
    (dats m 0 c).before 8 ⟨n + 1, hn⟩ d = dgnAt m c n (Nat.lt_of_succ_lt hn)
  | 0, _, h => absurd h (by omega)
  | n + 1, hn, h => by
    have hp : n + 1 < cfg0.N := Nat.lt_of_succ_lt hn
    have hN : cfg0.N = 44 := N_0
    have hf : (cfg0.win 8).flush ⟨n + 1, hp⟩ = false := by
      rw [Bool.eq_false_iff]; intro e; have := (flush0_8 ⟨n + 1, hp⟩).mp e; simp only at this; omega
    rw [(dats m 0 c).before_of_pos 8 ⟨n + 1 + 1, hn⟩ (Nat.succ_ne_zero _) rfl d]
    change (if (cfg0.win 8).flush ⟨n + 1, hp⟩ then d else (dats m 0 c).left 8 ⟨n + 1, hp⟩ d) = _
    rw [hf, if_neg Bool.false_ne_true]
    unfold Dat.left
    by_cases h0 : (n + 1) % 11 = 10
    · rw [live8 ⟨n + 1, hp⟩ h0]
      exact after8 m c ⟨n + 1, hp⟩
    · rw [idle8 ⟨n + 1, hp⟩ h0, dgnAt_rest m c n hp h0]
      exact before8 c d n hp (by omega)

/-! ## The body at a point -/

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves0 (c : Dev nD) (t : Fin cfg0.N) : (dats m 0 c).leavesExact 0 t = owns (c : Thread nD τ) (st0 t) fullShare (in0 m c t) := by
  unfold Dat.leavesExact; rw [show cfg0.idle 0 (grid0.coords t) = false from rfl, after0]
theorem leaves1 (c : Dev nD) (t : Fin cfg0.N) : (dats m 0 c).leavesExact 1 t = owns (c : Thread nD τ) (st1 t) fullShare (in1 m c t) := by
  unfold Dat.leavesExact; rw [show cfg0.idle 1 (grid0.coords t) = false from rfl, after1]
theorem leaves2 (c : Dev nD) (t : Fin cfg0.N) : (dats m 0 c).leavesExact 2 t = owns (c : Thread nD τ) (st2 t) fullShare (in2 m c t) := by
  unfold Dat.leavesExact; rw [show cfg0.idle 2 (grid0.coords t) = false from rfl, after2]
theorem leaves3 (c : Dev nD) (t : Fin cfg0.N) : (dats m 0 c).leavesExact 3 t = owns (c : Thread nD τ) (st3 t) fullShare (in3 m c t) := by
  unfold Dat.leavesExact; rw [show cfg0.idle 3 (grid0.coords t) = false from rfl, after3]
theorem leaves4 (c : Dev nD) (t : Fin cfg0.N) : (dats m 0 c).leavesExact 4 t = owns (c : Thread nD τ) (st4 t) fullShare (in4 m c t) := by
  unfold Dat.leavesExact; rw [show cfg0.idle 4 (grid0.coords t) = false from rfl, after4]
theorem leaves5 (c : Dev nD) (t : Fin cfg0.N) : (dats m 0 c).leavesExact 5 t = owns (c : Thread nD τ) (st5 t) fullShare (in5 m c t) := by
  unfold Dat.leavesExact; rw [show cfg0.idle 5 (grid0.coords t) = false from rfl, after5]
theorem leaves6 (c : Dev nD) (t : Fin cfg0.N) : (dats m 0 c).leavesExact 6 t = owns (c : Thread nD τ) (st6 t) fullShare (in6 m c t) := by
  unfold Dat.leavesExact; rw [show cfg0.idle 6 (grid0.coords t) = false from rfl, after6]
theorem leaves9 (c : Dev nD) (t : Fin cfg0.N) : (dats m 0 c).leavesExact 9 t = owns (c : Thread nD τ) (st9 t) fullShare (aV (in3 m c t)) := by
  unfold Dat.leavesExact; rw [show cfg0.idle 9 (grid0.coords t) = false from rfl, after9]
theorem leaves10 (c : Dev nD) (t : Fin cfg0.N) : (dats m 0 c).leavesExact 10 t = owns (c : Thread nD τ) (st10 t) fullShare (dguV (dobAt m c t) (in6 m c t) (in3 m c t)) := by
  unfold Dat.leavesExact; rw [show cfg0.idle 10 (grid0.coords t) = false from rfl, after10]
theorem leaves7 (c : Dev nD) (t : Fin cfg0.N) (h : t.val % 11 = 10) : (dats m 0 c).leavesExact 7 t = owns (c : Thread nD τ) (st7 t) fullShare (dxV (in1 m c t) (in2 m c t) (accAt m c t.val t.isLt) (in0 m c t)) := by
  unfold Dat.leavesExact; rw [live7 t h, after7]
theorem leaves8 (c : Dev nD) (t : Fin cfg0.N) (h : t.val % 11 = 10) : (dats m 0 c).leavesExact 8 t = owns (c : Thread nD τ) (st8 t) fullShare (dgnAt m c t.val t.isLt) := by
  unfold Dat.leavesExact; rw [live8 t h, after8]
theorem leaves11 (c : Dev nD) (t : Fin cfg0.N) (h : t.val % 11 = 0) : (dats m 0 c).leavesExact 11 t = owns (c : Thread nD τ) (st11 t) fullShare (dobAt m c t) := by
  unfold Dat.leavesExact; rw [live11 t h, after11]
theorem rests7 (c : Dev nD) (t : Fin cfg0.N) (h : ¬t.val % 11 = 10) : (dats m 0 c).leavesExact 7 t
    = iprop(∃ d, owns (c : Thread nD τ) (st7 t) fullShare ((dats m 0 c).before 7 t d)) :=
  (dats m 0 c).leavesExact_idle 7 t (idle7 t h) (by
    rw [Bool.eq_false_iff]; intro e; have := (flush0_7 t).mp e; omega)
theorem rests8 (c : Dev nD) (t : Fin cfg0.N) (h : ¬t.val % 11 = 10) : (dats m 0 c).leavesExact 8 t
    = iprop(∃ d, owns (c : Thread nD τ) (st8 t) fullShare ((dats m 0 c).before 8 t d)) :=
  (dats m 0 c).leavesExact_idle 8 t (idle8 t h) (by
    rw [Bool.eq_false_iff]; intro e; have := (flush0_8 t).mp e; omega)
theorem rests11 (c : Dev nD) (t : Fin cfg0.N) (h : ¬t.val % 11 = 0) (h' : ¬t.val % 11 = 10) : (dats m 0 c).leavesExact 11 t
    = iprop(∃ d, owns (c : Thread nD τ) (st11 t) fullShare ((dats m 0 c).before 11 t d)) :=
  (dats m 0 c).leavesExact_idle 11 t (idle11 t h) (by
    rw [Bool.eq_false_iff]; intro e; have := (flush0_11 t).mp e; omega)
theorem ends11 (c : Dev nD) (t : Fin cfg0.N) (h : ¬t.val % 11 = 0) (h' : t.val % 11 = 10) : (dats m 0 c).leavesExact 11 t
    = owns (c : Thread nD τ) (st11 t) fullShare (dobAt m c t) := by
  unfold Dat.leavesExact; rw [idle11 t h, (flush0_11 t).mpr h', after11]

set_option maxHeartbeats 4000000 in
/-- A row tile's first column tile. -/
theorem body_A (c : Dev nD) (t : Fin cfg0.N) (h0 : t.val % 11 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = iprop(owns (c : Thread nD τ) scr fullShare (accAt m c t.val t.isLt) ∗ (∃ r, prngReg c r)) from rfl]
  rw [leaves0, leaves1, leaves2, leaves3, leaves4, leaves5, leaves6, leaves9, leaves10, Phi_castSucc]
  have h1 : ¬t.val % 11 = 10 := by omega
  rw [rests7 m c t h1, rests8 m c t h1, leaves11 m c t h0, accAt_first m c t h0]
  refine BIBase.Entails.trans (Idealize.SL.BI.Laws.sep_mono_left (PhiS_any m c t.val (Nat.le_of_lt t.isLt))) ?_
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_A c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) scr (Memref.isWhole_whole _) (in0 m c t) (in1 m c t) (in2 m c t) (in3 m c t) (in4 m c t) (in5 m c t) (in6 m c t) ((at_cond1 t).mpr h0) (fun h => h1 ((at_cond2 t).mp h)) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  iexact H11

set_option maxHeartbeats 4000000 in
/-- A column tile that is neither first nor last. -/
theorem body_B (c : Dev nD) (t : Fin cfg0.N) (h0 : ¬t.val % 11 = 0) (h1 : ¬t.val % 11 = 10) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = iprop(owns (c : Thread nD τ) scr fullShare (accAt m c t.val t.isLt) ∗ (∃ r, prngReg c r)) from rfl]
  rw [leaves0, leaves1, leaves2, leaves3, leaves4, leaves5, leaves6, leaves9, leaves10, Phi_castSucc]
  have hz : t.val ≠ 0 := fun e => h0 (by rw [e])
  rw [rests7 m c t h1, rests8 m c t h1, rests11 m c t h0 h1, accAt_next m c t h0, PhiS_pos m c _ _ hz]
  simp only [show ∀ d, (dats m 0 c).before 11 t d = dobAt m c t from fun d => before11 m c d t.val t.isLt h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_B c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) scr (Memref.isWhole_whole _) (in0 m c t) (in1 m c t) (in2 m c t) (in3 m c t) (in4 m c t) (in5 m c t) (in6 m c t) (fun h => h0 ((at_cond1 t).mp h)) (fun h => h1 ((at_cond2 t).mp h)) _ _ (dobAt m c t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  iexists d11; iexact H11

set_option maxHeartbeats 4000000 in
/-- The last column tile of the first row tile. -/
theorem body_C (c : Dev nD) (t : Fin cfg0.N) (h1 : t.val % 11 = 10) (h2 : t.val < 11) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = iprop(owns (c : Thread nD τ) scr fullShare (accAt m c t.val t.isLt) ∗ (∃ r, prngReg c r)) from rfl]
  rw [leaves0, leaves1, leaves2, leaves3, leaves4, leaves5, leaves6, leaves9, leaves10, Phi_castSucc]
  have h0 : ¬t.val % 11 = 0 := by omega
  have hz : t.val ≠ 0 := fun e => h0 (by rw [e])
  have hg : dgnAt m c t.val t.isLt = dgnV (in1 m c t) (accAt m c t.val t.isLt) (k0_pay5 (F := F)) := by
    obtain ⟨n, hn⟩ := t
    cases n with
    | zero => exact absurd rfl hz
    | succ n => rw [dgnAt_last m c n hn h1, dgnAt_zero m c n _ (by simp only at h2; omega)]
  rw [leaves7 m c t h1, leaves8 m c t h1, ends11 m c t h0 h1, hg, accAt_next m c t h0, PhiS_pos m c _ _ hz]
  simp only [show ∀ d, (dats m 0 c).before 11 t d = dobAt m c t from fun d => before11 m c d t.val t.isLt h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_C c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) scr (Memref.isWhole_whole _) (in0 m c t) (in1 m c t) (in2 m c t) (in3 m c t) (in4 m c t) (in5 m c t) (in6 m c t) (fun h => h0 ((at_cond1 t).mp h)) ((at_cond2 t).mpr h1) ((at_cond3 t).mpr h2) (dobAt m c t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- The last column tile of a later row tile. -/
theorem body_D (c : Dev nD) (t : Fin cfg0.N) (h1 : t.val % 11 = 10) (h2 : ¬t.val < 11) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = iprop(owns (c : Thread nD τ) scr fullShare (accAt m c t.val t.isLt) ∗ (∃ r, prngReg c r)) from rfl]
  rw [leaves0, leaves1, leaves2, leaves3, leaves4, leaves5, leaves6, leaves9, leaves10, Phi_castSucc]
  have h0 : ¬t.val % 11 = 0 := by omega
  have hz : t.val ≠ 0 := fun e => h0 (by rw [e])
  have hg : dgnAt m c t.val t.isLt = dgnV (in1 m c t) (accAt m c t.val t.isLt) (dgnAt m c (t.val - 1) (Nat.lt_of_le_of_lt (Nat.sub_le _ _) t.isLt)) := by
    obtain ⟨n, hn⟩ := t
    cases n with
    | zero => exact absurd rfl hz
    | succ n => exact dgnAt_last m c n hn h1
  have hb : ∀ d, (dats m 0 c).before 8 t d = dgnAt m c (t.val - 1) (Nat.lt_of_le_of_lt (Nat.sub_le _ _) t.isLt) := by
    obtain ⟨n, hn⟩ := t
    cases n with
    | zero => exact absurd rfl hz
    | succ n => exact fun d => before8 m c d n hn (by simp only at h2; omega)
  rw [leaves7 m c t h1, leaves8 m c t h1, ends11 m c t h0 h1, hg, accAt_next m c t h0, PhiS_pos m c _ _ hz]
  simp only [hb]
  simp only [show ∀ d, (dats m 0 c).before 11 t d = dobAt m c t from fun d => before11 m c d t.val t.isLt h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_D c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) scr (Memref.isWhole_whole _) (in0 m c t) (in1 m c t) (in2 m c t) (in3 m c t) (in4 m c t) (in5 m c t) (in6 m c t) (fun h => h0 ((at_cond1 t).mp h)) ((at_cond2 t).mpr h1) (fun h => h2 ((at_cond3 t).mp h)) _ (dobAt m c t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexists _; iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem sound_body (c : Dev nD) (t : Fin cfg0.N) :
    bodyPre m c t ⊢ wp frame (wpE (defs₀ (F := F)) Variants.none c none) Set.univ (bodyAt0 t) (fun _ => bodyPost m c t) := by
  by_cases h1 : t.val % 11 = 10
  · by_cases h2 : t.val < 11
    · exact body_C m c t h1 h2
    · exact body_D m c t h1 h2
  · by_cases h0 : t.val % 11 = 0
    · exact body_A m c t h0
    · exact body_B m c t h0 h1

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

theorem enter (c : Dev nD) : Pipeline.ΦA spec0 c ⊢ (dats m 0 c).Φ 0 := by
  rw [show (dats m 0 c).Φ 0 = PhiS m c 0 (Nat.zero_le _) from rfl]
  exact Idealize.SL.BI.Entails.refl _

theorem leave (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_any m c _ _

/-! ## The run and the frame -/

set_option backward.isDefEq.respectTransparency.types false in
/-- Every execution ends with each array as the proof data names it and with no semaphore held. -/
theorem run_quiet : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)
    (hQ' := fun _ h => h)

theorem run_main : θ_run defs (onTc (τ := τ) (main (F := F))) (s₀ m ρ) (Pipeline.FramePost cfgs (dats m) 0 (V m)) :=
  (θ_run defs _ _).mono (fun _ h => h.1) (run_quiet m ρ)

/-- The argument arrays end as they were launched, and no semaphore is held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.KernelIdeal.Ffn

end
-- ==== Proof.FfnKernel.lean ====
/- The feed-forward backward call as printed runs as its idealized text does: the two programs have the same operations. -/
module

public import proofs.«01_k».proof.Proof.FfnFrame
public import proofs.«01_k».proof.Proof.Gen.Kernel
public import proofs.«01_k».proof.Proof.Gen.Kernel.Launch
public import proofs.«01_k».proof.Defs

@[expose] public section

set_option maxRecDepth 16384

noncomputable section

namespace Cert.Kernel.Ffn

open Idealize.ShloMosaic Idealize.SL.Sem

variable {F : FTy → Type} [FloatOps F]

set_option maxHeartbeats 0 in
/-- The two body tables are the same. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- And so are the programs' tables, staged. -/
theorem defs_eq : Cert.Kernel.defs (F := F) = Cert.KernelIdeal.defs (F := F) :=
  congrArg (Pipeline.defs Cert.KernelIdeal.pcfgs) bodies_eq

/-- The kernel's frame: the run of the idealized text at the machine's own numbers. -/
theorem frame_kernel : Cert.quiescent_Kernel (hKernel := Cert.Kernel.Gen.facts) := fun m ρ _ => by
  rw [defs_eq]
  exact Cert.KernelIdeal.Ffn.frame (F := Bits) m ρ

end Cert.Kernel.Ffn

end
-- ==== Proof.Reals.lean ====
/- Facts on extended reals that are real numbers: sums of them, the constants the programs name, and the mean square's
   reciprocal root. -/
module

public import Idealize.ShloMosaic.PureOps
public import Idealize.ShloMosaic.Lib.Pipeline.ValueKit

@[expose] public section

noncomputable section

namespace Cert.Reals

open Idealize.ShloMosaic

/-- A sum of reals, as an extended real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem half : Ideal.ofBits FTy.f32 1056964608#32 = (((1 : ℝ) / 2 : ℝ) : EReal) := by
  simp [Ideal.ofBits, Ideal.ieee, -EReal.coe_mul]; norm_num
theorem neg_half : Ideal.ofBits FTy.f32 3204448256#32 = (((-1 : ℝ) / 2 : ℝ) : EReal) := by
  simp [Ideal.ofBits, Ideal.ieee, -EReal.coe_mul]; norm_num
theorem width : Ideal.ofBits FTy.f32 1149239296#32 = ((1024 : ℝ) : EReal) := by
  simp [Ideal.ofBits, Ideal.ieee, -EReal.coe_mul]; norm_num

/-- The number added to a mean square. -/
def eps : ℝ := 8796093 / 8796093022208
theorem eps_pos : 0 < eps := by unfold eps; norm_num
theorem eps_eq : Ideal.ofBits FTy.f32 897988541#32 = ((eps : ℝ) : EReal) := by
  simp [Ideal.ofBits, Ideal.ieee, -EReal.coe_mul, eps]; norm_num

theorem div_width (x : ℝ) : Ideal.div ((x : ℝ) : EReal) ((1024 : ℝ) : EReal) = ((x / 1024 : ℝ) : EReal) := by
  rw [Ideal.div_coe (by norm_num), ← EReal.coe_mul]; congr 1; ring

theorem div_real (x y : ℝ) (h : y ≠ 0) : Ideal.div ((x : ℝ) : EReal) ((y : ℝ) : EReal) = ((x / y : ℝ) : EReal) := by
  rw [Ideal.div_coe h, ← EReal.coe_mul]; congr 1; ring

theorem rsqrt_real (x : ℝ) (h : 0 < x) : Ideal.rsqrt ((x : ℝ) : EReal) = (((Real.sqrt x)⁻¹ : ℝ) : EReal) := by
  rw [Ideal.rsqrt_coe, if_neg (not_lt.mpr h.le), if_neg h.ne']

theorem one_real : (1 : EReal) = ((1 : ℝ) : EReal) := EReal.coe_one.symm

/-- Splitting off the last tile of a sum over tiles. -/
theorem sum_tile (n w : ℕ) (f : ℕ → ℝ) :
    ∑ i ∈ Finset.range (w * (n + 1)), f i = ∑ i ∈ Finset.range (w * n), f i + ∑ j : Fin w, f (w * n + j.val) := by
  rw [Nat.mul_succ, Finset.sum_range_add, Finset.sum_range (n := w)]

end Cert.Reals
-- ==== Proof.Finite.lean ====
/- Finite arguments are real numbers. -/
module

public import proofs.«01_k».proof.Defs
public import proofs.«01_k».proof.Proof.Reals

@[expose] public section

set_option maxRecDepth 16384

noncomputable section

namespace Cert.Reals

open Idealize.ShloMosaic Idealize.ShloMosaic.TcCoe Idealize.ShloMosaic.Tactic

/-- The precondition's side conditions. -/
theorem pre_facts : Cert.Pre_finite.Facts where
  bcast_S_S4096x1024 := by decide
  bcast_S_S1x1024 := by decide
  bcast_S_S1024x5632 := by decide
  bcast_S_S2816x1024 := by decide

/-- An array's entries as reals, by row and column numbers (taken modulo the array's sizes). -/
def entries {n0 n1 : ℕ} [NeZero n0] [NeZero n1] (v : (⟨2, ![n0, n1]⟩ : Shape).Idx → EReal) (r k : ℕ) : ℝ :=
  (v (ix2 (Fin.ofNat n0 r) (Fin.ofNat n1 k))).toReal

theorem inf_eq : Ideal.ofBits FTy.f32 2139095040#32 = ⊤ := by simp [Ideal.ofBits, Ideal.ieee]

/-- An extended real whose absolute value is below infinity is a real. -/
theorem real_of_lt (x : EReal) (h : BitVec.ofBool (decide (max x (-x) < Ideal.ofBits FTy.f32 2139095040#32)) = 1#1) :
    ((x.toReal : ℝ) : EReal) = x := by
  rw [inf_eq] at h
  have h' : max x (-x) < ⊤ := by
    by_contra hc
    rw [decide_eq_false hc] at h
    exact absurd h (by decide)
  have h1 : x ≠ ⊤ := fun e => by simp [e] at h'
  have h2 : x ≠ ⊥ := fun e => by simp [e] at h'
  exact EReal.coe_toReal h1 h2

theorem entries_at {n0 n1 : ℕ} [NeZero n0] [NeZero n1] (v : (⟨2, ![n0, n1]⟩ : Shape).Idx → EReal)
    (hv : ∀ i, ((v i).toReal : EReal) = v i) (r : Fin n0) (k : Fin n1) : v (ix2 r k) = ((entries v r.val k.val : ℝ) : EReal) := by
  unfold entries
  rw [Fin.ofNat_val_eq_self, Fin.ofNat_val_eq_self, hv]

end Cert.Reals

namespace Cert.KernelIdeal.Ffn

open Cert.Reals Cert.Pre_finite
open Idealize.ShloMosaic Idealize.ShloMosaic.TcCoe Idealize.ShloMosaic.Tactic

variable [Cert.Pre_finite.Facts] (x0 x1 : FVec Ideal S4096x1024 .f32) (x2 : FVec Ideal S1x1024 .f32) (x3 : FVec Ideal S1024x5632 .f32)
  (x4 : FVec Ideal S2816x1024 .f32)

theorem real0 (h : (Cert.Pre_finite.fn (F := Ideal) x0 x1 x2 x3 x4).1 = fun _ => 1#1) (i) : ((x0 i).toReal : EReal) = x0 i := by
  have h' := congrFun h i
  pointwise [Cert.Pre_finite.fn] at h'
  exact real_of_lt _ h'
theorem real1 (h : (Cert.Pre_finite.fn (F := Ideal) x0 x1 x2 x3 x4).2.1 = fun _ => 1#1) (i) : ((x1 i).toReal : EReal) = x1 i := by
  have h' := congrFun h i
  pointwise [Cert.Pre_finite.fn] at h'
  exact real_of_lt _ h'
theorem real2 (h : (Cert.Pre_finite.fn (F := Ideal) x0 x1 x2 x3 x4).2.2.1 = fun _ => 1#1) (i) : ((x2 i).toReal : EReal) = x2 i := by
  have h' := congrFun h i
  pointwise [Cert.Pre_finite.fn] at h'
  exact real_of_lt _ h'
theorem real3 (h : (Cert.Pre_finite.fn (F := Ideal) x0 x1 x2 x3 x4).2.2.2.1 = fun _ => 1#1) (i) : ((x3 i).toReal : EReal) = x3 i := by
  have h' := congrFun h i
  pointwise [Cert.Pre_finite.fn] at h'
  exact real_of_lt _ h'
theorem real4 (h : (Cert.Pre_finite.fn (F := Ideal) x0 x1 x2 x3 x4).2.2.2.2 = fun _ => 1#1) (i) : ((x4 i).toReal : EReal) = x4 i := by
  have h' := congrFun h i
  pointwise [Cert.Pre_finite.fn] at h'
  exact real_of_lt _ h'

end Cert.KernelIdeal.Ffn
-- ==== Proof.FfnSpec.lean ====
/- The feed-forward half layer's gradient over the reals, by row and column numbers. -/
module

public import proofs.«01_k».proof.Proof.Reals

@[expose] public section

noncomputable section

namespace Cert.Ffn

open Cert.Reals

/-- The call's arguments: the result's cotangent, the input, the gain, the two weight matrices. -/
structure Args where
  ct : ℕ → ℕ → ℝ
  x : ℕ → ℕ → ℝ
  gn : ℕ → ℝ
  wi : ℕ → ℕ → ℝ
  wo : ℕ → ℕ → ℝ

variable (A : Args)

/-- The mean square of a row of the input, with the small number added. -/
def ms (r : ℕ) : ℝ := (∑ k : Fin 1024, A.x r k * A.x r k) / 1024 + eps
/-- Its reciprocal root. -/
def rs (r : ℕ) : ℝ := (Real.sqrt (ms A r))⁻¹
/-- The normalised input. -/
def xh (r k : ℕ) : ℝ := A.x r k * rs A r
/-- The input's projection: gate columns, then up columns. -/
def z (r j : ℕ) : ℝ := ∑ k : Fin 1024, A.x r k * rs A r * A.gn k * A.wi k j
/-- The gate's logistic. -/
def sg (r f : ℕ) : ℝ := (1 + Real.exp (-z A r f))⁻¹
/-- The gated activation. -/
def act (r f : ℕ) : ℝ := z A r f * sg A r f * z A r (2816 + f)
/-- Half the result's cotangent. -/
def dob (r k : ℕ) : ℝ := 1 / 2 * A.ct r k
/-- The activation's cotangent. -/
def da (r f : ℕ) : ℝ := ∑ k : Fin 1024, dob A r k * A.wo f k
/-- The gate's cotangent. -/
def dg (r f : ℕ) : ℝ := da A r f * z A r (2816 + f) * (sg A r f * (1 + z A r f * (1 - sg A r f)))
/-- The up projection's cotangent. -/
def du (r f : ℕ) : ℝ := da A r f * (z A r f * sg A r f)
/-- One hidden column's part of the normalised input's cotangent. -/
def part (r k f : ℕ) : ℝ := dg A r f * A.wi k f + du A r f * A.wi k (2816 + f)
/-- The normalised input's cotangent. -/
def dy (r k : ℕ) : ℝ := ∑ f ∈ Finset.range 2816, part A r k f
/-- The gain's gradient. -/
def dgn (k : ℕ) : ℝ := ∑ r ∈ Finset.range 4096, dy A r k * xh A r k
/-- The input's gradient. -/
def dx (r k : ℕ) : ℝ :=
  A.ct r k + rs A r * (dy A r k * A.gn k - xh A r k * ((∑ l : Fin 1024, dy A r l * A.gn l * xh A r l) / 1024))

theorem ms_pos (r : ℕ) : 0 < ms A r := by
  have h : 0 ≤ ∑ k : Fin 1024, A.x r k * A.x r k := Finset.sum_nonneg fun k _ => mul_self_nonneg _
  have := eps_pos
  unfold ms; positivity

/-- The mean square's reciprocal root over the mean square: its cube. -/
theorem rs_div_ms (r : ℕ) : rs A r / ms A r = rs A r * rs A r * rs A r := by
  have hp := ms_pos A r
  have hs : Real.sqrt (ms A r) ≠ 0 := (Real.sqrt_pos.mpr hp).ne'
  have h2 : rs A r * rs A r * ms A r = 1 := by
    unfold rs
    rw [← mul_inv, Real.mul_self_sqrt hp.le, inv_mul_cancel₀ hp.ne']
  rw [div_eq_iff hp.ne']
  calc rs A r = rs A r * (rs A r * rs A r * ms A r) := by rw [h2, mul_one]
    _ = _ := by ring

/-- The reciprocal root of the mean square, as the programs compute it. -/
theorem rs_eq (r : ℕ) :
    Idealize.ShloMosaic.Ideal.rsqrt (((∑ k : Fin 1024, A.x r k * A.x r k) / 1024 + eps : ℝ) : EReal) = ((rs A r : ℝ) : EReal) :=
  rsqrt_real _ (ms_pos A r)

/-- The logistic of the gate's projection. -/
theorem sg_eq (r f : ℕ) : Idealize.ShloMosaic.Ideal.logistic ((z A r f : ℝ) : EReal) = ((sg A r f : ℝ) : EReal) :=
  Idealize.ShloMosaic.Ideal.logistic_coe _

end Cert.Ffn
-- ==== Proof.FfnIn.lean ====
/- What each operand's block holds at a grid point, read off the arguments. -/
module

public import proofs.«01_k».proof.Proof.FfnFrame
public import proofs.«01_k».proof.Proof.FfnSpec
public import Idealize.ShloMosaic.Lib.Pipeline.ValueKit

@[expose] public section

set_option maxRecDepth 16384

noncomputable section

namespace Cert.KernelIdeal.Ffn

open Cert.KernelIdeal Cert.KernelIdeal.Gen
open Cert.Ffn Cert.Reals
open Idealize.ShloMosaic Idealize.ShloMosaic.TcCoe Idealize.ShloMosaic.Tactic

variable (m : (ℓ : Loc nD τ sig) → Buf (Elt Ideal) ℓ) (c : Dev nD)

/-- The block index of every window at a point. -/
theorem idx : ∀ t : Fin cfg0.N, win0_0.index t = ![t.val / 11, 0] ∧ win0_1.index t = ![t.val / 11, 0] ∧ win0_2.index t = ![0, 0]
    ∧ win0_3.index t = ![t.val / 11, t.val % 11] ∧ win0_4.index t = ![t.val % 11, 0] ∧ win0_5.index t = ![t.val % 11 + 11, 0]
    ∧ win0_6.index t = ![t.val % 11, 0] ∧ win0_7.index t = ![t.val / 11, 0] ∧ win0_8.index t = ![0, 0]
    ∧ win0_9.index t = ![t.val / 11, t.val % 11] ∧ win0_10.index t = ![t.val / 11, t.val % 11] ∧ win0_11.index t = ![t.val / 11, 0] :=
  (by decide +kernel : ∀ t : Fin grid0.N, _)

/-- A row of a row tile, in the array. -/
theorem row_lt (t : Fin cfg0.N) (a : Fin 1024) : 1024 * (t.val / 11) + a.val < 4096 := by
  have := Nat.lt_of_lt_of_eq t.isLt N_0; have := a.isLt; omega
/-- A column of a column tile, in the array. -/
theorem col_lt (t : Fin cfg0.N) (b : Fin 256) : 256 * (t.val % 11) + b.val < 2816 := by
  have := b.isLt; omega

theorem in0_at (t : Fin cfg0.N) (a b : Fin 1024) :
    in0 m c t (ix2 a b) = m ((c : Thread nD τ).loc main_arg0) (ix2 ⟨1024 * (t.val / 11) + a.val, row_lt t a⟩ b) := by
  blk_ext [in0, iblk, V, idx t]
theorem in1_at (t : Fin cfg0.N) (a b : Fin 1024) :
    in1 m c t (ix2 a b) = m ((c : Thread nD τ).loc main_arg1) (ix2 ⟨1024 * (t.val / 11) + a.val, row_lt t a⟩ b) := by
  blk_ext [in1, iblk, V, idx t]
theorem in2_at (t : Fin cfg0.N) (a : Fin 1) (b : Fin 1024) :
    in2 m c t (ix2 a b) = m ((c : Thread nD τ).loc main_arg2) (ix2 0 b) := by
  blk_ext [in2, iblk, V, idx t]

theorem in4_at (t : Fin cfg0.N) (a : Fin 256) (b : Fin 1024) :
    in4 m c t (ix2 a b) = m ((c : Thread nD τ).loc main_arg3) (ix2 b ⟨256 * (t.val % 11) + a.val, Nat.lt_trans (col_lt t a) (by decide)⟩) := by
  have e : in4 m c t (ix2 a b) = V m c main_v1 (ix2 ⟨256 * (t.val % 11) + a.val, Nat.lt_trans (col_lt t a) (by decide)⟩ b) := by
    blk_ext [in4, iblk, idx t]
  rw [e]
  entry_read
  pointwise
theorem in5_at (t : Fin cfg0.N) (a : Fin 256) (b : Fin 1024) :
    in5 m c t (ix2 a b) = m ((c : Thread nD τ).loc main_arg3) (ix2 b ⟨2816 + (256 * (t.val % 11) + a.val), Nat.add_lt_add_left (col_lt t a) 2816⟩) := by
  have e : in5 m c t (ix2 a b) = V m c main_v1 (ix2 ⟨2816 + (256 * (t.val % 11) + a.val), Nat.add_lt_add_left (col_lt t a) 2816⟩ b) := by
    blk_ext [in5, iblk, idx t]
  rw [e]
  entry_read
  pointwise
theorem in6_at (t : Fin cfg0.N) (a : Fin 256) (b : Fin 1024) :
    in6 m c t (ix2 a b) = m ((c : Thread nD τ).loc main_arg4) (ix2 ⟨256 * (t.val % 11) + a.val, col_lt t a⟩ b) := by
  have e : in6 m c t (ix2 a b) = V m c main_v2 (ix2 ⟨256 * (t.val % 11) + a.val, col_lt t a⟩ b) := by
    blk_ext [in6, iblk, idx t]
  rw [e]
  entry_read
  pointwise

/-- The arguments are the reals `A`. -/
structure Reads (A : Args) : Prop where
  ct : ∀ r k, m ((c : Thread nD τ).loc main_arg0) (ix2 r k) = ((A.ct r.val k.val : ℝ) : EReal)
  x : ∀ r k, m ((c : Thread nD τ).loc main_arg1) (ix2 r k) = ((A.x r.val k.val : ℝ) : EReal)
  gn : ∀ r k, m ((c : Thread nD τ).loc main_arg2) (ix2 r k) = ((A.gn k.val : ℝ) : EReal)
  wi : ∀ r k, m ((c : Thread nD τ).loc main_arg3) (ix2 r k) = ((A.wi r.val k.val : ℝ) : EReal)
  wo : ∀ r k, m ((c : Thread nD τ).loc main_arg4) (ix2 r k) = ((A.wo r.val k.val : ℝ) : EReal)

variable {m c} {A : Args} (h : Reads m c A)
include h

/-- The projection a block of the gate and up values holds. -/
theorem in3_at (t : Fin cfg0.N) (a : Fin 1024) (b : Fin 512) : in3 m c t (ix2 a b)
    = if b.val < 256 then ((z A (1024 * (t.val / 11) + a.val) (256 * (t.val % 11) + b.val) : ℝ) : EReal)
      else ((z A (1024 * (t.val / 11) + a.val) (2816 + (256 * (t.val % 11) + (b.val - 256))) : ℝ) : EReal) := by
  have e : in3 m c t (ix2 a b) = V m c main_v22 (ix2 ⟨1024 * (t.val / 11) + a.val, row_lt t a⟩ ⟨512 * (t.val % 11) + b.val, by have := b.isLt; omega⟩) := by
    blk_ext [in3, iblk, idx t]
  rw [e]
  entry_read
  pointwise
  have hb := b.isLt
  have e1 : (512 * (t.val % 11) + b.val) % 512 = b.val := by omega
  have e2 : (512 * (t.val % 11) + b.val) / 512 * 256 = 256 * (t.val % 11) := by omega
  simp only [e1, e2]
  have hx : ∀ r k, m (c, Proc.tc.devRef main_arg1) (ix2 r k) = ((A.x r.val k.val : ℝ) : EReal) := h.x
  have hg : ∀ r k, m (c, Proc.tc.devRef main_arg2) (ix2 r k) = ((A.gn k.val : ℝ) : EReal) := h.gn
  have hw : ∀ r k, m (c, Proc.tc.devRef main_arg3) (ix2 r k) = ((A.wi r.val k.val : ℝ) : EReal) := h.wi
  simp only [hx, hg, hw, width, eps_eq, ← EReal.coe_mul, ← EReal.coe_add, coe_sum, div_width, rs_eq A]
  split <;> rfl

theorem in0_real (t : Fin cfg0.N) (a b : Fin 1024) :
    in0 m c t (ix2 a b) = ((A.ct (1024 * (t.val / 11) + a.val) b.val : ℝ) : EReal) := (in0_at m c t a b).trans (h.ct _ _)
theorem in1_real (t : Fin cfg0.N) (a b : Fin 1024) :
    in1 m c t (ix2 a b) = ((A.x (1024 * (t.val / 11) + a.val) b.val : ℝ) : EReal) := (in1_at m c t a b).trans (h.x _ _)
theorem in2_real (t : Fin cfg0.N) (a : Fin 1) (b : Fin 1024) :
    in2 m c t (ix2 a b) = ((A.gn b.val : ℝ) : EReal) := (in2_at m c t a b).trans (h.gn _ _)
theorem in4_real (t : Fin cfg0.N) (a : Fin 256) (b : Fin 1024) :
    in4 m c t (ix2 a b) = ((A.wi b.val (256 * (t.val % 11) + a.val) : ℝ) : EReal) := (in4_at m c t a b).trans (h.wi _ _)
theorem in5_real (t : Fin cfg0.N) (a : Fin 256) (b : Fin 1024) :
    in5 m c t (ix2 a b) = ((A.wi b.val (2816 + (256 * (t.val % 11) + a.val)) : ℝ) : EReal) := (in5_at m c t a b).trans (h.wi _ _)
theorem in6_real (t : Fin cfg0.N) (a : Fin 256) (b : Fin 1024) :
    in6 m c t (ix2 a b) = ((A.wo (256 * (t.val % 11) + a.val) b.val : ℝ) : EReal) := (in6_at m c t a b).trans (h.wo _ _)

end Cert.KernelIdeal.Ffn
-- ==== Proof.FfnPay.lean ====
/- The body's blocks over the reals: what each operation chain holds, element by element, at a grid point. -/
module

public import proofs.«01_k».proof.Proof.FfnIn

@[expose] public section

set_option maxRecDepth 16384

noncomputable section

namespace Cert.KernelIdeal.Ffn

open Cert.KernelIdeal Cert.KernelIdeal.Gen
open Cert.Ffn Cert.Reals
open Idealize.ShloMosaic Idealize.ShloMosaic.TcCoe Idealize.ShloMosaic.Tactic

/-! ## The rectangles a body reads through -/

theorem ld_top (x : FVec Ideal S1024x1024 .bf16) (a : Fin 512) (b : Fin 1024) :
    View.ld (Val := Elt Ideal) (e' := .bf16) x rTop (ix2 a b) = x (ix2 ⟨a.val, by have := a.isLt; omega⟩ b) := by
  exact View.ld_unit_apply_of (Val := Elt Ideal) (e := .bf16) (S := S1024x1024) x _ _ _ _ _ (fun a => by fin_cases a <;> simp [ix2])
theorem ld_bot (x : FVec Ideal S1024x1024 .bf16) (a : Fin 512) (b : Fin 1024) :
    View.ld (Val := Elt Ideal) (e' := .bf16) x rBot (ix2 a b) = x (ix2 ⟨512 + a.val, by have := a.isLt; omega⟩ b) := by
  exact View.ld_unit_apply_of (Val := Elt Ideal) (e := .bf16) (S := S1024x1024) x _ _ _ _ _ (fun a => by fin_cases a <;> simp [ix2])
theorem ld_g (x : FVec Ideal S1024x512 .bf16) (a : Fin 1024) (b : Fin 256) :
    View.ld (Val := Elt Ideal) (e' := .bf16) x rG (ix2 a b) = x (ix2 a ⟨b.val, by have := b.isLt; omega⟩) := by
  exact View.ld_unit_apply_of (Val := Elt Ideal) (e := .bf16) (S := S1024x512) x _ _ _ _ _ (fun a => by fin_cases a <;> simp [ix2])
theorem ld_u (x : FVec Ideal S1024x512 .bf16) (a : Fin 1024) (b : Fin 256) :
    View.ld (Val := Elt Ideal) (e' := .bf16) x rU (ix2 a b) = x (ix2 a ⟨256 + b.val, by have := b.isLt; omega⟩) := by
  exact View.ld_unit_apply_of (Val := Elt Ideal) (e := .bf16) (S := S1024x512) x _ _ _ _ _ (fun a => by fin_cases a <;> simp [ix2])

variable {m : (ℓ : Loc nD τ sig) → Buf (Elt Ideal) ℓ} {c : Dev nD} {A : Args} (h : Reads m c A)
include h

/-- The half cotangent of a row tile. -/
theorem dobAt_real (t : Fin cfg0.N) (a b : Fin 1024) :
    dobAt m c t (ix2 a b) = ((dob A (1024 * (t.val / 11) + a.val) b.val : ℝ) : EReal) := by
  unfold dobAt dobV
  generalize hv : in0 m c t = v
  pointwise [k0_pay7]
  subst hv
  simp only [half, in0_real h, ← EReal.coe_mul]
  rfl

/-- The gate's columns of the tile. -/
theorem g_real (t : Fin cfg0.N) (a : Fin 1024) (b : Fin 256) : View.ld (Val := Elt Ideal) (in3 m c t) rG (ix2 a b)
    = ((z A (1024 * (t.val / 11) + a.val) (256 * (t.val % 11) + b.val) : ℝ) : EReal) := by
  rw [ld_g, in3_at h, if_pos b.isLt]
/-- The up projection's columns of the tile. -/
theorem u_real (t : Fin cfg0.N) (a : Fin 1024) (b : Fin 256) : View.ld (Val := Elt Ideal) (in3 m c t) rU (ix2 a b)
    = ((z A (1024 * (t.val / 11) + a.val) (2816 + (256 * (t.val % 11) + b.val)) : ℝ) : EReal) := by
  rw [ld_u, in3_at h, if_neg (by simp)]
  simp

/-- The two half-row products, one above the other: the activation's cotangent. -/
theorem da_real (t : Fin cfg0.N) (a : Fin 1024) (b : Fin 256) :
    k0_pay9 (F := Ideal) (View.ld (Val := Elt Ideal) (dobAt m c t) rTop) (in6 m c t) (View.ld (Val := Elt Ideal) (dobAt m c t) rBot) (in6 m c t) (ix2 a b)
      = ((da A (1024 * (t.val / 11) + a.val) (256 * (t.val % 11) + b.val) : ℝ) : EReal) := by
  have e1 := fun a b => (ld_top (dobAt m c t) a b).trans (dobAt_real h t _ _)
  have e2 := fun a b => (ld_bot (dobAt m c t) a b).trans (dobAt_real h t _ _)
  have e3 := in6_real h t
  generalize View.ld (Val := Elt Ideal) (dobAt m c t) rTop = x at e1 ⊢
  generalize View.ld (Val := Elt Ideal) (dobAt m c t) rBot = y at e2 ⊢
  generalize in6 m c t = w at e3 ⊢
  pointwise [k0_pay9]
  have ha : ¬a.val < 512 → 512 + (a.val - 512) = a.val := by omega
  split
  · simp only [e1, e3, ← EReal.coe_mul, coe_sum]; rfl
  · rename_i hn
    simp only [e2, e3, ha hn, ← EReal.coe_mul, coe_sum]; rfl

/-- The activation's tile. -/
theorem aV_real (t : Fin cfg0.N) (a : Fin 1024) (b : Fin 256) : aV (in3 m c t) (ix2 a b)
    = ((act A (1024 * (t.val / 11) + a.val) (256 * (t.val % 11) + b.val) : ℝ) : EReal) := by
  unfold aV
  have e1 := g_real h t
  have e2 := u_real h t
  generalize View.ld (Val := Elt Ideal) (in3 m c t) rG = x at e1 ⊢
  generalize View.ld (Val := Elt Ideal) (in3 m c t) rU = y at e2 ⊢
  pointwise [k0_pay14, k0_pay13, k0_pay12, k0_pay11, k0_pay10]
  simp only [e1, e2, sg_eq, ← EReal.coe_mul]
  rfl

/-- The gate's cotangent on the tile. -/
theorem dgV_real (t : Fin cfg0.N) (a : Fin 1024) (b : Fin 256) : dgV (dobAt m c t) (in6 m c t) (in3 m c t) (ix2 a b)
    = ((dg A (1024 * (t.val / 11) + a.val) (256 * (t.val % 11) + b.val) : ℝ) : EReal) := by
  unfold dgV
  have e1 := g_real h t
  have e2 := u_real h t
  have e3 := da_real h t
  generalize View.ld (Val := Elt Ideal) (in3 m c t) rG = x at e1 ⊢
  generalize View.ld (Val := Elt Ideal) (in3 m c t) rU = y at e2 ⊢
  pointwise [k0_pay15, k0_pay12, k0_pay11, k0_pay10]
  simp only [e1, e2, e3, sg_eq, one_real, ← EReal.coe_mul, ← EReal.coe_add, ← EReal.coe_sub]
  rfl

/-- The up projection's cotangent on the tile. -/
theorem duV_real (t : Fin cfg0.N) (a : Fin 1024) (b : Fin 256) : duV (dobAt m c t) (in6 m c t) (in3 m c t) (ix2 a b)
    = ((du A (1024 * (t.val / 11) + a.val) (256 * (t.val % 11) + b.val) : ℝ) : EReal) := by
  unfold duV
  have e1 := g_real h t
  have e3 := da_real h t
  generalize View.ld (Val := Elt Ideal) (in3 m c t) rG = x at e1 ⊢
  pointwise [k0_pay16, k0_pay13, k0_pay12, k0_pay10]
  simp only [e1, e3, sg_eq, ← EReal.coe_mul]
  rfl

/-- One column tile's addition to the running sum. -/
theorem accV_real (t : Fin cfg0.N) (acc : FVec Ideal S1024x1024 .f32) (a b : Fin 1024) (s : ℝ) (hs : acc (ix2 a b) = ((s : ℝ) : EReal)) :
    accV acc (dobAt m c t) (in6 m c t) (in3 m c t) (in4 m c t) (in5 m c t) (ix2 a b)
      = ((s + ∑ f : Fin 256, part A (1024 * (t.val / 11) + a.val) b.val (256 * (t.val % 11) + f.val) : ℝ) : EReal) := by
  unfold accV
  have e1 := dgV_real h t
  have e2 := duV_real h t
  have e4 := in4_real h t
  have e5 := in5_real h t
  generalize dgV (dobAt m c t) (in6 m c t) (in3 m c t) = x at e1 ⊢
  generalize duV (dobAt m c t) (in6 m c t) (in3 m c t) = y at e2 ⊢
  generalize in4 m c t = wg at e4 ⊢
  generalize in5 m c t = wu at e5 ⊢
  pointwise [k0_pay1]
  simp only [hs, e1, e2, e4, e5, ← EReal.coe_mul, coe_sum, ← EReal.coe_add]
  rw [← Finset.sum_add_distrib]
  rfl

/-- The running sum after a point: the hidden columns so far. -/
theorem accAt_real : ∀ (n : ℕ) (hn : n < cfg0.N) (a b : Fin 1024), accAt m c n hn (ix2 a b)
    = ((∑ f ∈ Finset.range (256 * (n % 11 + 1)), part A (1024 * (n / 11) + a.val) b.val f : ℝ) : EReal)
  | n, hn, a, b => by
    by_cases h0 : n % 11 = 0
    · rw [accAt_first m c ⟨n, hn⟩ h0]
      refine (accV_real h ⟨n, hn⟩ _ a b 0 ?_).trans ?_
      · pointwise [k0_pay8]
        rfl
      · rw [sum_tile]; simp [h0]
    · rw [accAt_next m c ⟨n, hn⟩ h0]
      have hp : n - 1 < cfg0.N := Nat.lt_of_le_of_lt (Nat.sub_le _ _) hn
      refine (accV_real h ⟨n, hn⟩ _ a b _ (accAt_real (n - 1) hp a b)).trans ?_
      have e1 : (n - 1) % 11 + 1 = n % 11 := by omega
      have e2 : (n - 1) / 11 = n / 11 := by omega
      rw [e1, e2, sum_tile]

/-- At a row tile's last point: all hidden columns. -/
theorem accAt_full (t : Fin cfg0.N) (ht : t.val % 11 = 10) (a b : Fin 1024) : accAt m c t.val t.isLt (ix2 a b)
    = ((dy A (1024 * (t.val / 11) + a.val) b.val : ℝ) : EReal) := by
  rw [accAt_real h, ht]; rfl

/-- The input's gradient on a row tile. -/
theorem dxV_real (t : Fin cfg0.N) (ht : t.val % 11 = 10) (a b : Fin 1024) :
    dxV (in1 m c t) (in2 m c t) (accAt m c t.val t.isLt) (in0 m c t) (ix2 a b)
      = ((dx A (1024 * (t.val / 11) + a.val) b.val : ℝ) : EReal) := by
  unfold dxV
  have e0 := in0_real h t
  have e1 := in1_real h t
  have e2 := in2_real h t
  have e3 := accAt_full h t ht
  generalize in0 m c t = x0 at e0 ⊢
  generalize in1 m c t = x1 at e1 ⊢
  generalize in2 m c t = x2 at e2 ⊢
  generalize accAt m c t.val t.isLt = x3 at e3 ⊢
  pointwise [k0_pay4, k0_pay3, k0_pay2]
  simp only [e0, e1, e2, e3, width, eps_eq, ← EReal.coe_mul, ← EReal.coe_add, coe_sum, div_width, rs_eq A, ← EReal.coe_sub]
  rfl

/-- A row tile's addition to the gain's gradient. -/
theorem dgnV_real (t : Fin cfg0.N) (ht : t.val % 11 = 10) (prev : FVec Ideal S1x1024 .f32) (a : Fin 1) (b : Fin 1024) (s : ℝ)
    (hs : prev (ix2 a b) = ((s : ℝ) : EReal)) :
    dgnV (in1 m c t) (accAt m c t.val t.isLt) prev (ix2 a b)
      = ((s + ∑ r : Fin 1024, dy A (1024 * (t.val / 11) + r.val) b.val * xh A (1024 * (t.val / 11) + r.val) b.val : ℝ) : EReal) := by
  unfold dgnV
  have e1 := in1_real h t
  have e3 := accAt_full h t ht
  generalize in1 m c t = x1 at e1 ⊢
  generalize accAt m c t.val t.isLt = x3 at e3 ⊢
  pointwise [k0_pay6, k0_pay3, k0_pay2]
  simp only [hs, e1, e3, width, eps_eq, ← EReal.coe_mul, ← EReal.coe_add, coe_sum, div_width, rs_eq A]
  rfl

/-- The gain's gradient after a point: the row tiles ended so far. -/
theorem dgnAt_real : ∀ (n : ℕ) (hn : n < cfg0.N) (a : Fin 1) (b : Fin 1024), dgnAt m c n hn (ix2 a b)
    = ((∑ r ∈ Finset.range (1024 * ((n + 1) / 11)), dy A r b.val * xh A r b.val : ℝ) : EReal)
  | 0, _, a, b => by
    unfold dgnAt
    pointwise [k0_pay5]
    simp
  | n + 1, hn, a, b => by
    by_cases h0 : (n + 1) % 11 = 10
    · rw [dgnAt_last m c n hn h0]
      refine (dgnV_real h ⟨n + 1, hn⟩ h0 _ a b _ (dgnAt_real n (Nat.lt_of_succ_lt hn) a b)).trans ?_
      have e1 : (n + 1 + 1) / 11 = (n + 1) / 11 + 1 := by omega
      rw [e1, sum_tile]
    · rw [dgnAt_rest m c n hn h0, dgnAt_real n (Nat.lt_of_succ_lt hn) a b]
      have e1 : (n + 1 + 1) / 11 = (n + 1) / 11 := by omega
      rw [e1]

end Cert.KernelIdeal.Ffn
-- ==== Proof.FfnOut.lean ====
/- The result arrays of the feed-forward backward call over the reals. -/
module

public import proofs.«01_k».proof.Proof.FfnPay

@[expose] public section

set_option maxRecDepth 16384

noncomputable section

namespace Cert.KernelIdeal.Ffn

open Cert.KernelIdeal Cert.KernelIdeal.Gen
open Cert.Ffn Cert.Reals
open Idealize.ShloMosaic Idealize.ShloMosaic.TcCoe Idealize.ShloMosaic.Tactic

variable {m : (ℓ : Loc nD τ sig) → Buf (Elt Ideal) ℓ} {c : Dev nD} {A : Args} (h : Reads m c A)

/-- The input's gradient. -/
def dxArr (A : Args) : S4096x1024.Idx → EReal := fun i => ((dx A (i 0).val (i 1).val : ℝ) : EReal)
/-- The gain's gradient. -/
def dgnArr (A : Args) : S1x1024.Idx → EReal := fun i => ((dgn A (i 1).val : ℝ) : EReal)
/-- The activation. -/
def actArr (A : Args) : S4096x2816.Idx → EReal := fun i => ((act A (i 0).val (i 1).val : ℝ) : EReal)
/-- The two cotangents, in tiles of 256 gate columns and 256 up columns. -/
def dguArr (A : Args) : S4096x5632.Idx → EReal := fun i =>
  if (i 1).val % 512 < 256 then ((dg A (i 0).val (256 * ((i 1).val / 512) + (i 1).val % 512) : ℝ) : EReal)
  else ((du A (i 0).val (256 * ((i 1).val / 512) + ((i 1).val % 512 - 256)) : ℝ) : EReal)
/-- Half the result's cotangent. -/
def dobArr (A : Args) : S4096x1024.Idx → EReal := fun i => ((dob A (i 0).val (i 1).val : ℝ) : EReal)

include h

/-- The array of the input's gradient. -/
theorem final7 : (dats m 0 c).arrAt 7 cfg0.N = dxArr A := by
  refine (dats m 0 c).arrAt_eq_of_covers 7 _ (by decide +kernel) fun t hf y => ?_
  blk_simp
  rw [after7]
  have e := dxV_real h t ((flush0_7 t).mp hf) (y 0) (y 1)
  rw [ix2_eta] at e
  refine e.trans ?_
  unfold dxArr
  blk_simp [idx t]
  rw [Nat.mul_comm]

/-- The array of the gain's gradient. -/
theorem final8 : (dats m 0 c).arrAt 8 cfg0.N = dgnArr A := by
  refine (dats m 0 c).arrAt_eq_of_covers 8 _ (by decide +kernel) fun t hf y => ?_
  blk_simp
  rw [after8]
  have ht : t.val = 43 := by
    have h1 := (flush0_8 t).mp hf
    have h2 := Nat.lt_of_lt_of_eq t.isLt N_0
    omega
  have e := dgnAt_real h t.val t.isLt (y 0) (y 1)
  rw [ix2_eta] at e
  refine e.trans ?_
  unfold dgnArr dgn
  blk_simp [idx t]
  rw [ht]

/-- The array of the activation. -/
theorem final9 : (dats m 0 c).arrAt 9 cfg0.N = actArr A := by
  refine (dats m 0 c).arrAt_eq_of_covers 9 _ (by decide +kernel) fun t hf y => ?_
  blk_simp
  rw [after9]
  have e := aV_real h t (y 0) (y 1)
  rw [ix2_eta] at e
  refine e.trans ?_
  unfold actArr
  blk_simp [idx t]
  rw [Nat.mul_comm, Nat.mul_comm 256]

/-- A tile of the two cotangents, at a column. -/
theorem dguV_real (t : Fin cfg0.N) (a : Fin 1024) (b : Fin 512) : dguV (dobAt m c t) (in6 m c t) (in3 m c t) (ix2 a b)
    = if b.val < 256 then ((dg A (1024 * (t.val / 11) + a.val) (256 * (t.val % 11) + b.val) : ℝ) : EReal)
      else ((du A (1024 * (t.val / 11) + a.val) (256 * (t.val % 11) + (b.val - 256)) : ℝ) : EReal) := by
  unfold dguV
  refine View.canon_eq_of_allAt _ _ _ (cover_gu _ _ _) (View.allAt_cons_unit _ _ _ _ _ ?_ (View.allAt_cons_unit _ _ _ _ _ ?_ (View.allAt_nil _ _)))
  · intro x hx
    have h0 : a.val = 0 + (x 0).val := hx 0
    have h1 : b.val = 256 + (x 1).val := hx 1
    have e := duV_real h t (x 0) (x 1)
    rw [ix2_eta] at e
    refine e.trans ?_
    rw [if_neg (by omega), h0, h1]
    simp
  · intro x hx
    have h0 : a.val = 0 + (x 0).val := hx 0
    have h1 : b.val = 0 + (x 1).val := hx 1
    have h2 : (x 1).val < 256 := (x 1).isLt
    have e := dgV_real h t (x 0) (x 1)
    rw [ix2_eta] at e
    refine e.trans ?_
    rw [if_pos (by omega), h0, h1]
    simp

/-- The array of the two cotangents. -/
theorem final10 : (dats m 0 c).arrAt 10 cfg0.N = dguArr A := by
  refine (dats m 0 c).arrAt_eq_of_covers 10 _ (by decide +kernel) fun t hf y => ?_
  blk_simp
  rw [after10]
  have e := dguV_real h t (y 0) (y 1)
  rw [ix2_eta] at e
  refine e.trans ?_
  unfold dguArr
  blk_simp [idx t]
  have hy : (y 1).val < 512 := (y 1).isLt
  have e1 : (t.val % 11 * 512 + (y 1).val) % 512 = (y 1).val := by omega
  have e2 : (t.val % 11 * 512 + (y 1).val) / 512 = t.val % 11 := by omega
  rw [e1, e2, Nat.mul_comm (t.val / 11)]

/-- The array of half the result's cotangent. -/
theorem final11 : (dats m 0 c).arrAt 11 cfg0.N = dobArr A := by
  refine (dats m 0 c).arrAt_eq_of_covers 11 _ (by decide +kernel) fun t hf y => ?_
  blk_simp
  rw [after11]
  have e := dobAt_real h t (y 0) (y 1)
  rw [ix2_eta] at e
  refine e.trans ?_
  unfold dobArr
  blk_simp [idx t]
  rw [Nat.mul_comm]

end Cert.KernelIdeal.Ffn
-- ==== Proof.FfnRef.lean ====
/- The reference's gradient over the reals, stage by stage. -/
module

public import proofs.«01_k».proof.Proof.FfnSpec
public import proofs.«01_k».proof.Proof.Gen.ReferenceIdeal.Run
public import proofs.«01_k».proof.Proof.Gen.ReferenceIdeal.Read

@[expose] public section

set_option maxRecDepth 16384

noncomputable section

namespace Cert.ReferenceIdeal.Ffn

open Cert.ReferenceIdeal Cert.ReferenceIdeal.Read
open Cert.Ffn Cert.Reals
open Idealize.ShloMosaic Idealize.ShloMosaic.TcCoe Idealize.ShloMosaic.Tactic

/-- The reference's arguments are the reals `A`. -/
structure Reads (x0 x1 : FVec Ideal S4096x1024 .f32) (x2 : FVec Ideal S1x1024 .f32) (x3 : FVec Ideal S1024x5632 .f32)
    (x4 : FVec Ideal S2816x1024 .f32) (A : Args) : Prop where
  ct : ∀ r k, x0 (ix2 r k) = ((A.ct r.val k.val : ℝ) : EReal)
  x : ∀ r k, x1 (ix2 r k) = ((A.x r.val k.val : ℝ) : EReal)
  gn : ∀ r k, x2 (ix2 r k) = ((A.gn k.val : ℝ) : EReal)
  wi : ∀ r k, x3 (ix2 r k) = ((A.wi r.val k.val : ℝ) : EReal)
  wo : ∀ r k, x4 (ix2 r k) = ((A.wo r.val k.val : ℝ) : EReal)

variable {x0 x1 : FVec Ideal S4096x1024 .f32} {x2 : FVec Ideal S1x1024 .f32} {x3 : FVec Ideal S1024x5632 .f32}
  {x4 : FVec Ideal S2816x1024 .f32} {A : Args} (h : Reads x0 x1 x2 x3 x4 A)
include h

/-- The mean square with the small number added. -/
theorem ms_at (r : Fin 4096) (k : Fin 1) : val_main_v8 (F := Ideal) x1 (ix2 r k) = ((ms A r.val : ℝ) : EReal) := by
  pointwise [val_main_v8, val_main_v7, val_main_v6, val_main_v5, val_main_v4, val_main_v3, val_main_v2, val_main_cst_1, val_main_cst_2, val_main_cst_3]
  simp only [h.x, width, eps_eq, ← EReal.coe_mul, coe_sum, div_width, ← EReal.coe_add]
  rfl
theorem rs_at (r : Fin 4096) (k : Fin 1) : val_main_v9 (F := Ideal) x1 (ix2 r k) = ((rs A r.val : ℝ) : EReal) := by
  have e := ms_at h
  pointwise [val_main_v9]
  rw [e]; exact rs_eq A _
theorem v12_at (r : Fin 4096) (k : Fin 1) : val_main_v12 (F := Ideal) x1 (ix2 r k) = ((-1 / 2 * (rs A r.val / ms A r.val) : ℝ) : EReal) := by
  have e := ms_at h
  have e' := rs_at h
  pointwise [val_main_v12, val_main_v11, val_main_v10, val_main_cst_4]
  rw [e, e', div_real _ _ (ms_pos A _).ne', neg_half, ← EReal.coe_mul]
theorem xh_at (r : Fin 4096) (k : Fin 1024) : val_main_v14 (F := Ideal) x1 (ix2 r k) = ((xh A r.val k.val : ℝ) : EReal) := by
  have e := rs_at h
  pointwise [val_main_v14, val_main_v13]
  rw [e, h.x, ← EReal.coe_mul]; rfl
/-- The projection, its zero perturbation added. -/
theorem z_at (r : Fin 4096) (j : Fin 5632) : val_main_v18 (F := Ideal) x1 x2 x3 (ix2 r j) = ((z A r.val j.val : ℝ) : EReal) := by
  have e := xh_at h
  pointwise [val_main_v18, val_main_v17, val_main_v16, val_main_v15, val_main_v0, val_main_cst]
  simp only [e, h.gn, h.wi, ← EReal.coe_mul, coe_sum]
  rfl
theorem sg_at (r : Fin 4096) (f : Fin 2816) : val_main_v21_2 (F := Ideal) x1 x2 x3 (ix2 r f) = ((sg A r.val f.val : ℝ) : EReal) := by
  have e := z_at h
  pointwise [val_main_v21_2, val_main_call0_v4, val_main_call0_v3, val_main_call0_v2, val_main_call0_v1, val_main_call0_v0, val_main_call0_cst, val_main_call0_cst_0, val_main_v19]
  simp only [e]
  exact sg_eq A _ _
theorem act_at (r : Fin 4096) (f : Fin 2816) : val_main_v22 (F := Ideal) x1 x2 x3 (ix2 r f) = ((act A r.val f.val : ℝ) : EReal) := by
  have e := z_at h
  have e' := sg_at h
  pointwise [val_main_v22, val_main_v21_0, val_main_v19, val_main_v20]
  simp only [e, e', ← EReal.coe_mul]
  rfl
theorem dob_at (r : Fin 4096) (k : Fin 1024) : val_main_v30 (F := Ideal) x0 (ix2 r k) = ((dob A r.val k.val : ℝ) : EReal) := by
  pointwise [val_main_v30, val_main_v29, val_main_v28, val_main_cst_6]
  simp only [h.ct, half, ← EReal.coe_mul]
  rfl
theorem da_at (r : Fin 4096) (f : Fin 2816) : val_main_v31 (F := Ideal) x0 x4 (ix2 r f) = ((da A r.val f.val : ℝ) : EReal) := by
  have e := dob_at h
  pointwise [val_main_v31]
  simp only [e, h.wo, ← EReal.coe_mul, coe_sum]
  rfl
theorem du_at (r : Fin 4096) (f : Fin 2816) : val_main_v32 (F := Ideal) x0 x1 x2 x3 x4 (ix2 r f) = ((du A r.val f.val : ℝ) : EReal) := by
  have e := z_at h
  have e' := sg_at h
  have e'' := da_at h
  pointwise [val_main_v32, val_main_v21_0, val_main_v19]
  simp only [e, e', e'', ← EReal.coe_mul]
  congr 1; unfold du; ring
theorem dg_at (r : Fin 4096) (f : Fin 2816) : val_main_v34 (F := Ideal) x0 x1 x2 x3 x4 (ix2 r f) = ((dg A r.val f.val : ℝ) : EReal) := by
  have e := z_at h
  have e' := sg_at h
  have e'' := da_at h
  pointwise [val_main_v34, val_main_call1_v2, val_main_call1_v1, val_main_call1_v0, val_main_v33, val_main_v21_1, val_main_call0_v7, val_main_call0_v6, val_main_call0_cst_1, val_main_v19, val_main_v20]
  simp only [e, e', e'', one_real, ← EReal.coe_mul, ← EReal.coe_add, ← EReal.coe_sub]
  congr 1; unfold dg; ring
/-- The two cotangents side by side. -/
theorem v35_at (r : Fin 4096) (j : Fin 5632) : val_main_v35 (F := Ideal) x0 x1 x2 x3 x4 (ix2 r j)
    = ((if j.val < 2816 then dg A r.val j.val else du A r.val (j.val - 2816) : ℝ) : EReal) := by
  have e := dg_at h
  have e' := du_at h
  pointwise [val_main_v35]
  simp only [e, e']
  split <;> rfl
/-- The normalised input's cotangent. -/
theorem dy_at (r : Fin 4096) (k : Fin 1024) : val_main_v36 (F := Ideal) x0 x1 x2 x3 x4 (ix2 r k) = ((dy A r.val k.val : ℝ) : EReal) := by
  have e := v35_at h
  pointwise [val_main_v36]
  simp only [e, h.wi, ← EReal.coe_mul, coe_sum]
  congr 1
  unfold dy part
  rw [← Finset.sum_range (n := 5632) (fun j => (if j < 2816 then dg A r.val j else du A r.val (j - 2816)) * A.wi k.val j),
    show (5632 : ℕ) = 2816 + 2816 from rfl, Finset.sum_range_add, ← Finset.sum_add_distrib]
  refine Finset.sum_congr rfl fun f hf => ?_
  rw [if_pos (Finset.mem_range.mp hf), if_neg (by omega), Nat.add_sub_cancel_left]

/-! ## The results -/

theorem dgn_at (a : Fin 1) (k : Fin 1024) : val_main_v39 (F := Ideal) x0 x1 x2 x3 x4 (ix2 a k) = ((dgn A k.val : ℝ) : EReal) := by
  have e := xh_at h
  have e' := dy_at h
  pointwise [val_main_v39, val_main_v38, val_main_v37, val_main_cst_7]
  simp only [e, e', ← EReal.coe_mul, coe_sum]
  congr 1
  unfold dgn
  rw [Finset.sum_range]
  exact Finset.sum_congr rfl fun r _ => mul_comm _ _

/-- The mean square's cotangent, a row at a time. -/
theorem v50_at (r : Fin 4096) (k : Fin 1) : val_main_v50 (F := Ideal) x0 x1 x2 x3 x4 (ix2 r k)
    = (((∑ l : Fin 1024, A.x r.val l.val * (dy A r.val l.val * A.gn l.val)) * (-1 / 2 * (rs A r.val / ms A r.val)) / 1024 : ℝ) : EReal) := by
  have e := v12_at h
  have e' := dy_at h
  pointwise [val_main_v50, val_main_v49, val_main_v48, val_main_v44, val_main_v43, val_main_v42, val_main_v41, val_main_v40, val_main_cst_8, val_main_cst_9]
  simp only [e, e', h.x, h.gn, width, ← EReal.coe_mul, coe_sum, div_width]

theorem dx_at (r : Fin 4096) (k : Fin 1024) : val_main_v56 (F := Ideal) x0 x1 x2 x3 x4 (ix2 r k) = ((dx A r.val k.val : ℝ) : EReal) := by
  have e := v50_at h
  have e' := dy_at h
  have e'' := rs_at h
  pointwise [val_main_v56, val_main_v55, val_main_v54, val_main_v53, val_main_v52, val_main_v51, val_main_v47, val_main_v46, val_main_v45, val_main_v41, val_main_v40, val_main_cst_10]
  simp only [e, e', e'', h.x, h.ct, h.gn, ← EReal.coe_mul, ← EReal.coe_add, coe_sum]
  congr 1
  rw [Fin.sum_univ_one]
  have hS : ∑ l : Fin 1024, dy A r.val l.val * A.gn l.val * xh A r.val l.val
      = rs A r.val * ∑ l : Fin 1024, A.x r.val l.val * (dy A r.val l.val * A.gn l.val) := by
    rw [Finset.mul_sum]
    exact Finset.sum_congr rfl fun l _ => by unfold xh; ring
  unfold dx
  rw [hS, rs_div_ms]
  unfold xh
  ring

theorem dgu_at (r : Fin 4096) (j : Fin 5632) : val_main_v64 (F := Ideal) x0 x1 x2 x3 x4 (ix2 r j)
    = if j.val % 512 < 256 then ((dg A r.val (256 * (j.val / 512) + j.val % 512) : ℝ) : EReal)
      else ((du A r.val (256 * (j.val / 512) + (j.val % 512 - 256)) : ℝ) : EReal) := by
  have e := v35_at h
  pointwise [val_main_v64, val_main_v62, val_main_v61, val_main_v60, val_main_v59, val_main_v58, val_main_v57]
  simp only [e]
  have hj := j.isLt
  split
  · rename_i hc
    rw [if_pos (by omega), Nat.mul_comm]
  · rename_i hc
    rw [if_neg (by omega), Nat.add_sub_cancel_left, Nat.mul_comm]

/-- The five results over the reals, as arrays. -/
theorem dx_arr : val_main_v56 (F := Ideal) x0 x1 x2 x3 x4 = fun i => ((dx A (i 0).val (i 1).val : ℝ) : EReal) :=
  funext fun i => by have e := dx_at h (i 0) (i 1); rwa [ix2_eta] at e
theorem dgn_arr : val_main_v39 (F := Ideal) x0 x1 x2 x3 x4 = fun i => ((dgn A (i 1).val : ℝ) : EReal) :=
  funext fun i => by have e := dgn_at h (i 0) (i 1); rwa [ix2_eta] at e
theorem act_arr : val_main_v63 (F := Ideal) x1 x2 x3 = fun i => ((act A (i 0).val (i 1).val : ℝ) : EReal) :=
  funext fun i => by have e := act_at h (i 0) (i 1); rw [ix2_eta] at e; exact e
theorem dgu_arr : val_main_v64 (F := Ideal) x0 x1 x2 x3 x4 = fun i =>
    if (i 1).val % 512 < 256 then ((dg A (i 0).val (256 * ((i 1).val / 512) + (i 1).val % 512) : ℝ) : EReal)
    else ((du A (i 0).val (256 * ((i 1).val / 512) + ((i 1).val % 512 - 256)) : ℝ) : EReal) :=
  funext fun i => by have e := dgu_at h (i 0) (i 1); rwa [ix2_eta] at e
theorem dob_arr : val_main_v65 (F := Ideal) x0 = fun i => ((dob A (i 0).val (i 1).val : ℝ) : EReal) :=
  funext fun i => by have e := dob_at h (i 0) (i 1); rw [ix2_eta] at e; exact e

end Cert.ReferenceIdeal.Ffn
-- ==== Proof.FfnEq.lean ====
/- The feed-forward backward call computes the gradient: from finite arguments both programs end with the same results. -/
module

public import proofs.«01_k».proof.Proof.Finite
public import proofs.«01_k».proof.Proof.FfnOut
public import proofs.«01_k».proof.Proof.FfnRef

@[expose] public section

set_option maxRecDepth 16384

noncomputable section

namespace Cert.KernelIdeal.Ffn

open Cert.Ffn Cert.Reals
open Idealize.ShloMosaic Idealize.ShloMosaic.TcCoe Idealize.ShloMosaic.Tactic
open Idealize.SL.Sem

attribute [local instance] Cert.KernelIdeal.Gen.facts Cert.ReferenceIdeal.Gen.facts

/-- The arguments' entries, by row and column numbers. -/
def argsOf (m : (ℓ : Loc Cert.KernelIdeal.nD Cert.KernelIdeal.τ Cert.KernelIdeal.sig) → Buf (Elt Ideal) ℓ) (c : Dev Cert.KernelIdeal.nD) : Args where
  ct := entries (n0 := 4096) (n1 := 1024) (m ((c.tc : Thread Cert.KernelIdeal.nD Cert.KernelIdeal.τ).loc Cert.KernelIdeal.main_arg0))
  x := entries (n0 := 4096) (n1 := 1024) (m ((c.tc : Thread Cert.KernelIdeal.nD Cert.KernelIdeal.τ).loc Cert.KernelIdeal.main_arg1))
  gn := entries (n0 := 1) (n1 := 1024) (m ((c.tc : Thread Cert.KernelIdeal.nD Cert.KernelIdeal.τ).loc Cert.KernelIdeal.main_arg2)) 0
  wi := entries (n0 := 1024) (n1 := 5632) (m ((c.tc : Thread Cert.KernelIdeal.nD Cert.KernelIdeal.τ).loc Cert.KernelIdeal.main_arg3))
  wo := entries (n0 := 2816) (n1 := 1024) (m ((c.tc : Thread Cert.KernelIdeal.nD Cert.KernelIdeal.τ).loc Cert.KernelIdeal.main_arg4))

/-- Finite arguments are the reals their entries are. -/
theorem reads_of_finite [Cert.Pre_finite.Facts] (m) (h : Cert.Pre_KernelIdeal_finite m) (c : Dev Cert.KernelIdeal.nD) : Reads m c (argsOf m c) where
  ct := entries_at _ (real0 _ _ _ _ _ (h c).1)
  x := entries_at _ (real1 _ _ _ _ _ (h c).2.1)
  gn r k := by
    rw [Subsingleton.elim r 0]
    exact entries_at _ (real2 _ _ _ _ _ (h c).2.2.1) 0 k
  wi := entries_at _ (real3 _ _ _ _ _ (h c).2.2.2.1)
  wo := entries_at _ (real4 _ _ _ _ _ (h c).2.2.2.2)

theorem algebraic [Cert.Pre_finite.Facts] : Cert.algebraic_KernelIdeal_ReferenceIdeal_pre_finite := by
  intro m g m' g' hpre hargs
  have hk := fun c => reads_of_finite m hpre c
  have hr : ∀ c : Dev Cert.ReferenceIdeal.nD, Cert.ReferenceIdeal.Ffn.Reads (m' (Thread.loc (nD := Cert.ReferenceIdeal.nD) (τ := Cert.ReferenceIdeal.τ) (c : Thread Cert.ReferenceIdeal.nD Cert.ReferenceIdeal.τ) Cert.ReferenceIdeal.main_arg0))
      (m' (Thread.loc (nD := Cert.ReferenceIdeal.nD) (τ := Cert.ReferenceIdeal.τ) (c : Thread Cert.ReferenceIdeal.nD Cert.ReferenceIdeal.τ) Cert.ReferenceIdeal.main_arg1))
      (m' (Thread.loc (nD := Cert.ReferenceIdeal.nD) (τ := Cert.ReferenceIdeal.τ) (c : Thread Cert.ReferenceIdeal.nD Cert.ReferenceIdeal.τ) Cert.ReferenceIdeal.main_arg2))
      (m' (Thread.loc (nD := Cert.ReferenceIdeal.nD) (τ := Cert.ReferenceIdeal.τ) (c : Thread Cert.ReferenceIdeal.nD Cert.ReferenceIdeal.τ) Cert.ReferenceIdeal.main_arg3))
      (m' (Thread.loc (nD := Cert.ReferenceIdeal.nD) (τ := Cert.ReferenceIdeal.τ) (c : Thread Cert.ReferenceIdeal.nD Cert.ReferenceIdeal.τ) Cert.ReferenceIdeal.main_arg4)) (argsOf m c) := by
    intro c
    obtain ⟨e0, e1, e2, e3, e4⟩ := hargs c
    exact ⟨fun r k => (congrFun e0 _).trans ((hk c).ct r k), fun r k => (congrFun e1 _).trans ((hk c).x r k), fun r k => (congrFun e2 _).trans ((hk c).gn r k),
      fun r k => (congrFun e3 _).trans ((hk c).wi r k), fun r k => (congrFun e4 _).trans ((hk c).wo r k)⟩
  refine ⟨fun c => dxArr (argsOf m c), fun c => dgnArr (argsOf m c), fun c => actArr (argsOf m c), fun c => dguArr (argsOf m c),
    fun c => dobArr (argsOf m c), ?_, ?_⟩
  · refine (θ_run Cert.KernelIdeal.defs _ _).mono (fun r h c => ?_) (θ_run_and (run_main m g) (frame m g))
    exact ⟨(h.1.out_eq c 7).trans (final7 (hk c)), (h.1.out_eq c 8).trans (final8 (hk c)), (h.1.out_eq c 9).trans (final9 (hk c)),
      (h.1.out_eq c 10).trans (final10 (hk c)), (h.1.out_eq c 11).trans (final11 (hk c)), h.2.1 c⟩
  · refine (θ_run Cert.ReferenceIdeal.defs _ _).mono (fun r h c => ?_) (Cert.ReferenceIdeal.Value.run m' g')
    obtain ⟨h0, h1, h2, h3, h4, h5⟩ := h c
    exact ⟨h0.trans ((Cert.ReferenceIdeal.Read.val_main_v56_eq m' c).trans (Cert.ReferenceIdeal.Ffn.dx_arr (hr c))),
      h1.trans ((Cert.ReferenceIdeal.Read.val_main_v39_eq m' c).trans (Cert.ReferenceIdeal.Ffn.dgn_arr (hr c))),
      h2.trans (Cert.ReferenceIdeal.Ffn.act_arr (hr c)),
      h3.trans ((Cert.ReferenceIdeal.Read.val_main_v64_eq m' c).trans (Cert.ReferenceIdeal.Ffn.dgu_arr (hr c))),
      h4.trans (Cert.ReferenceIdeal.Ffn.dob_arr (hr c)), h5⟩

end Cert.KernelIdeal.Ffn
-- ==== Proof.ConvSpec.lean ====
/- The gated convolution's gradient in plain formulas: `y = b · conv(c · h)` with three taps along the rows of one example. -/
module

public import proofs.«01_k».proof.Proof.Reals

@[expose] public section

noncomputable section

namespace Cert.Conv

/-- The arguments: the projection (three gates side by side), the taps, the incoming gradient. -/
structure Args where
  pa : ℕ → ℕ → EReal
  w : ℕ → ℕ → EReal
  dy : ℕ → ℕ → EReal

/-- The rows of one example. -/
abbrev n : ℕ := 2048

variable (A : Args) (b s k : ℕ)

/-- The product that is convolved. -/
def z : EReal := A.pa (n * b + s) (512 + k) * A.pa (n * b + s) (1024 + k)
/-- The row before, zero before the first. -/
def before (f : ℕ → EReal) : EReal := if s = 0 then 0 else f (s - 1)
/-- The row after, zero after the last. -/
def behind (f : ℕ → EReal) : EReal := if s < 2047 then f (s + 1) else 0
/-- The convolution. -/
def conv : EReal := before s (fun s => z A b s k) * A.w 0 k + z A b s k * A.w 1 k + behind s (fun s => z A b s k) * A.w 2 k
/-- The convolution's cotangent. -/
def dc : EReal := A.pa (n * b + s) k * A.dy (n * b + s) k
/-- The first gate's gradient. -/
def dgb : EReal := A.dy (n * b + s) k * conv A b s k
/-- The product's cotangent. -/
def dz : EReal := before s (fun s => dc A b s k * A.w 2 k) + dc A b s k * A.w 1 k + behind s (fun s => dc A b s k * A.w 0 k)
/-- The second gate's gradient. -/
def dgc : EReal := dz A b s k * A.pa (n * b + s) (1024 + k)
/-- The last factor's gradient. -/
def dhc : EReal := A.pa (n * b + s) (512 + k) * dz A b s k
/-- A row of the projection's gradient. -/
def dpa : EReal := if k < 512 then dgb A b s k else if k < 1024 then dgc A b s (k - 512) else dhc A b s (k - 1024)
/-- One example's part of a tap's gradient. -/
def part (j : ℕ) : EReal := ∑ s : Fin n, (if j = 0 then before s.val (fun s => z A b s k) else if j = 1 then z A b s.val k else behind s.val (fun s => z A b s k)) * dc A b s.val k
/-- A tap's gradient. -/
def dw (j : ℕ) : EReal := part A 0 k j + part A 1 k j

end Cert.Conv
-- ==== Proof.ConvPay.lean ====
/- The convolution's body, element by element. -/
module

public import proofs.«01_k».proof.Proof.ConvSpec
public import proofs.«01_k».proof.Proof.Gen.Kernel2Ideal.Value
public import Idealize.ShloMosaic.Lib.Pipeline.ValueKit

@[expose] public section

set_option maxRecDepth 16384

noncomputable section

namespace Cert.Kernel2Ideal.Conv

open Cert.Kernel2Ideal Cert.Kernel2Ideal.Gen
open Cert.Conv
open Idealize.ShloMosaic Idealize.ShloMosaic.TcCoe Idealize.ShloMosaic.Tactic

/-- A row is at least the first but one exactly when it is not the first. -/
theorem sge_one : ∀ a : Fin 2048, IntOp.cmpi CmpIPredicate.sge (BitVec.ofNat 32 a.val) 1#32 = if a.val = 0 then 0#1 else 1#1 := by decide +kernel
/-- A row is before the last. -/
theorem slt_last : ∀ a : Fin 2048, IntOp.cmpi CmpIPredicate.slt (BitVec.ofNat 32 a.val) 2047#32 = if a.val < 2047 then 1#1 else 0#1 := by decide +kernel

/-- The rolled rows, the first blanked, are the rows before. -/
theorem roll_before (a : Fin 2048) (f : ℕ → EReal) :
    Scalar.select (IntOp.cmpi CmpIPredicate.sge (BitVec.ofNat 32 a.val) 1#32) (f ((a.val + 2048 - 1) % 2048)) 0 = before a.val f := by
  rw [sge_one]
  unfold before
  split
  · rfl
  · have e : (a.val + 2048 - 1) % 2048 = a.val - 1 := by have := a.isLt; omega
    rw [e]; rfl
/-- The rows rolled back, the last blanked, are the rows after. -/
theorem roll_behind (a : Fin 2048) (f : ℕ → EReal) :
    Scalar.select (IntOp.cmpi CmpIPredicate.slt (BitVec.ofNat 32 a.val) 2047#32) (f ((a.val + 2048 - 2047) % 2048)) 0 = behind a.val f := by
  rw [slt_last]
  unfold behind
  split
  · have e : (a.val + 2048 - 2047) % 2048 = a.val + 1 := by omega
    rw [e]; rfl
  · rfl

/-- The blocks a point loads are example `b`'s rows. -/
structure Blk (A : Args) (b : ℕ) (x0 x1 x2 : Vec Ideal S2048x512 .f32) (x3 : Vec Ideal S3x512 .f32) (x4 : Vec Ideal S2048x512 .bf16) : Prop where
  gb : ∀ s k, x0 (ix2 s k) = A.pa (n * b + s.val) k.val
  gc : ∀ s k, x1 (ix2 s k) = A.pa (n * b + s.val) (512 + k.val)
  hc : ∀ s k, x2 (ix2 s k) = A.pa (n * b + s.val) (1024 + k.val)
  w : ∀ j k, x3 (ix2 j k) = A.w j.val k.val
  dy : ∀ s k, x4 (ix2 s k) = A.dy (n * b + s.val) k.val

variable {A : Args} {b : ℕ} {x0 x1 x2 : Vec Ideal S2048x512 .f32} {x3 : Vec Ideal S3x512 .f32} {x4 : Vec Ideal S2048x512 .bf16} (h : Blk A b x0 x1 x2 x3 x4)
include h

theorem z_blk (s : Fin 2048) (k : Fin 512) : k0_pay3 (F := Ideal) x1 x2 (ix2 s k) = z A b s.val k.val := by
  pointwise [k0_pay3]
  rw [h.gc, h.hc]; rfl
theorem before_blk (s : Fin 2048) (k : Fin 512) : k0_pay4 (F := Ideal) x1 x2 (ix2 s k) = before s.val (fun s => z A b s k.val) := by
  pointwise [k0_pay4, k0_pay3]
  rw [h.gc, h.hc]
  exact roll_before s (fun s => z A b s k.val)
theorem behind_blk (s : Fin 2048) (k : Fin 512) : k0_pay7 (F := Ideal) x1 x2 (ix2 s k) = behind s.val (fun s => z A b s k.val) := by
  pointwise [k0_pay7, k0_pay3]
  rw [h.gc, h.hc]
  exact roll_behind s (fun s => z A b s k.val)
theorem dc_blk (s : Fin 2048) (k : Fin 512) : k0_pay10 (F := Ideal) x0 x4 (ix2 s k) = dc A b s.val k.val := by
  pointwise [k0_pay10, k0_pay9]
  rw [h.gb, h.dy]; rfl

/-- The first gate's gradient. -/
theorem dgb_blk (s : Fin 2048) (k : Fin 512) : k0_pay16 (F := Ideal) (k0_pay11 (F := Ideal) x1 x2 x3 x4) (ix2 s k) = dgb A b s.val k.val := by
  have e1 := z_blk h s k
  have e2 := before_blk h s k
  have e3 := behind_blk h s k
  revert e1 e2 e3
  generalize hz : k0_pay3 (F := Ideal) x1 x2 = vz
  generalize hb : k0_pay4 (F := Ideal) x1 x2 = vb
  generalize ha : k0_pay7 (F := Ideal) x1 x2 = va
  intro e1 e2 e3
  pointwise [k0_pay16, k0_pay11, k0_pay9, k0_pay5, k0_pay6, k0_pay8, hz, hb, ha]
  rw [e1, e2, e3, h.w, h.w, h.w, h.dy]; rfl
/-- The product's cotangent. -/
theorem dz_blk (s : Fin 2048) (k : Fin 512) :
    k0_pay15 (F := Ideal) (k0_pay5 (F := Ideal) x3) (k0_pay6 (F := Ideal) x3) (k0_pay10 (F := Ideal) x0 x4) (k0_pay12 (F := Ideal) x0 x3 x4) 1#32 (ix2 s k) = dz A b s.val k.val := by
  pointwise [k0_pay15, k0_pay12, k0_pay5, k0_pay6, k0_pay8, k0_pay10, k0_pay9]
  simp only [h.gb, h.dy, h.w]
  exact congrArg₂ (· + ·) (congrArg₂ (· + ·) (roll_before s (fun s => dc A b s k.val * A.w 2 k.val)) rfl) (roll_behind s (fun s => dc A b s k.val * A.w 0 k.val))
/-- One example's part of the taps' gradient. -/
theorem part_blk (j : Fin 3) (k : Fin 512) :
    k0_pay14 (F := Ideal) (k0_pay3 (F := Ideal) x1 x2) (k0_pay4 (F := Ideal) x1 x2) (k0_pay10 (F := Ideal) x0 x4) (k0_pay13 (F := Ideal) x0 x1 x2 x4) (ix2 j k)
      = part A b k.val j.val := by
  pointwise [k0_pay14, k0_pay13]
  simp only [dc_blk h, z_blk h, before_blk h, behind_blk h]
  unfold part
  fin_cases j <;> simp
/-- The second gate's gradient. -/
theorem dgc_blk (s : Fin 2048) (k : Fin 512) :
    k0_pay17 (F := Ideal) x2 (k0_pay5 (F := Ideal) x3) (k0_pay6 (F := Ideal) x3) (k0_pay10 (F := Ideal) x0 x4) (k0_pay12 (F := Ideal) x0 x3 x4) 1#32 (ix2 s k)
      = dgc A b s.val k.val := by
  have e := dz_blk h s k
  revert e
  generalize hz : k0_pay15 (F := Ideal) (k0_pay5 (F := Ideal) x3) (k0_pay6 (F := Ideal) x3) (k0_pay10 (F := Ideal) x0 x4) (k0_pay12 (F := Ideal) x0 x3 x4) 1#32 = vz
  intro e
  pointwise [k0_pay17, hz]
  rw [e, h.hc]; rfl
/-- The last factor's gradient. -/
theorem dhc_blk (s : Fin 2048) (k : Fin 512) :
    k0_pay18 (F := Ideal) x1 (k0_pay5 (F := Ideal) x3) (k0_pay6 (F := Ideal) x3) (k0_pay10 (F := Ideal) x0 x4) (k0_pay12 (F := Ideal) x0 x3 x4) 1#32 (ix2 s k)
      = dhc A b s.val k.val := by
  have e := dz_blk h s k
  revert e
  generalize hz : k0_pay15 (F := Ideal) (k0_pay5 (F := Ideal) x3) (k0_pay6 (F := Ideal) x3) (k0_pay10 (F := Ideal) x0 x4) (k0_pay12 (F := Ideal) x0 x3 x4) 1#32 = vz
  intro e
  pointwise [k0_pay18, hz]
  rw [e, h.gc]; rfl

end Cert.Kernel2Ideal.Conv
-- ==== Proof.ConvOut.lean ====
/- The convolution call's blocks and result arrays. -/
module

public import proofs.«01_k».proof.Proof.ConvPay

@[expose] public section

set_option maxRecDepth 16384

noncomputable section

namespace Cert.Kernel2Ideal.Conv

open Cert.Kernel2Ideal Cert.Kernel2Ideal.Gen
open Cert.Conv
open Idealize.ShloMosaic Idealize.ShloMosaic.TcCoe Idealize.ShloMosaic.Tactic

/-- The block index of every window at a point. -/
theorem idx : ∀ t : Fin cfg0.N, win0_0.index t = ![t.val, 0] ∧ win0_1.index t = ![t.val, 1] ∧ win0_2.index t = ![t.val, 2]
    ∧ win0_3.index t = ![0, 0] ∧ win0_4.index t = ![t.val, 0] ∧ win0_5.index t = ![t.val, 0] ∧ win0_6.index t = ![0, 0] :=
  (by decide +kernel : ∀ t : Fin grid0.N, _)

theorem pt_lt (t : Fin cfg0.N) : t.val < 2 := Nat.lt_of_lt_of_eq t.isLt N_0

/-- The arguments' entries are `A`. -/
structure Reads (m : (ℓ : Loc nD τ sig) → Buf (Elt Ideal) ℓ) (c : Dev nD) (A : Args) : Prop where
  pa : ∀ r k, m ((c : Thread nD τ).loc main_arg0) (ix2 r k) = A.pa r.val k.val
  w : ∀ r k, m ((c : Thread nD τ).loc main_arg1) (ix2 r k) = A.w r.val k.val
  dy : ∀ r k, m ((c : Thread nD τ).loc main_arg2) (ix2 r k) = A.dy r.val k.val

/-- Three blocks of 512 columns, side by side. -/
theorem three_cols {A : Args} {b : ℕ} (w0 w1 w2 : FVec Ideal S2048x512 .bf16) (h0 : ∀ s k, w0 (ix2 s k) = dgb A b s.val k.val) (h1 : ∀ s k, w1 (ix2 s k) = dgc A b s.val k.val)
    (h2 : ∀ s k, w2 (ix2 s k) = dhc A b s.val k.val) (s : Fin 2048) (k : Fin 1536) :
    View.canon (Val := Elt Ideal) (e := .bf16)
      [⟨Rect.unit (s := S2048x1536) ![0, 1024] ![2048, 512] inb_S2048x1536_S2048x512_0_1024, w2⟩,
        ⟨Rect.unit (s := S2048x1536) ![0, 512] ![2048, 512] inb_S2048x1536_S2048x512_0_512, w1⟩,
        ⟨Rect.unit (s := S2048x1536) ![0, 0] ![2048, 512] inb_S2048x1536_S2048x512_0_0, w0⟩] (ix2 s k) = dpa A b s.val k.val := by
  refine View.canon_eq_of_allAt _ _ _ (View.cover_of_tiled_head _ _ _ rfl _)
    (View.allAt_cons_unit _ _ _ _ _ ?_ (View.allAt_cons_unit _ _ _ _ _ ?_ (View.allAt_cons_unit _ _ _ _ _ ?_ (View.allAt_nil _ _))))
  · intro x hx
    have e0 : s.val = 0 + (x 0).val := hx 0
    have e1 : k.val = 1024 + (x 1).val := hx 1
    have e := h2 (x 0) (x 1)
    rw [ix2_eta] at e
    refine e.trans ?_
    unfold dpa
    rw [if_neg (by omega), if_neg (by omega), e0, e1]
    simp
  · intro x hx
    have e0 : s.val = 0 + (x 0).val := hx 0
    have e1 : k.val = 512 + (x 1).val := hx 1
    have e2 : (x 1).val < 512 := (x 1).isLt
    have e := h1 (x 0) (x 1)
    rw [ix2_eta] at e
    refine e.trans ?_
    unfold dpa
    rw [if_neg (by omega), if_pos (by omega), e0, e1]
    simp
  · intro x hx
    have e0 : s.val = 0 + (x 0).val := hx 0
    have e1 : k.val = 0 + (x 1).val := hx 1
    have e2 : (x 1).val < 512 := (x 1).isLt
    have e := h0 (x 0) (x 1)
    rw [ix2_eta] at e
    refine e.trans ?_
    unfold dpa
    rw [if_pos (by omega), e0, e1]
    simp

/-- The projection's gradient, the call's own columns. -/
def dpaArr (A : Args) : S4096x2304.Idx → EReal := fun i => dpa A ((i 0).val / 2048) ((i 0).val % 2048) (i 1).val
/-- The taps' gradient. -/
def dwArr (A : Args) : S3x512.Idx → EReal := fun i => dw A (i 1).val (i 0).val

variable {m : (ℓ : Loc nD τ sig) → Buf (Elt Ideal) ℓ} {c : Dev nD} {A : Args} (h : Reads m c A)
include h

/-- Point `t` loads example `t`'s rows. -/
theorem blk (t : Fin cfg0.N) : Blk A t.val (iblk m c 0 t) (iblk m c 1 t) (iblk m c 2 t) (iblk m c 3 t) (iblk m c 4 t) where
  gb s k := by
    have ht := pt_lt t
    have e : iblk m c 0 t (ix2 s k) = m ((c : Thread nD τ).loc main_arg0) (ix2 ⟨2048 * t.val + s.val, by omega⟩ ⟨k.val, by omega⟩) := by
      blk_ext [iblk, V, idx t]
    rw [e, h.pa]
  gc s k := by
    have ht := pt_lt t
    have e : iblk m c 1 t (ix2 s k) = m ((c : Thread nD τ).loc main_arg0) (ix2 ⟨2048 * t.val + s.val, by omega⟩ ⟨512 + k.val, by omega⟩) := by
      blk_ext [iblk, V, idx t]
    rw [e, h.pa]
  hc s k := by
    have ht := pt_lt t
    have e : iblk m c 2 t (ix2 s k) = m ((c : Thread nD τ).loc main_arg0) (ix2 ⟨2048 * t.val + s.val, by omega⟩ ⟨1024 + k.val, by omega⟩) := by
      blk_ext [iblk, V, idx t]
    rw [e, h.pa]
  w j k := by
    have e : iblk m c 3 t (ix2 j k) = m ((c : Thread nD τ).loc main_arg1) (ix2 j k) := by
      blk_ext [iblk, V, idx t]
    rw [e, h.w]
  dy s k := by
    have ht := pt_lt t
    have e : iblk m c 4 t (ix2 s k) = V m c main_v0 (ix2 ⟨2048 * t.val + s.val, by omega⟩ ⟨k.val, by omega⟩) := by
      blk_ext [iblk, idx t]
    rw [e]
    entry_read
    pointwise
    rw [h.dy]

/-- What a point leaves of the projection's gradient. -/
theorem after5 (t : Fin cfg0.N) (s : Fin 2048) (k : Fin 1536) : (outsAt0 m c t.val t.isLt).1 (ix2 s k) = dpa A t.val s.val k.val := by
  have hb := blk h t
  by_cases h0 : t.val % 2 = 0
  · rw [outsAt0_A m c t h0]
    frame_out
    exact three_cols _ _ _ (dgb_blk hb) (dgc_blk hb) (dhc_blk hb) s k
  · rw [outsAt0_B m c t h0]
    frame_out
    exact three_cols _ _ _ (dgb_blk hb) (dgc_blk hb) (dhc_blk hb) s k

/-- What the first point leaves of the taps' gradient. -/
theorem after6_first (t : Fin cfg0.N) (h0 : t.val % 2 = 0) (j : Fin 3) (k : Fin 512) : (outsAt0 m c t.val t.isLt).2 (ix2 j k) = part A t.val k.val j.val := by
  have e := part_blk (blk h t) j k
  rw [outsAt0_A m c t h0]
  frame_out
  revert e
  generalize k0_pay14 (F := Ideal) _ _ _ _ = v
  intro e
  pointwise [k0_pay2, k0_pay1]
  exact e
/-- What the second leaves: both examples' parts. -/
theorem after6_second (t : Fin cfg0.N) (h0 : ¬ t.val % 2 = 0) (j : Fin 3) (k : Fin 512) :
    (outsAt0 m c t.val t.isLt).2 (ix2 j k) = part A (t.val - 1) k.val j.val + part A t.val k.val j.val := by
  have e := part_blk (blk h t) j k
  have ht := pt_lt t
  have e0 := after6_first h ⟨t.val - 1, Nat.lt_of_le_of_lt (Nat.sub_le _ _) t.isLt⟩ (by show (t.val - 1) % 2 = 0; omega) j k
  rw [outsAt0_B m c t h0]
  frame_out
  revert e e0
  generalize k0_pay14 (F := Ideal) _ _ _ _ = v
  generalize (outsAt0 m c (t.val - 1) _).2 = u
  intro e e0
  pointwise [k0_pay2]
  rw [e, e0]

/-- The array of the projection's gradient, on the call's own columns. -/
theorem final5 (i : S4096x2304.Idx) (hi : (i 1).val < 1536) : (dats m 0 c).arrAt 5 cfg0.N i = dpaArr A i := by
  refine ((dats m 0 c).arrAt_apply_of_coversWhere 5 (dpaArr A) (P := fun i => (i 1).val / 1536 = 0) (fun β => β 1 = 0) (by decide +kernel) (fun t hf y => ?_) (fun j => Iff.rfl) i).trans
    (if_pos (Nat.div_eq_of_lt hi))
  blk_simp
  rw [after0_5]
  generalize hz : (cfg0.win 5).xinj (cfg0.grid.coords t) y = z
  have e := after5 h t (z 0) (z 1)
  rw [ix2_eta] at e
  refine e.trans ?_
  unfold dpaArr
  have e0 : (z 0).val < 2048 := (z 0).isLt
  have z0 : (y 0).val = (z 0).val := by rw [← hz]
  have z1 : (y 1).val = (z 1).val := by rw [← hz]
  blk_simp [idx t]
  rw [z0, z1]
  congr 1 <;> omega

/-- The array of the taps' gradient. -/
theorem final6 : (dats m 0 c).arrAt 6 cfg0.N = dwArr A := by
  refine (dats m 0 c).arrAt_eq_of_covers 6 _ (by decide +kernel) fun t hf y => ?_
  blk_simp
  rw [after0_6]
  have h1 := (flush0_6 t).mp hf
  have h2 := pt_lt t
  have ht : t.val = 1 := by omega
  have e := after6_second h t (by omega) (y 0) (y 1)
  rw [ix2_eta] at e
  refine e.trans ?_
  unfold dwArr dw
  blk_simp [idx t]
  rw [ht]

end Cert.Kernel2Ideal.Conv
-- ==== Proof.ConvRef.lean ====
/- The reference gradient of the gated convolution, element by element. -/
module

public import proofs.«01_k».proof.Proof.ConvSpec
public import proofs.«01_k».proof.Proof.Gen.Reference2Ideal.Read
public import Idealize.ShloMosaic.Lib.Pipeline.ValueKit

@[expose] public section

set_option maxRecDepth 16384

noncomputable section

namespace Cert.Reference2Ideal.Conv

open Cert.Reference2Ideal Cert.Reference2Ideal.Gen Cert.Reference2Ideal.Read
open Cert.Conv
open Idealize.ShloMosaic Idealize.ShloMosaic.TcCoe Idealize.ShloMosaic.Tactic

/-- The arguments' entries are `A`. -/
structure Reads (x0 : FVec Ideal S4096x1536 .f32) (x1 : FVec Ideal S3x512 .f32) (x2 : FVec Ideal S4096x1024 .f32) (A : Args) : Prop where
  pa : ∀ r k, x0 (ix2 r k) = A.pa r.val k.val
  w : ∀ r k, x1 (ix2 r k) = A.w r.val k.val
  dy : ∀ r k, x2 (ix2 r k) = A.dy r.val k.val

/-- A sum along the first two of three axes. -/
theorem sum_rows {n0 n1 n2 : ℕ} (h : (⟨3, ![n0, n1, n2]⟩ : Shape).ReducesTo [0, 1] ⟨1, ![n2]⟩) (v : (⟨3, ![n0, n1, n2]⟩ : Shape).Idx → EReal) (init : EReal) (k : Fin n2) :
    Ideal.hostReduceAdd h v init (ix1 k) = init + ∑ a : Fin n0, ∑ b : Fin n1, v (ix3 a b k) := by
  refine congrArg (init + ·) ((Finset.sum_filter_eq_sum_of_fiber _ (fun p : Fin n0 × Fin n1 => ix3 p.1 p.2 k)
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, Nat.zero_lt_one⟩)).symm
  · rintro ⟨p, rfl⟩
    funext b
    apply Fin.ext
    match b with
    | ⟨0, _⟩ => rfl

variable {x0 : FVec Ideal S4096x1536 .f32} {x1 : FVec Ideal S3x512 .f32} {x2 : FVec Ideal S4096x1024 .f32} {A : Args} (h : Reads x0 x1 x2 A)
include h

/-! ## The forward values -/

theorem gb_at (b : Fin 2) (s : Fin 2048) (k : Fin 512) : val_main_v1 (F := Ideal) x0 (ix3 b s k) = A.pa (n * b.val + s.val) k.val := by
  pointwise [val_main_v1, val_main_v0]
  rw [h.pa]
  exact congrArg₂ A.pa (congrArg (· + s.val) (Nat.mul_comm b.val 2048)) rfl
theorem gc_at (b : Fin 2) (s : Fin 2048) (k : Fin 512) : val_main_v2 (F := Ideal) x0 (ix3 b s k) = A.pa (n * b.val + s.val) (512 + k.val) := by
  pointwise [val_main_v2, val_main_v0]
  rw [h.pa]
  exact congrArg₂ A.pa (congrArg (· + s.val) (Nat.mul_comm b.val 2048)) rfl
theorem hc_at (b : Fin 2) (s : Fin 2048) (k : Fin 512) : val_main_v3 (F := Ideal) x0 (ix3 b s k) = A.pa (n * b.val + s.val) (1024 + k.val) := by
  pointwise [val_main_v3, val_main_v0]
  rw [h.pa]
  exact congrArg₂ A.pa (congrArg (· + s.val) (Nat.mul_comm b.val 2048)) rfl
theorem dy_at (b : Fin 2) (s : Fin 2048) (k : Fin 512) : val_main_v32 (F := Ideal) x2 (ix3 b s k) = A.dy (n * b.val + s.val) k.val := by
  pointwise [val_main_v32, val_main_v31]
  rw [h.dy]
  exact congrArg₂ A.dy (congrArg (· + s.val) (Nat.mul_comm b.val 2048)) rfl
theorem z_at (b : Fin 2) (s : Fin 2048) (k : Fin 512) : val_main_v4 (F := Ideal) x0 (ix3 b s k) = z A b.val s.val k.val :=
  congrArg₂ (· * ·) (gc_at h b s k) (hc_at h b s k)
theorem dc_at (b : Fin 2) (s : Fin 2048) (k : Fin 512) : val_main_v33 (F := Ideal) x0 x2 (ix3 b s k) = dc A b.val s.val k.val :=
  congrArg₂ (· * ·) (gb_at h b s k) (dy_at h b s k)
theorem before_at (b : Fin 2) (s : Fin 2048) (k : Fin 512) : val_main_v9 (F := Ideal) x0 (ix3 b s k) = before s.val (fun s => z A b.val s k.val) := by
  have e := fun s => z_at h b s k
  revert e
  generalize hv : val_main_v4 (F := Ideal) x0 = v
  intro e
  have hs := s.isLt
  pointwise [val_main_v9, val_main_v6, val_main_v5, val_main_cst, hv]
  unfold before
  by_cases h0 : s.val = 0
  · rw [dif_pos (by omega), if_pos h0]
  · rw [dif_neg (by omega), dif_pos (by omega), if_neg h0, e]
theorem same_at (b : Fin 2) (s : Fin 2048) (k : Fin 512) : val_main_v15 (F := Ideal) x0 (ix3 b s k) = z A b.val s.val k.val := by
  have e := fun s => z_at h b s k
  revert e
  generalize hv : val_main_v4 (F := Ideal) x0 = v
  intro e
  have hs := s.isLt
  pointwise [val_main_v15, val_main_v6, val_main_v5, val_main_cst, hv]
  exact e s
theorem behind_at (b : Fin 2) (s : Fin 2048) (k : Fin 512) : val_main_v22 (F := Ideal) x0 (ix3 b s k) = behind s.val (fun s => z A b.val s k.val) := by
  have e := fun s => z_at h b s k
  revert e
  generalize hv : val_main_v4 (F := Ideal) x0 = v
  intro e
  pointwise [val_main_v22, val_main_v6, val_main_v5, val_main_cst, hv]
  unfold behind
  have e2 : 2 + s.val - 1 = s.val + 1 := by omega
  by_cases h0 : s.val < 2047
  · rw [dif_neg (by omega), dif_pos (by omega), if_pos h0, e]
    simp only [e2]
  · rw [dif_neg (by omega), dif_neg (by omega), if_neg h0]

theorem w0_at (b : Fin 2) (s : Fin 2048) (k : Fin 512) : val_main_v13 (F := Ideal) x1 (ix3 b s k) = A.w 0 k.val := by
  pointwise [val_main_v13, val_main_v12, val_main_v11, val_main_v10]
  rw [h.w]; rfl
theorem w1_at (b : Fin 2) (s : Fin 2048) (k : Fin 512) : val_main_v19 (F := Ideal) x1 (ix3 b s k) = A.w 1 k.val := by
  pointwise [val_main_v19, val_main_v18, val_main_v17, val_main_v16]
  rw [h.w]; rfl
theorem w2_at (b : Fin 2) (s : Fin 2048) (k : Fin 512) : val_main_v26 (F := Ideal) x1 (ix3 b s k) = A.w 2 k.val := by
  pointwise [val_main_v26, val_main_v25, val_main_v24, val_main_v23]
  rw [h.w]; rfl

/-! ## The gradients -/

/-- The first gate's gradient. -/
theorem dgb_at (b : Fin 2) (s : Fin 2048) (k : Fin 512) : val_main_v34 (F := Ideal) x0 x1 x2 (ix3 b s k) = dgb A b.val s.val k.val :=
  congrArg₂ (· * ·) (dy_at h b s k) (congrArg₂ (· + ·) (congrArg₂ (· + ·) (congrArg₂ (· * ·) (before_at h b s k) (w0_at h b s k))
    (congrArg₂ (· * ·) (same_at h b s k) (w1_at h b s k))) (congrArg₂ (· * ·) (behind_at h b s k) (w2_at h b s k)))

theorem t2_at (b : Fin 2) (s : Fin 2048) (k : Fin 512) : val_main_v39 (F := Ideal) x0 x1 x2 (ix3 b s k) = dc A b.val s.val k.val * A.w 2 k.val :=
  congrArg₂ (· * ·) (dc_at h b s k) (w2_at h b s k)
theorem t1_at (b : Fin 2) (s : Fin 2048) (k : Fin 512) : val_main_v48 (F := Ideal) x0 x1 x2 (ix3 b s k) = dc A b.val s.val k.val * A.w 1 k.val :=
  congrArg₂ (· * ·) (dc_at h b s k) (w1_at h b s k)
theorem t0_at (b : Fin 2) (s : Fin 2048) (k : Fin 512) : val_main_v59 (F := Ideal) x0 x1 x2 (ix3 b s k) = dc A b.val s.val k.val * A.w 0 k.val :=
  congrArg₂ (· * ·) (dc_at h b s k) (w0_at h b s k)

/-- The product's cotangent: the three taps' transposed. -/
theorem dz_at (b : Fin 2) (s : Fin 2048) (k : Fin 512) : val_main_v67 (F := Ideal) x0 x1 x2 (ix3 b s k) = dz A b.val s.val k.val := by
  have e2 := fun s => t2_at h b s k
  have e1 := t1_at h b s k
  have e0 := fun s => t0_at h b s k
  revert e2 e1 e0
  generalize hv2 : val_main_v39 (F := Ideal) x0 x1 x2 = v2
  generalize hv1 : val_main_v48 (F := Ideal) x0 x1 x2 = v1
  generalize hv0 : val_main_v59 (F := Ideal) x0 x1 x2 = v0
  intro e2 e1 e0
  have hs := s.isLt
  pointwise [val_main_v67, val_main_v65, val_main_v64, val_main_v54, val_main_v53, val_main_v43, val_main_cst_5, val_main_cst_9, val_main_cst_13, hv0, hv1, hv2]
  unfold dz before behind
  have p2 : 1 + s.val - 2 = s.val - 1 := by omega
  have p0 : 1 + s.val = s.val + 1 := by omega
  refine congrArg₂ (· + ·) (congrArg₂ (· + ·) ?_ e1) ?_
  · by_cases h0 : s.val = 0
    · rw [dif_neg (by omega), if_pos h0]
    · rw [dif_pos (by omega), if_neg h0, e2]
      simp only [p2]
  · by_cases h0 : s.val < 2047
    · rw [dif_pos (by omega), if_pos h0, e0]
      simp only [p0]
    · rw [dif_neg (by omega), if_neg h0]

theorem dgc_at (b : Fin 2) (s : Fin 2048) (k : Fin 512) : val_main_v70 (F := Ideal) x0 x1 x2 (ix3 b s k) = dgc A b.val s.val k.val :=
  congrArg₂ (· * ·) (dz_at h b s k) (hc_at h b s k)
theorem dhc_at (b : Fin 2) (s : Fin 2048) (k : Fin 512) : val_main_v69 (F := Ideal) x0 x1 x2 (ix3 b s k) = dhc A b.val s.val k.val :=
  congrArg₂ (· * ·) (gc_at h b s k) (dz_at h b s k)

/-- The projection's gradient, in the convolution's columns. -/
theorem dpa_at (r : Fin 4096) (k : Fin 2304) (hk : k.val < 1536) :
    val_main_v75 (F := Ideal) x0 x1 x2 (ix2 r k) = dpa A (r.val / 2048) (r.val % 2048) k.val := by
  have eb := dgb_at h
  have ec := dgc_at h
  have eh := dhc_at h
  revert eb ec eh
  generalize hv0 : val_main_v34 (F := Ideal) x0 x1 x2 = v0
  generalize hv1 : val_main_v70 (F := Ideal) x0 x1 x2 = v1
  generalize hv2 : val_main_v69 (F := Ideal) x0 x1 x2 = v2
  intro eb ec eh
  pointwise [val_main_v75, val_main_v74, val_main_v72, val_main_v71, val_main_v73, val_main_cst_14, hv0, hv1, hv2]
  have hr : r.val / 2048 < 2 := by omega
  unfold dpa
  rw [dif_pos hk]
  by_cases h1 : k.val < 512
  · rw [dif_pos h1, if_pos h1, eb]
  · rw [dif_neg h1, if_neg h1]
    by_cases h2 : k.val < 1024
    · rw [dif_pos (by omega), if_pos h2, ec]
    · rw [dif_neg (by omega), if_neg h2, eh]
      exact congrArg (dhc A _ _) (show k.val - 512 - 512 = k.val - 1024 by omega)

/-! ## The taps' gradient -/

omit h in
/-- One row of the taps' gradient: a sum over the sequences and the rows. -/
theorem rows_at {v : FVec Ideal S2x2048x512 .f32} {init : EReal} (hz : init = 0) {j : ℕ} {k : Fin 512}
    (e : ∀ (b : Fin 2) (s : Fin 2048), v (ix3 b s k) = (if j = 0 then before s.val (fun s => z A b.val s k.val) else if j = 1 then z A b.val s.val k.val else behind s.val (fun s => z A b.val s k.val)) * dc A b.val s.val k.val) :
    Ideal.hostReduceAdd reducesTo_S2x2048x512_S512_d0_1 v init (ix1 k) = dw A k.val j := by
  rw [sum_rows, hz, zero_add, Fin.sum_univ_two]
  exact congrArg₂ (· + ·) (Finset.sum_congr rfl fun s _ => e 0 s) (Finset.sum_congr rfl fun s _ => e 1 s)

omit h in
/-- A sum over one row of one sequence is its entry. -/
theorem one_at {v : FVec Ideal S1x1x512 .f32} {init : EReal} (hz : init = 0) (k : Fin 512) :
    Ideal.hostReduceAdd reducesTo_S1x1x512_S512_d0_1 v init (ix1 k) = v (ix3 0 0 k) := by
  rw [sum_rows, hz, zero_add, Fin.sum_univ_one, Fin.sum_univ_one]

theorem tap2_at (k : Fin 512) : val_main_v36 (F := Ideal) x0 x2 (ix1 k) = dw A k.val 2 :=
  rows_at (by pointwise [val_main_cst_2]) fun b s => congrArg₂ (· * ·) (behind_at h b s k) (dc_at h b s k)
theorem tap1_at (k : Fin 512) : val_main_v45 (F := Ideal) x0 x2 (ix1 k) = dw A k.val 1 :=
  rows_at (by pointwise [val_main_cst_6]) fun b s => congrArg₂ (· * ·) (same_at h b s k) (dc_at h b s k)
theorem tap0_at (k : Fin 512) : val_main_v56 (F := Ideal) x0 x2 (ix1 k) = dw A k.val 0 :=
  rows_at (by pointwise [val_main_cst_10]) fun b s => congrArg₂ (· * ·) (before_at h b s k) (dc_at h b s k)

theorem row2_at (j : Fin 1) (k : Fin 512) : val_main_v41 (F := Ideal) x0 x2 (ix2 j k) = dw A k.val 2 := by
  have e := tap2_at h k
  revert e
  generalize hv : val_main_v36 (F := Ideal) x0 x2 = v
  intro e
  pointwise [val_main_v41, val_main_v40, val_main_v37, hv]
  rw [one_at (v := shapeCast S1x1x512 v shapeCasts_S512_S1x1x512) (init := val_main_cst_3 (F := Ideal) (Shape.Idx.first h_S_)) (by pointwise [val_main_cst_3])]
  pointwise []
  exact e
theorem row1_at (j : Fin 1) (k : Fin 512) : val_main_v50 (F := Ideal) x0 x2 (ix2 j k) = dw A k.val 1 := by
  have e := tap1_at h k
  revert e
  generalize hv : val_main_v45 (F := Ideal) x0 x2 = v
  intro e
  pointwise [val_main_v50, val_main_v49, val_main_v46, hv]
  rw [one_at (v := shapeCast S1x1x512 v shapeCasts_S512_S1x1x512) (init := val_main_cst_7 (F := Ideal) (Shape.Idx.first h_S_)) (by pointwise [val_main_cst_7])]
  pointwise []
  exact e
theorem row0_at (j : Fin 1) (k : Fin 512) : val_main_v61 (F := Ideal) x0 x2 (ix2 j k) = dw A k.val 0 := by
  have e := tap0_at h k
  revert e
  generalize hv : val_main_v56 (F := Ideal) x0 x2 = v
  intro e
  pointwise [val_main_v61, val_main_v60, val_main_v57, hv]
  rw [one_at (v := shapeCast S1x1x512 v shapeCasts_S512_S1x1x512) (init := val_main_cst_11 (F := Ideal) (Shape.Idx.first h_S_)) (by pointwise [val_main_cst_11])]
  pointwise []
  exact e

/-- The taps' gradient: three rows laid one above the other. -/
theorem dw_at (j : Fin 3) (k : Fin 512) : val_main_v63 (F := Ideal) x0 x2 (ix2 j k) = dw A k.val j.val := by
  have e2 := fun j => row2_at h j k
  have e1 := fun j => row1_at h j k
  have e0 := fun j => row0_at h j k
  revert e2 e1 e0
  generalize hv2 : val_main_v41 (F := Ideal) x0 x2 = v2
  generalize hv1 : val_main_v50 (F := Ideal) x0 x2 = v1
  generalize hv0 : val_main_v61 (F := Ideal) x0 x2 = v0
  intro e2 e1 e0
  pointwise [val_main_v63, val_main_v62, val_main_v52, val_main_v51, val_main_v42, val_main_cst_4, val_main_cst_8, val_main_cst_12, hv0, hv1, hv2]
  simp only [e0, e1, e2]
  have hj := j.isLt
  have : j.val = 0 ∨ j.val = 1 ∨ j.val = 2 := by omega
  rcases this with e | e | e <;> simp [e]
end Cert.Reference2Ideal.Conv
-- ==== Proof.ConvEq.lean ====
/- The gated convolution's backward call computes the gradient: both programs end with the same results, in the convolution's columns. -/
module

public import proofs.«01_k».proof.Proof.ConvOut
public import proofs.«01_k».proof.Proof.ConvRef
public import proofs.«01_k».proof.Proof.Gen.Kernel2Ideal.Value
public import proofs.«01_k».proof.Defs

@[expose] public section

set_option maxRecDepth 16384

noncomputable section

namespace Cert.Kernel2Ideal.Conv

open Cert.Conv
open Idealize.ShloMosaic Idealize.ShloMosaic.TcCoe Idealize.ShloMosaic.ValueIdx Idealize.ShloMosaic.Tactic
open Idealize.SL.Sem

/-- The side conditions the columns' predicate states. -/
theorem conv_facts : Cert.On_conv_columns.Facts where
  bcast_S_S4096x2304 := by decide
  bcast_S_S3x512 := by decide

/-- The comparison's bit, of a column's number. -/
theorem column_of : ∀ k : Fin 2304, IntOp.cmpi .slt (BitVec.ofNat 32 k.val) 1536#32 = 1#1 → k.val < 1536 := by decide +kernel

/-- The mask is one exactly in the convolution's columns. -/
theorem column_lt [Cert.On_conv_columns.Facts] (x0 x1 x2) (r : Fin 4096) (k : Fin 2304) (h : (Cert.On_conv_columns.fn (F := Ideal) x0 x1 x2).1 (ValueIdx.ix2 r k) = 1#1) : k.val < 1536 := by
  unfold Cert.On_conv_columns.fn at h
  pointwise [] at h
  exact column_of k h

attribute [local instance] Cert.Kernel2Ideal.Gen.facts Cert.Reference2Ideal.Gen.facts

/-- The arguments' entries, by row and column numbers. -/
def argsOf (m : (ℓ : Loc Cert.Kernel2Ideal.nD Cert.Kernel2Ideal.τ Cert.Kernel2Ideal.sig) → Buf (Elt Ideal) ℓ) (c : Dev Cert.Kernel2Ideal.nD) : Args where
  pa r k := (m ((c.tc : Thread Cert.Kernel2Ideal.nD Cert.Kernel2Ideal.τ).loc Cert.Kernel2Ideal.main_arg0) : Vec Ideal S4096x1536 .f32) (ValueIdx.ix2 (Fin.ofNat 4096 r) (Fin.ofNat 1536 k))
  w r k := (m ((c.tc : Thread Cert.Kernel2Ideal.nD Cert.Kernel2Ideal.τ).loc Cert.Kernel2Ideal.main_arg1) : Vec Ideal S3x512 .f32) (ValueIdx.ix2 (Fin.ofNat 3 r) (Fin.ofNat 512 k))
  dy r k := (m ((c.tc : Thread Cert.Kernel2Ideal.nD Cert.Kernel2Ideal.τ).loc Cert.Kernel2Ideal.main_arg2) : Vec Ideal S4096x1024 .f32) (ValueIdx.ix2 (Fin.ofNat 4096 r) (Fin.ofNat 1024 k))

/-- A number below the bound is its own remainder. -/
theorem ofNat_val {n : ℕ} [NeZero n] (r : Fin n) : Fin.ofNat n r.val = r := Fin.ext (Nat.mod_eq_of_lt r.isLt)

theorem reads (m) (c : Dev Cert.Kernel2Ideal.nD) : Reads m c (argsOf m c) where
  pa r k := by unfold argsOf; dsimp only; rw [ofNat_val, ofNat_val]; rfl
  w r k := by unfold argsOf; dsimp only; rw [ofNat_val, ofNat_val]; rfl
  dy r k := by unfold argsOf; dsimp only; rw [ofNat_val, ofNat_val]; rfl

theorem algebraic [Cert.On_conv_columns.Facts] : Cert.algebraic_Kernel2Ideal_Reference2Ideal_on_conv_columns := by
  intro m g m' g' _ hargs
  have hk := fun c => reads m c
  have hr : ∀ c : Dev Cert.Reference2Ideal.nD, Cert.Reference2Ideal.Conv.Reads (m' (Thread.loc (nD := Cert.Reference2Ideal.nD) (τ := Cert.Reference2Ideal.τ) (c : Thread Cert.Reference2Ideal.nD Cert.Reference2Ideal.τ) Cert.Reference2Ideal.main_arg0))
      (m' (Thread.loc (nD := Cert.Reference2Ideal.nD) (τ := Cert.Reference2Ideal.τ) (c : Thread Cert.Reference2Ideal.nD Cert.Reference2Ideal.τ) Cert.Reference2Ideal.main_arg1))
      (m' (Thread.loc (nD := Cert.Reference2Ideal.nD) (τ := Cert.Reference2Ideal.τ) (c : Thread Cert.Reference2Ideal.nD Cert.Reference2Ideal.τ) Cert.Reference2Ideal.main_arg2)) (argsOf m c) := by
    intro c
    obtain ⟨e0, e1, e2⟩ := hargs c
    exact ⟨fun r k => (congrFun e0 _).trans ((hk c).pa r k), fun r k => (congrFun e1 _).trans ((hk c).w r k), fun r k => (congrFun e2 _).trans ((hk c).dy r k)⟩
  refine ⟨fun c => dpaArr (argsOf m c), fun c => dwArr (argsOf m c), ?_, ?_⟩
  · refine (θ_run Cert.Kernel2Ideal.defs _ _).mono (fun r h c => ?_) (Cert.Kernel2Ideal.Value.run_blocks m g)
    obtain ⟨h0, h1, h2⟩ := h c
    refine ⟨fun i hi => ?_, fun i _ => ?_, h2⟩
    · rw [← ix2_eta i] at hi
      exact (congrFun h0 i).trans (final5 (hk c) i (column_lt _ _ _ _ _ hi))
    · exact (congrFun h1 i).trans (congrFun (final6 (hk c)) i)
  · refine (θ_run Cert.Reference2Ideal.defs _ _).mono (fun r h c => ?_) (Cert.Reference2Ideal.Value.run m' g')
    obtain ⟨h0, h1, h2⟩ := h c
    refine ⟨fun i hi => ?_, fun i _ => ?_, h2⟩
    · rw [← ix2_eta i] at hi ⊢
      rw [h0, Cert.Reference2Ideal.Read.val_main_v75_eq]
      exact Cert.Reference2Ideal.Conv.dpa_at (hr c) (i 0) (i 1) (column_lt _ _ _ _ _ hi)
    · rw [← ix2_eta i]
      rw [h1, Cert.Reference2Ideal.Read.val_main_v63_eq]
      exact Cert.Reference2Ideal.Conv.dw_at (hr c) (i 0) (i 1)

end Cert.Kernel2Ideal.Conv
-- ==== Proof.NormSpec.lean ====
/- The normalised input of a half-layer and the products of a weight gradient, by row and column numbers. -/
module

public import proofs.«01_k».proof.Proof.Reals
public import Idealize.ShloMosaic.Lib.ValueIdx
public import Idealize.ShloMosaic.PureOps.Ideal.Laws

@[expose] public section

noncomputable section

namespace Cert.Norm

open Idealize.ShloMosaic

/-- An array's entries, by row and column numbers. -/
def cells {n0 n1 : ℕ} [NeZero n0] [NeZero n1] (v : (⟨2, ![n0, n1]⟩ : Shape).Idx → EReal) (r k : ℕ) : EReal := v (ValueIdx.ix2 (Fin.ofNat n0 r) (Fin.ofNat n1 k))

theorem ofNat_val {n : ℕ} [NeZero n] (r : Fin n) : Fin.ofNat n r.val = r := Fin.ext (Nat.mod_eq_of_lt r.isLt)

theorem cells_at {n0 n1 : ℕ} [NeZero n0] [NeZero n1] (v : (⟨2, ![n0, n1]⟩ : Shape).Idx → EReal) (r : Fin n0) (k : Fin n1) : v (ValueIdx.ix2 r k) = cells v r.val k.val := by
  unfold cells
  rw [ofNat_val, ofNat_val]

/-- A row over its root mean square, times the gain. -/
def rms (x : ℕ → ℕ → EReal) (g : ℕ → EReal) (r k : ℕ) : EReal :=
  x r k * Ideal.rsqrt (Ideal.div (∑ j : Fin 1024, x r j.val * x r j.val) (Ideal.ofBits .f32 1149239296#32) + Ideal.ofBits .f32 897988541#32) * g k

/-- Half of each entry. -/
def half (d : ℕ → ℕ → EReal) (r k : ℕ) : EReal := Ideal.ofBits .f32 0x3F000000#32 * d r k

/-- A product summed over the rows of both arrays. -/
def tn (a b : ℕ → ℕ → EReal) (r k : ℕ) : EReal := ∑ s : Fin 4096, a s.val r * b s.val k

/-- A product of 1024 terms, rows by columns. -/
def nn (a b : ℕ → ℕ → EReal) (r k : ℕ) : EReal := ∑ l : Fin 1024, a r l.val * b l.val k

/-- The normalised input, from a row's and the gain's entries. -/
theorem rms_of {x : ℕ → ℕ → EReal} {g : ℕ → EReal} {r : ℕ} {v w : Fin 1024 → EReal} (hv : ∀ k, v k = x r k.val) (hw : ∀ k, w k = g k.val) (k : Fin 1024) :
    v k * Ideal.rsqrt (Ideal.div (∑ j : Fin 1024, v j * v j) (Ideal.ofBits .f32 1149239296#32) + Ideal.ofBits .f32 897988541#32) * w k = rms x g r k.val := by
  simp only [hv, hw]
  rfl

/-- Equal arguments give equal values. -/
theorem congr3 {α β γ δ : Type} (f : α → β → γ → δ) {a a' : α} {b b' : β} {c c' : γ} (ha : a = a') (hb : b = b') (hc : c = c') : f a b c = f a' b' c' := by
  rw [ha, hb, hc]

end Cert.Norm
-- ==== Proof.InGrad.lean ====
/- The gradient of the input weights: its blocks and its array. -/
module

public import proofs.«01_k».proof.Proof.NormSpec
public import proofs.«01_k».proof.Proof.Gen.Kernel3Ideal.Value
public import Idealize.ShloMosaic.Lib.Pipeline.ValueKit

@[expose] public section

set_option maxRecDepth 16384

noncomputable section

namespace Cert.Kernel3Ideal.InGrad

open Cert.Kernel3Ideal Cert.Kernel3Ideal.Gen
open Cert.Norm
open Idealize.ShloMosaic Idealize.ShloMosaic.TcCoe Idealize.ShloMosaic.Tactic

theorem pt_lt (t : Fin cfg0.N) : t.val < 22 := Nat.lt_of_lt_of_eq t.isLt N_0

/-- The block index of every window at a point. -/
theorem idx : ∀ t : Fin cfg0.N, win0_0.index t = ![0, 2 * (t.val % 11) + t.val / 11] ∧ win0_1.index t = ![0, 0] ∧ win0_2.index t = ![t.val, 0] :=
  (by decide +kernel : ∀ t : Fin grid0.N, _)

theorem pay (v : Vec Ideal S4096x256 .bf16) (w : Vec Ideal S4096x1024 .bf16) (j : Fin 256) (k : Fin 1024) :
    k0_pay1 (F := Ideal) v w (ix2 j k) = ∑ s : Fin 4096, v (ix2 s j) * w (ix2 s k) := by
  pointwise [k0_pay1]

/-- The arguments' entries: the product's gradient, the input and the gain. -/
structure Reads (m : (ℓ : Loc nD τ sig) → Buf (Elt Ideal) ℓ) (c : Dev nD) (dp x : ℕ → ℕ → EReal) (g : ℕ → EReal) : Prop where
  dp : ∀ r k, m ((c : Thread nD τ).loc main_arg0) (ix2 r k) = dp r.val k.val
  x : ∀ r k, m ((c : Thread nD τ).loc main_arg1) (ix2 r k) = x r.val k.val
  g : ∀ r k, m ((c : Thread nD τ).loc main_arg2) (ix2 r k) = g k.val

/-- The weights' gradient, transposed. -/
def dwArr (dp x : ℕ → ℕ → EReal) (g : ℕ → EReal) : S5632x1024.Idx → EReal := fun i => tn dp (rms x g) (i 0).val (i 1).val

variable {m : (ℓ : Loc nD τ sig) → Buf (Elt Ideal) ℓ} {c : Dev nD} {dp x : ℕ → ℕ → EReal} {g : ℕ → EReal} (h : Reads m c dp x g)
include h

/-- Point `t` loads 256 columns of the product's gradient: tile `t % 11` of the gate's columns, then of the up columns. -/
theorem in0 (t : Fin cfg0.N) (s : Fin 4096) (j : Fin 256) : iblk m c 0 t (ix2 s j) = dp s.val (256 * t.val + j.val) := by
  have ht := pt_lt t
  have e : iblk m c 0 t (ix2 s j) = V m c main_v18 (ix2 s ⟨256 * (2 * (t.val % 11) + t.val / 11) + j.val, by omega⟩) := by
    blk_ext [iblk, idx t]
  rw [e]
  entry_read
  pointwise
  split
  · refine (h.dp _ _).trans (congrArg (dp s.val) ?_)
    dsimp only
    omega
  · refine (h.dp _ _).trans (congrArg (dp s.val) ?_)
    dsimp only
    omega

/-- Every point loads the whole normalised input. -/
theorem in1 (t : Fin cfg0.N) (s : Fin 4096) (k : Fin 1024) : iblk m c 1 t (ix2 s k) = rms x g s.val k.val := by
  have e : iblk m c 1 t (ix2 s k) = V m c main_v19 (ix2 s k) := by
    blk_ext [iblk, idx t]
  rw [e]
  entry_read
  pointwise
  have e1 := fun k => h.x s k
  have e2 := h.g 0 k
  unfold rms
  refine congrArg₂ (· * ·) (congrArg₂ (· * ·) (e1 k) (congrArg (fun z => Ideal.rsqrt (Ideal.div z _ + _)) (Finset.sum_congr rfl fun j _ => congrArg₂ (· * ·) (e1 j) (e1 j)))) e2

/-- What a point leaves: 256 rows of the weights' gradient. -/
theorem after2 (t : Fin cfg0.N) (j : Fin 256) (k : Fin 1024) : out0_2 (iblk m c 0 t) (iblk m c 1 t) (ix2 j k) = tn dp (rms x g) (256 * t.val + j.val) k.val := by
  frame_out
  exact (pay _ _ j k).trans (Finset.sum_congr rfl fun s _ => congrArg₂ (· * ·) (in0 h t s j) (in1 h t s k))

/-- The result array. -/
theorem final : (dats m 0 c).arrAt 2 cfg0.N = dwArr dp x g := by
  refine (dats m 0 c).arrAt_eq_of_covers 2 _ (by decide +kernel) fun t hf y => ?_
  blk_simp
  rw [after0_2]
  have e := after2 h t (y 0) (y 1)
  rw [ix2_eta] at e
  refine e.trans ?_
  unfold dwArr
  blk_simp [idx t]
  rw [Nat.mul_comm 256]

end Cert.Kernel3Ideal.InGrad
-- ==== Proof.InGradRef.lean ====
/- The input weights' gradient as the reference computes it. -/
module

public import proofs.«01_k».proof.Proof.NormSpec
public import proofs.«01_k».proof.Proof.Gen.Reference3Ideal.Read
public import Idealize.ShloMosaic.Lib.Pipeline.ValueKit

@[expose] public section

set_option maxRecDepth 16384

noncomputable section

namespace Cert.Reference3Ideal.InGrad

open Cert.Reference3Ideal Cert.Reference3Ideal.Gen
open Cert.Norm Cert.Reference3Ideal.Read
open Idealize.ShloMosaic Idealize.ShloMosaic.TcCoe Idealize.ShloMosaic.Tactic

/-- The arguments' entries. -/
structure Reads (x0 : FVec Ideal S4096x5632 .f32) (x1 : FVec Ideal S4096x1024 .f32) (x2 : FVec Ideal S1x1024 .f32) (dp x : ℕ → ℕ → EReal) (g : ℕ → EReal) : Prop where
  dp : ∀ r k, x0 (ix2 r k) = dp r.val k.val
  x : ∀ r k, x1 (ix2 r k) = x r.val k.val
  g : ∀ r k, x2 (ix2 r k) = g k.val

variable {x0 : FVec Ideal S4096x5632 .f32} {x1 : FVec Ideal S4096x1024 .f32} {x2 : FVec Ideal S1x1024 .f32} {dp x : ℕ → ℕ → EReal} {g : ℕ → EReal} (h : Reads x0 x1 x2 dp x g)
include h

/-- The normalised input. -/
theorem h_at (r : Fin 4096) (k : Fin 1024) : val_main_v11 (F := Ideal) x1 x2 (ix2 r k) = rms x g r.val k.val := by
  pointwise [val_main_v11, val_main_v10, val_main_v9, val_main_v8, val_main_v7, val_main_v6, val_main_v5, val_main_v4, val_main_v3, val_main_v2, val_main_v1, val_main_v0, val_main_cst, val_main_cst_0, val_main_cst_1]
  simp only [h.x, h.g]
  rfl

/-- The weights' gradient, transposed. -/
theorem dw_at (r : Fin 5632) (k : Fin 1024) : val_main_v17 (F := Ideal) x0 x1 x2 (ix2 r k) = tn dp (rms x g) r.val k.val := by
  have e := fun s => h_at h s k
  revert e
  generalize hv2 : val_main_v11 (F := Ideal) x1 x2 = v2
  intro e
  pointwise [val_main_v17, val_main_v16, val_main_v15, val_main_v14, hv2]
  exact Finset.sum_congr rfl fun s _ => congrArg₂ (· * ·) (h.dp s r) (e s)

end Cert.Reference3Ideal.InGrad
-- ==== Proof.InGradEq.lean ====
/- The weight-gradient call on the input weights: both programs end with the same gradient. -/
module

public import proofs.«01_k».proof.Proof.InGrad
public import proofs.«01_k».proof.Proof.InGradRef
public import proofs.«01_k».proof.Defs

@[expose] public section

set_option maxRecDepth 16384

noncomputable section

namespace Cert.Kernel3Ideal.InGrad

open Cert.Norm
open Idealize.ShloMosaic Idealize.ShloMosaic.TcCoe Idealize.ShloMosaic.Tactic
open Idealize.SL.Sem

attribute [local instance] Cert.Kernel3Ideal.Gen.facts Cert.Reference3Ideal.Gen.facts

variable (m : (ℓ : Loc Cert.Kernel3Ideal.nD Cert.Kernel3Ideal.τ Cert.Kernel3Ideal.sig) → Buf (Elt Ideal) ℓ) (c : Dev Cert.Kernel3Ideal.nD)

/-- The product's gradient, the input and the gain, by row and column numbers. -/
def dp : ℕ → ℕ → EReal := cells (n0 := 4096) (n1 := 5632) (m ((c.tc : Thread Cert.Kernel3Ideal.nD Cert.Kernel3Ideal.τ).loc Cert.Kernel3Ideal.main_arg0))
def x : ℕ → ℕ → EReal := cells (n0 := 4096) (n1 := 1024) (m ((c.tc : Thread Cert.Kernel3Ideal.nD Cert.Kernel3Ideal.τ).loc Cert.Kernel3Ideal.main_arg1))
def g : ℕ → EReal := cells (n0 := 1) (n1 := 1024) (m ((c.tc : Thread Cert.Kernel3Ideal.nD Cert.Kernel3Ideal.τ).loc Cert.Kernel3Ideal.main_arg2)) 0

theorem reads : Reads m c (dp m c) (x m c) (g m c) where
  dp := cells_at (n0 := 4096) (n1 := 5632) _
  x := cells_at (n0 := 4096) (n1 := 1024) _
  g r k := by
    rw [Subsingleton.elim r 0]
    exact cells_at (n0 := 1) (n1 := 1024) _ 0 k

theorem algebraic : Cert.algebraic_Kernel3Ideal_Reference3Ideal := by
  intro m g' m' g'' _ hargs
  have hr : ∀ c : Dev Cert.Reference3Ideal.nD, Cert.Reference3Ideal.InGrad.Reads (m' (Thread.loc (nD := Cert.Reference3Ideal.nD) (τ := Cert.Reference3Ideal.τ) (c : Thread Cert.Reference3Ideal.nD Cert.Reference3Ideal.τ) Cert.Reference3Ideal.main_arg0))
      (m' (Thread.loc (nD := Cert.Reference3Ideal.nD) (τ := Cert.Reference3Ideal.τ) (c : Thread Cert.Reference3Ideal.nD Cert.Reference3Ideal.τ) Cert.Reference3Ideal.main_arg1))
      (m' (Thread.loc (nD := Cert.Reference3Ideal.nD) (τ := Cert.Reference3Ideal.τ) (c : Thread Cert.Reference3Ideal.nD Cert.Reference3Ideal.τ) Cert.Reference3Ideal.main_arg2)) (dp m c) (x m c) (g m c) := by
    intro c
    obtain ⟨e0, e1, e2⟩ := hargs c
    exact ⟨fun r k => (congrFun e0 _).trans ((reads m c).dp r k), fun r k => (congrFun e1 _).trans ((reads m c).x r k), fun r k => (congrFun e2 _).trans ((reads m c).g r k)⟩
  refine ⟨fun c => dwArr (dp m c) (x m c) (g m c), ?_, ?_⟩
  · refine (θ_run Cert.Kernel3Ideal.defs _ _).mono (fun r h c => ?_) (Cert.Kernel3Ideal.Value.run_blocks m g')
    exact ⟨(h c).1.trans (final (reads m c)), (h c).2⟩
  · refine (θ_run Cert.Reference3Ideal.defs _ _).mono (fun r h c => ?_) (Cert.Reference3Ideal.Value.run m' g'')
    refine ⟨(h c).1.trans ((Cert.Reference3Ideal.Read.val_main_v17_eq _ _ _).trans (funext fun i => ?_)), (h c).2⟩
    rw [← ix2_eta i]
    exact Cert.Reference3Ideal.InGrad.dw_at (hr c) (i 0) (i 1)

end Cert.Kernel3Ideal.InGrad
-- ==== Proof.OutGrad.lean ====
/- The gradient of the output weights: its blocks and its array. -/
module

public import proofs.«01_k».proof.Proof.NormSpec
public import proofs.«01_k».proof.Proof.Gen.Kernel4Ideal.Value
public import Idealize.ShloMosaic.Lib.Pipeline.ValueKit

@[expose] public section

set_option maxRecDepth 16384

noncomputable section

namespace Cert.Kernel4Ideal.OutGrad

open Cert.Kernel4Ideal Cert.Kernel4Ideal.Gen
open Cert.Norm
open Idealize.ShloMosaic Idealize.ShloMosaic.TcCoe Idealize.ShloMosaic.Tactic

theorem pt_lt (t : Fin cfg0.N) : t.val < 2 := Nat.lt_of_lt_of_eq t.isLt N_0

/-- The block index of every window at a point. -/
theorem idx : ∀ t : Fin cfg0.N, win0_0.index t = ![0, t.val] ∧ win0_1.index t = ![0, 0] ∧ win0_2.index t = ![t.val, 0] :=
  (by decide +kernel : ∀ t : Fin grid0.N, _)

theorem pay (v : Vec Ideal S4096x1408 .bf16) (w : Vec Ideal S4096x1024 .bf16) (j : Fin 1408) (k : Fin 1024) :
    k0_pay1 (F := Ideal) v w (ix2 j k) = ∑ s : Fin 4096, v (ix2 s j) * w (ix2 s k) := by
  pointwise [k0_pay1]

/-- The arguments' entries: the activation and the incoming gradient. -/
structure Reads (m : (ℓ : Loc nD τ sig) → Buf (Elt Ideal) ℓ) (c : Dev nD) (a d : ℕ → ℕ → EReal) : Prop where
  a : ∀ r k, m ((c : Thread nD τ).loc main_arg0) (ix2 r k) = a r.val k.val
  d : ∀ r k, m ((c : Thread nD τ).loc main_arg1) (ix2 r k) = d r.val k.val

/-- The weights' gradient. -/
def dwArr (a d : ℕ → ℕ → EReal) : S2816x1024.Idx → EReal := fun i => tn a (half d) (i 0).val (i 1).val

variable {m : (ℓ : Loc nD τ sig) → Buf (Elt Ideal) ℓ} {c : Dev nD} {a d : ℕ → ℕ → EReal} (h : Reads m c a d)
include h

/-- Point `t` loads 1408 columns of the activation. -/
theorem in0 (t : Fin cfg0.N) (s : Fin 4096) (j : Fin 1408) : iblk m c 0 t (ix2 s j) = a s.val (1408 * t.val + j.val) := by
  have ht := pt_lt t
  have e : iblk m c 0 t (ix2 s j) = V m c main_v0 (ix2 s ⟨1408 * t.val + j.val, by omega⟩) := by
    blk_ext [iblk, idx t]
  rw [e]
  entry_read
  pointwise
  exact h.a _ _

/-- Every point loads the whole half of the incoming gradient. -/
theorem in1 (t : Fin cfg0.N) (s : Fin 4096) (k : Fin 1024) : iblk m c 1 t (ix2 s k) = half d s.val k.val := by
  have e : iblk m c 1 t (ix2 s k) = V m c main_v3 (ix2 s k) := by
    blk_ext [iblk, idx t]
  rw [e]
  entry_read
  pointwise
  exact congrArg (_ * ·) (h.d s k)

/-- What a point leaves: 1408 rows of the weights' gradient. -/
theorem after2 (t : Fin cfg0.N) (j : Fin 1408) (k : Fin 1024) : out0_2 (iblk m c 0 t) (iblk m c 1 t) (ix2 j k) = tn a (half d) (1408 * t.val + j.val) k.val := by
  frame_out
  exact (pay _ _ j k).trans (Finset.sum_congr rfl fun s _ => congrArg₂ (· * ·) (in0 h t s j) (in1 h t s k))

/-- The result array. -/
theorem final : (dats m 0 c).arrAt 2 cfg0.N = dwArr a d := by
  refine (dats m 0 c).arrAt_eq_of_covers 2 _ (by decide +kernel) fun t hf y => ?_
  blk_simp
  rw [after0_2]
  have e := after2 h t (y 0) (y 1)
  rw [ix2_eta] at e
  refine e.trans ?_
  unfold dwArr
  blk_simp [idx t]
  rw [Nat.mul_comm 1408]

end Cert.Kernel4Ideal.OutGrad
-- ==== Proof.OutGradRef.lean ====
/- The output weights' gradient as the reference computes it. -/
module

public import proofs.«01_k».proof.Proof.NormSpec
public import proofs.«01_k».proof.Proof.Gen.Reference4Ideal.Read
public import Idealize.ShloMosaic.Lib.Pipeline.ValueKit

@[expose] public section

set_option maxRecDepth 16384

noncomputable section

namespace Cert.Reference4Ideal.OutGrad

open Cert.Reference4Ideal Cert.Reference4Ideal.Gen
open Cert.Norm Cert.Reference4Ideal.Read
open Idealize.ShloMosaic Idealize.ShloMosaic.TcCoe Idealize.ShloMosaic.Tactic

/-- The arguments' entries. -/
structure Reads (x0 : FVec Ideal S4096x2816 .f32) (x1 : FVec Ideal S4096x1024 .f32) (a d : ℕ → ℕ → EReal) : Prop where
  a : ∀ r k, x0 (ix2 r k) = a r.val k.val
  d : ∀ r k, x1 (ix2 r k) = d r.val k.val

variable {x0 : FVec Ideal S4096x2816 .f32} {x1 : FVec Ideal S4096x1024 .f32} {a d : ℕ → ℕ → EReal} (h : Reads x0 x1 a d)
include h

/-- Half the incoming gradient. -/
theorem half_at (r : Fin 4096) (k : Fin 1024) : val_main_v5 (F := Ideal) x1 (ix2 r k) = half d r.val k.val := by
  pointwise [val_main_v5, val_main_v4, val_main_cst_1]
  exact congrArg (_ * ·) (h.d r k)

/-- The weights' gradient. -/
theorem dw_at (r : Fin 2816) (k : Fin 1024) : val_main_v8 (F := Ideal) x0 x1 (ix2 r k) = tn a (half d) r.val k.val := by
  have e := fun s => half_at h s k
  revert e
  generalize hv : val_main_v5 (F := Ideal) x1 = v
  intro e
  pointwise [val_main_v8, val_main_v7, val_main_v6, hv]
  exact Finset.sum_congr rfl fun s _ => (mul_comm _ _).trans (congrArg₂ (· * ·) (h.a s r) (e s))

end Cert.Reference4Ideal.OutGrad
-- ==== Proof.OutGradEq.lean ====
/- The weight-gradient call on the output weights: both programs end with the same gradient. -/
module

public import proofs.«01_k».proof.Proof.OutGrad
public import proofs.«01_k».proof.Proof.OutGradRef
public import proofs.«01_k».proof.Defs

@[expose] public section

set_option maxRecDepth 16384

noncomputable section

namespace Cert.Kernel4Ideal.OutGrad

open Cert.Norm
open Idealize.ShloMosaic Idealize.ShloMosaic.TcCoe Idealize.ShloMosaic.Tactic
open Idealize.SL.Sem

attribute [local instance] Cert.Kernel4Ideal.Gen.facts Cert.Reference4Ideal.Gen.facts

variable (m : (ℓ : Loc Cert.Kernel4Ideal.nD Cert.Kernel4Ideal.τ Cert.Kernel4Ideal.sig) → Buf (Elt Ideal) ℓ) (c : Dev Cert.Kernel4Ideal.nD)

/-- The activation and the incoming gradient, by row and column numbers. -/
def a : ℕ → ℕ → EReal := cells (n0 := 4096) (n1 := 2816) (m ((c.tc : Thread Cert.Kernel4Ideal.nD Cert.Kernel4Ideal.τ).loc Cert.Kernel4Ideal.main_arg0))
def d : ℕ → ℕ → EReal := cells (n0 := 4096) (n1 := 1024) (m ((c.tc : Thread Cert.Kernel4Ideal.nD Cert.Kernel4Ideal.τ).loc Cert.Kernel4Ideal.main_arg1))

theorem reads : Reads m c (a m c) (d m c) where
  a := cells_at (n0 := 4096) (n1 := 2816) _
  d := cells_at (n0 := 4096) (n1 := 1024) _

theorem algebraic : Cert.algebraic_Kernel4Ideal_Reference4Ideal := by
  intro m g' m' g'' _ hargs
  have hr : ∀ c : Dev Cert.Reference4Ideal.nD, Cert.Reference4Ideal.OutGrad.Reads (m' (Thread.loc (nD := Cert.Reference4Ideal.nD) (τ := Cert.Reference4Ideal.τ) (c : Thread Cert.Reference4Ideal.nD Cert.Reference4Ideal.τ) Cert.Reference4Ideal.main_arg0))
      (m' (Thread.loc (nD := Cert.Reference4Ideal.nD) (τ := Cert.Reference4Ideal.τ) (c : Thread Cert.Reference4Ideal.nD Cert.Reference4Ideal.τ) Cert.Reference4Ideal.main_arg1)) (a m c) (d m c) := by
    intro c
    obtain ⟨e0, e1⟩ := hargs c
    exact ⟨fun r k => (congrFun e0 _).trans ((reads m c).a r k), fun r k => (congrFun e1 _).trans ((reads m c).d r k)⟩
  refine ⟨fun c => dwArr (a m c) (d m c), ?_, ?_⟩
  · refine (θ_run Cert.Kernel4Ideal.defs _ _).mono (fun r h c => ?_) (Cert.Kernel4Ideal.Value.run_blocks m g')
    exact ⟨(h c).1.trans (final (reads m c)), (h c).2⟩
  · refine (θ_run Cert.Reference4Ideal.defs _ _).mono (fun r h c => ?_) (Cert.Reference4Ideal.Value.run m' g'')
    refine ⟨(h c).1.trans ((Cert.Reference4Ideal.Read.val_main_v8_eq _ _).trans (funext fun i => ?_)), (h c).2⟩
    rw [← ix2_eta i]
    exact Cert.Reference4Ideal.OutGrad.dw_at (hr c) (i 0) (i 1)

end Cert.Kernel4Ideal.OutGrad
-- ==== Proof.FwdBlocks.lean ====
/- What one grid point of the feed-forward forward call computes from its blocks, written out as functions. -/
module

public import proofs.«01_k».proof.Proof.Gen.Kernel5Ideal.Frame
public import proofs.«01_k».proof.Proof.Gen.Kernel5Ideal.Skeleton
public import Idealize.ShloMosaic.Lib.Pipeline.ValueKit

@[expose] public section

set_option maxRecDepth 16384

noncomputable section

namespace Cert.Kernel5Ideal.Fwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gate's 256 columns of a block of the interleaved products. -/
abbrev rG : Rect S1024x512 := Rect.unit (s := S1024x512) ![0, 0] S1024x256.size inb_S1024x512_S1024x256_0_0
/-- The other factor's 256 columns. -/
abbrev rU : Rect S1024x512 := Rect.unit (s := S1024x512) ![0, 256] S1024x256.size inb_S1024x512_S1024x256_0_256

/-- The normalised rows of a row tile. -/
def xnV (x : Vec F S1024x1024 .f32) (gain : Vec F S1x1024 .f32) : Vec F S1024x1024 .bf16 := k0_pay1 x gain

/-- Both products of one column tile side by side, as the tile is stored. -/
def guV (xn : Vec F S1024x1024 .bf16) (wg wu : Vec F S256x1024 .bf16) : Vec F S1024x512 .bf16 :=
  View.canon (Val := Elt F) [⟨rU, k0_pay7 xn wu⟩, ⟨rG, k0_pay6 xn wg⟩]

/-- The row tile's running product with the output weights after one more column tile. -/
def accV (acc : Vec F S1024x1024 .f32) (xn : Vec F S1024x1024 .bf16) (wg wu wo : Vec F S256x1024 .bf16) : Vec F S1024x1024 .f32 :=
  k0_pay8 xn wg wu acc wo

/-- The half-layer's result on one row tile. -/
def yV (x acc : Vec F S1024x1024 .f32) : Vec F S1024x1024 .f32 := k0_pay9 x acc

theorem zero2 (off : Fin 2 → ℕ) (h0 : off 0 = 0) (h1 : off 1 = 0) : off = fun _ => 0 := by
  funext a; fin_cases a <;> assumption

/-- A store of the whole buffer covers it. -/
theorem cover_whole {S : Shape} {e : EltTy} (off : Fin S.rank → ℕ) (h : off = fun _ => 0) (inb : ∀ a, off a + S.size a ≤ S.size a)
    (w : S.Idx → Elt F e) (L : List (View.Piece (Elt F) S e)) :
    ∀ y, ∃ p ∈ ((⟨Rect.unit off S.size inb, w⟩ : View.Piece (Elt F) S e) :: L), y ∈ p.1.set := fun y =>
  ⟨_, List.mem_cons_self, View.mem_set_unit_zero h inb y⟩

/-- The two stored halves cover the tile. -/
theorem cover_gu (w w' : Vec F S1024x256 .bf16) :
    ∀ y, ∃ p ∈ ([⟨rU, w⟩, ⟨rG, w'⟩] : List (View.Piece (Elt F) S1024x512 .bf16)), y ∈ p.1.set := fun y =>
  View.cover_of_tiledL (s := S1024x512) ([⟨rU, w⟩, ⟨rG, w'⟩] : List (View.Piece (Elt F) S1024x512 .bf16)) S1024x256.size (by sl_kernel_rfl) y

end Cert.Kernel5Ideal.Fwd

end
-- ==== Proof.FwdRunA.lean ====
/- A row tile's first column tile: the rows are normalised and the running product begins. -/
module

public import proofs.«01_k».proof.Proof.FwdBlocks

@[expose] public section

set_option maxRecDepth 16384

noncomputable section

namespace Cert.Kernel5Ideal.Fwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S256x1024 .bf16) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S1024x1024 .f32) (harg7 : arg7.IsWhole)
  (arg8 : Memref sig .tc .vmem S1024x512 .bf16) (harg8 : arg8.IsWhole)
  (arg9 : Memref sig .tc .vmem S1024x1024 .bf16) (harg9 : arg9.IsWhole)
  (arg10 : Memref sig .tc .vmem S1024x1024 .f32) (harg10 : arg10.IsWhole)
variable (x0 : Vec F S1024x1024 .f32) (x1 : Vec F S1x1024 .f32) (x2 : Vec F S256x1024 .bf16) (x3 : Vec F S256x1024 .bf16) (x4 : Vec F S256x1024 .bf16)

set_option maxHeartbeats 2000000 in
/-- A row tile's first column tile: the rows are normalised and the running product begins. -/
theorem run_A (hc0 : k0_cond1 i = 1#1) (hc1 : ¬k0_cond2 i = 1#1) (d5 : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare d5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare d5 ∗ owns (c : Thread nD τ) arg8 fullShare (guV (xnV x0 x1) x2 x3) ∗ owns (c : Thread nD τ) arg9 fullShare (xnV x0 x1) ∗ owns (c : Thread nD τ) arg10 fullShare (accV (k0_pay2 (F := F)) (xnV x0 x1) x2 x3 x4)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10) K := by
  simp only [cc0_ffn_fwd_eq_skeleton]; unfold cc0_ffn_fwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    rw [View.read_writes_eq_canon _ _ _ (cover_gu _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5]
    rfl
  isplitl [H7]
  · iexists _; isplitr
    swap; · iexact H7
    ipureintro
    sl_unfold_words
    rw [View.read_writes_eq_canon _ _ _ (cover_whole (S := S1024x1024) _ (zero2 _ rfl rfl) _ _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5]
    rfl
  iexists _; isplitr
  swap; · iexact H8
  ipureintro
  sl_unfold_words
  rw [View.read_writes_eq_canon _ _ _ (cover_whole (S := S1024x1024) _ (zero2 _ rfl rfl) _ _ _)]
  try simp (disch := decide) only [View.readCov_unit_lit', View.readCov_cons_unit_lit']
  simp (disch := decide) only [View.readAt_eq_ld, View.readCov_unit_lit', View.readCov_cons_unit_lit', View.readCov_eq_canon', View.canon_cons_unit_lit', View.ld_unit_lit', hf0, hf1, hf2, hf3, hf4, hf5]
  rfl

end Cert.Kernel5Ideal.Fwd

end
-- ==== Proof.FwdRunB.lean ====
/- A column tile in the middle of a row tile. -/
module

public import proofs.«01_k».proof.Proof.FwdBlocks

@[expose] public section

set_option maxRecDepth 16384

noncomputable section

namespace Cert.Kernel5Ideal.Fwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S256x1024 .bf16) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S1024x1024 .f32) (harg7 : arg7.IsWhole)
  (arg8 : Memref sig .tc .vmem S1024x512 .bf16) (harg8 : arg8.IsWhole)
  (arg9 : Memref sig .tc .vmem S1024x1024 .bf16) (harg9 : arg9.IsWhole)
  (arg10 : Memref sig .tc .vmem S1024x1024 .f32) (harg10 : arg10.IsWhole)
variable (x0 : Vec F S1024x1024 .f32) (x1 : Vec F S1x1024 .f32) (x2 : Vec F S256x1024 .bf16) (x3 : Vec F S256x1024 .bf16) (x4 : Vec F S256x1024 .bf16)

set_option maxHeartbeats 2000000 in
/-- A column tile in the middle of a row tile. -/
theorem run_B (hc0 : ¬k0_cond1 i = 1#1) (hc1 : ¬k0_cond2 i = 1#1) (d5 : Vec F S1024x1024 .f32) (xn : Vec F S1024x1024 .bf16) (acc : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare d5 ∗ (∃ d, owns (c : Thread nD τ) arg8 fullShare d) ∗ owns (c : Thread nD τ) arg9 fullShare xn ∗ owns (c : Thread nD τ) arg10 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare d5 ∗ owns (c : Thread nD τ) arg8 fullShare (guV xn x2 x3) ∗ owns (c : Thread nD τ) arg9 fullShare xn ∗ owns (c : Thread nD τ) arg10 fullShare (accV acc xn x2 x3 x4)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10) K := by
  simp only [cc0_ffn_fwd_eq_skeleton]; unfold cc0_ffn_fwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    rw [View.read_writes_eq_canon _ _ _ (cover_gu _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf5, hf7, hf8]
    rfl
  isplitl [H7]
  · iexists _; isplitr; · ipureintro; exact harg9.read_unread _
    iexact H7
  iexists _; isplitr
  swap; · iexact H8
  ipureintro
  sl_unfold_words
  rw [View.read_writes_eq_canon _ _ _ (cover_whole (S := S1024x1024) _ (zero2 _ rfl rfl) _ _ _)]
  try simp (disch := decide) only [View.readCov_unit_lit', View.readCov_cons_unit_lit']
  simp (disch := decide) only [View.readAt_eq_ld, View.readCov_unit_lit', View.readCov_cons_unit_lit', View.readCov_eq_canon', View.canon_cons_unit_lit', View.ld_unit_lit', hf0, hf1, hf2, hf3, hf4, hf5, hf7, hf8]
  rfl

end Cert.Kernel5Ideal.Fwd

end
-- ==== Proof.FwdRunC.lean ====
/- A row tile's last column tile: the result is stored. -/
module

public import proofs.«01_k».proof.Proof.FwdBlocks

@[expose] public section

set_option maxRecDepth 16384

noncomputable section

namespace Cert.Kernel5Ideal.Fwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S256x1024 .bf16) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S1024x1024 .f32) (harg7 : arg7.IsWhole)
  (arg8 : Memref sig .tc .vmem S1024x512 .bf16) (harg8 : arg8.IsWhole)
  (arg9 : Memref sig .tc .vmem S1024x1024 .bf16) (harg9 : arg9.IsWhole)
  (arg10 : Memref sig .tc .vmem S1024x1024 .f32) (harg10 : arg10.IsWhole)
variable (x0 : Vec F S1024x1024 .f32) (x1 : Vec F S1x1024 .f32) (x2 : Vec F S256x1024 .bf16) (x3 : Vec F S256x1024 .bf16) (x4 : Vec F S256x1024 .bf16)

set_option maxHeartbeats 2000000 in
/-- A row tile's last column tile: the result is stored. -/
theorem run_C (hc0 : ¬k0_cond1 i = 1#1) (hc1 : k0_cond2 i = 1#1) (xn : Vec F S1024x1024 .bf16) (acc : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare xn ∗ owns (c : Thread nD τ) arg10 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare (yV x0 (accV acc xn x2 x3 x4)) ∗ owns (c : Thread nD τ) arg8 fullShare (guV xn x2 x3) ∗ owns (c : Thread nD τ) arg9 fullShare xn ∗ owns (c : Thread nD τ) arg10 fullShare (accV acc xn x2 x3 x4)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10) K := by
  simp only [cc0_ffn_fwd_eq_skeleton]; unfold cc0_ffn_fwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    rw [View.read_writes_eq_canon _ _ _ (cover_whole (S := S1024x1024) _ (zero2 _ rfl rfl) _ _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf7, hf8]
    rfl
  isplitl [H6]
  · iexists _; isplitr
    swap; · iexact H6
    ipureintro
    sl_unfold_words
    rw [View.read_writes_eq_canon _ _ _ (cover_gu _ _)]
    try simp (disch := decide) only [View.readCov_unit_lit', View.readCov_cons_unit_lit']
    simp (disch := decide) only [View.readAt_eq_ld, View.readCov_unit_lit', View.readCov_cons_unit_lit', View.readCov_eq_canon', View.canon_cons_unit_lit', View.ld_unit_lit', hf0, hf1, hf2, hf3, hf4, hf7, hf8]
    rfl
  isplitl [H7]
  · iexists _; isplitr; · ipureintro; exact harg9.read_unread _
    iexact H7
  iexists _; isplitr
  swap; · iexact H8
  ipureintro
  sl_unfold_words
  rw [View.read_writes_eq_canon _ _ _ (cover_whole (S := S1024x1024) _ (zero2 _ rfl rfl) _ _ _)]
  try simp (disch := decide) only [View.readCov_unit_lit', View.readCov_cons_unit_lit']
  simp (disch := decide) only [View.readAt_eq_ld, View.readCov_unit_lit', View.readCov_cons_unit_lit', View.readCov_eq_canon', View.canon_cons_unit_lit', View.ld_unit_lit', hf0, hf1, hf2, hf3, hf4, hf7, hf8]
  rfl

end Cert.Kernel5Ideal.Fwd

end
-- ==== Proof.FwdFrame.lean ====
/- The run of the feed-forward forward call: what each output buffer and the running sum hold after every grid point,
   and from it the frame claim. -/
module

public import proofs.«01_k».proof.Proof.FwdRunA
public import proofs.«01_k».proof.Proof.FwdRunB
public import proofs.«01_k».proof.Proof.FwdRunC
public import proofs.«01_k».proof.Proof.Gen.Kernel5Ideal.Frame

@[expose] public section

set_option maxRecDepth 16384

noncomputable section

namespace Cert.Kernel5Ideal.Fwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point, and where an output rests -/

/-- The first column tile of a row tile. -/
theorem at_cond1 : ∀ t : Fin cfg0.N, k0_cond1 (grid0.coords t) = 1#1 ↔ t.val % 11 = 0 :=
  (fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

/-- The last column tile of a row tile. -/
theorem at_cond2 : ∀ t : Fin cfg0.N, k0_cond2 (grid0.coords t) = 1#1 ↔ t.val % 11 = 10 :=
  (fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [k0_cond2, e0, e1]
    word_cmp
   : ∀ t : Fin grid0.N, k0_cond2 (grid0.coords t) = 1#1 ↔ t.val % 11 = 10)

theorem live5 (t : Fin cfg0.N) (h : t.val % 11 = 10) : cfg0.idle 5 (grid0.coords t) = false := by
  change (!(k0_cond2 (grid0.coords t) == 1#1)) = false
  rw [(at_cond2 t).mpr h]; rfl
theorem idle5 (t : Fin cfg0.N) (h : ¬t.val % 11 = 10) : cfg0.idle 5 (grid0.coords t) = true := by
  change (!(k0_cond2 (grid0.coords t) == 1#1)) = true
  rw [beq_eq_false_iff_ne.mpr (fun e => h ((at_cond2 t).mp e))]; rfl
theorem live7 (t : Fin cfg0.N) (h : t.val % 11 = 0) : cfg0.idle 7 (grid0.coords t) = false := by
  change (!(k0_cond1 (grid0.coords t) == 1#1)) = false
  rw [(at_cond1 t).mpr h]; rfl
theorem idle7 (t : Fin cfg0.N) (h : ¬t.val % 11 = 0) : cfg0.idle 7 (grid0.coords t) = true := by
  change (!(k0_cond1 (grid0.coords t) == 1#1)) = true
  rw [beq_eq_false_iff_ne.mpr (fun e => h ((at_cond1 t).mp e))]; rfl

/-! ## The operands' memrefs and blocks -/

abbrev st0 (t : Fin cfg0.N) := win0_0.stage (cfg0.slots t 0)
theorem wh0 (t : Fin cfg0.N) : (st0 t).IsWhole := hstage0_0 ((cfg0.slots t 0).cast nbuf0_0)
abbrev st1 (t : Fin cfg0.N) := win0_1.stage (cfg0.slots t 1)
theorem wh1 (t : Fin cfg0.N) : (st1 t).IsWhole := hstage0_1 ((cfg0.slots t 1).cast nbuf0_1)
abbrev st2 (t : Fin cfg0.N) := win0_2.stage (cfg0.slots t 2)
theorem wh2 (t : Fin cfg0.N) : (st2 t).IsWhole := hstage0_2 ((cfg0.slots t 2).cast nbuf0_2)
abbrev st3 (t : Fin cfg0.N) := win0_3.stage (cfg0.slots t 3)
theorem wh3 (t : Fin cfg0.N) : (st3 t).IsWhole := hstage0_3 ((cfg0.slots t 3).cast nbuf0_3)
abbrev st4 (t : Fin cfg0.N) := win0_4.stage (cfg0.slots t 4)
theorem wh4 (t : Fin cfg0.N) : (st4 t).IsWhole := hstage0_4 ((cfg0.slots t 4).cast nbuf0_4)
abbrev st5 (t : Fin cfg0.N) := win0_5.stage (cfg0.slots t 5)
theorem wh5 (t : Fin cfg0.N) : (st5 t).IsWhole := hstage0_5 ((cfg0.slots t 5).cast nbuf0_5)
abbrev st6 (t : Fin cfg0.N) := win0_6.stage (cfg0.slots t 6)
theorem wh6 (t : Fin cfg0.N) : (st6 t).IsWhole := hstage0_6 ((cfg0.slots t 6).cast nbuf0_6)
abbrev st7 (t : Fin cfg0.N) := win0_7.stage (cfg0.slots t 7)
theorem wh7 (t : Fin cfg0.N) : (st7 t).IsWhole := hstage0_7 ((cfg0.slots t 7).cast nbuf0_7)
/-- The running sum's buffer. -/
abbrev scr : Memref sig .tc .vmem S1024x1024 .f32 := Memref.whole cc0_scratch0

/-- The block of x at a point. -/
abbrev in0 (c : Dev nD) (t : Fin cfg0.N) : Vec F S1024x1024 .f32 := iblk m c 0 t
/-- The block of the gain at a point. -/
abbrev in1 (c : Dev nD) (t : Fin cfg0.N) : Vec F S1x1024 .f32 := iblk m c 1 t
/-- The block of the gate weights at a point. -/
abbrev in2 (c : Dev nD) (t : Fin cfg0.N) : Vec F S256x1024 .bf16 := iblk m c 2 t
/-- The block of the up weights at a point. -/
abbrev in3 (c : Dev nD) (t : Fin cfg0.N) : Vec F S256x1024 .bf16 := iblk m c 3 t
/-- The block of the output weights at a point. -/
abbrev in4 (c : Dev nD) (t : Fin cfg0.N) : Vec F S256x1024 .bf16 := iblk m c 4 t

/-- The normalised rows of the row tile a point lies in. -/
def xnAt (c : Dev nD) (t : Fin cfg0.N) : Vec F S1024x1024 .bf16 := xnV (in0 m c t) (in1 m c t)

/-- The running sum after a point: begun at the first column tile, each later tile adding its product. -/
def accAt (c : Dev nD) : (n : ℕ) → n < cfg0.N → Vec F S1024x1024 .f32
  | 0, hn => accV (k0_pay2 (F := F)) (xnAt m c ⟨0, hn⟩) (in2 m c ⟨0, hn⟩) (in3 m c ⟨0, hn⟩) (in4 m c ⟨0, hn⟩)
  | n + 1, hn => accV (if (n + 1) % 11 = 0 then k0_pay2 (F := F) else accAt c n (Nat.lt_of_succ_lt hn)) (xnAt m c ⟨n + 1, hn⟩) (in2 m c ⟨n + 1, hn⟩) (in3 m c ⟨n + 1, hn⟩) (in4 m c ⟨n + 1, hn⟩)

theorem accAt_first (c : Dev nD) (t : Fin cfg0.N) (h : t.val % 11 = 0) :
    accAt m c t.val t.isLt = accV (k0_pay2 (F := F)) (xnAt m c t) (in2 m c t) (in3 m c t) (in4 m c t) := by
  obtain ⟨n, hn⟩ := t
  cases n with
  | zero => rfl
  | succ n => simp only [accAt]; rw [if_pos h]

theorem accAt_next (c : Dev nD) (t : Fin cfg0.N) (h : ¬t.val % 11 = 0) :
    accAt m c t.val t.isLt = accV (accAt m c (t.val - 1) (Nat.lt_of_le_of_lt (Nat.sub_le _ _) t.isLt)) (xnAt m c t) (in2 m c t) (in3 m c t) (in4 m c t) := by
  obtain ⟨n, hn⟩ := t
  cases n with
  | zero => exact absurd rfl h
  | succ n => simp only [accAt]; rw [if_neg h]; rfl

/-! ## The region invariant and the proof data -/

/-- Between points: the running sum as the point before left it. -/
def PhiS (c : Dev nD) : (n : ℕ) → n ≤ cfg0.N → sProp 𝕄
  | 0, _ => Pipeline.ΦA spec0 c
  | n + 1, hn => iprop(owns (c : Thread nD τ) scr fullShare (accAt m c n hn) ∗ (∃ r, prngReg c r))

theorem PhiS_pos (c : Dev nD) (n : ℕ) (h : n ≤ cfg0.N) (hz : n ≠ 0) :
    PhiS m c n h = iprop(owns (c : Thread nD τ) scr fullShare (accAt m c (n - 1) (by omega)) ∗ (∃ r, prngReg c r)) := by
  cases n with
  | zero => exact absurd rfl hz
  | succ n => rfl

theorem PhiA_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- Before any point the running sum's buffer is held at some contents. -/
theorem PhiS_any (c : Dev nD) (n : ℕ) (h : n ≤ cfg0.N) :
    PhiS m c n h ⊢ iprop((∃ d, owns (c : Thread nD τ) scr fullShare d) ∗ (∃ r, prngReg c r)) := by
  cases n with
  | zero => rw [← PhiA_eq]; exact Idealize.SL.BI.Entails.refl _
  | succ n =>
    unfold PhiS
    iintro ⟨HS, Hg⟩
    isplitl [HS]
    · iexists _; iexact HS
    iexact Hg

/-- What every buffer holds after each point. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => in4 m c t
    | ⟨5, _⟩ => yV (in0 m c t) (accAt m c t.val t.isLt)
    | ⟨6, _⟩ => guV (xnAt m c t) (in2 m c t) (in3 m c t)
    | ⟨7, _⟩ => xnAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = in0 m c t := by dsimp only [dats]
theorem after1 (c : Dev nD) (t : Fin cfg0.N) : (dats m 0 c).after 1 t = in1 m c t := by dsimp only [dats]
theorem after2 (c : Dev nD) (t : Fin cfg0.N) : (dats m 0 c).after 2 t = in2 m c t := by dsimp only [dats]
theorem after3 (c : Dev nD) (t : Fin cfg0.N) : (dats m 0 c).after 3 t = in3 m c t := by dsimp only [dats]
theorem after4 (c : Dev nD) (t : Fin cfg0.N) : (dats m 0 c).after 4 t = in4 m c t := by dsimp only [dats]
theorem after5 (c : Dev nD) (t : Fin cfg0.N) : (dats m 0 c).after 5 t = yV (in0 m c t) (accAt m c t.val t.isLt) := by dsimp only [dats]
theorem after6 (c : Dev nD) (t : Fin cfg0.N) : (dats m 0 c).after 6 t = guV (xnAt m c t) (in2 m c t) (in3 m c t) := by dsimp only [dats]
theorem after7 (c : Dev nD) (t : Fin cfg0.N) : (dats m 0 c).after 7 t = xnAt m c t := by dsimp only [dats]

theorem before0 (c : Dev nD) (t : Fin cfg0.N) (d) : (dats m 0 c).before 0 t d = in0 m c t :=
  before0_0_of m (dats m 0 c) (A_eq m c 0) (after0 m c) t d
theorem before1 (c : Dev nD) (t : Fin cfg0.N) (d) : (dats m 0 c).before 1 t d = in1 m c t :=
  before0_1_of m (dats m 0 c) (A_eq m c 1) (after1 m c) t d
theorem before2 (c : Dev nD) (t : Fin cfg0.N) (d) : (dats m 0 c).before 2 t d = in2 m c t :=
  before0_2_of m (dats m 0 c) (A_eq m c 2) (after2 m c) t d
theorem before3 (c : Dev nD) (t : Fin cfg0.N) (d) : (dats m 0 c).before 3 t d = in3 m c t :=
  before0_3_of m (dats m 0 c) (A_eq m c 3) (after3 m c) t d
theorem before4 (c : Dev nD) (t : Fin cfg0.N) (d) : (dats m 0 c).before 4 t d = in4 m c t :=
  before0_4_of m (dats m 0 c) (A_eq m c 4) (after4 m c) t d

/-- Within a row tile neither x's block nor the gain's moves. -/
theorem same_row : ∀ t t' : Fin cfg0.N, t.val / 11 = t'.val / 11 → win0_0.index t = win0_0.index t' :=
  (by decide +kernel : ∀ t t' : Fin grid0.N, _)
theorem same_gain : ∀ t t' : Fin cfg0.N, win0_1.index t = win0_1.index t' :=
  (by decide +kernel : ∀ t t' : Fin grid0.N, _)

theorem in0_congr (c : Dev nD) {t t' : Fin cfg0.N} (h : t.val / 11 = t'.val / 11) : in0 m c t = in0 m c t' := by
  rw [← before0 m c t (in0 m c t), ← before0 m c t' (in0 m c t)]
  rw [before0, before0]
  exact (dats m 0 c).fetched_congr 0 (same_row t t' h) rfl (in0 m c t)

theorem in1_congr (c : Dev nD) (t t' : Fin cfg0.N) : in1 m c t = in1 m c t' := by
  rw [← before1 m c t (in1 m c t), ← before1 m c t' (in1 m c t)]
  rw [before1, before1]
  exact (dats m 0 c).fetched_congr 1 (same_gain t t') rfl (in1 m c t)

/-- Past the first column tile the normalised rows' buffer still holds what the first tile stored. -/
theorem before7 (c : Dev nD) (d) : ∀ (n : ℕ) (hn : n < cfg0.N), ¬n % 11 = 0 →
    (dats m 0 c).before 7 ⟨n, hn⟩ d = xnAt m c ⟨n, hn⟩
  | 0, _, h => absurd rfl h
  | n + 1, hn, h => by
    have hp : n < cfg0.N := Nat.lt_of_succ_lt hn
    have hf : (cfg0.win 7).flush ⟨n, hp⟩ = false := by
      rw [Bool.eq_false_iff]; intro e; have := (flush0_7 ⟨n, hp⟩).mp e; simp only at this; omega
    have hrow : xnAt m c ⟨n + 1, hn⟩ = xnAt m c ⟨n, hp⟩ := by
      unfold xnAt; rw [in0_congr m c (t := ⟨n + 1, hn⟩) (t' := ⟨n, hp⟩) (show (n + 1) / 11 = n / 11 by omega), in1_congr m c ⟨n + 1, hn⟩ ⟨n, hp⟩]
    rw [(dats m 0 c).before_of_pos 7 ⟨n + 1, hn⟩ (Nat.succ_ne_zero n) rfl d]
    change (if (cfg0.win 7).flush ⟨n, hp⟩ then d else (dats m 0 c).left 7 ⟨n, hp⟩ d) = _
    rw [hf, if_neg Bool.false_ne_true, hrow]
    unfold Dat.left
    by_cases h0 : n % 11 = 0
    · rw [live7 ⟨n, hp⟩ h0]
      exact after7 m c ⟨n, hp⟩
    · rw [idle7 ⟨n, hp⟩ h0]
      exact before7 c d n hp h0

/-! ## The body at a point -/

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) : (dats m 0 c).leavesExact 0 t = owns (c : Thread nD τ) (st0 t) fullShare (in0 m c t) := by
  unfold Dat.leavesExact; rw [show cfg0.idle 0 (grid0.coords t) = false from rfl, after0]
theorem leaves1 (c : Dev nD) (t : Fin cfg0.N) : (dats m 0 c).leavesExact 1 t = owns (c : Thread nD τ) (st1 t) fullShare (in1 m c t) := by
  unfold Dat.leavesExact; rw [show cfg0.idle 1 (grid0.coords t) = false from rfl, after1]
theorem leaves2 (c : Dev nD) (t : Fin cfg0.N) : (dats m 0 c).leavesExact 2 t = owns (c : Thread nD τ) (st2 t) fullShare (in2 m c t) := by
  unfold Dat.leavesExact; rw [show cfg0.idle 2 (grid0.coords t) = false from rfl, after2]
theorem leaves3 (c : Dev nD) (t : Fin cfg0.N) : (dats m 0 c).leavesExact 3 t = owns (c : Thread nD τ) (st3 t) fullShare (in3 m c t) := by
  unfold Dat.leavesExact; rw [show cfg0.idle 3 (grid0.coords t) = false from rfl, after3]
theorem leaves4 (c : Dev nD) (t : Fin cfg0.N) : (dats m 0 c).leavesExact 4 t = owns (c : Thread nD τ) (st4 t) fullShare (in4 m c t) := by
  unfold Dat.leavesExact; rw [show cfg0.idle 4 (grid0.coords t) = false from rfl, after4]
theorem leaves6 (c : Dev nD) (t : Fin cfg0.N) : (dats m 0 c).leavesExact 6 t = owns (c : Thread nD τ) (st6 t) fullShare (guV (xnAt m c t) (in2 m c t) (in3 m c t)) := by
  unfold Dat.leavesExact; rw [show cfg0.idle 6 (grid0.coords t) = false from rfl, after6]
theorem leaves5 (c : Dev nD) (t : Fin cfg0.N) (h : t.val % 11 = 10) : (dats m 0 c).leavesExact 5 t = owns (c : Thread nD τ) (st5 t) fullShare (yV (in0 m c t) (accAt m c t.val t.isLt)) := by
  unfold Dat.leavesExact; rw [live5 t h, after5]
theorem leaves7 (c : Dev nD) (t : Fin cfg0.N) (h : t.val % 11 = 0) : (dats m 0 c).leavesExact 7 t = owns (c : Thread nD τ) (st7 t) fullShare (xnAt m c t) := by
  unfold Dat.leavesExact; rw [live7 t h, after7]
theorem rests5 (c : Dev nD) (t : Fin cfg0.N) (h : ¬t.val % 11 = 10) : (dats m 0 c).leavesExact 5 t
    = iprop(∃ d, owns (c : Thread nD τ) (st5 t) fullShare ((dats m 0 c).before 5 t d)) :=
  (dats m 0 c).leavesExact_idle 5 t (idle5 t h) (by
    rw [Bool.eq_false_iff]; intro e; have := (flush0_5 t).mp e; omega)
theorem rests7 (c : Dev nD) (t : Fin cfg0.N) (h : ¬t.val % 11 = 0) (h' : ¬t.val % 11 = 10) : (dats m 0 c).leavesExact 7 t
    = iprop(∃ d, owns (c : Thread nD τ) (st7 t) fullShare ((dats m 0 c).before 7 t d)) :=
  (dats m 0 c).leavesExact_idle 7 t (idle7 t h) (by
    rw [Bool.eq_false_iff]; intro e; have := (flush0_7 t).mp e; omega)
theorem ends7 (c : Dev nD) (t : Fin cfg0.N) (h : ¬t.val % 11 = 0) (h' : t.val % 11 = 10) : (dats m 0 c).leavesExact 7 t
    = owns (c : Thread nD τ) (st7 t) fullShare (xnAt m c t) := by
  unfold Dat.leavesExact; rw [idle7 t h, (flush0_7 t).mpr h', after7]

set_option maxHeartbeats 4000000 in
/-- A row tile's first column tile. -/
theorem body_A (c : Dev nD) (t : Fin cfg0.N) (h0 : t.val % 11 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = iprop(owns (c : Thread nD τ) scr fullShare (accAt m c t.val t.isLt) ∗ (∃ r, prngReg c r)) from rfl]
  rw [leaves0, leaves1, leaves2, leaves3, leaves4, leaves6, Phi_castSucc]
  have h1 : ¬t.val % 11 = 10 := by omega
  rw [rests5 m c t h1, leaves7 m c t h0, accAt_first m c t h0]
  refine BIBase.Entails.trans (Idealize.SL.BI.Laws.sep_mono_left (PhiS_any m c t.val (Nat.le_of_lt t.isLt))) ?_
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_A c (grid0.coords t) (st0 t) (wh0 t) (st1 t) (wh1 t) (st2 t) (wh2 t) (st3 t) (wh3 t) (st4 t) (wh4 t) (st5 t) (wh5 t) (st6 t) (wh6 t) (st7 t) (wh7 t) scr (Memref.isWhole_whole _) (in0 m c t) (in1 m c t) (in2 m c t) (in3 m c t) (in4 m c t) ((at_cond1 t).mpr h0) (fun h => h1 ((at_cond2 t).mp h)) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iexact H7

set_option maxHeartbeats 4000000 in
/-- A column tile that is neither first nor last. -/
theorem body_B (c : Dev nD) (t : Fin cfg0.N) (h0 : ¬t.val % 11 = 0) (h1 : ¬t.val % 11 = 10) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = iprop(owns (c : Thread nD τ) scr fullShare (accAt m c t.val t.isLt) ∗ (∃ r, prngReg c r)) from rfl]
  rw [leaves0, leaves1, leaves2, leaves3, leaves4, leaves6, Phi_castSucc]
  have hz : t.val ≠ 0 := fun e => h0 (by rw [e])
  rw [rests5 m c t h1, rests7 m c t h0 h1, accAt_next m c t h0, PhiS_pos m c _ _ hz]
  simp only [show ∀ d, (dats m 0 c).before 7 t d = xnAt m c t from fun d => before7 m c d t.val t.isLt h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_B c (grid0.coords t) (st0 t) (wh0 t) (st1 t) (wh1 t) (st2 t) (wh2 t) (st3 t) (wh3 t) (st4 t) (wh4 t) (st5 t) (wh5 t) (st6 t) (wh6 t) (st7 t) (wh7 t) scr (Memref.isWhole_whole _) (in0 m c t) (in1 m c t) (in2 m c t) (in3 m c t) (in4 m c t) (fun h => h0 ((at_cond1 t).mp h)) (fun h => h1 ((at_cond2 t).mp h)) _ (xnAt m c t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iexists d7; iexact H7

set_option maxHeartbeats 4000000 in
/-- A row tile's last column tile. -/
theorem body_C (c : Dev nD) (t : Fin cfg0.N) (h1 : t.val % 11 = 10) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = iprop(owns (c : Thread nD τ) scr fullShare (accAt m c t.val t.isLt) ∗ (∃ r, prngReg c r)) from rfl]
  rw [leaves0, leaves1, leaves2, leaves3, leaves4, leaves6, Phi_castSucc]
  have h0 : ¬t.val % 11 = 0 := by omega
  have hz : t.val ≠ 0 := fun e => h0 (by rw [e])
  rw [leaves5 m c t h1, ends7 m c t h0 h1, accAt_next m c t h0, PhiS_pos m c _ _ hz]
  simp only [show ∀ d, (dats m 0 c).before 7 t d = xnAt m c t from fun d => before7 m c d t.val t.isLt h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_C c (grid0.coords t) (st0 t) (wh0 t) (st1 t) (wh1 t) (st2 t) (wh2 t) (st3 t) (wh3 t) (st4 t) (wh4 t) (st5 t) (wh5 t) (st6 t) (wh6 t) (st7 t) (wh7 t) scr (Memref.isWhole_whole _) (in0 m c t) (in1 m c t) (in2 m c t) (in3 m c t) (in4 m c t) (fun h => h0 ((at_cond1 t).mp h)) ((at_cond2 t).mpr h1) (xnAt m c t) _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body (c : Dev nD) (t : Fin cfg0.N) :
    bodyPre m c t ⊢ wp frame (wpE (defs₀ (F := F)) Variants.none c none) Set.univ (bodyAt0 t) (fun _ => bodyPost m c t) := by
  by_cases h1 : t.val % 11 = 10
  · exact body_C m c t h1
  · by_cases h0 : t.val % 11 = 0
    · exact body_A m c t h0
    · exact body_B m c t h0 h1

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

theorem enter (c : Dev nD) : Pipeline.ΦA spec0 c ⊢ (dats m 0 c).Φ 0 := by
  rw [show (dats m 0 c).Φ 0 = PhiS m c 0 (Nat.zero_le _) from rfl]
  exact Idealize.SL.BI.Entails.refl _

theorem leave (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_any m c _ _

/-! ## The run and the frame -/

set_option backward.isDefEq.respectTransparency.types false in
/-- Every execution ends with each array as the proof data names it and with no semaphore held. -/
theorem run_quiet : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)
    (hQ' := fun _ h => h)

theorem run_main : θ_run defs (onTc (τ := τ) (main (F := F))) (s₀ m ρ) (Pipeline.FramePost cfgs (dats m) 0 (V m)) :=
  (θ_run defs _ _).mono (fun _ h => h.1) (run_quiet m ρ)

/-- The argument arrays end as they were launched, and no semaphore is held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.Kernel5Ideal.Fwd

end
-- ==== Proof.FwdKernel.lean ====
/- The feed-forward forward call as printed runs as its idealized text does: the two programs have the same operations. -/
module

public import proofs.«01_k».proof.Proof.FwdFrame
public import proofs.«01_k».proof.Proof.Gen.Kernel5
public import proofs.«01_k».proof.Proof.Gen.Kernel5.Launch
public import proofs.«01_k».proof.Defs

@[expose] public section

set_option maxRecDepth 16384

noncomputable section

namespace Cert.Kernel5.Fwd

open Idealize.ShloMosaic Idealize.SL.Sem

variable {F : FTy → Type} [FloatOps F]

set_option maxHeartbeats 0 in
/-- The two body tables are the same. -/
theorem bodies_eq : Cert.Kernel5.defs₀ (F := F) = Cert.Kernel5Ideal.defs₀ (F := F) := by
  unfold Cert.Kernel5.defs₀ Cert.Kernel5Ideal.defs₀
  refine congrArg Defs.onTc ?_
  funext l a
  match l, a with
  | 0, (t, s) => rfl
  | ⟨_ + 1, h⟩, _ => exact absurd h (Nat.not_lt.2 (Nat.le_add_left _ _))

/-- And so are the programs' tables, staged. -/
theorem defs_eq : Cert.Kernel5.defs (F := F) = Cert.Kernel5Ideal.defs (F := F) :=
  congrArg (Pipeline.defs Cert.Kernel5Ideal.pcfgs) bodies_eq

/-- The kernel's frame: the run of the idealized text at the machine's own numbers. -/
theorem frame_kernel : Cert.quiescent_Kernel5 (hKernel5 := Cert.Kernel5.Gen.facts) := fun m ρ _ => by
  rw [defs_eq]
  exact Cert.Kernel5Ideal.Fwd.frame (F := Bits) m ρ

end Cert.Kernel5.Fwd

end
-- ==== Proof.FwdSpec.lean ====
/- The feed-forward half-layer's forward values, by row and column numbers. -/
module

public import proofs.«01_k».proof.Proof.NormSpec

@[expose] public section

noncomputable section

namespace Cert.Fwd

open Cert.Norm
open Idealize.ShloMosaic

/-- The call's arguments: the input, the gain, the two weight matrices. -/
structure Args where
  x : ℕ → ℕ → EReal
  gn : ℕ → EReal
  wi : ℕ → ℕ → EReal
  wo : ℕ → ℕ → EReal

variable (A : Args)

/-- The product of the normalised input with the input weights: gate columns, then up columns. -/
def z (r j : ℕ) : EReal := ∑ k : Fin 1024, rms A.x A.gn r k.val * A.wi k.val j
/-- The gated activation. -/
def act (r f : ℕ) : EReal := z A r f * Ideal.logistic (z A r f) * z A r (2816 + f)
/-- One hidden column's part of the product with the output weights. -/
def part (r k f : ℕ) : EReal := act A r f * A.wo f k
/-- The half-layer's result. -/
def y (r k : ℕ) : EReal := A.x r k + Ideal.ofBits .f32 0x3F000000#32 * ∑ f ∈ Finset.range 2816, part A r k f
/-- The products at column `j` of their array of tiles: 256 gate columns, then 256 up columns, in each tile. -/
def gu (r j : ℕ) : EReal :=
  if j % 512 < 256 then z A r (256 * (j / 512) + j % 512) else z A r (2816 + (256 * (j / 512) + (j % 512 - 256)))

/-- A sum over tiles, its last tile split off. -/
theorem sum_tiles (n w : ℕ) (f : ℕ → EReal) :
    ∑ i ∈ Finset.range (w * (n + 1)), f i = ∑ i ∈ Finset.range (w * n), f i + ∑ j : Fin w, f (w * n + j.val) := by
  rw [Nat.mul_succ, Finset.sum_range_add, Finset.sum_range (n := w)]

end Cert.Fwd
-- ==== Proof.FwdVal.lean ====
/- The forward call's blocks, element by element, at a grid point. -/
module

public import proofs.«01_k».proof.Proof.FwdFrame
public import proofs.«01_k».proof.Proof.FwdSpec
public import Idealize.ShloMosaic.Lib.Pipeline.ValueKit

@[expose] public section

set_option maxRecDepth 16384

noncomputable section

namespace Cert.Kernel5Ideal.Fwd

open Cert.Kernel5Ideal Cert.Kernel5Ideal.Gen
open Cert.Fwd Cert.Norm
open Idealize.ShloMosaic Idealize.ShloMosaic.TcCoe Idealize.ShloMosaic.Tactic

/-- The block index of every window at a point. -/
theorem idx : ∀ t : Fin cfg0.N, win0_0.index t = ![t.val / 11, 0] ∧ win0_1.index t = ![0, 0]
    ∧ win0_2.index t = ![t.val % 11, 0] ∧ win0_3.index t = ![t.val % 11 + 11, 0] ∧ win0_4.index t = ![t.val % 11, 0]
    ∧ win0_5.index t = ![t.val / 11, 0] ∧ win0_6.index t = ![t.val / 11, t.val % 11] ∧ win0_7.index t = ![t.val / 11, 0] :=
  (by decide +kernel : ∀ t : Fin grid0.N, _)

/-- A row of a row tile, in the array. -/
theorem row_lt (t : Fin cfg0.N) (a : Fin 1024) : 1024 * (t.val / 11) + a.val < 4096 := by
  have := Nat.lt_of_lt_of_eq t.isLt N_0; have := a.isLt; omega
/-- A column of a column tile, in the array. -/
theorem col_lt (t : Fin cfg0.N) (b : Fin 256) : 256 * (t.val % 11) + b.val < 2816 := by
  have := b.isLt; omega

/-- The arguments' entries. -/
structure Reads (m : (ℓ : Loc nD τ sig) → Buf (Elt Ideal) ℓ) (c : Dev nD) (A : Args) : Prop where
  x : ∀ r k, m ((c : Thread nD τ).loc main_arg0) (ix2 r k) = A.x r.val k.val
  gn : ∀ r k, m ((c : Thread nD τ).loc main_arg1) (ix2 r k) = A.gn k.val
  wi : ∀ r k, m ((c : Thread nD τ).loc main_arg2) (ix2 r k) = A.wi r.val k.val
  wo : ∀ r k, m ((c : Thread nD τ).loc main_arg3) (ix2 r k) = A.wo r.val k.val

variable {m : (ℓ : Loc nD τ sig) → Buf (Elt Ideal) ℓ} {c : Dev nD} {A : Args} (h : Reads m c A)
include h

theorem in0_at (t : Fin cfg0.N) (a b : Fin 1024) : in0 m c t (ix2 a b) = A.x (1024 * (t.val / 11) + a.val) b.val := by
  have e : in0 m c t (ix2 a b) = m ((c : Thread nD τ).loc main_arg0) (ix2 ⟨1024 * (t.val / 11) + a.val, row_lt t a⟩ b) := by
    blk_ext [in0, iblk, V, idx t]
  exact e.trans (h.x _ _)
theorem in1_at (t : Fin cfg0.N) (a : Fin 1) (b : Fin 1024) : in1 m c t (ix2 a b) = A.gn b.val := by
  have e : in1 m c t (ix2 a b) = m ((c : Thread nD τ).loc main_arg1) (ix2 0 b) := by
    blk_ext [in1, iblk, V, idx t]
  exact e.trans (h.gn _ _)
theorem in2_at (t : Fin cfg0.N) (a : Fin 256) (b : Fin 1024) : in2 m c t (ix2 a b) = A.wi b.val (256 * (t.val % 11) + a.val) := by
  have e : in2 m c t (ix2 a b) = V m c main_v1 (ix2 ⟨256 * (t.val % 11) + a.val, Nat.lt_trans (col_lt t a) (by decide)⟩ b) := by
    blk_ext [in2, iblk, idx t]
  rw [e]
  entry_read
  pointwise
  exact h.wi _ _
theorem in3_at (t : Fin cfg0.N) (a : Fin 256) (b : Fin 1024) : in3 m c t (ix2 a b) = A.wi b.val (2816 + (256 * (t.val % 11) + a.val)) := by
  have e : in3 m c t (ix2 a b) = V m c main_v1 (ix2 ⟨2816 + (256 * (t.val % 11) + a.val), Nat.add_lt_add_left (col_lt t a) 2816⟩ b) := by
    blk_ext [in3, iblk, idx t]
  rw [e]
  entry_read
  pointwise
  exact h.wi _ _
theorem in4_at (t : Fin cfg0.N) (a : Fin 256) (b : Fin 1024) : in4 m c t (ix2 a b) = A.wo (256 * (t.val % 11) + a.val) b.val := by
  have e : in4 m c t (ix2 a b) = V m c main_v2 (ix2 ⟨256 * (t.val % 11) + a.val, col_lt t a⟩ b) := by
    blk_ext [in4, iblk, idx t]
  rw [e]
  entry_read
  pointwise
  exact h.wo _ _

/-- The normalised rows of a row tile. -/
theorem xnAt_at (t : Fin cfg0.N) (a b : Fin 1024) : xnAt m c t (ix2 a b) = rms A.x A.gn (1024 * (t.val / 11) + a.val) b.val := by
  unfold xnAt xnV
  have e0 := in0_at h t
  have e1 := in1_at h t
  generalize in0 m c t = v at e0 ⊢
  generalize in1 m c t = w at e1 ⊢
  pointwise [k0_pay1]
  simp only [e0, e1]
  rfl

/-- The gate's product on a column tile. -/
theorem g_at (t : Fin cfg0.N) (a : Fin 1024) (b : Fin 256) : k0_pay4 (F := Ideal) (xnAt m c t) (in2 m c t) (ix2 a b)
    = z A (1024 * (t.val / 11) + a.val) (256 * (t.val % 11) + b.val) := by
  have e0 := xnAt_at h t
  have e1 := in2_at h t
  generalize xnAt m c t = v at e0 ⊢
  generalize in2 m c t = w at e1 ⊢
  pointwise [k0_pay4, k0_pay3]
  simp only [e0, e1]
  rfl
/-- The up product on a column tile. -/
theorem u_at (t : Fin cfg0.N) (a : Fin 1024) (b : Fin 256) : k0_pay5 (F := Ideal) (xnAt m c t) (in3 m c t) (ix2 a b)
    = z A (1024 * (t.val / 11) + a.val) (2816 + (256 * (t.val % 11) + b.val)) := by
  have e0 := xnAt_at h t
  have e1 := in3_at h t
  generalize xnAt m c t = v at e0 ⊢
  generalize in3 m c t = w at e1 ⊢
  pointwise [k0_pay5, k0_pay3]
  simp only [e0, e1]
  rfl

/-- A tile of the two products, at a column. -/
theorem guV_at (t : Fin cfg0.N) (a : Fin 1024) (b : Fin 512) : guV (xnAt m c t) (in2 m c t) (in3 m c t) (ix2 a b)
    = if b.val < 256 then z A (1024 * (t.val / 11) + a.val) (256 * (t.val % 11) + b.val)
      else z A (1024 * (t.val / 11) + a.val) (2816 + (256 * (t.val % 11) + (b.val - 256))) := by
  unfold guV
  refine View.canon_eq_of_allAt _ _ _ (cover_gu _ _ _) (View.allAt_cons_unit _ _ _ _ _ ?_ (View.allAt_cons_unit _ _ _ _ _ ?_ (View.allAt_nil _ _)))
  · intro x hx
    have h0 : a.val = 0 + (x 0).val := hx 0
    have h1 : b.val = 256 + (x 1).val := hx 1
    have e := u_at h t (x 0) (x 1)
    rw [ix2_eta] at e
    refine Eq.trans ?_ (e.trans ?_)
    · rfl
    rw [if_neg (by omega), h0, h1]
    simp
  · intro x hx
    have h0 : a.val = 0 + (x 0).val := hx 0
    have h1 : b.val = 0 + (x 1).val := hx 1
    have h2 : (x 1).val < 256 := (x 1).isLt
    have e := g_at h t (x 0) (x 1)
    rw [ix2_eta] at e
    refine Eq.trans ?_ (e.trans ?_)
    · rfl
    rw [if_pos (by omega), h0, h1]
    simp

/-- One column tile's addition to the running sum. -/
theorem accV_at (t : Fin cfg0.N) (acc : FVec Ideal S1024x1024 .f32) (a b : Fin 1024) (s : EReal) (hs : acc (ix2 a b) = s) :
    accV acc (xnAt m c t) (in2 m c t) (in3 m c t) (in4 m c t) (ix2 a b)
      = s + ∑ f : Fin 256, part A (1024 * (t.val / 11) + a.val) b.val (256 * (t.val % 11) + f.val) := by
  unfold accV
  have e1 := g_at h t a
  have e2 := u_at h t a
  have e3 := fun f => in4_at h t f b
  generalize in4 m c t = w at e3 ⊢
  pointwise [k0_pay8]
  rw [hs]
  refine congrArg (s + ·) (Finset.sum_congr rfl fun f _ => ?_)
  simp only [e1, e2, e3]
  rfl

/-- The running sum after a point: the hidden columns so far. -/
theorem accAt_at : ∀ (n : ℕ) (hn : n < cfg0.N) (a b : Fin 1024), accAt m c n hn (ix2 a b)
    = ∑ f ∈ Finset.range (256 * (n % 11 + 1)), part A (1024 * (n / 11) + a.val) b.val f
  | n, hn, a, b => by
    by_cases h0 : n % 11 = 0
    · rw [accAt_first m c ⟨n, hn⟩ h0]
      refine (accV_at h ⟨n, hn⟩ _ a b 0 ?_).trans ?_
      · pointwise [k0_pay2]
        try rfl
      · rw [sum_tiles]; simp [h0]
    · rw [accAt_next m c ⟨n, hn⟩ h0]
      have hp : n - 1 < cfg0.N := Nat.lt_of_le_of_lt (Nat.sub_le _ _) hn
      refine (accV_at h ⟨n, hn⟩ _ a b _ (accAt_at (n - 1) hp a b)).trans ?_
      have e1 : (n - 1) % 11 + 1 = n % 11 := by omega
      have e2 : (n - 1) / 11 = n / 11 := by omega
      rw [e1, e2, sum_tiles]

/-- The half-layer's result on a row tile, at the tile's last point. -/
theorem yV_at (t : Fin cfg0.N) (ht : t.val % 11 = 10) (a b : Fin 1024) :
    yV (in0 m c t) (accAt m c t.val t.isLt) (ix2 a b) = y A (1024 * (t.val / 11) + a.val) b.val := by
  unfold yV
  have e0 := in0_at h t
  have e1 := accAt_at h t.val t.isLt
  generalize in0 m c t = v at e0 ⊢
  generalize accAt m c t.val t.isLt = w at e1 ⊢
  pointwise [k0_pay9]
  rw [e0, e1, ht]
  rfl

end Cert.Kernel5Ideal.Fwd
-- ==== Proof.FwdOut.lean ====
/- The result arrays of the feed-forward forward call. -/
module

public import proofs.«01_k».proof.Proof.FwdVal

@[expose] public section

set_option maxRecDepth 16384

noncomputable section

namespace Cert.Kernel5Ideal.Fwd

open Cert.Kernel5Ideal Cert.Kernel5Ideal.Gen
open Cert.Fwd Cert.Norm
open Idealize.ShloMosaic Idealize.ShloMosaic.TcCoe Idealize.ShloMosaic.Tactic

variable {m : (ℓ : Loc nD τ sig) → Buf (Elt Ideal) ℓ} {c : Dev nD} {A : Args} (h : Reads m c A)

/-- The half-layer's result. -/
def yArr (A : Args) : S4096x1024.Idx → EReal := fun i => y A (i 0).val (i 1).val
/-- The two products, in tiles of 256 gate columns and 256 up columns. -/
def guArr (A : Args) : S4096x5632.Idx → EReal := fun i => gu A (i 0).val (i 1).val
/-- The normalised input. -/
def xnArr (A : Args) : S4096x1024.Idx → EReal := fun i => rms A.x A.gn (i 0).val (i 1).val

include h

/-- The array of the half-layer's result. -/
theorem final5 : (dats m 0 c).arrAt 5 cfg0.N = yArr A := by
  refine (dats m 0 c).arrAt_eq_of_covers 5 _ (by decide +kernel) fun t hf y => ?_
  blk_simp
  rw [after5]
  have e := yV_at h t ((flush0_5 t).mp hf) (y 0) (y 1)
  rw [ix2_eta] at e
  refine e.trans ?_
  unfold yArr
  blk_simp [idx t]
  rw [Nat.mul_comm]

/-- The array of the two products. -/
theorem final6 : (dats m 0 c).arrAt 6 cfg0.N = guArr A := by
  refine (dats m 0 c).arrAt_eq_of_covers 6 _ (by decide +kernel) fun t hf y => ?_
  blk_simp
  rw [after6]
  have e := guV_at h t (y 0) (y 1)
  rw [ix2_eta] at e
  refine e.trans ?_
  unfold guArr gu
  blk_simp [idx t]
  have hy : (y 1).val < 512 := (y 1).isLt
  have e1 : (t.val % 11 * 512 + (y 1).val) % 512 = (y 1).val := by omega
  have e2 : (t.val % 11 * 512 + (y 1).val) / 512 = t.val % 11 := by omega
  rw [e1, e2, Nat.mul_comm (t.val / 11)]

/-- The array of the normalised input. -/
theorem final7 : (dats m 0 c).arrAt 7 cfg0.N = xnArr A := by
  refine (dats m 0 c).arrAt_eq_of_covers 7 _ (by decide +kernel) fun t hf y => ?_
  blk_simp
  rw [after7]
  have e := xnAt_at h t (y 0) (y 1)
  rw [ix2_eta] at e
  refine e.trans ?_
  unfold xnArr
  blk_simp [idx t]
  rw [Nat.mul_comm]

end Cert.Kernel5Ideal.Fwd
-- ==== Proof.FwdRef.lean ====
/- The half-layer's forward values as the reference computes them. -/
module

public import proofs.«01_k».proof.Proof.FwdSpec
public import proofs.«01_k».proof.Proof.Gen.Reference5Ideal.Read
public import Idealize.ShloMosaic.Lib.Pipeline.ValueKit

@[expose] public section

set_option maxRecDepth 16384

noncomputable section

namespace Cert.Reference5Ideal.Fwd

open Cert.Reference5Ideal Cert.Reference5Ideal.Gen
open Cert.Fwd Cert.Norm Cert.Reference5Ideal.Read
open Idealize.ShloMosaic Idealize.ShloMosaic.TcCoe Idealize.ShloMosaic.Tactic

/-- The arguments' entries. -/
structure Reads (x0 : FVec Ideal S4096x1024 .f32) (x1 : FVec Ideal S1x1024 .f32) (x2 : FVec Ideal S1024x5632 .f32) (x3 : FVec Ideal S2816x1024 .f32) (A : Args) : Prop where
  x : ∀ r k, x0 (ix2 r k) = A.x r.val k.val
  gn : ∀ r k, x1 (ix2 r k) = A.gn k.val
  wi : ∀ r k, x2 (ix2 r k) = A.wi r.val k.val
  wo : ∀ r k, x3 (ix2 r k) = A.wo r.val k.val

variable {x0 : FVec Ideal S4096x1024 .f32} {x1 : FVec Ideal S1x1024 .f32} {x2 : FVec Ideal S1024x5632 .f32} {x3 : FVec Ideal S2816x1024 .f32} {A : Args} (h : Reads x0 x1 x2 x3 A)
include h

/-- The normalised input. -/
theorem h_at (r : Fin 4096) (k : Fin 1024) : val_main_v11 (F := Ideal) x0 x1 (ix2 r k) = rms A.x A.gn r.val k.val := by
  pointwise [val_main_v11, val_main_v10, val_main_v9, val_main_v8, val_main_v7, val_main_v6, val_main_v5, val_main_v4, val_main_v3, val_main_v2, val_main_v1, val_main_v0, val_main_cst, val_main_cst_0, val_main_cst_1]
  simp only [h.x, h.gn]
  rfl

/-- The product with the input weights. -/
theorem z_at (r : Fin 4096) (j : Fin 5632) : val_main_v12 (F := Ideal) x0 x1 x2 (ix2 r j) = z A r.val j.val := by
  have e := h_at h r
  revert e
  generalize hv : val_main_v11 (F := Ideal) x0 x1 = v
  intro e
  pointwise [val_main_v12, hv]
  exact Finset.sum_congr rfl fun k _ => congrArg₂ (· * ·) (e k) (h.wi k j)

/-- The products in the order of the tiles. -/
theorem gu_at (r : Fin 4096) (j : Fin 5632) : val_main_v28 (F := Ideal) x0 x1 x2 (ix2 r j) = gu A r.val j.val := by
  have e := z_at h r
  revert e
  generalize hv : val_main_v12 (F := Ideal) x0 x1 x2 = v
  intro e
  pointwise [val_main_v28, val_main_v18, val_main_v17, val_main_v16, val_main_v15, val_main_v14, val_main_v13, hv]
  unfold gu
  split
  · refine (e _).trans (congrArg (z A r.val) ?_)
    dsimp only
    omega
  · refine (e _).trans (congrArg (z A r.val) ?_)
    dsimp only
    omega

/-- The gated activation. -/
theorem act_at (r : Fin 4096) (f : Fin 2816) : val_main_v23 (F := Ideal) x0 x1 x2 (ix2 r f) = act A r.val f.val := by
  have e : ∀ j, val_main_v19 (F := Ideal) x0 x1 x2 (ix2 r j) = z A r.val j.val := z_at h r
  revert e
  generalize hv : val_main_v19 (F := Ideal) x0 x1 x2 = v
  intro e
  pointwise [val_main_v23, val_main_v22, val_main_call0_v5, val_main_call0_v4, val_main_call0_cst_0, val_main_call0_v3, val_main_call0_v2, val_main_call0_cst, val_main_call0_v1, val_main_call0_v0, val_main_v21, val_main_v20, hv]
  simp only [e]
  rfl

/-- The half-layer's result. -/
theorem y_at (r : Fin 4096) (k : Fin 1024) : val_main_v27 (F := Ideal) x0 x1 x2 x3 (ix2 r k) = y A r.val k.val := by
  have e := act_at h r
  revert e
  generalize hv : val_main_v23 (F := Ideal) x0 x1 x2 = v
  intro e
  pointwise [val_main_v27, val_main_v26, val_main_v25, val_main_cst_2, val_main_v24, hv]
  unfold y
  rw [Finset.sum_range]
  exact congrArg₂ (· + ·) (h.x r k) (congrArg (_ * ·) (Finset.sum_congr rfl fun f _ => congrArg₂ (· * ·) (e f) (h.wo f k)))

/-- The normalised input, as it is returned. -/
theorem xn_at (r : Fin 4096) (k : Fin 1024) : val_main_v29 (F := Ideal) x0 x1 (ix2 r k) = rms A.x A.gn r.val k.val := h_at h r k

end Cert.Reference5Ideal.Fwd
-- ==== Proof.FwdEq.lean ====
/- The half-layer's forward call: both programs end with the same result, products and normalised input. -/
module

public import proofs.«01_k».proof.Proof.FwdOut
public import proofs.«01_k».proof.Proof.FwdRef
public import proofs.«01_k».proof.Proof.Gen.Reference5Ideal.Run
public import proofs.«01_k».proof.Defs

@[expose] public section

set_option maxRecDepth 16384

noncomputable section

namespace Cert.Kernel5Ideal.Fwd

open Cert.Fwd Cert.Norm
open Idealize.ShloMosaic Idealize.ShloMosaic.TcCoe Idealize.ShloMosaic.Tactic
open Idealize.SL.Sem

attribute [local instance] Cert.Kernel5Ideal.Gen.facts Cert.Reference5Ideal.Gen.facts

/-- The arguments' entries, by row and column numbers. -/
def argsOf (m : (ℓ : Loc Cert.Kernel5Ideal.nD Cert.Kernel5Ideal.τ Cert.Kernel5Ideal.sig) → Buf (Elt Ideal) ℓ) (c : Dev Cert.Kernel5Ideal.nD) : Args where
  x := cells (n0 := 4096) (n1 := 1024) (m ((c.tc : Thread Cert.Kernel5Ideal.nD Cert.Kernel5Ideal.τ).loc Cert.Kernel5Ideal.main_arg0))
  gn := cells (n0 := 1) (n1 := 1024) (m ((c.tc : Thread Cert.Kernel5Ideal.nD Cert.Kernel5Ideal.τ).loc Cert.Kernel5Ideal.main_arg1)) 0
  wi := cells (n0 := 1024) (n1 := 5632) (m ((c.tc : Thread Cert.Kernel5Ideal.nD Cert.Kernel5Ideal.τ).loc Cert.Kernel5Ideal.main_arg2))
  wo := cells (n0 := 2816) (n1 := 1024) (m ((c.tc : Thread Cert.Kernel5Ideal.nD Cert.Kernel5Ideal.τ).loc Cert.Kernel5Ideal.main_arg3))

theorem reads (m) (c : Dev Cert.Kernel5Ideal.nD) : Reads m c (argsOf m c) where
  x := cells_at (n0 := 4096) (n1 := 1024) _
  gn r k := by
    rw [Subsingleton.elim r 0]
    exact cells_at (n0 := 1) (n1 := 1024) _ 0 k
  wi := cells_at (n0 := 1024) (n1 := 5632) _
  wo := cells_at (n0 := 2816) (n1 := 1024) _

theorem algebraic : Cert.algebraic_Kernel5Ideal_Reference5Ideal := by
  intro m g m' g' _ hargs
  have hk := fun c => reads m c
  have hr : ∀ c : Dev Cert.Reference5Ideal.nD, Cert.Reference5Ideal.Fwd.Reads (m' (Thread.loc (nD := Cert.Reference5Ideal.nD) (τ := Cert.Reference5Ideal.τ) (c : Thread Cert.Reference5Ideal.nD Cert.Reference5Ideal.τ) Cert.Reference5Ideal.main_arg0))
      (m' (Thread.loc (nD := Cert.Reference5Ideal.nD) (τ := Cert.Reference5Ideal.τ) (c : Thread Cert.Reference5Ideal.nD Cert.Reference5Ideal.τ) Cert.Reference5Ideal.main_arg1))
      (m' (Thread.loc (nD := Cert.Reference5Ideal.nD) (τ := Cert.Reference5Ideal.τ) (c : Thread Cert.Reference5Ideal.nD Cert.Reference5Ideal.τ) Cert.Reference5Ideal.main_arg2))
      (m' (Thread.loc (nD := Cert.Reference5Ideal.nD) (τ := Cert.Reference5Ideal.τ) (c : Thread Cert.Reference5Ideal.nD Cert.Reference5Ideal.τ) Cert.Reference5Ideal.main_arg3)) (argsOf m c) := by
    intro c
    obtain ⟨e0, e1, e2, e3⟩ := hargs c
    exact ⟨fun r k => (congrFun e0 _).trans ((hk c).x r k), fun r k => (congrFun e1 _).trans ((hk c).gn r k),
      fun r k => (congrFun e2 _).trans ((hk c).wi r k), fun r k => (congrFun e3 _).trans ((hk c).wo r k)⟩
  refine ⟨fun c => yArr (argsOf m c), fun c => guArr (argsOf m c), fun c => xnArr (argsOf m c), ?_, ?_⟩
  · refine (θ_run Cert.Kernel5Ideal.defs _ _).mono (fun r h c => ?_) (θ_run_and (run_main m g) (frame m g))
    exact ⟨(h.1.out_eq c 5).trans (final5 (hk c)), (h.1.out_eq c 6).trans (final6 (hk c)), (h.1.out_eq c 7).trans (final7 (hk c)), h.2.1 c⟩
  · refine (θ_run Cert.Reference5Ideal.defs _ _).mono (fun r h c => ?_) (Cert.Reference5Ideal.Value.run m' g')
    obtain ⟨h0, h1, h2, h3⟩ := h c
    refine ⟨h0.trans ((Cert.Reference5Ideal.Read.val_main_v27_eq _ _ _ _).trans (funext fun i => ?_)),
      h1.trans ((Cert.Reference5Ideal.Read.val_main_v28_eq _ _ _).trans (funext fun i => ?_)),
      h2.trans ((Cert.Reference5Ideal.Read.val_main_v29_eq _ _).trans (funext fun i => ?_)), h3⟩
    · rw [← ix2_eta i]
      exact Cert.Reference5Ideal.Fwd.y_at (hr c) (i 0) (i 1)
    · rw [← ix2_eta i]
      exact Cert.Reference5Ideal.Fwd.gu_at (hr c) (i 0) (i 1)
    · rw [← ix2_eta i]
      exact Cert.Reference5Ideal.Fwd.xn_at (hr c) (i 0) (i 1)

end Cert.Kernel5Ideal.Fwd
-- ==== Proof.MixGrad.lean ====
/- The gradient of the mixers' output weights: both programs end with the sum over the rows of the mix times the incoming
   gradient. -/
module

public import proofs.«01_k».proof.Proof.NormSpec
public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.Pipeline.ValueKit

@[expose] public section

set_option maxRecDepth 16384

noncomputable section

namespace Cert.Kernel6Ideal.MixGrad

open Cert.Kernel6Ideal Cert.Kernel6Ideal.Gen
open Cert.Norm
open Idealize.ShloMosaic Idealize.ShloMosaic.TcCoe Idealize.ShloMosaic.Tactic
open Idealize.SL.Sem

/-- The block index of every window at a point. -/
theorem idx : ∀ t : Fin cfg0.N, win0_0.index t = ![0, t.val] ∧ win0_1.index t = ![0, 0] ∧ win0_2.index t = ![t.val, 0] :=
  (by decide +kernel : ∀ t : Fin grid0.N, _)

theorem pay (v : Vec Ideal S4096x512 .bf16) (w : Vec Ideal S4096x1024 .bf16) (j : Fin 512) (k : Fin 1024) :
    k0_pay1 (F := Ideal) v w (ix2 j k) = ∑ s : Fin 4096, v (ix2 s j) * w (ix2 s k) := by
  pointwise [k0_pay1]

variable (m : (ℓ : Loc nD τ sig) → Buf (Elt Ideal) ℓ) (c : Dev nD)

/-- The mix and the incoming gradient, by row and column numbers. -/
def mix : ℕ → ℕ → EReal := cells (n0 := 4096) (n1 := 1024) (m ((c : Thread nD τ).loc main_arg0))
def d : ℕ → ℕ → EReal := cells (n0 := 4096) (n1 := 1024) (m ((c : Thread nD τ).loc main_arg1))

/-- Point `t` loads 512 columns of the mix. -/
theorem in0 (t : Fin cfg0.N) (s : Fin 4096) (j : Fin 512) : iblk m c 0 t (ix2 s j) = mix m c s.val (512 * t.val + j.val) := by
  have ht := Nat.lt_of_lt_of_eq t.isLt N_0
  have e : iblk m c 0 t (ix2 s j) = V m c main_v0 (ix2 s ⟨512 * t.val + j.val, by omega⟩) := by
    blk_ext [iblk, idx t]
  rw [e]
  entry_read
  pointwise
  exact cells_at (n0 := 4096) (n1 := 1024) _ _ _

/-- Every point loads the whole incoming gradient. -/
theorem in1 (t : Fin cfg0.N) (s : Fin 4096) (k : Fin 1024) : iblk m c 1 t (ix2 s k) = d m c s.val k.val := by
  have e : iblk m c 1 t (ix2 s k) = V m c main_v1 (ix2 s k) := by
    blk_ext [iblk, idx t]
  rw [e]
  entry_read
  pointwise
  exact cells_at (n0 := 4096) (n1 := 1024) _ _ _

/-- What a point leaves: 512 rows of the weights' gradient. -/
theorem after2 (t : Fin cfg0.N) (j : Fin 512) (k : Fin 1024) :
    out0_2 (iblk m c 0 t) (iblk m c 1 t) (ix2 j k) = tn (mix m c) (d m c) (512 * t.val + j.val) k.val := by
  frame_out
  exact (pay _ _ j k).trans (Finset.sum_congr rfl fun s _ => congrArg₂ (· * ·) (in0 m c t s j) (in1 m c t s k))

/-- The result array. -/
def dwArr : S1024x1024.Idx → EReal := fun i => tn (mix m c) (d m c) (i 0).val (i 1).val

theorem final : (dats m 0 c).arrAt 2 cfg0.N = dwArr m c := by
  refine (dats m 0 c).arrAt_eq_of_covers 2 _ (by decide +kernel) fun t hf y => ?_
  blk_simp
  rw [after0_2]
  have e := after2 m c t (y 0) (y 1)
  rw [ix2_eta] at e
  refine e.trans ?_
  unfold dwArr
  blk_simp [idx t]
  rw [Nat.mul_comm 512]

/-- The reference's result. -/
theorem ref_at (x0 x1 : FVec Ideal Cert.Reference6Ideal.S4096x1024 .f32) (r k : Fin 1024) :
    Cert.Reference6Ideal.Read.val_main_v4 (F := Ideal) x0 x1 (ix2 r k)
      = tn (cells (n0 := 4096) (n1 := 1024) x0) (cells (n0 := 4096) (n1 := 1024) x1) r.val k.val := by
  pointwise [Cert.Reference6Ideal.Read.val_main_v4, Cert.Reference6Ideal.Read.val_main_v3, Cert.Reference6Ideal.Read.val_main_v2]
  exact Finset.sum_congr rfl fun s _ => (mul_comm _ _).trans
    (congrArg₂ (· * ·) (cells_at (n0 := 4096) (n1 := 1024) x0 s r) (cells_at (n0 := 4096) (n1 := 1024) x1 s k))

attribute [local instance] Cert.Kernel6Ideal.Gen.facts Cert.Reference6Ideal.Gen.facts

theorem algebraic : Cert.algebraic_Kernel6Ideal_Reference6Ideal := by
  intro m g m' g' _ hargs
  refine ⟨fun c => dwArr m c, ?_, ?_⟩
  · refine (θ_run Cert.Kernel6Ideal.defs _ _).mono (fun r h c => ?_) (Cert.Kernel6Ideal.Value.run_blocks m g)
    exact ⟨(h c).1.trans (final m c), (h c).2⟩
  · refine (θ_run Cert.Reference6Ideal.defs _ _).mono (fun r h c => ?_) (Cert.Reference6Ideal.Value.run m' g')
    refine ⟨(h c).1.trans ((Cert.Reference6Ideal.Read.val_main_v4_eq _ _).trans (funext fun i => ?_)), (h c).2⟩
    obtain ⟨e0, e1⟩ := hargs c
    rw [← ix2_eta i]
    exact (ref_at _ _ (i 0) (i 1)).trans (congrArg₂ (fun a b => tn (cells (n0 := 4096) (n1 := 1024) a) (cells (n0 := 4096) (n1 := 1024) b) (i 0).val (i 1).val) e0 e1)

end Cert.Kernel6Ideal.MixGrad
-- ==== Proof.EvGrad.lean ====
/- The gradient of an even mixer's input weights: both programs end with the sum over the rows of the product's gradient times
   the normalised input. -/
module

public import proofs.«01_k».proof.Proof.NormSpec
public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.Pipeline.ValueKit

@[expose] public section

set_option maxRecDepth 16384

noncomputable section

namespace Cert.Kernel7Ideal.EvGrad

open Cert.Kernel7Ideal Cert.Kernel7Ideal.Gen
open Cert.Norm
open Idealize.ShloMosaic Idealize.ShloMosaic.TcCoe Idealize.ShloMosaic.Tactic
open Idealize.SL.Sem

/-- The block index of every window at a point. -/
theorem idx : ∀ t : Fin cfg0.N, win0_0.index t = ![0, t.val] ∧ win0_1.index t = ![0, 0] ∧ win0_2.index t = ![t.val, 0] :=
  (by decide +kernel : ∀ t : Fin grid0.N, _)

theorem pay (v : Vec Ideal S4096x768 .bf16) (w : Vec Ideal S4096x1024 .bf16) (j : Fin 768) (k : Fin 1024) :
    k0_pay1 (F := Ideal) v w (ix2 j k) = ∑ s : Fin 4096, v (ix2 s j) * w (ix2 s k) := by
  pointwise [k0_pay1]

variable (m : (ℓ : Loc nD τ sig) → Buf (Elt Ideal) ℓ) (c : Dev nD)

/-- The product's gradient, the input and the gain, by row and column numbers. -/
def dp : ℕ → ℕ → EReal := cells (n0 := 4096) (n1 := 2304) (m ((c : Thread nD τ).loc main_arg0))
def x : ℕ → ℕ → EReal := cells (n0 := 4096) (n1 := 1024) (m ((c : Thread nD τ).loc main_arg1))
def g : ℕ → EReal := cells (n0 := 1) (n1 := 1024) (m ((c : Thread nD τ).loc main_arg2)) 0

/-- Point `t` loads 768 columns of the product's gradient. -/
theorem in0 (t : Fin cfg0.N) (s : Fin 4096) (j : Fin 768) : iblk m c 0 t (ix2 s j) = dp m c s.val (768 * t.val + j.val) := by
  have ht := Nat.lt_of_lt_of_eq t.isLt N_0
  have e : iblk m c 0 t (ix2 s j) = V m c main_v12 (ix2 s ⟨768 * t.val + j.val, by omega⟩) := by
    blk_ext [iblk, idx t]
  rw [e]
  entry_read
  pointwise
  exact cells_at (n0 := 4096) (n1 := 2304) _ _ _

/-- Every point loads the whole normalised input. -/
theorem in1 (t : Fin cfg0.N) (s : Fin 4096) (k : Fin 1024) : iblk m c 1 t (ix2 s k) = rms (x m c) (g m c) s.val k.val := by
  have e : iblk m c 1 t (ix2 s k) = V m c main_v13 (ix2 s k) := by
    blk_ext [iblk, idx t]
  rw [e]
  entry_read
  pointwise
  exact rms_of (fun k => cells_at (n0 := 4096) (n1 := 1024) _ s k) (fun k => cells_at (n0 := 1) (n1 := 1024) _ 0 k) k

/-- What a point leaves: 768 rows of the weights' gradient. -/
theorem after2 (t : Fin cfg0.N) (j : Fin 768) (k : Fin 1024) :
    out0_2 (iblk m c 0 t) (iblk m c 1 t) (ix2 j k) = tn (dp m c) (rms (x m c) (g m c)) (768 * t.val + j.val) k.val := by
  frame_out
  exact (pay _ _ j k).trans (Finset.sum_congr rfl fun s _ => congrArg₂ (· * ·) (in0 m c t s j) (in1 m c t s k))

/-- The result array. -/
def dwArr : S2304x1024.Idx → EReal := fun i => tn (dp m c) (rms (x m c) (g m c)) (i 0).val (i 1).val

theorem final : (dats m 0 c).arrAt 2 cfg0.N = dwArr m c := by
  refine (dats m 0 c).arrAt_eq_of_covers 2 _ (by decide +kernel) fun t hf y => ?_
  blk_simp
  rw [after0_2]
  have e := after2 m c t (y 0) (y 1)
  rw [ix2_eta] at e
  refine e.trans ?_
  unfold dwArr
  blk_simp [idx t]
  rw [Nat.mul_comm 768]

section Ref

open Cert.Reference7Ideal Cert.Reference7Ideal.Read

/-- The reference's normalised input. -/
theorem ref_h (x1 : FVec Ideal Cert.Reference7Ideal.S4096x1024 .f32) (x2 : FVec Ideal Cert.Reference7Ideal.S1x1024 .f32) (r : Fin 4096) (k : Fin 1024) :
    val_main_v11 (F := Ideal) x1 x2 (ix2 r k) = rms (cells (n0 := 4096) (n1 := 1024) x1) (cells (n0 := 1) (n1 := 1024) x2 0) r.val k.val := by
  pointwise [val_main_v11, val_main_v10, val_main_v9, val_main_v8, val_main_v7, val_main_v6, val_main_v5, val_main_v4, val_main_v3, val_main_v2, val_main_v1, val_main_v0, val_main_cst, val_main_cst_0, val_main_cst_1]
  exact rms_of (fun k => cells_at (n0 := 4096) (n1 := 1024) x1 r k) (fun k => cells_at (n0 := 1) (n1 := 1024) x2 0 k) k

/-- The reference's result. -/
theorem ref_at (x0 : FVec Ideal Cert.Reference7Ideal.S4096x2304 .f32) (x1 : FVec Ideal Cert.Reference7Ideal.S4096x1024 .f32) (x2 : FVec Ideal Cert.Reference7Ideal.S1x1024 .f32)
    (r : Fin 2304) (k : Fin 1024) : val_main_v17 (F := Ideal) x0 x1 x2 (ix2 r k)
      = tn (cells (n0 := 4096) (n1 := 2304) x0) (rms (cells (n0 := 4096) (n1 := 1024) x1) (cells (n0 := 1) (n1 := 1024) x2 0)) r.val k.val := by
  have e := fun s => ref_h x1 x2 s k
  revert e
  generalize hv : val_main_v11 (F := Ideal) x1 x2 = v
  intro e
  pointwise [val_main_v17, val_main_v16, val_main_v15, val_main_v14, hv]
  exact Finset.sum_congr rfl fun s _ => congrArg₂ (· * ·) (cells_at (n0 := 4096) (n1 := 2304) x0 s r) (e s)

end Ref

attribute [local instance] Cert.Kernel7Ideal.Gen.facts Cert.Reference7Ideal.Gen.facts

theorem algebraic : Cert.algebraic_Kernel7Ideal_Reference7Ideal := by
  intro m g0 m' g' _ hargs
  refine ⟨fun c => dwArr m c, ?_, ?_⟩
  · refine (θ_run Cert.Kernel7Ideal.defs _ _).mono (fun r h c => ?_) (Cert.Kernel7Ideal.Value.run_blocks m g0)
    exact ⟨(h c).1.trans (final m c), (h c).2⟩
  · refine (θ_run Cert.Reference7Ideal.defs _ _).mono (fun r h c => ?_) (Cert.Reference7Ideal.Value.run m' g')
    refine ⟨(h c).1.trans ((Cert.Reference7Ideal.Read.val_main_v17_eq _ _ _).trans (funext fun i => ?_)), (h c).2⟩
    obtain ⟨e0, e1, e2⟩ := hargs c
    rw [← ix2_eta i]
    exact (ref_at _ _ _ (i 0) (i 1)).trans (congr3 (fun a b v => tn (cells (n0 := 4096) (n1 := 2304) a)
      (rms (cells (n0 := 4096) (n1 := 1024) b) (cells (n0 := 1) (n1 := 1024) v 0)) (i 0).val (i 1).val) e0 e1 e2)

end Cert.Kernel7Ideal.EvGrad
-- ==== Proof.OdGrad.lean ====
/- The gradient of an odd mixer's input weights: both programs end with the sum over the rows of the product's gradient times
   the normalised input. -/
module

public import proofs.«01_k».proof.Proof.NormSpec
public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.Pipeline.ValueKit

@[expose] public section

set_option maxRecDepth 16384

noncomputable section

namespace Cert.Kernel8Ideal.OdGrad

open Cert.Kernel8Ideal Cert.Kernel8Ideal.Gen
open Cert.Norm
open Idealize.ShloMosaic Idealize.ShloMosaic.TcCoe Idealize.ShloMosaic.Tactic
open Idealize.SL.Sem

/-- The block index of every window at a point. -/
theorem idx : ∀ t : Fin cfg0.N, win0_0.index t = ![0, t.val] ∧ win0_1.index t = ![0, 0] ∧ win0_2.index t = ![(t.val + 1) % 3, 0] :=
  (by decide +kernel : ∀ t : Fin grid0.N, _)

theorem pay (v : Vec Ideal S4096x512 .bf16) (w : Vec Ideal S4096x1024 .bf16) (j : Fin 512) (k : Fin 1024) :
    k0_pay1 (F := Ideal) v w (ix2 j k) = ∑ s : Fin 4096, v (ix2 s j) * w (ix2 s k) := by
  pointwise [k0_pay1]

variable (m : (ℓ : Loc nD τ sig) → Buf (Elt Ideal) ℓ) (c : Dev nD)

/-- The product's gradient, the input and the gain, by row and column numbers. -/
def dp : ℕ → ℕ → EReal := cells (n0 := 4096) (n1 := 1536) (m ((c : Thread nD τ).loc main_arg0))
def x : ℕ → ℕ → EReal := cells (n0 := 4096) (n1 := 1024) (m ((c : Thread nD τ).loc main_arg1))
def g : ℕ → EReal := cells (n0 := 1) (n1 := 1024) (m ((c : Thread nD τ).loc main_arg2)) 0

/-- Point `t` loads 512 columns of the product's gradient: those of the two gate inputs, then the pool's, which come first. -/
theorem in0 (t : Fin cfg0.N) (s : Fin 4096) (j : Fin 512) : iblk m c 0 t (ix2 s j) = dp m c s.val (512 * ((t.val + 1) % 3) + j.val) := by
  have ht := Nat.lt_of_lt_of_eq t.isLt N_0
  have e : iblk m c 0 t (ix2 s j) = V m c main_v15 (ix2 s ⟨512 * t.val + j.val, by omega⟩) := by
    blk_ext [iblk, idx t]
  rw [e]
  entry_read
  pointwise
  split
  · refine (cells_at (n0 := 4096) (n1 := 1536) _ _ _).trans (congrArg (dp m c s.val) ?_)
    dsimp only
    omega
  · refine (cells_at (n0 := 4096) (n1 := 1536) _ _ _).trans (congrArg (dp m c s.val) ?_)
    dsimp only
    omega

/-- Every point loads the whole normalised input. -/
theorem in1 (t : Fin cfg0.N) (s : Fin 4096) (k : Fin 1024) : iblk m c 1 t (ix2 s k) = rms (x m c) (g m c) s.val k.val := by
  have e : iblk m c 1 t (ix2 s k) = V m c main_v16 (ix2 s k) := by
    blk_ext [iblk, idx t]
  rw [e]
  entry_read
  pointwise
  exact rms_of (fun k => cells_at (n0 := 4096) (n1 := 1024) _ s k) (fun k => cells_at (n0 := 1) (n1 := 1024) _ 0 k) k

/-- What a point leaves: 512 rows of the weights' gradient. -/
theorem after2 (t : Fin cfg0.N) (j : Fin 512) (k : Fin 1024) :
    out0_2 (iblk m c 0 t) (iblk m c 1 t) (ix2 j k) = tn (dp m c) (rms (x m c) (g m c)) (512 * ((t.val + 1) % 3) + j.val) k.val := by
  frame_out
  exact (pay _ _ j k).trans (Finset.sum_congr rfl fun s _ => congrArg₂ (· * ·) (in0 m c t s j) (in1 m c t s k))

/-- The result array. -/
def dwArr : S1536x1024.Idx → EReal := fun i => tn (dp m c) (rms (x m c) (g m c)) (i 0).val (i 1).val

theorem final : (dats m 0 c).arrAt 2 cfg0.N = dwArr m c := by
  refine (dats m 0 c).arrAt_eq_of_covers 2 _ (by decide +kernel) fun t hf y => ?_
  blk_simp
  rw [after0_2]
  have e := after2 m c t (y 0) (y 1)
  rw [ix2_eta] at e
  refine e.trans ?_
  unfold dwArr
  blk_simp [idx t]
  rw [Nat.mul_comm 512]

section Ref

open Cert.Reference8Ideal Cert.Reference8Ideal.Read

/-- The reference's normalised input. -/
theorem ref_h (x1 : FVec Ideal Cert.Reference8Ideal.S4096x1024 .f32) (x2 : FVec Ideal Cert.Reference8Ideal.S1x1024 .f32) (r : Fin 4096) (k : Fin 1024) :
    val_main_v11 (F := Ideal) x1 x2 (ix2 r k) = rms (cells (n0 := 4096) (n1 := 1024) x1) (cells (n0 := 1) (n1 := 1024) x2 0) r.val k.val := by
  pointwise [val_main_v11, val_main_v10, val_main_v9, val_main_v8, val_main_v7, val_main_v6, val_main_v5, val_main_v4, val_main_v3, val_main_v2, val_main_v1, val_main_v0, val_main_cst, val_main_cst_0, val_main_cst_1]
  exact rms_of (fun k => cells_at (n0 := 4096) (n1 := 1024) x1 r k) (fun k => cells_at (n0 := 1) (n1 := 1024) x2 0 k) k

/-- The reference's result. -/
theorem ref_at (x0 : FVec Ideal Cert.Reference8Ideal.S4096x1536 .f32) (x1 : FVec Ideal Cert.Reference8Ideal.S4096x1024 .f32) (x2 : FVec Ideal Cert.Reference8Ideal.S1x1024 .f32)
    (r : Fin 1536) (k : Fin 1024) : val_main_v17 (F := Ideal) x0 x1 x2 (ix2 r k)
      = tn (cells (n0 := 4096) (n1 := 1536) x0) (rms (cells (n0 := 4096) (n1 := 1024) x1) (cells (n0 := 1) (n1 := 1024) x2 0)) r.val k.val := by
  have e := fun s => ref_h x1 x2 s k
  revert e
  generalize hv : val_main_v11 (F := Ideal) x1 x2 = v
  intro e
  pointwise [val_main_v17, val_main_v16, val_main_v15, val_main_v14, hv]
  exact Finset.sum_congr rfl fun s _ => congrArg₂ (· * ·) (cells_at (n0 := 4096) (n1 := 1536) x0 s r) (e s)

end Ref

attribute [local instance] Cert.Kernel8Ideal.Gen.facts Cert.Reference8Ideal.Gen.facts

theorem algebraic : Cert.algebraic_Kernel8Ideal_Reference8Ideal := by
  intro m g0 m' g' _ hargs
  refine ⟨fun c => dwArr m c, ?_, ?_⟩
  · refine (θ_run Cert.Kernel8Ideal.defs _ _).mono (fun r h c => ?_) (Cert.Kernel8Ideal.Value.run_blocks m g0)
    exact ⟨(h c).1.trans (final m c), (h c).2⟩
  · refine (θ_run Cert.Reference8Ideal.defs _ _).mono (fun r h c => ?_) (Cert.Reference8Ideal.Value.run m' g')
    refine ⟨(h c).1.trans ((Cert.Reference8Ideal.Read.val_main_v17_eq _ _ _).trans (funext fun i => ?_)), (h c).2⟩
    obtain ⟨e0, e1, e2⟩ := hargs c
    rw [← ix2_eta i]
    exact (ref_at _ _ _ (i 0) (i 1)).trans (congr3 (fun a b v => tn (cells (n0 := 4096) (n1 := 1536) a)
      (rms (cells (n0 := 4096) (n1 := 1024) b) (cells (n0 := 1) (n1 := 1024) v 0)) (i 0).val (i 1).val) e0 e1 e2)

end Cert.Kernel8Ideal.OdGrad
-- ==== Proof.MixBwd.lean ====
/- The gradient of the mix: both programs end with the incoming gradient times the output weights, transposed, and with the
   incoming gradient. -/
module

public import proofs.«01_k».proof.Proof.NormSpec
public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.Pipeline.ValueKit

@[expose] public section

set_option maxRecDepth 16384

noncomputable section

namespace Cert.Kernel9Ideal.MixBwd

open Cert.Kernel9Ideal Cert.Kernel9Ideal.Gen
open Cert.Norm
open Idealize.ShloMosaic Idealize.ShloMosaic.TcCoe Idealize.ShloMosaic.Tactic
open Idealize.SL.Sem

/-- The block index of every window at a point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem pay1 (v : Vec Ideal S512x1024 .f32) (j : Fin 512) (k : Fin 1024) : k0_pay1 (F := Ideal) v (ix2 j k) = v (ix2 j k) := by
  pointwise [k0_pay1]
theorem pay2 (v : Vec Ideal S512x1024 .f32) (w : Vec Ideal S1024x1024 .bf16) (j : Fin 512) (k : Fin 1024) :
    k0_pay2 (F := Ideal) v w (ix2 j k) = ∑ l : Fin 1024, v (ix2 j l) * w (ix2 k l) := by
  pointwise [k0_pay2, k0_pay1]

/-- A product summed over the columns of both arrays. -/
def nt (a b : ℕ → ℕ → EReal) (r k : ℕ) : EReal := ∑ l : Fin 1024, a r l.val * b k l.val

variable (m : (ℓ : Loc nD τ sig) → Buf (Elt Ideal) ℓ) (c : Dev nD)

/-- The incoming gradient and the weights, by row and column numbers. -/
def d : ℕ → ℕ → EReal := cells (n0 := 4096) (n1 := 1024) (m ((c : Thread nD τ).loc main_arg0))
def w : ℕ → ℕ → EReal := cells (n0 := 1024) (n1 := 1024) (m ((c : Thread nD τ).loc main_arg1))

/-- Point `t` loads 512 rows of the incoming gradient. -/
theorem in0 (t : Fin cfg0.N) (j : Fin 512) (k : Fin 1024) : iblk m c 0 t (ix2 j k) = d m c (512 * t.val + j.val) k.val := by
  have ht := Nat.lt_of_lt_of_eq t.isLt N_0
  have e : iblk m c 0 t (ix2 j k) = m ((c : Thread nD τ).loc main_arg0) (ix2 ⟨512 * t.val + j.val, by omega⟩ k) := by
    blk_ext [iblk, V, idx t]
  exact e.trans (cells_at (n0 := 4096) (n1 := 1024) _ _ _)

/-- Every point loads the whole weights. -/
theorem in1 (t : Fin cfg0.N) (j k : Fin 1024) : iblk m c 1 t (ix2 j k) = w m c j.val k.val := by
  have e : iblk m c 1 t (ix2 j k) = V m c main_v0 (ix2 j k) := by
    blk_ext [iblk, idx t]
  rw [e]
  entry_read
  pointwise
  exact cells_at (n0 := 1024) (n1 := 1024) _ _ _

theorem after2 (t : Fin cfg0.N) (j : Fin 512) (k : Fin 1024) :
    out0_2 (iblk m c 0 t) (iblk m c 1 t) (ix2 j k) = nt (d m c) (w m c) (512 * t.val + j.val) k.val := by
  frame_out
  exact (pay2 _ _ j k).trans (Finset.sum_congr rfl fun l _ => congrArg₂ (· * ·) (in0 m c t j l) (in1 m c t k l))
theorem after3 (t : Fin cfg0.N) (j : Fin 512) (k : Fin 1024) :
    out0_3 (iblk m c 0 t) (iblk m c 1 t) (ix2 j k) = d m c (512 * t.val + j.val) k.val := by
  frame_out
  exact (pay1 _ j k).trans (in0 m c t j k)

/-- The result arrays. -/
def dmArr : S4096x1024.Idx → EReal := fun i => nt (d m c) (w m c) (i 0).val (i 1).val
def dArr : S4096x1024.Idx → EReal := fun i => d m c (i 0).val (i 1).val

theorem final2 : (dats m 0 c).arrAt 2 cfg0.N = dmArr m c := by
  refine (dats m 0 c).arrAt_eq_of_covers 2 _ (by decide +kernel) fun t hf y => ?_
  blk_simp
  rw [after0_2]
  have e := after2 m c t (y 0) (y 1)
  rw [ix2_eta] at e
  refine e.trans ?_
  unfold dmArr
  blk_simp [idx t]
  rw [Nat.mul_comm 512]
theorem final3 : (dats m 0 c).arrAt 3 cfg0.N = dArr m c := by
  refine (dats m 0 c).arrAt_eq_of_covers 3 _ (by decide +kernel) fun t hf y => ?_
  blk_simp
  rw [after0_3]
  have e := after3 m c t (y 0) (y 1)
  rw [ix2_eta] at e
  refine e.trans ?_
  unfold dArr
  blk_simp [idx t]
  rw [Nat.mul_comm 512]

/-- The reference's results. -/
theorem ref_dm (x0 : FVec Ideal Cert.Reference9Ideal.S4096x1024 .f32) (x1 : FVec Ideal Cert.Reference9Ideal.S1024x1024 .f32) (r : Fin 4096) (k : Fin 1024) :
    Cert.Reference9Ideal.Read.val_main_v3 (F := Ideal) x0 x1 (ix2 r k)
      = nt (cells (n0 := 4096) (n1 := 1024) x0) (cells (n0 := 1024) (n1 := 1024) x1) r.val k.val := by
  pointwise [Cert.Reference9Ideal.Read.val_main_v3, Cert.Reference9Ideal.Read.val_main_v2]
  exact Finset.sum_congr rfl fun s _ =>
    (congrArg₂ (· * ·) (cells_at (n0 := 4096) (n1 := 1024) x0 r s) (cells_at (n0 := 1024) (n1 := 1024) x1 k s))
theorem ref_d (x0 : FVec Ideal Cert.Reference9Ideal.S4096x1024 .f32) (r : Fin 4096) (k : Fin 1024) :
    Cert.Reference9Ideal.Read.val_main_v4 (F := Ideal) x0 (ix2 r k) = cells (n0 := 4096) (n1 := 1024) x0 r.val k.val := by
  pointwise [Cert.Reference9Ideal.Read.val_main_v4]
  exact cells_at (n0 := 4096) (n1 := 1024) x0 r k

attribute [local instance] Cert.Kernel9Ideal.Gen.facts Cert.Reference9Ideal.Gen.facts

theorem algebraic : Cert.algebraic_Kernel9Ideal_Reference9Ideal := by
  intro m g m' g' _ hargs
  refine ⟨fun c => dmArr m c, fun c => dArr m c, ?_, ?_⟩
  · refine (θ_run Cert.Kernel9Ideal.defs _ _).mono (fun r h c => ?_) (Cert.Kernel9Ideal.Value.run_blocks m g)
    exact ⟨(h c).1.trans (final2 m c), (h c).2.1.trans (final3 m c), (h c).2.2⟩
  · refine (θ_run Cert.Reference9Ideal.defs _ _).mono (fun r h c => ?_) (Cert.Reference9Ideal.Value.run m' g')
    obtain ⟨e0, e1⟩ := hargs c
    refine ⟨(h c).1.trans ((Cert.Reference9Ideal.Read.val_main_v3_eq _ _).trans (funext fun i => ?_)),
      (h c).2.1.trans ((Cert.Reference9Ideal.Read.val_main_v4_eq _).trans (funext fun i => ?_)), (h c).2.2⟩
    · rw [← ix2_eta i]
      exact (ref_dm _ _ (i 0) (i 1)).trans (congrArg₂ (fun a b => nt (cells (n0 := 4096) (n1 := 1024) a) (cells (n0 := 1024) (n1 := 1024) b) (i 0).val (i 1).val) e0 e1)
    · rw [← ix2_eta i]
      exact (ref_d _ (i 0) (i 1)).trans (congrArg (fun a => cells (n0 := 4096) (n1 := 1024) a (i 0).val (i 1).val) e0)

end Cert.Kernel9Ideal.MixBwd
-- ==== Proof.NormGrad.lean ====
/- The gradient through a half-layer's norm and its input product, over the reals, by row and column numbers. -/
module

public import proofs.«01_k».proof.Proof.Reals

@[expose] public section

noncomputable section

namespace Cert.NormGrad

open Cert.Reals

/-- The call's arguments: the product's gradient with its width, the residual's gradient, the input, the gain, the weights. -/
structure Args where
  n : ℕ
  dp : ℕ → ℕ → ℝ
  ct : ℕ → ℕ → ℝ
  x : ℕ → ℕ → ℝ
  gn : ℕ → ℝ
  w : ℕ → ℕ → ℝ

variable (A : Args)

/-- The mean square of a row of the input, with the small number added. -/
def ms (r : ℕ) : ℝ := (∑ k : Fin 1024, A.x r k * A.x r k) / 1024 + eps
/-- Its reciprocal root. -/
def rs (r : ℕ) : ℝ := (Real.sqrt (ms A r))⁻¹
/-- The normalised input, before the gain. -/
def xh (r k : ℕ) : ℝ := A.x r k * rs A r
/-- The normalised input's cotangent. -/
def dy (r k : ℕ) : ℝ := ∑ j ∈ Finset.range A.n, A.dp r j * A.w k j
/-- The gain's gradient. -/
def dgn (k : ℕ) : ℝ := ∑ r ∈ Finset.range 4096, dy A r k * xh A r k
/-- The input's gradient. -/
def dx (r k : ℕ) : ℝ := A.ct r k + rs A r * (dy A r k * A.gn k - xh A r k * ((∑ l : Fin 1024, dy A r l * A.gn l * xh A r l) / 1024))

theorem ms_pos (r : ℕ) : 0 < ms A r := by
  have h : 0 ≤ ∑ k : Fin 1024, A.x r k * A.x r k := Finset.sum_nonneg fun k _ => mul_self_nonneg _
  have := eps_pos
  unfold ms; positivity

/-- The reciprocal root of the mean square, as the programs compute it. -/
theorem rs_eq (r : ℕ) :
    Idealize.ShloMosaic.Ideal.rsqrt (((∑ k : Fin 1024, A.x r k * A.x r k) / 1024 + eps : ℝ) : EReal) = ((rs A r : ℝ) : EReal) :=
  rsqrt_real _ (ms_pos A r)

/-- The input's gradient, as the derivative of each operation in turn: the root's is minus half the root over the mean square. -/
theorem dx_chain (r k : ℕ) :
    A.ct r k + dy A r k * A.gn k * rs A r
      + A.x r k * ((∑ l : Fin 1024, A.x r l * (dy A r l * A.gn l)) * (-1 / 2 * (rs A r / ms A r)) / 1024)
      + (∑ l : Fin 1024, A.x r l * (dy A r l * A.gn l)) * (-1 / 2 * (rs A r / ms A r)) / 1024 * A.x r k = dx A r k := by
  have hp := ms_pos A r
  have h2 : rs A r * rs A r * ms A r = 1 := by
    unfold rs
    rw [← mul_inv, Real.mul_self_sqrt hp.le, inv_mul_cancel₀ hp.ne']
  have h3 : rs A r / ms A r = rs A r * rs A r * rs A r := by
    rw [div_eq_iff hp.ne']
    calc rs A r = rs A r * (rs A r * rs A r * ms A r) := by rw [h2, mul_one]
      _ = _ := by ring
  have hS : ∑ l : Fin 1024, dy A r l * A.gn l * xh A r l = rs A r * ∑ l : Fin 1024, A.x r l * (dy A r l * A.gn l) := by
    rw [Finset.mul_sum]
    exact Finset.sum_congr rfl fun l _ => by unfold xh; ring
  unfold dx
  rw [hS, h3]
  unfold xh
  ring

end Cert.NormGrad
-- ==== Proof.EvIn.lean ====
/- The call that takes an even mixer's gradient through its input product and the norm before it. -/
module

public import proofs.«01_k».proof.Proof.NormGrad
public import proofs.«01_k».proof.Proof.Finite
public import proofs.«01_k».proof.Proof.Gen.Kernel10Ideal.Value
public import proofs.«01_k».proof.Defs
public import Idealize.ShloMosaic.Lib.Pipeline.ValueKit

@[expose] public section

set_option maxRecDepth 16384

noncomputable section

namespace Cert.Kernel10Ideal.EvIn

open Cert.Kernel10Ideal Cert.Kernel10Ideal.Gen
open Cert.NormGrad Cert.Reals
open Idealize.ShloMosaic Idealize.ShloMosaic.TcCoe Idealize.ShloMosaic.Tactic

/-- The block index of every window at a point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The arguments' entries are `A`. -/
structure Reads (m : (ℓ : Loc nD τ sig) → Buf (Elt Ideal) ℓ) (c : Dev nD) (A : Args) : Prop where
  n : A.n = 2304
  dp : ∀ r k, m ((c : Thread nD τ).loc main_arg0) (ix2 r k) = ((A.dp r.val k.val : ℝ) : EReal)
  ct : ∀ r k, m ((c : Thread nD τ).loc main_arg1) (ix2 r k) = ((A.ct r.val k.val : ℝ) : EReal)
  x : ∀ r k, m ((c : Thread nD τ).loc main_arg2) (ix2 r k) = ((A.x r.val k.val : ℝ) : EReal)
  gn : ∀ k, m ((c : Thread nD τ).loc main_arg3) (ix2 0 k) = ((A.gn k.val : ℝ) : EReal)
  w : ∀ r k, m ((c : Thread nD τ).loc main_arg4) (ix2 r k) = ((A.w r.val k.val : ℝ) : EReal)

variable {m : (ℓ : Loc nD τ sig) → Buf (Elt Ideal) ℓ} {c : Dev nD} {A : Args} (h : Reads m c A) (t : Fin cfg0.N)
include h

theorem in0 (j : Fin 512) (k : Fin 2304) : iblk m c 0 t (ix2 j k) = ((A.dp (512 * t.val + j.val) k.val : ℝ) : EReal) := by
  have ht := Nat.lt_of_lt_of_eq t.isLt N_0
  have e : iblk m c 0 t (ix2 j k) = V m c main_v0 (ix2 ⟨512 * t.val + j.val, by omega⟩ k) := by
    blk_ext [iblk, idx t]
  rw [e]
  entry_read
  pointwise
  exact h.dp _ _

theorem in1 (j : Fin 2304) (k : Fin 1024) : iblk m c 1 t (ix2 j k) = ((A.w k.val j.val : ℝ) : EReal) := by
  have e : iblk m c 1 t (ix2 j k) = V m c main_v2 (ix2 j k) := by
    blk_ext [iblk, idx t]
  rw [e]
  entry_read
  pointwise
  exact h.w _ _

theorem in2 (j : Fin 512) (k : Fin 1024) : iblk m c 2 t (ix2 j k) = ((A.x (512 * t.val + j.val) k.val : ℝ) : EReal) := by
  have ht := Nat.lt_of_lt_of_eq t.isLt N_0
  have e : iblk m c 2 t (ix2 j k) = m ((c : Thread nD τ).loc main_arg2) (ix2 ⟨512 * t.val + j.val, by omega⟩ k) := by
    blk_ext [iblk, V, idx t]
  exact e.trans (h.x _ _)

theorem in3 (k : Fin 1024) : iblk m c 3 t (ix2 0 k) = ((A.gn k.val : ℝ) : EReal) := by
  have e : iblk m c 3 t (ix2 0 k) = m ((c : Thread nD τ).loc main_arg3) (ix2 0 k) := by
    blk_ext [iblk, V, idx t]
  exact e.trans (h.gn _)

theorem in4 (j : Fin 512) (k : Fin 1024) : iblk m c 4 t (ix2 j k) = ((A.ct (512 * t.val + j.val) k.val : ℝ) : EReal) := by
  have ht := Nat.lt_of_lt_of_eq t.isLt N_0
  have e : iblk m c 4 t (ix2 j k) = m ((c : Thread nD τ).loc main_arg1) (ix2 ⟨512 * t.val + j.val, by omega⟩ k) := by
    blk_ext [iblk, V, idx t]
  exact e.trans (h.ct _ _)

/-- The normalised input's cotangent on the block. -/
theorem dy_blk (j : Fin 512) (k : Fin 1024) : k0_pay3 (F := Ideal) (iblk m c 0 t) (iblk m c 1 t) (ix2 j k) = ((dy A (512 * t.val + j.val) k.val : ℝ) : EReal) := by
  have e0 := in0 h t
  have e1 := in1 h t
  generalize iblk m c 0 t = a at e0 ⊢
  generalize iblk m c 1 t = b at e1 ⊢
  pointwise [k0_pay3]
  simp only [e0, e1, ← EReal.coe_mul, coe_sum]
  congr 1
  unfold dy
  rw [h.n, Finset.sum_range]

theorem rs_blk (j : Fin 512) (z : Fin 1) : k0_pay4 (F := Ideal) (iblk m c 2 t) (ix2 j z) = ((rs A (512 * t.val + j.val) : ℝ) : EReal) := by
  have e := in2 h t
  generalize iblk m c 2 t = a at e ⊢
  pointwise [k0_pay4]
  simp only [e, width, eps_eq, ← EReal.coe_mul, ← EReal.coe_add, coe_sum, div_width, rs_eq A]

theorem xh_blk (j : Fin 512) (k : Fin 1024) : k0_pay5 (F := Ideal) (iblk m c 2 t) (ix2 j k) = ((xh A (512 * t.val + j.val) k.val : ℝ) : EReal) := by
  have e := in2 h t
  have e' := rs_blk h t
  generalize iblk m c 2 t = a at e e' ⊢
  revert e'
  generalize hp : k0_pay4 (F := Ideal) a = p
  intro e'
  pointwise [k0_pay5, hp]
  simp only [e, e', ← EReal.coe_mul]
  rfl

/-- The input's gradient on the block. -/
theorem dx_blk (j : Fin 512) (k : Fin 1024) :
    k0_pay6 (F := Ideal) (iblk m c 0 t) (iblk m c 1 t) (iblk m c 2 t) (iblk m c 3 t) (iblk m c 4 t) (ix2 j k) = ((dx A (512 * t.val + j.val) k.val : ℝ) : EReal) := by
  have e3 := in3 h t
  have e4 := in4 h t
  have ed := dy_blk h t
  have er := rs_blk h t
  have ex := xh_blk h t
  generalize iblk m c 0 t = a at ed ⊢
  generalize iblk m c 1 t = b at ed ⊢
  generalize iblk m c 2 t = x at er ex ⊢
  generalize iblk m c 3 t = g at e3 ⊢
  generalize iblk m c 4 t = d at e4 ⊢
  revert ed er ex
  generalize hp : k0_pay3 (F := Ideal) a b = p
  generalize hq : k0_pay4 (F := Ideal) x = q
  generalize hy : k0_pay5 (F := Ideal) x = y
  intro ed er ex
  pointwise [k0_pay6, hp, hq, hy]
  simp only [e3, e4, ed, er, ex, width, ← EReal.coe_mul, ← EReal.coe_add, coe_sum, div_width, ← EReal.coe_sub]
  rfl

/-- The block's part of the gain's gradient. -/
theorem dgn_blk (z : Fin 1) (k : Fin 1024) : k0_pay7 (F := Ideal) (iblk m c 0 t) (iblk m c 1 t) (iblk m c 2 t) (ix2 z k)
    = ((∑ j : Fin 512, dy A (512 * t.val + j.val) k.val * xh A (512 * t.val + j.val) k.val : ℝ) : EReal) := by
  have ed := dy_blk h t
  have ex := xh_blk h t
  generalize iblk m c 0 t = a at ed ⊢
  generalize iblk m c 1 t = b at ed ⊢
  generalize iblk m c 2 t = x at ex ⊢
  revert ed ex
  generalize hp : k0_pay3 (F := Ideal) a b = p
  generalize hy : k0_pay5 (F := Ideal) x = y
  intro ed ex
  pointwise [k0_pay7, hp, hy]
  simp only [ed, ex, ← EReal.coe_mul, coe_sum]

/-- What a point leaves of the input's gradient. -/
theorem after5 (j : Fin 512) (k : Fin 1024) : (outsAt0 m c t.val t.isLt).1 (ix2 j k) = ((dx A (512 * t.val + j.val) k.val : ℝ) : EReal) := by
  by_cases h0 : t.val % 8 = 0
  · rw [outsAt0_A m c t h0]
    frame_out
    exact dx_blk h t j k
  · rw [outsAt0_B m c t h0]
    frame_out
    exact dx_blk h t j k

omit t in
/-- What a point leaves of the gain's gradient: the row tiles so far. -/
theorem after6 : ∀ (n : ℕ) (hn : n < cfg0.N) (z : Fin 1) (k : Fin 1024), (outsAt0 m c n hn).2 (ix2 z k)
    = ((∑ r ∈ Finset.range (512 * (n + 1)), dy A r k.val * xh A r k.val : ℝ) : EReal)
  | n, hn, z, k => by
    have e := dgn_blk h ⟨n, hn⟩ z k
    have hN := Nat.lt_of_lt_of_eq hn N_0
    by_cases h0 : n % 8 = 0
    · rw [outsAt0_A m c ⟨n, hn⟩ h0]
      frame_out
      revert e
      generalize k0_pay7 (F := Ideal) _ _ _ = v
      intro e
      pointwise [k0_pay2, k0_pay1]
      rw [e]
      have hz : n = 0 := by omega
      subst hz
      rw [sum_tile]
      simp
    · have e0 := after6 (n - 1) (Nat.lt_of_le_of_lt (Nat.sub_le _ _) hn) z k
      rw [outsAt0_B m c ⟨n, hn⟩ h0]
      frame_out
      revert e e0
      generalize k0_pay7 (F := Ideal) _ _ _ = v
      generalize (outsAt0 m c (n - 1) _).2 = u
      intro e e0
      pointwise [k0_pay2]
      rw [e, e0, ← EReal.coe_add, Nat.sub_add_cancel (by omega), sum_tile]

/-- The result arrays. -/
def dxArr (A : Args) : S4096x1024.Idx → EReal := fun i => ((dx A (i 0).val (i 1).val : ℝ) : EReal)
def dgnArr (A : Args) : S1x1024.Idx → EReal := fun i => ((dgn A (i 1).val : ℝ) : EReal)

omit t in
theorem final5 : (dats m 0 c).arrAt 5 cfg0.N = dxArr A := by
  refine (dats m 0 c).arrAt_eq_of_covers 5 _ (by decide +kernel) fun t hf y => ?_
  blk_simp
  rw [after0_5]
  have e := after5 h t (y 0) (y 1)
  rw [ix2_eta] at e
  refine e.trans ?_
  unfold dxArr
  blk_simp [idx t]
  rw [Nat.mul_comm 512]

omit t in
theorem final6 : (dats m 0 c).arrAt 6 cfg0.N = dgnArr A := by
  refine (dats m 0 c).arrAt_eq_of_covers 6 _ (by decide +kernel) fun t hf y => ?_
  blk_simp
  rw [after0_6]
  have ht := Nat.lt_of_lt_of_eq t.isLt N_0
  have h1 := (flush0_6 t).mp hf
  have e := after6 h t.val t.isLt (y 0) (y 1)
  rw [ix2_eta] at e
  refine e.trans ?_
  unfold dgnArr dgn
  blk_simp [idx t]
  rw [show t.val = 7 by omega]

end Cert.Kernel10Ideal.EvIn
-- ==== Proof.EvInEq.lean ====
/- The reference of the even mixer's input gradient over the reals, and the equality of the two programs. -/
module

public import proofs.«01_k».proof.Proof.EvIn
public import proofs.«01_k».proof.Proof.Gen.Reference10Ideal.Run
public import proofs.«01_k».proof.Proof.Gen.Reference10Ideal.Read

@[expose] public section

set_option maxRecDepth 16384

noncomputable section

namespace Cert.Reference10Ideal.EvIn

open Cert.Reference10Ideal Cert.Reference10Ideal.Read
open Cert.NormGrad Cert.Reals
open Idealize.ShloMosaic Idealize.ShloMosaic.TcCoe Idealize.ShloMosaic.Tactic

/-- The reference's arguments are the reals `A`. -/
structure Reads (x0 : FVec Ideal S4096x2304 .f32) (x1 x2 : FVec Ideal S4096x1024 .f32) (x3 : FVec Ideal S1x1024 .f32) (x4 : FVec Ideal S1024x2304 .f32) (A : Args) : Prop where
  n : A.n = 2304
  dp : ∀ r k, x0 (ix2 r k) = ((A.dp r.val k.val : ℝ) : EReal)
  ct : ∀ r k, x1 (ix2 r k) = ((A.ct r.val k.val : ℝ) : EReal)
  x : ∀ r k, x2 (ix2 r k) = ((A.x r.val k.val : ℝ) : EReal)
  gn : ∀ k, x3 (ix2 0 k) = ((A.gn k.val : ℝ) : EReal)
  w : ∀ r k, x4 (ix2 r k) = ((A.w r.val k.val : ℝ) : EReal)

variable {x0 : FVec Ideal S4096x2304 .f32} {x1 x2 : FVec Ideal S4096x1024 .f32} {x3 : FVec Ideal S1x1024 .f32} {x4 : FVec Ideal S1024x2304 .f32} {A : Args}
  (h : Reads x0 x1 x2 x3 x4 A)
include h

theorem ms_at (r : Fin 4096) (z : Fin 1) : val_main_v6 (F := Ideal) x2 (ix2 r z) = ((ms A r.val : ℝ) : EReal) := by
  pointwise [val_main_v6, val_main_v5, val_main_v4, val_main_v3, val_main_v2, val_main_v1, val_main_v0, val_main_cst, val_main_cst_0, val_main_cst_1]
  simp only [h.x, width, eps_eq, ← EReal.coe_mul, coe_sum, div_width, ← EReal.coe_add]
  rfl

theorem rs_at (r : Fin 4096) (z : Fin 1) : val_main_v7 (F := Ideal) x2 (ix2 r z) = ((rs A r.val : ℝ) : EReal) := by
  have e := ms_at h
  pointwise [val_main_v7]
  rw [e]; exact rs_eq A _

/-- The root's derivative. -/
theorem droot_at (r : Fin 4096) (z : Fin 1) : val_main_v10 (F := Ideal) x2 (ix2 r z) = ((-1 / 2 * (rs A r.val / ms A r.val) : ℝ) : EReal) := by
  have e := ms_at h
  have e' := rs_at h
  pointwise [val_main_v10, val_main_v9, val_main_v8, val_main_cst_2]
  rw [e, e', div_real _ _ (ms_pos A _).ne', neg_half, ← EReal.coe_mul]

theorem xh_at (r : Fin 4096) (k : Fin 1024) : val_main_v12 (F := Ideal) x2 (ix2 r k) = ((xh A r.val k.val : ℝ) : EReal) := by
  have e := rs_at h
  pointwise [val_main_v12, val_main_v11]
  rw [e, h.x, ← EReal.coe_mul]; rfl

theorem dy_at (r : Fin 4096) (k : Fin 1024) : val_main_v16 (F := Ideal) x0 x4 (ix2 r k) = ((dy A r.val k.val : ℝ) : EReal) := by
  pointwise [val_main_v16]
  simp only [h.dp, h.w, ← EReal.coe_mul, coe_sum]
  congr 1
  unfold dy
  rw [h.n, Finset.sum_range]

theorem dgn_at (z : Fin 1) (k : Fin 1024) : val_main_v19 (F := Ideal) x0 x2 x4 (ix2 z k) = ((dgn A k.val : ℝ) : EReal) := by
  have e := xh_at h
  have e' := dy_at h
  pointwise [val_main_v19, val_main_v18, val_main_v17, val_main_cst_3]
  simp only [e, e', ← EReal.coe_mul, coe_sum]
  congr 1
  unfold dgn
  rw [Finset.sum_range]
  exact Finset.sum_congr rfl fun r _ => mul_comm _ _

/-- The mean square's cotangent, a row at a time. -/
theorem dms_at (r : Fin 4096) (z : Fin 1) : val_main_v30 (F := Ideal) x0 x2 x3 x4 (ix2 r z)
    = (((∑ l : Fin 1024, A.x r.val l.val * (dy A r.val l.val * A.gn l.val)) * (-1 / 2 * (rs A r.val / ms A r.val)) / 1024 : ℝ) : EReal) := by
  have e := droot_at h
  have e' := dy_at h
  pointwise [val_main_v30, val_main_v29, val_main_v28, val_main_v24, val_main_v23, val_main_v22, val_main_v21, val_main_v20, val_main_cst_4, val_main_cst_5]
  simp only [e, e', h.x, h.gn, width, ← EReal.coe_mul, coe_sum, div_width]

theorem dx_at (r : Fin 4096) (k : Fin 1024) : val_main_v36 (F := Ideal) x0 x1 x2 x3 x4 (ix2 r k) = ((dx A r.val k.val : ℝ) : EReal) := by
  have e := dms_at h
  have e' := dy_at h
  have e'' := rs_at h
  pointwise [val_main_v36, val_main_v35, val_main_v34, val_main_v33, val_main_v32, val_main_v31, val_main_v27, val_main_v26, val_main_v25, val_main_v21, val_main_v20, val_main_cst_6]
  simp only [e, e', e'', h.x, h.ct, h.gn, ← EReal.coe_mul, ← EReal.coe_add, coe_sum]
  rw [Fin.sum_univ_one, dx_chain]

/-- The results as arrays. -/
theorem dx_arr : val_main_v36 (F := Ideal) x0 x1 x2 x3 x4 = fun i => ((dx A (i 0).val (i 1).val : ℝ) : EReal) :=
  funext fun i => by have e := dx_at h (i 0) (i 1); rwa [ix2_eta] at e
theorem dgn_arr : val_main_v19 (F := Ideal) x0 x2 x4 = fun i => ((dgn A (i 1).val : ℝ) : EReal) :=
  funext fun i => by have e := dgn_at h (i 0) (i 1); rwa [ix2_eta] at e

end Cert.Reference10Ideal.EvIn

namespace Cert.Kernel10Ideal.EvIn

open Cert.NormGrad Cert.Reals
open Idealize.ShloMosaic Idealize.ShloMosaic.TcCoe Idealize.ShloMosaic.Tactic
open Idealize.SL.Sem

section Pre

open Cert.Pre_finite10

/-- The precondition's side conditions. -/
theorem pre_facts : Cert.Pre_finite10.Facts where
  bcast_S_S4096x2304 := by decide
  bcast_S_S4096x1024 := by decide
  bcast_S_S1x1024 := by decide
  bcast_S_S1024x2304 := by decide

variable [Cert.Pre_finite10.Facts] (x0 : FVec Ideal S4096x2304 .f32) (x1 x2 : FVec Ideal S4096x1024 .f32) (x3 : FVec Ideal S1x1024 .f32) (x4 : FVec Ideal S1024x2304 .f32)

theorem real0 (h : (Cert.Pre_finite10.fn (F := Ideal) x0 x1 x2 x3 x4).1 = fun _ => 1#1) (i) : ((x0 i).toReal : EReal) = x0 i := by
  have h' := congrFun h i
  pointwise [Cert.Pre_finite10.fn] at h'
  exact real_of_lt _ h'
theorem real1 (h : (Cert.Pre_finite10.fn (F := Ideal) x0 x1 x2 x3 x4).2.1 = fun _ => 1#1) (i) : ((x1 i).toReal : EReal) = x1 i := by
  have h' := congrFun h i
  pointwise [Cert.Pre_finite10.fn] at h'
  exact real_of_lt _ h'
theorem real2 (h : (Cert.Pre_finite10.fn (F := Ideal) x0 x1 x2 x3 x4).2.2.1 = fun _ => 1#1) (i) : ((x2 i).toReal : EReal) = x2 i := by
  have h' := congrFun h i
  pointwise [Cert.Pre_finite10.fn] at h'
  exact real_of_lt _ h'
theorem real3 (h : (Cert.Pre_finite10.fn (F := Ideal) x0 x1 x2 x3 x4).2.2.2.1 = fun _ => 1#1) (i) : ((x3 i).toReal : EReal) = x3 i := by
  have h' := congrFun h i
  pointwise [Cert.Pre_finite10.fn] at h'
  exact real_of_lt _ h'
theorem real4 (h : (Cert.Pre_finite10.fn (F := Ideal) x0 x1 x2 x3 x4).2.2.2.2 = fun _ => 1#1) (i) : ((x4 i).toReal : EReal) = x4 i := by
  have h' := congrFun h i
  pointwise [Cert.Pre_finite10.fn] at h'
  exact real_of_lt _ h'

end Pre

attribute [local instance] Cert.Kernel10Ideal.Gen.facts Cert.Reference10Ideal.Gen.facts

/-- The arguments' entries, by row and column numbers. -/
def argsOf (m : (ℓ : Loc Cert.Kernel10Ideal.nD Cert.Kernel10Ideal.τ Cert.Kernel10Ideal.sig) → Buf (Elt Ideal) ℓ) (c : Dev Cert.Kernel10Ideal.nD) : Args where
  n := 2304
  dp := entries (n0 := 4096) (n1 := 2304) (m ((c.tc : Thread Cert.Kernel10Ideal.nD Cert.Kernel10Ideal.τ).loc Cert.Kernel10Ideal.main_arg0))
  ct := entries (n0 := 4096) (n1 := 1024) (m ((c.tc : Thread Cert.Kernel10Ideal.nD Cert.Kernel10Ideal.τ).loc Cert.Kernel10Ideal.main_arg1))
  x := entries (n0 := 4096) (n1 := 1024) (m ((c.tc : Thread Cert.Kernel10Ideal.nD Cert.Kernel10Ideal.τ).loc Cert.Kernel10Ideal.main_arg2))
  gn := entries (n0 := 1) (n1 := 1024) (m ((c.tc : Thread Cert.Kernel10Ideal.nD Cert.Kernel10Ideal.τ).loc Cert.Kernel10Ideal.main_arg3)) 0
  w := entries (n0 := 1024) (n1 := 2304) (m ((c.tc : Thread Cert.Kernel10Ideal.nD Cert.Kernel10Ideal.τ).loc Cert.Kernel10Ideal.main_arg4))

/-- Finite arguments are the reals their entries are. -/
theorem reads_of_finite [Cert.Pre_finite10.Facts] (m) (h : Cert.Pre_Kernel10Ideal_finite10 m) (c : Dev Cert.Kernel10Ideal.nD) : Reads m c (argsOf m c) where
  n := rfl
  dp := entries_at _ (real0 _ _ _ _ _ (h c).1)
  ct := entries_at _ (real1 _ _ _ _ _ (h c).2.1)
  x := entries_at _ (real2 _ _ _ _ _ (h c).2.2.1)
  gn := entries_at _ (real3 _ _ _ _ _ (h c).2.2.2.1) 0
  w := entries_at _ (real4 _ _ _ _ _ (h c).2.2.2.2)

theorem algebraic [Cert.Pre_finite10.Facts] : Cert.algebraic_Kernel10Ideal_Reference10Ideal_pre_finite10 := by
  intro m g m' g' hpre hargs
  have hk := fun c => reads_of_finite m hpre c
  refine ⟨fun c => dxArr (argsOf m c), fun c => dgnArr (argsOf m c), ?_, ?_⟩
  · refine (θ_run Cert.Kernel10Ideal.defs _ _).mono (fun r h c => ?_) (Cert.Kernel10Ideal.Value.run_blocks m g)
    exact ⟨(h c).1.trans (final5 (hk c)), (h c).2.1.trans (final6 (hk c)), (h c).2.2⟩
  · refine (θ_run Cert.Reference10Ideal.defs _ _).mono (fun r h c => ?_) (Cert.Reference10Ideal.Value.run m' g')
    obtain ⟨e0, e1, e2, e3, e4⟩ := hargs c
    have hr : Cert.Reference10Ideal.EvIn.Reads _ _ _ _ _ (argsOf m c) := ⟨(hk c).n, fun r k => (congrFun e0 _).trans ((hk c).dp r k), fun r k => (congrFun e1 _).trans ((hk c).ct r k),
      fun r k => (congrFun e2 _).trans ((hk c).x r k), fun k => (congrFun e3 _).trans ((hk c).gn k), fun r k => (congrFun e4 _).trans ((hk c).w r k)⟩
    exact ⟨(h c).1.trans ((Cert.Reference10Ideal.Read.val_main_v36_eq m' c).trans (Cert.Reference10Ideal.EvIn.dx_arr hr)),
      (h c).2.1.trans ((Cert.Reference10Ideal.Read.val_main_v19_eq _ _ _).trans (Cert.Reference10Ideal.EvIn.dgn_arr hr)), (h c).2.2⟩

end Cert.Kernel10Ideal.EvIn
-- ==== Proof.AttnSpec.lean ====
/- The attention's gradient over the reals, by row and column numbers. -/
module

public import proofs.«01_k».proof.Proof.Reals
public import Idealize.ShloMosaic.Lib.Pipeline.ValueKit

@[expose] public section

noncomputable section

namespace Cert.Attn

open Cert.Reals
open Idealize.ShloMosaic Idealize.ShloMosaic.Tactic

/-- The call's arguments: the queries, the keys, the values and the mix's gradient, whose last 512 columns are the attention's. -/
structure Args where
  q : ℕ → ℕ → ℝ
  k : ℕ → ℕ → ℝ
  v : ℕ → ℕ → ℝ
  ct : ℕ → ℕ → ℝ

variable (A : Args)

/-- The row of the `j`-th key of a query row's example. -/
def key (r j : ℕ) : ℕ := 2048 * (r / 2048) + j
/-- The score of a head's query row at a key; four heads share their keys. -/
def s (h r j : ℕ) : ℝ := ∑ d : Fin 64, A.q r (64 * h + d.val) * A.k (key r j) (64 * (h / 4) + d.val)
/-- The sum of a row's exponentials. -/
def l (h r : ℕ) : ℝ := ∑ j : Fin 2048, Real.exp (s A h r j.val)
/-- The attention's weights. -/
def p (h r j : ℕ) : ℝ := Real.exp (s A h r j) / l A h r
/-- The attention's result. -/
def o (h r d : ℕ) : ℝ := ∑ j : Fin 2048, p A h r j.val * A.v (key r j.val) (64 * (h / 4) + d)
/-- The weights' gradient. -/
def dp (h r j : ℕ) : ℝ := ∑ d : Fin 64, A.ct r (512 + (64 * h + d.val)) * A.v (key r j) (64 * (h / 4) + d.val)
/-- The mean of a row's gradient under its weights. -/
def mean (h r : ℕ) : ℝ := ∑ j : Fin 2048, p A h r j.val * dp A h r j.val
/-- The scores' gradient. -/
def ds (h r j : ℕ) : ℝ := p A h r j * (dp A h r j - mean A h r)
/-- The queries' gradient. -/
def dq (r c : ℕ) : ℝ := ∑ j : Fin 2048, ds A (c / 64) r j.val * A.k (key r j.val) (64 * (c / 64 / 4) + c % 64)
/-- What the query rows below `n` of an example add to the gradient of a key's column `d`, from one head. -/
def dkh (h b n j d : ℕ) : ℝ := ∑ i ∈ Finset.range n, ds A h (2048 * b + i) j * A.q (2048 * b + i) (64 * h + d)
def dvh (h b n j d : ℕ) : ℝ := ∑ i ∈ Finset.range n, p A h (2048 * b + i) j * A.ct (2048 * b + i) (512 + (64 * h + d))
/-- The same from the four heads that share the key, each group of 64 columns padded to 128. -/
def dkn (b n j c : ℕ) : ℝ := if c % 128 < 64 then ∑ g : Fin 4, dkh A (4 * (c / 128) + g.val) b n j (c % 128) else 0
def dvn (b n j c : ℕ) : ℝ := if c % 128 < 64 then ∑ g : Fin 4, dvh A (4 * (c / 128) + g.val) b n j (c % 128) else 0
/-- The gradients of the keys and of the values. -/
def dk (r c : ℕ) : ℝ := dkn A (r / 2048) 2048 (r % 2048) c
def dv (r c : ℕ) : ℝ := dvn A (r / 2048) 2048 (r % 2048) c

theorem cell {f : ℕ → ℕ → ℝ} {a b a' b' : ℕ} (ha : a = a') (hb : b = b') : ((f a b : ℝ) : EReal) = ((f a' b' : ℝ) : EReal) := by rw [ha, hb]

theorem sum_exp_pos (f : ℕ → ℝ) : 0 < ∑ j : Fin 2048, Real.exp (f j.val) :=
  Finset.sum_pos (fun _ _ => Real.exp_pos _) ⟨⟨0, by norm_num⟩, Finset.mem_univ _⟩

theorem l_pos (h r : ℕ) : 0 < l A h r := sum_exp_pos _

/-- Taking any number off a row's scores leaves a factor in the exponentials' sum. -/
theorem sum_shift (h r : ℕ) (m : ℝ) : ∑ j : Fin 2048, Real.exp (s A h r j.val - m) = l A h r * Real.exp (-m) := by
  unfold l
  rw [Finset.sum_mul]
  exact Finset.sum_congr rfl fun j _ => by rw [sub_eq_add_neg, Real.exp_add]

/-- The weights do not depend on the number taken off. -/
theorem soft (h r j : ℕ) (m : ℝ) : Real.exp (s A h r j - m) / (∑ j : Fin 2048, Real.exp (s A h r j.val - m)) = p A h r j := by
  rw [sum_shift, sub_eq_add_neg, Real.exp_add]
  exact mul_div_mul_right _ _ (Real.exp_pos _).ne'

/-- The weights from the logarithm of the sum. -/
theorem soft_log (h r j : ℕ) (m : ℝ) :
    Real.exp (s A h r j - (m + Real.log (∑ j : Fin 2048, Real.exp (s A h r j.val - m)))) = p A h r j := by
  rw [← soft A h r j m, ← sub_sub, Real.exp_sub, Real.exp_log (sum_exp_pos fun j => s A h r j - m)]

/-- The mean of the gradient is the result's product with its gradient. -/
theorem mean_eq (h r : ℕ) : ∑ d : Fin 64, A.ct r (512 + (64 * h + d.val)) * o A h r d.val = mean A h r := by
  unfold mean o dp
  simp only [Finset.mul_sum]
  rw [Finset.sum_comm]
  exact Finset.sum_congr rfl fun j _ => Finset.sum_congr rfl fun d _ => by ring

/-- The scores' gradient as the derivative of a quotient. -/
theorem ds_quot (h r j : ℕ) (m : ℝ) (L : ℝ) (hL : L = ∑ j : Fin 2048, Real.exp (s A h r j.val - m)) :
    (dp A h r j / L + -∑ x : Fin 2048, dp A h r x.val * (1 / (L * L)) * Real.exp (s A h r x.val - m)) * Real.exp (s A h r j - m)
      = ds A h r j := by
  have hp : L ≠ 0 := by rw [hL]; exact (sum_exp_pos fun j => s A h r j - m).ne'
  have e : ∑ x : Fin 2048, dp A h r x.val * (1 / (L * L)) * Real.exp (s A h r x.val - m) = mean A h r / L := by
    unfold mean
    rw [Finset.sum_div]
    refine Finset.sum_congr rfl fun x _ => ?_
    rw [← soft A h r x.val m, ← hL]
    field_simp
  rw [e]
  unfold ds
  rw [← soft A h r j m, ← hL]
  field_simp
  ring

/-- The greatest of real numbers is a real. -/
theorem fold_real {ι : Type} (S : Finset ι) (f : ι → EReal) (hf : ∀ i, ∃ y : ℝ, f i = y) : S.Nonempty → ∃ y : ℝ, S.fold max ⊥ f = y := by
  classical
  induction S using Finset.induction_on with
  | empty => exact fun h => absurd h (by simp)
  | insert a t ha ih =>
    intro _
    rw [Finset.fold_insert ha]
    obtain ⟨y, hy⟩ := hf a
    by_cases ht : t.Nonempty
    · obtain ⟨z, hz⟩ := ih ht
      rw [hy, hz]
      rcases le_total (y : EReal) z with e | e
      · exact ⟨z, max_eq_right e⟩
      · exact ⟨y, max_eq_left e⟩
    · rw [Finset.not_nonempty_iff_eq_empty.mp ht, Finset.fold_empty]
      exact ⟨y, by rw [hy]; exact max_eq_left bot_le⟩

theorem bot_eq : Ideal.ofBits FTy.f32 4286578688#32 = ⊥ := by simp [Ideal.ofBits, Ideal.ieee]

/-- A row's greatest score is a real. -/
theorem reduce_real {s t u : Shape} {axes : List (Fin s.rank)} (x : FVec Ideal s .f32) (init : FVec Ideal u .f32) (h : s.ReducesTo axes t) (hu : 0 < u.numel)
    (hi : ∀ i, init i = ⊥) (hx : ∀ i, ∃ y : ℝ, x i = y) (j : t.Idx) (hj : ∃ i, h.drop i = j) :
    ∃ y : ℝ, Host.reduce FloatOps.maximumf x init h hu j = y := by
  rw [Host.reduce_eq_fold]
  obtain ⟨i, hi'⟩ := hj
  rw [hi]
  exact fold_real _ x hx ⟨i, by simp [hi']⟩

/-- The same for a row along the last of five axes. -/
theorem row_real {n0 n1 n2 n3 n4 : ℕ} {u : Shape} (x : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel) (hi : ∀ i, init i = ⊥)
    (hx : ∀ i, ∃ y : ℝ, x i = y) (hn : 0 < n4) (a : Fin n0) (b : Fin n1) (c : Fin n2) (d : Fin n3) :
    ∃ y : ℝ, Host.reduce FloatOps.maximumf x init h hu (ix4 a b c d) = y :=
  reduce_real x init h hu hi hx _ ⟨ix5 a b c d ⟨0, hn⟩, by
    funext z; apply Fin.ext
    match z with
    | ⟨0, _⟩ => rfl
    | ⟨1, _⟩ => rfl
    | ⟨2, _⟩ => rfl
    | ⟨3, _⟩ => rfl⟩

end Cert.Attn
-- ==== Proof.AttnHead.lean ====
/- One head of the attention's backward body, over the reals: the weights, the scores' gradient, and what the head leaves of each result. -/
module

public import proofs.«01_k».proof.Proof.AttnSpec
public import proofs.«01_k».proof.Proof.Gen.Kernel15Ideal.Skeleton
public import Idealize.ShloMosaic.Lib.Pipeline.ValueKit

@[expose] public section

set_option maxRecDepth 16384

noncomputable section

namespace Cert.Kernel15Ideal.Attn

open Cert.Kernel15Ideal Cert.Kernel15Ideal.Gen
open Cert.Attn Cert.Reals
open Idealize.ShloMosaic Idealize.ShloMosaic.TcCoe Idealize.ShloMosaic.Tactic

variable [Facts₀] [Facts]

/-! ## The head's values, as the body computes them -/

/-- The weights of head `w`. -/
def wts (w : BitVec 32) (L : Vec Ideal S256x128 .f32) (q : Vec Ideal S256x128 .bf16) (k : Vec Ideal S2048x128 .bf16) : FVec Ideal S256x2048 .f32 :=
  exp (subf (matmul (φ₁ := .bf16) (φ₂ := .bf16) dot_S256x128_S2048x128_S256x2048_1_1_0_0_n_n none (shapeCast S256x128 q shapeCasts_S256x128_S256x128)
      (shapeCast S2048x128 k shapeCasts_S2048x128_S2048x128) (constant S256x2048 .f32 0x00000000#32))
    (broadcastTo S256x2048 (shapeCast S256x1 (multiReduction .add [1] S256
      (select (cmpi .eq (iota .tc S256x128 32 [1] iota_S256x128_d1_w32) (broadcast S256x128 w)) (shapeCast S256x128 L shapeCasts_S256x128_S256x128)
        (broadcast S256x128 (Scalar.ofBits .f32 0x00000000#32 : Ideal .f32))) 0x00000000#32 reduces_S256x128_S256 (.inl rfl) rfl)
      shapeCasts_S256_S256x1) broadcasts_S256x1_S256x2048))

/-- The scores' gradient. -/
def sgr (w : BitVec 32) (L : Vec Ideal S256x128 .f32) (q : Vec Ideal S256x128 .bf16) (k : Vec Ideal S2048x128 .bf16) (d : FVec Ideal S256x128 .bf16)
    (v : Vec Ideal S2048x128 .bf16) (o : Vec Ideal S256x128 .bf16) : FVec Ideal S256x2048 .bf16 :=
  truncf .bf16 (mulf (wts w L q k) (subf (matmul (φ₁ := .bf16) (φ₂ := .bf16) dot_S256x128_S2048x128_S256x2048_1_1_0_0_n_n none d
      (shapeCast S2048x128 v shapeCasts_S2048x128_S2048x128) (constant S256x2048 .f32 0x00000000#32))
    (broadcastTo S256x2048 (shapeCast S256x1 (multiReduction .add [1] S256
      (mulf (extf .f32 d bitsLt_bf16_f32) (extf (φ := .bf16) .f32 (shapeCast S256x128 o shapeCasts_S256x128_S256x128) bitsLt_bf16_f32))
      0x00000000#32 reduces_S256x128_S256 (.inl rfl) rfl) shapeCasts_S256_S256x1) broadcasts_S256x1_S256x2048))) bitsLt_bf16_f32

/-- What the head leaves of the queries' gradient. -/
def dqT (w : BitVec 32) (L : Vec Ideal S256x128 .f32) (q : Vec Ideal S256x128 .bf16) (k : Vec Ideal S2048x128 .bf16) (d : FVec Ideal S256x128 .bf16)
    (v : Vec Ideal S2048x128 .bf16) (o : Vec Ideal S256x128 .bf16) : FVec Ideal S256x128 .f32 :=
  shapeCast S256x128 (matmul (φ₁ := .bf16) (φ₂ := .bf16) dot_S256x2048_S2048x128_S256x128_1_0_0_1_n_n none (sgr w L q k d v o) (shapeCast S2048x128 k shapeCasts_S2048x128_S2048x128)
    (constant S256x128 .f32 0x00000000#32)) shapeCasts_S256x128_S256x128

/-- What it leaves of the keys' gradient, over what was there. -/
def dkT (w : BitVec 32) (L : Vec Ideal S256x128 .f32) (q : Vec Ideal S256x128 .bf16) (k : Vec Ideal S2048x128 .bf16) (d : FVec Ideal S256x128 .bf16)
    (v : Vec Ideal S2048x128 .bf16) (o : Vec Ideal S256x128 .bf16) (x : Vec Ideal S2048x128 .f32) : FVec Ideal S2048x128 .f32 :=
  addf (shapeCast S2048x128 x shapeCasts_S2048x128_S2048x128) (matmul (φ₁ := .bf16) (φ₂ := .bf16) dot_S256x2048_S256x128_S2048x128_0_0_1_1_n_n none (sgr w L q k d v o)
    (shapeCast S256x128 q shapeCasts_S256x128_S256x128) (constant S2048x128 .f32 0x00000000#32))

/-- What it leaves of the values' gradient. -/
def dvT (w : BitVec 32) (L : Vec Ideal S256x128 .f32) (q : Vec Ideal S256x128 .bf16) (k : Vec Ideal S2048x128 .bf16) (d : FVec Ideal S256x128 .bf16)
    (x : Vec Ideal S2048x128 .f32) : FVec Ideal S2048x128 .f32 :=
  addf (shapeCast S2048x128 x shapeCasts_S2048x128_S2048x128) (matmul (φ₁ := .bf16) (φ₂ := .bf16) dot_S256x2048_S256x128_S2048x128_0_0_1_1_n_n none
    (truncf .bf16 (wts w L q k) bitsLt_bf16_f32) d (constant S2048x128 .f32 0x00000000#32))

/-! ## Their values -/

/-- A number in the first 64 of 128 lanes. -/
def lane (c : ℕ) (x : ℝ) : ℝ := if c < 64 then x else 0

theorem sum_pad (f g : ℕ → ℝ) : ∑ d : Fin 128, lane d.val (f d.val) * lane d.val (g d.val) = ∑ d : Fin 64, f d.val * g d.val := by
  rw [← Finset.sum_range (n := 128) (fun d => lane d (f d) * lane d (g d)), ← Finset.sum_range (n := 64) (fun d => f d * g d),
    show (128 : ℕ) = 64 + 64 from rfl, Finset.sum_range_add]
  have e : ∑ x ∈ Finset.range 64, lane (64 + x) (f (64 + x)) * lane (64 + x) (g (64 + x)) = 0 :=
    Finset.sum_eq_zero fun x _ => by unfold lane; rw [if_neg (by omega)]; ring
  rw [e, add_zero]
  exact Finset.sum_congr rfl fun x hx => by unfold lane; rw [if_pos (Finset.mem_range.mp hx), if_pos (Finset.mem_range.mp hx)]

theorem mul_pad (c : ℕ) (x y : ℝ) : x * lane c y = lane c (x * y) := by unfold lane; split <;> ring

theorem sum_padR {n : ℕ} (c : ℕ) (f : Fin n → ℝ) : ∑ i, lane c (f i) = lane c (∑ i, f i) := by unfold lane; split <;> simp

/-- The operands of head `h` at the point `t`: the row tile's queries, result and gradient, its example's keys and values, the logarithms. -/
structure Head (A : Args) (t h : ℕ) (L : Vec Ideal S256x128 .f32) (q : Vec Ideal S256x128 .bf16) (k : Vec Ideal S2048x128 .bf16)
    (d : FVec Ideal S256x128 .bf16) (v : Vec Ideal S2048x128 .bf16) (o : Vec Ideal S256x128 .bf16) : Prop where
  h8 : h < 8
  q : ∀ i c, q (ix2 i c) = ((lane c.val (A.q (256 * t + i.val) (64 * h + c.val)) : ℝ) : EReal)
  k : ∀ j c, k (ix2 j c) = ((lane c.val (A.k (2048 * (t / 8) + j.val) (64 * (h / 4) + c.val)) : ℝ) : EReal)
  v : ∀ j c, v (ix2 j c) = ((lane c.val (A.v (2048 * (t / 8) + j.val) (64 * (h / 4) + c.val)) : ℝ) : EReal)
  d : ∀ i c, d (ix2 i c) = ((lane c.val (A.ct (256 * t + i.val) (512 + (64 * h + c.val))) : ℝ) : EReal)
  o : ∀ i c, o (ix2 i c) = ((lane c.val (Cert.Attn.o A h (256 * t + i.val) c.val) : ℝ) : EReal)
  l : ∀ i, ∃ y : ℝ, L (ix2 i ⟨h, by omega⟩)
    = ((y + Real.log (∑ j : Fin 2048, Real.exp (s A h (256 * t + i.val) j.val - y)) : ℝ) : EReal)

theorem lane_eq : ∀ (x : Fin 128) (h : Fin 8), IntOp.cmpi CmpIPredicate.eq (BitVec.ofNat 32 x.val) (BitVec.ofNat 32 h.val)
    = if x.val = h.val then 1#1 else 0#1 := by decide +kernel

/-- Only the head's lane is taken of a row. -/
theorem sum_lane (h : ℕ) (h8 : h < 8) (f : Fin 128 → EReal) :
    ∑ x : Fin 128, Scalar.select (IntOp.cmpi CmpIPredicate.eq (BitVec.ofNat 32 x.val) (BitVec.ofNat 32 h)) (f x) 0 = f ⟨h, by omega⟩ := by
  rw [Finset.sum_eq_single ⟨h, by omega⟩]
  · rw [lane_eq _ ⟨h, h8⟩, if_pos rfl]; rfl
  · intro x _ hx
    rw [lane_eq _ ⟨h, h8⟩, if_neg fun e => hx (Fin.ext e)]; rfl
  · exact fun hx => absurd (Finset.mem_univ _) hx

variable {A : Args} {t h : ℕ} {L : Vec Ideal S256x128 .f32} {q : Vec Ideal S256x128 .bf16} {k : Vec Ideal S2048x128 .bf16}
    {d : FVec Ideal S256x128 .bf16} {v : Vec Ideal S2048x128 .bf16} {o : Vec Ideal S256x128 .bf16} (H : Head A t h L q k d v o)
include H

theorem key_at (i : Fin 256) (j : ℕ) : key (256 * t + i.val) j = 2048 * (t / 8) + j := by unfold key; omega

theorem wts_at (i : Fin 256) (j : Fin 2048) : wts (BitVec.ofNat 32 h) L q k (ix2 i j) = ((p A h (256 * t + i.val) j.val : ℝ) : EReal) := by
  have h8 := H.h8
  obtain ⟨y, hy⟩ := H.l i
  pointwise [wts]
  rw [sum_lane h h8 (fun x => L (ix2 i x)), hy]
  simp only [H.q, H.k, ← EReal.coe_mul, coe_sum, ← EReal.coe_sub]
  rw [sum_pad (fun c => A.q (256 * t + i.val) (64 * h + c)) (fun c => A.k (2048 * (t / 8) + j.val) (64 * (h / 4) + c)),
    ← soft_log A h (256 * t + i.val) j.val y]
  unfold s
  simp only [key_at H]
  rfl

theorem sgr_at (i : Fin 256) (j : Fin 2048) : sgr (BitVec.ofNat 32 h) L q k d v o (ix2 i j) = ((ds A h (256 * t + i.val) j.val : ℝ) : EReal) := by
  have e := wts_at H i j
  revert e
  generalize hv : wts (BitVec.ofNat 32 h) L q k = w
  intro e
  pointwise [sgr, hv]
  simp only [e, H.d, H.v, H.o, ← EReal.coe_mul, coe_sum, ← EReal.coe_sub]
  rw [sum_pad (fun c => A.ct (256 * t + i.val) (512 + (64 * h + c))) (fun c => A.v (2048 * (t / 8) + j.val) (64 * (h / 4) + c)),
    sum_pad (fun c => A.ct (256 * t + i.val) (512 + (64 * h + c))) (fun c => Cert.Attn.o A h (256 * t + i.val) c), mean_eq]
  unfold ds dp
  rw [key_at H]

/-- The queries' gradient in the head's lanes. -/
theorem dqT_at (i : Fin 256) (c : Fin 128) : dqT (BitVec.ofNat 32 h) L q k d v o (ix2 i c)
    = ((lane c.val (∑ j : Fin 2048, ds A h (256 * t + i.val) j.val * A.k (2048 * (t / 8) + j.val) (64 * (h / 4) + c.val)) : ℝ) : EReal) := by
  have e := fun j => sgr_at H i j
  revert e
  generalize hv : sgr (BitVec.ofNat 32 h) L q k d v o = w
  intro e
  pointwise [dqT, hv]
  simp only [e, H.k, ← EReal.coe_mul, coe_sum, mul_pad, sum_padR]

/-- The keys' gradient in the head's lanes: what was there and the row tile's share. -/
theorem dkT_at (x : Vec Ideal S2048x128 .f32) (j : Fin 2048) (c : Fin 128) (z : ℝ) (hx : x (ix2 j c) = (z : EReal)) :
    dkT (BitVec.ofNat 32 h) L q k d v o x (ix2 j c)
    = ((z + lane c.val (∑ i : Fin 256, ds A h (256 * t + i.val) j.val * A.q (256 * t + i.val) (64 * h + c.val)) : ℝ) : EReal) := by
  have e := fun i => sgr_at H i j
  revert e
  generalize hv : sgr (BitVec.ofNat 32 h) L q k d v o = w
  intro e
  pointwise [dkT, hv]
  simp only [hx, e, H.q, ← EReal.coe_mul, coe_sum, mul_pad, sum_padR, ← EReal.coe_add]

theorem dvT_at (x : Vec Ideal S2048x128 .f32) (j : Fin 2048) (c : Fin 128) (z : ℝ) (hx : x (ix2 j c) = (z : EReal)) :
    dvT (BitVec.ofNat 32 h) L q k d x (ix2 j c)
    = ((z + lane c.val (∑ i : Fin 256, p A h (256 * t + i.val) j.val * A.ct (256 * t + i.val) (512 + (64 * h + c.val))) : ℝ) : EReal) := by
  have e := fun i => wts_at H i j
  revert e
  generalize hv : wts (BitVec.ofNat 32 h) L q k = w
  intro e
  pointwise [dvT, hv]
  simp only [hx, e, H.d, ← EReal.coe_mul, coe_sum, mul_pad, sum_padR, ← EReal.coe_add]

end Cert.Kernel15Ideal.Attn
-- ==== Proof.AttnBody.lean ====
/- The stages of the attention's backward body are the heads' values. -/
module

public import proofs.«01_k».proof.Proof.AttnHead

@[expose] public section

set_option maxRecDepth 16384

noncomputable section

namespace Cert.Kernel15Ideal.Attn

open Cert.Kernel15Ideal Cert.Kernel15Ideal.Gen
open Idealize.ShloMosaic Idealize.ShloMosaic.TcCoe Idealize.ShloMosaic.Tactic

variable [Facts₀] [Facts] (L : Vec Ideal S256x128 .f32) (q o : Vec Ideal S256x128 .bf16) (k v : Vec Ideal S2048x128 .bf16)
    (x : Vec Ideal S2048x128 .f32) (g : Vec Ideal S256x512 .bf16) (sp : Vec Ideal S512x1024 .bf16) (D : FVec Ideal S256x1024 .bf16)

theorem dq_0 : k0_pay14 (k0_pay8 k) (k0_pay10 L q k) (k0_pay11 g sp v) (k0_pay12 g sp o)
    = dqT 0#32 L q k (k0_pay9 g sp) v o := rfl
theorem dk_0 : k0_pay15 (k0_pay7 q) (k0_pay10 L q k) (k0_pay11 g sp v) (k0_pay12 g sp o) x
    = dkT 0#32 L q k (k0_pay9 g sp) v o x := rfl
theorem dv_0 : k0_pay16 (k0_pay9 g sp) (k0_pay10 L q k) x
    = dvT 0#32 L q k (k0_pay9 g sp) x := rfl
theorem dq_1 : k0_pay24 (k0_pay17 q) (k0_pay18 k) (k0_pay19 v) (k0_pay20 D) (k0_pay21 (iota Kind.tc S256x128 32 [1] iota_S256x128_d1_w32) (k0_pay6 L)) o
    = dqT 1#32 L q k (k0_pay20 D) v o := rfl
theorem dk_1 : k0_pay25 (k0_pay17 q) (k0_pay18 k) (k0_pay19 v) (k0_pay20 D) (k0_pay21 (iota Kind.tc S256x128 32 [1] iota_S256x128_d1_w32) (k0_pay6 L)) o x
    = dkT 1#32 L q k (k0_pay20 D) v o x := rfl
theorem dv_1 : k0_pay26 (k0_pay17 q) (k0_pay18 k) (k0_pay20 D) (k0_pay21 (iota Kind.tc S256x128 32 [1] iota_S256x128_d1_w32) (k0_pay6 L)) x
    = dvT 1#32 L q k (k0_pay20 D) x := rfl
theorem dq_2 : k0_pay32 (iota Kind.tc S256x128 32 [1] iota_S256x128_d1_w32) D (k0_pay6 L) (k0_pay27 q) (k0_pay28 k) v o
    = dqT 2#32 L q k (k0_pay29 D) v o := rfl
theorem dk_2 : k0_pay33 (iota Kind.tc S256x128 32 [1] iota_S256x128_d1_w32) D (k0_pay6 L) (k0_pay27 q) (k0_pay28 k) v o x
    = dkT 2#32 L q k (k0_pay29 D) v o x := rfl
theorem dv_2 : k0_pay36 (k0_pay29 D) (k0_pay34 x) (k0_pay35 (iota Kind.tc S256x128 32 [1] iota_S256x128_d1_w32) (k0_pay6 L) (k0_pay27 q) (k0_pay28 k)) (constant S2048x128 FTy.f32 0#32)
    = dvT 2#32 L q k (k0_pay29 D) x := rfl
theorem dq_3 : k0_pay42 (iota Kind.tc S256x128 32 [1] iota_S256x128_d1_w32) D (k0_pay6 L) q k v o
    = dqT 3#32 L q k (k0_pay39 D) v o := rfl
theorem dk_3 : k0_pay43 (k0_pay37 q) (k0_pay41 (iota Kind.tc S256x128 32 [1] iota_S256x128_d1_w32) D (k0_pay6 L) q k v o) x
    = dkT 3#32 L q k (k0_pay39 D) v o x := rfl
theorem dv_3 : k0_pay44 (k0_pay39 D) (k0_pay40 (iota Kind.tc S256x128 32 [1] iota_S256x128_d1_w32) (k0_pay6 L) q k) x
    = dvT 3#32 L q k (k0_pay39 D) x := rfl
theorem dq_4 : k0_pay52 (k0_pay46 k) (k0_pay48 (iota Kind.tc S256x128 32 [1] iota_S256x128_d1_w32) (k0_pay6 L) q k) (k0_pay49 D v) (k0_pay50 D o)
    = dqT 4#32 L q k (k0_pay47 D) v o := rfl
theorem dk_4 : k0_pay53 (k0_pay45 q) (k0_pay48 (iota Kind.tc S256x128 32 [1] iota_S256x128_d1_w32) (k0_pay6 L) q k) (k0_pay49 D v) (k0_pay50 D o) x
    = dkT 4#32 L q k (k0_pay47 D) v o x := rfl
theorem dv_4 : k0_pay54 (k0_pay47 D) (k0_pay48 (iota Kind.tc S256x128 32 [1] iota_S256x128_d1_w32) (k0_pay6 L) q k) x
    = dvT 4#32 L q k (k0_pay47 D) x := rfl
theorem dq_5 : k0_pay62 (k0_pay56 k) (k0_pay57 v) (k0_pay58 D) (k0_pay59 (iota Kind.tc S256x128 32 [1] iota_S256x128_d1_w32) (k0_pay6 L) q k) o
    = dqT 5#32 L q k (k0_pay58 D) v o := rfl
theorem dk_5 : k0_pay63 (k0_pay55 q) (k0_pay57 v) (k0_pay58 D) (k0_pay59 (iota Kind.tc S256x128 32 [1] iota_S256x128_d1_w32) (k0_pay6 L) q k) o x
    = dkT 5#32 L q k (k0_pay58 D) v o x := rfl
theorem dv_5 : k0_pay64 (k0_pay58 D) (k0_pay59 (iota Kind.tc S256x128 32 [1] iota_S256x128_d1_w32) (k0_pay6 L) q k) x
    = dvT 5#32 L q k (k0_pay58 D) x := rfl
theorem dq_6 : k0_pay71 (iota Kind.tc S256x128 32 [1] iota_S256x128_d1_w32) D (k0_pay6 L) (k0_pay65 q) (k0_pay66 k) (k0_pay67 v) o
    = dqT 6#32 L q k (k0_pay68 D) v o := rfl
theorem dk_6 : k0_pay72 (iota Kind.tc S256x128 32 [1] iota_S256x128_d1_w32) D (k0_pay6 L) (k0_pay65 q) (k0_pay66 k) (k0_pay67 v) o x
    = dkT 6#32 L q k (k0_pay68 D) v o x := rfl
theorem dv_6 : k0_pay73 (iota Kind.tc S256x128 32 [1] iota_S256x128_d1_w32) D (k0_pay6 L) (k0_pay65 q) (k0_pay66 k) x
    = dvT 6#32 L q k (k0_pay68 D) x := rfl
theorem dq_7 : k0_pay79 (iota Kind.tc S256x128 32 [1] iota_S256x128_d1_w32) D (k0_pay6 L) q k v o
    = dqT 7#32 L q k (k0_pay76 D) v o := rfl
theorem dk_7 : k0_pay80 (iota Kind.tc S256x128 32 [1] iota_S256x128_d1_w32) D (k0_pay6 L) q k v o x
    = dkT 7#32 L q k (k0_pay76 D) v o x := rfl
theorem dv_7 : k0_pay1 (k0_pay76 D) (k0_pay77 (iota Kind.tc S256x128 32 [1] iota_S256x128_d1_w32) (k0_pay6 L) q k) x
    = dvT 7#32 L q k (k0_pay76 D) x := rfl

end Cert.Kernel15Ideal.Attn
-- ==== Proof.AttnHost.lean ====
/- What the host prepares for the attention's backward call, over the reals. -/
module

public import proofs.«01_k».proof.Proof.AttnHead
public import proofs.«01_k».proof.Proof.Finite

@[expose] public section

set_option maxRecDepth 16384

noncomputable section

namespace Cert.Kernel15Ideal.Attn

open Cert.Kernel15Ideal Cert.Kernel15Ideal.Gen
open Cert.Attn Cert.Reals
open Idealize.ShloMosaic Idealize.ShloMosaic.TcCoe Idealize.ShloMosaic.Tactic

variable [Facts₀] [Facts]

/-! ## The stages -/

variable (x0 : FVec Ideal S4096x512 .f32) (x1 x2 : FVec Ideal S4096x128 .f32)

/-- The scores. -/
def hs : FVec Ideal S2x2x4x2048x2048 .f32 :=
  transpose S2x2x4x2048x2048 [0, 1, 4, 3, 2] (Host.dotGeneral dot_S2x2048x2x64_S2x2048x2x4x64_S2x2x2048x2048x4_3_4_1_13_02_02 none
    (shapeCast S2x2048x2x64 x1 shapeCasts_S4096x128_S2x2048x2x64 : FVec Ideal S2x2048x2x64 .f32)
    (shapeCast S2x2048x2x4x64 x0 shapeCasts_S4096x512_S2x2048x2x4x64 : FVec Ideal S2x2048x2x4x64 .f32) : FVec Ideal S2x2x2048x2048x4 .f32)
    transposes_S2x2x2048x2048x4_S2x2x4x2048x2048_0_1_4_3_2
/-- The greatest score of a row. -/
def hm : FVec Ideal S2x2x4x2048 .f32 :=
  Host.reduce FloatOps.maximumf (hs x0 x1) (constant (F := Ideal) S_ .f32 0xFF800000#32) reducesTo_S2x2x4x2048x2048_S2x2x4x2048_d4 h_S_
/-- The greatest, as a column. -/
def hc (v : FVec Ideal S2x2x4x2048 .f32) : FVec Ideal S2x2x4x2048x1 .f32 :=
  broadcastInDim S2x2x4x2048x1 ![0, 1, 2, 3] bcast_S2x2x4x2048_S2x2x4x2048x1_0_1_2_3 v
def hb (v : FVec Ideal S2x2x4x2048x1 .f32) : FVec Ideal S2x2x4x2048x2048 .f32 :=
  broadcastInDim S2x2x4x2048x2048 ![0, 1, 2, 3, 4] bcast_S2x2x4x2048x1_S2x2x4x2048x2048_0_1_2_3_4 v
/-- The exponentials. -/
def he : FVec Ideal S2x2x4x2048x2048 .f32 := Host.exp (subf (hs x0 x1) (hb (hc (hm x0 x1))))
/-- Their sums. -/
def hl : FVec Ideal S2x2x4x2048x1 .f32 :=
  hc (Host.reduceAdd (he x0 x1) (constant S_ .f32 0x00000000#32) reducesTo_S2x2x4x2048x2048_S2x2x4x2048_d4 h_S_)
/-- The attention's result. -/
def ho : FVec Ideal S4096x512 .f32 :=
  shapeCast S4096x512 (transpose S2x2048x2x4x64 [0, 4, 1, 3, 2] (Host.dotGeneral dot_S2x2048x2x64_S2x2x4x2048x2048_S2x2x64x4x2048_1_4_3_23_02_01 none
    (shapeCast S2x2048x2x64 x2 shapeCasts_S4096x128_S2x2048x2x64 : FVec Ideal S2x2048x2x64 .f32)
    (Host.divf (he x0 x1) (hb (hl x0 x1))) : FVec Ideal S2x2x64x4x2048 .f32) transposes_S2x2x64x4x2048_S2x2048x2x4x64_0_4_1_3_2)
    shapeCasts_S2x2048x2x4x64_S4096x512
/-- The heads as columns, and the columns as lanes. -/
def ht (u : FVec Ideal S2x2x4x2048x1 .f32) : FVec Ideal S4096x8 .f32 :=
  shapeCast S4096x8 (transpose S2x2048x8 [0, 2, 1] (shapeCast S2x8x2048 u shapeCasts_S2x2x4x2048x1_S2x8x2048 : FVec Ideal S2x8x2048 .f32)
    transposes_S2x8x2048_S2x2048x8_0_2_1 : FVec Ideal S2x2048x8 .f32) shapeCasts_S2x2048x8_S4096x8
def hp (u : FVec Ideal S4096x8 .f32) : FVec Ideal S4096x128 .f32 :=
  pad S4096x128 ![0, 0] ![0, 120] ![0, 0] u (sitofp .f32 (constantI S_ 32 0#32) : FVec Ideal S_ .f32) pads_S4096x8_S4096x128_000_01200 h_S_
/-- The logarithms of the weights' denominators, a lane for each head. -/
def hlse : FVec Ideal S4096x128 .f32 := hp (ht (addf (hc (hm x0 x1)) (Host.log (hl x0 x1))))
/-- Each head's 64 columns in 128 lanes. -/
def pad8 (x : FVec Ideal S4096x512 .f32) : FVec Ideal S4096x1024 .bf16 :=
  truncf .bf16 (shapeCast S4096x1024 (pad S4096x8x128 ![0, 0, 0] ![0, 0, 64] ![0, 0, 0] (shapeCast S4096x8x64 x shapeCasts_S4096x512_S4096x8x64 : FVec Ideal S4096x8x64 .f32)
    (sitofp .f32 (constantI S_ 32 0#32) : FVec Ideal S_ .f32) pads_S4096x8x64_S4096x8x128_000_000_0640 h_S_ : FVec Ideal S4096x8x128 .f32) shapeCasts_S4096x8x128_S4096x1024 : FVec Ideal S4096x1024 .f32) bitsLt_bf16_f32
def pad2 (x : FVec Ideal S4096x128 .f32) : FVec Ideal S4096x256 .bf16 :=
  truncf .bf16 (shapeCast S4096x256 (pad S4096x2x128 ![0, 0, 0] ![0, 0, 64] ![0, 0, 0] (shapeCast S4096x2x64 x shapeCasts_S4096x128_S4096x2x64 : FVec Ideal S4096x2x64 .f32)
    (sitofp .f32 (constantI S_ 32 0#32) : FVec Ideal S_ .f32) pads_S4096x2x64_S4096x2x128_000_000_0640 h_S_ : FVec Ideal S4096x2x128 .f32) shapeCasts_S4096x2x128_S4096x256 : FVec Ideal S4096x256 .f32) bitsLt_bf16_f32
/-- The table that sends a head's columns to its lanes, and the one that sends them back. -/
def hsp : FVec Ideal S512x1024 .bf16 :=
  truncf .bf16 (shapeCast S512x1024 (pad S512x8x128 ![0, 0, 0] ![0, 0, 64] ![0, 0, 0] (shapeCast S512x8x64 (uitofp .f32 (cmpi .eq
    (addi (iotaInDim S512x512 32 0) (broadcastInDim S512x512 ![] bcast_S_S512x512 (constantI S_ 32 0#32))) (iotaInDim S512x512 32 1)) : FVec Ideal S512x512 .f32)
    shapeCasts_S512x512_S512x8x64 : FVec Ideal S512x8x64 .f32)
    (sitofp .f32 (constantI S_ 32 0#32) : FVec Ideal S_ .f32) pads_S512x8x64_S512x8x128_000_000_0640 h_S_ : FVec Ideal S512x8x128 .f32) shapeCasts_S512x8x128_S512x1024 : FVec Ideal S512x1024 .f32) bitsLt_bf16_f32
def hga : FVec Ideal S1024x512 .bf16 := transpose S1024x512 [1, 0] hsp transposes_S512x1024_S1024x512_1_0

/-! ## Their values -/

/-- The arguments' entries are `A`. -/
structure Reads (x0 : FVec Ideal S4096x512 .f32) (x1 x2 : FVec Ideal S4096x128 .f32) (x3 : FVec Ideal S4096x1024 .f32) (A : Args) : Prop where
  q : ∀ r k, x0 (ix2 r k) = ((A.q r.val k.val : ℝ) : EReal)
  k : ∀ r k, x1 (ix2 r k) = ((A.k r.val k.val : ℝ) : EReal)
  v : ∀ r k, x2 (ix2 r k) = ((A.v r.val k.val : ℝ) : EReal)
  ct : ∀ r k, x3 (ix2 r k) = ((A.ct r.val k.val : ℝ) : EReal)

theorem zero_real : FloatOps.sitofp (F := Ideal) FTy.f32 (0#32) = (((0 : ℝ)) : EReal) := by
  show (((0#32 : BitVec 32).toInt : ℝ) : EReal) = _
  norm_num

variable {x0 : FVec Ideal S4096x512 .f32} {x1 x2 : FVec Ideal S4096x128 .f32} {x3 : FVec Ideal S4096x1024 .f32} {A : Args} (h : Reads x0 x1 x2 x3 A)
include h

theorem hs_at (b : Fin 2) (kv : Fin 2) (g : Fin 4) (i j : Fin 2048) :
    hs x0 x1 (ix5 b kv g i j) = ((s A (4 * kv.val + g.val) (2048 * b.val + i.val) j.val : ℝ) : EReal) := by
  pointwise [hs]
  simp only [h.q, h.k, ← EReal.coe_mul, coe_sum]
  unfold s key
  refine congrArg _ (Finset.sum_congr rfl fun d _ => ?_)
  rw [mul_comm]
  refine congrArg₂ (· * ·) (congrArg₂ A.q ?_ ?_) (congrArg₂ A.k ?_ ?_) <;> simp <;> omega

theorem hm_at (b : Fin 2) (kv : Fin 2) (g : Fin 4) (i : Fin 2048) : ∃ y : ℝ, hm x0 x1 (ix4 b kv g i) = y := by
  unfold hm
  exact row_real _ (constant (F := Ideal) S_ .f32 0xFF800000#32) reducesTo_S2x2x4x2048x2048_S2x2x4x2048_d4 h_S_
    (fun _ => bot_eq) (fun i => by rw [eq_ix5 i]; exact ⟨_, hs_at h _ _ _ _ _⟩) (by omega) b kv g i

theorem he_at (b : Fin 2) (kv : Fin 2) (g : Fin 4) (i j : Fin 2048) (y : ℝ) (hy : hm x0 x1 (ix4 b kv g i) = y) :
    he x0 x1 (ix5 b kv g i j) = ((Real.exp (s A (4 * kv.val + g.val) (2048 * b.val + i.val) j.val - y) : ℝ) : EReal) := by
  have e := hs_at h b kv g i j
  unfold he
  revert e hy
  generalize hs x0 x1 = v
  generalize hm x0 x1 = w
  intro hy e
  pointwise [hb, hc]
  refine (congrArg Ideal.exp (congrArg₂ (· - ·) e hy)).trans ?_
  rw [← EReal.coe_sub, Ideal.exp_coe]

theorem hl_at (b : Fin 2) (kv : Fin 2) (g : Fin 4) (i : Fin 2048) (z : Fin 1) (y : ℝ) (hy : hm x0 x1 (ix4 b kv g i) = y) :
    hl x0 x1 (ix5 b kv g i z) = ((∑ j : Fin 2048, Real.exp (s A (4 * kv.val + g.val) (2048 * b.val + i.val) j.val - y) : ℝ) : EReal) := by
  have e := fun j => he_at h b kv g i j y hy
  unfold hl
  revert e
  generalize he x0 x1 = v
  intro e
  pointwise [hc]
  exact (Finset.sum_congr rfl fun x _ => e x).trans (coe_sum _ _)

end Cert.Kernel15Ideal.Attn
-- ==== Proof.AttnHostVal.lean ====
/- The host's padded arrays, its table, and the logarithms it prepares, over the reals. -/
module

public import proofs.«01_k».proof.Proof.AttnHead
public import proofs.«01_k».proof.Proof.AttnHost
public import Idealize.ShloMosaic.Lib.WordCmp

@[expose] public section

set_option maxRecDepth 16384

noncomputable section

namespace Cert.Kernel15Ideal.Attn

open Cert.Kernel15Ideal Cert.Kernel15Ideal.Gen
open Cert.Attn Cert.Reals
open Idealize.ShloMosaic Idealize.ShloMosaic.TcCoe Idealize.ShloMosaic.Tactic

variable [Facts₀] [Facts]

theorem pad8_at (x : FVec Ideal S4096x512 .f32) (f : ℕ → ℕ → ℝ) (hf : ∀ r k, x (ix2 r k) = ((f r.val k.val : ℝ) : EReal)) (r : Fin 4096) (k : Fin 1024) :
    pad8 x (ix2 r k) = ((lane (k.val % 128) (f r.val (64 * (k.val / 128) + k.val % 128)) : ℝ) : EReal) := by
  pointwise [pad8]
  split
  · next e =>
    rw [hf]
    unfold lane
    rw [if_pos e.2]
    exact cell rfl (by simp only; omega)
  · next e =>
    unfold lane
    rw [if_neg (by omega), zero_real]

theorem pad2_at (x : FVec Ideal S4096x128 .f32) (f : ℕ → ℕ → ℝ) (hf : ∀ r k, x (ix2 r k) = ((f r.val k.val : ℝ) : EReal)) (r : Fin 4096) (k : Fin 256) :
    pad2 x (ix2 r k) = ((lane (k.val % 128) (f r.val (64 * (k.val / 128) + k.val % 128)) : ℝ) : EReal) := by
  pointwise [pad2]
  split
  · next e =>
    rw [hf]
    unfold lane
    rw [if_pos e.2]
    exact cell rfl (by simp only; omega)
  · next e =>
    unfold lane
    rw [if_neg (by omega), zero_real]

theorem hsp_at (r : Fin 512) (k : Fin 1024) : hsp (ix2 r k)
    = ((if k.val % 128 < 64 ∧ r.val = 64 * (k.val / 128) + k.val % 128 then 1 else 0 : ℝ) : EReal) := by
  pointwise [hsp]
  have e : IntOp.cmpi CmpIPredicate.eq (IntOp.addi (BitVec.ofNat 32 r.val) 0#32) (BitVec.ofNat 32 (k.val / 128 * 64 + k.val % 128))
      = if r.val = k.val / 128 * 64 + k.val % 128 then 1#1 else 0#1 := by
    rw [show IntOp.addi (BitVec.ofNat 32 r.val) 0#32 = BitVec.ofNat 32 r.val from BitVec.add_zero _, WordCmp.cmpi_eq_eq_toNat, BitVec.toNat_ofNat, BitVec.toNat_ofNat,
      Nat.mod_eq_of_lt (by omega), Nat.mod_eq_of_lt (by omega)]
    split <;> simp_all
  rw [e]
  split
  · next e1 =>
    split
    · next e2 =>
      rw [if_pos ⟨e1.2, by omega⟩]
      show (((1#1 : BitVec 1).toNat : ℝ) : EReal) = _
      norm_num
    · next e2 =>
      rw [if_neg (by omega)]
      show (((0#1 : BitVec 1).toNat : ℝ) : EReal) = _
      norm_num
  · next e1 =>
    rw [if_neg (by omega), zero_real]

theorem hga_at (r : Fin 512) (k : Fin 1024) : hga (ix2 k r) = hsp (ix2 r k) := by
  generalize hv : hsp = v
  pointwise [hga, hv]

theorem ht_at (u : FVec Ideal S2x2x4x2048x1 .f32) (r : Fin 4096) (z : Fin 8) : ht u (ix2 r z)
    = u (ix5 ⟨r.val / 2048, by omega⟩ ⟨z.val / 4, by omega⟩ ⟨z.val % 4, by omega⟩ ⟨r.val % 2048, by omega⟩ 0) := by
  pointwise [ht]

theorem hp_at (u : FVec Ideal S4096x8 .f32) (r : Fin 4096) (w : ℕ) (hw : w < 8) : hp u (ix2 r ⟨w, by omega⟩) = u (ix2 r ⟨w, hw⟩) := by
  have e : ∀ z : Fin 128, (hz : z.val < 8) → hp u (ix2 r z) = u (ix2 r ⟨z.val, hz⟩) := fun z hz => by
    pointwise [hp]
    rw [dif_pos (by omega)]
  exact e ⟨w, by omega⟩ hw

theorem log_at (v : FVec Ideal S2x2x4x2048 .f32) (u : FVec Ideal S2x2x4x2048x1 .f32) (b : Fin 2) (kv : Fin 2) (g : Fin 4) (i : Fin 2048) (z : Fin 1) :
    addf (hc v) (Host.log u) (ix5 b kv g i z) = v (ix4 b kv g i) + Ideal.log (u (ix5 b kv g i z)) := by
  pointwise [hc]

variable {x0 : FVec Ideal S4096x512 .f32} {x1 x2 : FVec Ideal S4096x128 .f32} {x3 : FVec Ideal S4096x1024 .f32} {A : Args} (h : Reads x0 x1 x2 x3 A)
include h

theorem ho_at (r : Fin 4096) (c : Fin 512) : ho x0 x1 x2 (ix2 r c) = ((o A (c.val / 64) r.val (c.val % 64) : ℝ) : EReal) := by
  obtain ⟨y, hy⟩ := hm_at h ⟨r.val / 2048, by omega⟩ ⟨c.val / 256, by omega⟩ ⟨c.val / 64 % 4, by omega⟩ ⟨r.val % 2048, by omega⟩
  have e := fun j => he_at h _ _ _ _ j y hy
  have e' := hl_at h _ _ _ _ 0 y hy
  unfold ho
  revert e e'
  generalize he x0 x1 = v
  generalize hl x0 x1 = w
  intro e e'
  pointwise [hb]
  have ew : ∀ x : Fin 2048, Ideal.div (v (ix5 ⟨r.val / 2048, by omega⟩ ⟨c.val / 256, by omega⟩ ⟨c.val / 64 % 4, by omega⟩ ⟨r.val % 2048, by omega⟩ x))
      (w (ix5 ⟨r.val / 2048, by omega⟩ ⟨c.val / 256, by omega⟩ ⟨c.val / 64 % 4, by omega⟩ ⟨r.val % 2048, by omega⟩ 0)) = ((p A (c.val / 64) r.val x.val : ℝ) : EReal) := fun x => by
    refine (congrArg₂ Ideal.div (e x) e').trans ?_
    rw [div_real _ _ (sum_exp_pos fun j => s A _ _ j - y).ne', soft]
    exact congrArg (fun z : ℝ => (z : EReal)) (congrArg₂ (p A · · x.val) (by simp only; omega) (by simp only; omega))
  have ev : ∀ x : Fin 2048, x2 (ix2 ⟨r.val / 2048 * 2048 + x.val, by omega⟩ ⟨c.val / 256 * 64 + c.val % 64, by omega⟩)
      = ((A.v (key r.val x.val) (64 * (c.val / 64 / 4) + c.val % 64) : ℝ) : EReal) := fun x => by
    rw [h.v]
    exact cell (by unfold key; simp only; omega) (by simp only; omega)
  refine (Finset.sum_congr rfl fun (x : Fin 2048) _ => (congrArg₂ (· * ·) (ev x) (ew x)).trans ((mul_comm _ _).trans (EReal.coe_mul _ _).symm)).trans (coe_sum _ _)

theorem hlse_at (r : Fin 4096) (w : ℕ) (hw : w < 8) : ∃ y : ℝ, hlse x0 x1 (ix2 r ⟨w, by omega⟩)
    = ((y + Real.log (∑ j : Fin 2048, Real.exp (s A w r.val j.val - y)) : ℝ) : EReal) := by
  obtain ⟨y, hy⟩ := hm_at h ⟨r.val / 2048, by omega⟩ ⟨w / 4, by omega⟩ ⟨w % 4, by omega⟩ ⟨r.val % 2048, by omega⟩
  have e' := hl_at h _ _ _ _ 0 y hy
  refine ⟨y, ?_⟩
  unfold hlse
  rw [hp_at _ r w hw, ht_at]
  rw [log_at, hy, e', Ideal.log_coe, if_neg (not_le.mpr (sum_exp_pos fun j => s A _ _ j - y)), ← EReal.coe_add]
  refine congrArg (fun x : ℝ => (x : EReal)) (congrArg (y + Real.log ·) (Finset.sum_congr rfl fun j _ => congrArg (fun x => Real.exp (x - y)) (congrArg₂ (s A · · j.val) ?_ ?_))) <;> simp <;> omega

end Cert.Kernel15Ideal.Attn
-- ==== Proof.AttnIn.lean ====
/- The blocks the attention's backward call reads, over the reals. -/
module

public import proofs.«01_k».proof.Proof.AttnHostVal
public import proofs.«01_k».proof.Proof.Gen.Kernel15Ideal.Frame
public import Idealize.ShloMosaic.Lib.Pipeline.ValueKit

@[expose] public section

set_option maxRecDepth 16384

noncomputable section

namespace Cert.Kernel15Ideal.Attn

open Cert.Kernel15Ideal Cert.Kernel15Ideal.Gen
open Cert.Attn Cert.Reals
open Idealize.ShloMosaic Idealize.ShloMosaic.TcCoe Idealize.ShloMosaic.Tactic

/-- The block index of every window at a point. -/
theorem idx : ∀ t : Fin cfg0.N, win0_0.index t = ![t.val, 0] ∧ win0_1.index t = ![t.val / 8, 0] ∧ win0_2.index t = ![t.val / 8, 0]
    ∧ win0_3.index t = ![t.val, 0] ∧ win0_4.index t = ![t.val, 0] ∧ win0_5.index t = ![t.val, 1] ∧ win0_6.index t = ![0, 0] ∧ win0_7.index t = ![0, 0]
    ∧ win0_8.index t = ![t.val, 0] ∧ win0_9.index t = ![t.val / 8, 0] ∧ win0_10.index t = ![t.val / 8, 0] :=
  (by decide +kernel : ∀ t : Fin grid0.N, _)

/-! ## The operands the host prepares -/

section Operands

variable (m : (ℓ : Loc nD τ sig) → Buf (Elt Ideal) ℓ) (c : Dev nD)

theorem V_lse : V m c main_v22 = hlse (m ((c : Thread nD τ).loc main_arg0)) (m ((c : Thread nD τ).loc main_arg1)) := by
  simp only [V, List.flatten_cons, List.flatten_nil, hostOps0, hostOps0_1, hostOps0_2, hostOps0_3, hostOps0_4, hostOps0_5, hostOps0_6, hostOps0_7, hostOps0_8, hostOps0_9, hostOps0_10, hostOps0_11, hostOps0_12, List.cons_append, List.nil_append, List.append_nil]
  entry_read
  have e : ∀ (u u' : FVec Ideal S4096x8 .f32) (z z' : FVec Ideal S_ .f32), u = u' → z = z' → (pad S4096x128 ![0, 0] ![0, 120] ![0, 0] u z pads_S4096x8_S4096x128_000_01200 h_S_ : FVec Ideal S4096x128 .f32) = pad S4096x128 ![0, 0] ![0, 120] ![0, 0] u' z' pads_S4096x8_S4096x128_000_01200 h_S_ := by
    rintro u u' z z' rfl rfl; rfl
  exact e _ (ht (addf (hc (hm (m ((c : Thread nD τ).loc main_arg0)) (m ((c : Thread nD τ).loc main_arg1)))) (Host.log (hl (m ((c : Thread nD τ).loc main_arg0)) (m ((c : Thread nD τ).loc main_arg1)))))) _ _ rfl rfl
theorem V_spread : V m c main_v32 = hsp := rfl
theorem V_gather : V m c main_v33 = hga := rfl
theorem V_q : V m c main_v37 = pad8 (m ((c : Thread nD τ).loc main_arg0)) := rfl
theorem V_k : V m c main_v41 = pad2 (m ((c : Thread nD τ).loc main_arg1)) := rfl
theorem V_v : V m c main_v45 = pad2 (m ((c : Thread nD τ).loc main_arg2)) := rfl
theorem V_o : V m c main_v49 = pad8 (ho (m ((c : Thread nD τ).loc main_arg0)) (m ((c : Thread nD τ).loc main_arg1)) (m ((c : Thread nD τ).loc main_arg2))) := by
  simp only [V, List.flatten_cons, List.flatten_nil, hostOps0, hostOps0_1, hostOps0_2, hostOps0_3, hostOps0_4, hostOps0_5, hostOps0_6, hostOps0_7, hostOps0_8, hostOps0_9, hostOps0_10, hostOps0_11, hostOps0_12, List.cons_append, List.nil_append, List.append_nil]
  entry_read
  rfl
theorem V_ct : V m c main_v50 = m ((c : Thread nD τ).loc main_arg3) := by
  simp only [V, List.flatten_cons, List.flatten_nil, hostOps0, hostOps0_1, hostOps0_2, hostOps0_3, hostOps0_4, hostOps0_5, hostOps0_6, hostOps0_7, hostOps0_8, hostOps0_9, hostOps0_10, hostOps0_11, hostOps0_12, List.cons_append, List.nil_append, List.append_nil]
  entry_read
  rfl

end Operands

variable {m : (ℓ : Loc nD τ sig) → Buf (Elt Ideal) ℓ} {c : Dev nD} {A : Args}
  (h : Reads (m ((c : Thread nD τ).loc main_arg0)) (m ((c : Thread nD τ).loc main_arg1)) (m ((c : Thread nD τ).loc main_arg2)) (m ((c : Thread nD τ).loc main_arg3)) A)
  (t : Fin cfg0.N)
include h

/-- The queries, each head's 64 columns in 128 lanes. -/
theorem in0 (j : Fin 256) (k : Fin 1024) : iblk m c 0 t (ix2 j k)
    = ((lane (k.val % 128) (A.q (256 * t.val + j.val) (64 * (k.val / 128) + k.val % 128)) : ℝ) : EReal) := by
  have ht := Nat.lt_of_lt_of_eq t.isLt N_0
  have e : iblk m c 0 t (ix2 j k) = V m c main_v37 (ix2 ⟨256 * t.val + j.val, by omega⟩ k) := by
    blk_ext [iblk, idx t]
  exact e.trans ((congrFun (V_q m c) _).trans (pad8_at _ A.q h.q _ _))

/-- The keys and the values. -/
theorem in1 (j : Fin 2048) (k : Fin 256) : iblk m c 1 t (ix2 j k)
    = ((lane (k.val % 128) (A.k (2048 * (t.val / 8) + j.val) (64 * (k.val / 128) + k.val % 128)) : ℝ) : EReal) := by
  have ht := Nat.lt_of_lt_of_eq t.isLt N_0
  have e : iblk m c 1 t (ix2 j k) = V m c main_v41 (ix2 ⟨2048 * (t.val / 8) + j.val, by omega⟩ k) := by
    blk_ext [iblk, idx t]
  exact e.trans ((congrFun (V_k m c) _).trans (pad2_at _ A.k h.k _ _))

theorem in2 (j : Fin 2048) (k : Fin 256) : iblk m c 2 t (ix2 j k)
    = ((lane (k.val % 128) (A.v (2048 * (t.val / 8) + j.val) (64 * (k.val / 128) + k.val % 128)) : ℝ) : EReal) := by
  have ht := Nat.lt_of_lt_of_eq t.isLt N_0
  have e : iblk m c 2 t (ix2 j k) = V m c main_v45 (ix2 ⟨2048 * (t.val / 8) + j.val, by omega⟩ k) := by
    blk_ext [iblk, idx t]
  exact e.trans ((congrFun (V_v m c) _).trans (pad2_at _ A.v h.v _ _))

/-- The attention's result. -/
theorem in3 (j : Fin 256) (k : Fin 1024) : iblk m c 3 t (ix2 j k)
    = ((lane (k.val % 128) (o A ((64 * (k.val / 128) + k.val % 128) / 64) (256 * t.val + j.val) ((64 * (k.val / 128) + k.val % 128) % 64)) : ℝ) : EReal) := by
  have ht := Nat.lt_of_lt_of_eq t.isLt N_0
  have e : iblk m c 3 t (ix2 j k) = V m c main_v49 (ix2 ⟨256 * t.val + j.val, by omega⟩ k) := by
    blk_ext [iblk, idx t]
  exact e.trans ((congrFun (V_o m c) _).trans (pad8_at _ (fun r k => o A (k / 64) r (k % 64)) (ho_at h) _ _))

/-- The logarithms of the weights' denominators. -/
theorem in4 (j : Fin 256) (w : ℕ) (hw : w < 8) : ∃ y : ℝ, iblk m c 4 t (ix2 j ⟨w, by omega⟩)
    = ((y + Real.log (∑ x : Fin 2048, Real.exp (s A w (256 * t.val + j.val) x.val - y)) : ℝ) : EReal) := by
  have ht := Nat.lt_of_lt_of_eq t.isLt N_0
  have e : ∀ z : Fin 128, iblk m c 4 t (ix2 j z) = V m c main_v22 (ix2 ⟨256 * t.val + j.val, by omega⟩ z) := fun z => by
    blk_ext [iblk, idx t]
  obtain ⟨y, hy⟩ := hlse_at h ⟨256 * t.val + j.val, by omega⟩ w hw
  exact ⟨y, (e _).trans ((congrFun (V_lse m c) _).trans hy)⟩

/-- The result's gradient: the last 512 columns of the mix's. -/
theorem in5 (j : Fin 256) (k : Fin 512) : iblk m c 5 t (ix2 j k)
    = ((A.ct (256 * t.val + j.val) (512 + k.val) : ℝ) : EReal) := by
  have ht := Nat.lt_of_lt_of_eq t.isLt N_0
  have e : iblk m c 5 t (ix2 j k) = V m c main_v50 (ix2 ⟨256 * t.val + j.val, by omega⟩ ⟨512 + k.val, by omega⟩) := by
    blk_ext [iblk, idx t]
  exact e.trans ((congrFun (V_ct m c) _).trans (h.ct _ _))

omit h in
/-- The two tables. -/
theorem in6 (j : Fin 512) (k : Fin 1024) : iblk m c 6 t (ix2 j k)
    = ((if k.val % 128 < 64 ∧ j.val = 64 * (k.val / 128) + k.val % 128 then 1 else 0 : ℝ) : EReal) := by
  have e : iblk m c 6 t (ix2 j k) = V m c main_v32 (ix2 j k) := by
    blk_ext [iblk, idx t]
  exact e.trans ((congrFun (V_spread m c) _).trans (hsp_at _ _))

omit h in
theorem in7 (j : Fin 512) (k : Fin 1024) : iblk m c 7 t (ix2 k j)
    = ((if k.val % 128 < 64 ∧ j.val = 64 * (k.val / 128) + k.val % 128 then 1 else 0 : ℝ) : EReal) := by
  have e : iblk m c 7 t (ix2 k j) = V m c main_v33 (ix2 k j) := by
    blk_ext [iblk, idx t]
  exact e.trans ((congrFun (V_gather m c) _).trans ((hga_at _ _).trans (hsp_at _ _)))

end Cert.Kernel15Ideal.Attn
-- ==== Proof.AttnTiles.lean ====
/- The pieces of the attention's blocks: columns of a written block, and a head's operands. -/
module

public import proofs.«01_k».proof.Proof.AttnBody
public import proofs.«01_k».proof.Proof.AttnIn

@[expose] public section

set_option maxRecDepth 16384

noncomputable section

namespace Cert.Kernel15Ideal.Attn

open Cert.Kernel15Ideal Cert.Kernel15Ideal.Gen
open Cert.Attn Cert.Reals
open Idealize.ShloMosaic Idealize.ShloMosaic.TcCoe Idealize.ShloMosaic.Tactic

section Pieces

variable {n0 n1 w off : ℕ} (inb : ∀ a, (![0, off] : Fin 2 → ℕ) a + (![n0, w] : Fin 2 → ℕ) a ≤ (⟨2, ![n0, n1]⟩ : Shape).size a)

theorem emb_eq (r : Fin n0) (d : Fin w) (c : Fin n1) (h : c.val = off + d.val) :
    (Rect.unit (s := ⟨2, ![n0, n1]⟩) ![0, off] ![n0, w] inb).emb (ix2 r d) = ix2 r c := by
  funext a
  apply Fin.ext
  refine (Rect.idx_unit_val (s := ⟨2, ![n0, n1]⟩) ![0, off] ![n0, w] inb (ix2 r d) a).trans ?_
  fin_cases a
  · simp [ix2]
  · simp [ix2, h]

/-- A column inside the last piece written is read from it. -/
theorem canon_hit (x : FVec Ideal ⟨2, ![n0, w]⟩ .f32) (L : List (View.Piece (Elt Ideal) ⟨2, ![n0, n1]⟩ .f32)) (r : Fin n0) (d : Fin w) (c : Fin n1) (h : c.val = off + d.val) :
    View.canon (Val := Elt Ideal) (s := ⟨2, ![n0, n1]⟩) (e := .f32) (⟨Rect.unit ![0, off] ![n0, w] inb, x⟩ :: L) (ix2 r c) = x (ix2 r d) := by
  rw [← emb_eq inb r d c h]
  exact View.canon_cons_emb _ _ _ _

/-- A column outside it is read from the pieces before. -/
theorem canon_skip (x : FVec Ideal ⟨2, ![n0, w]⟩ .f32) (L : List (View.Piece (Elt Ideal) ⟨2, ![n0, n1]⟩ .f32)) (r : Fin n0) (c : Fin n1) (h : c.val < off ∨ off + w ≤ c.val) :
    View.canon (Val := Elt Ideal) (s := ⟨2, ![n0, n1]⟩) (e := .f32) (⟨Rect.unit ![0, off] ![n0, w] inb, x⟩ :: L) (ix2 r c)
      = View.canon (Val := Elt Ideal) (s := ⟨2, ![n0, n1]⟩) (e := .f32) L (ix2 r c) := by
  refine View.canon_cons_of_not_mem _ _ fun hm => ?_
  have h1 := (Rect.mem_set_unit (inb := inb)).mp hm 1
  have h2 : off ≤ c.val ∧ c.val < off + w := h1
  omega

/-- A tile of a block. -/
theorem ld_at {e : EltTy} (X : (⟨2, ![n0, n1]⟩ : Shape).Idx → Elt Ideal e) (r : Fin n0) (d : Fin w) (c : Fin n1) (h : c.val = off + d.val) :
    View.ld (Val := Elt Ideal) (S := ⟨2, ![n0, n1]⟩) X (Rect.unit ![0, off] ![n0, w] inb) (ix2 r d) = X (ix2 r c) :=
  congrArg X (emb_eq inb r d c h)

end Pieces

variable {m : (ℓ : Loc nD τ sig) → Buf (Elt Ideal) ℓ} {c : Dev nD} {A : Args}
  (h : Reads (m ((c : Thread nD τ).loc main_arg0)) (m ((c : Thread nD τ).loc main_arg1)) (m ((c : Thread nD τ).loc main_arg2)) (m ((c : Thread nD τ).loc main_arg3)) A)
  (t : Fin cfg0.N)
include h

/-- The result's gradient, each head's 64 columns in 128 lanes. -/
theorem dop_at (i : Fin 256) (k : Fin 1024) : k0_pay5 (iblk m c 5 t) (iblk m c 6 t) (ix2 i k)
    = ((lane (k.val % 128) (A.ct (256 * t.val + i.val) (512 + (64 * (k.val / 128) + k.val % 128))) : ℝ) : EReal) := by
  have e := in5 h t i
  have e' := fun j => in6 (m := m) (c := c) t j k
  revert e e'
  generalize iblk m c 5 t = X
  generalize iblk m c 6 t = Y
  intro e e'
  pointwise [k0_pay5]
  simp only [e, e', ← EReal.coe_mul, coe_sum]
  refine congrArg Real.toEReal ?_
  unfold lane
  by_cases hk : k.val % 128 < 64
  · rw [if_pos hk]
    refine (Finset.sum_eq_single (⟨64 * (k.val / 128) + k.val % 128, by omega⟩ : Fin 512) ?_ ?_).trans ?_
    · intro b _ hb
      rw [if_neg, mul_zero]
      exact fun hh => hb (Fin.ext hh.2)
    · exact fun hh => absurd (Finset.mem_univ _) hh
    · rw [if_pos ⟨hk, rfl⟩, mul_one]
  · rw [if_neg hk]
    exact Finset.sum_eq_zero fun b _ => by rw [if_neg (fun hh => hk hh.1), mul_zero]

/-- A head's operands are its tiles of the blocks. -/
theorem head_of (w : ℕ) (hw : w < 8) (q : Vec Ideal S256x128 .bf16) (k : Vec Ideal S2048x128 .bf16)
    (d : FVec Ideal S256x128 .bf16) (v : Vec Ideal S2048x128 .bf16) (o : Vec Ideal S256x128 .bf16)
    (hq : ∀ i (x : Fin 128), q (ix2 i x) = iblk m c 0 t (ix2 i ⟨128 * w + x.val, by omega⟩))
    (hk : ∀ i (x : Fin 128), k (ix2 i x) = iblk m c 1 t (ix2 i ⟨128 * (w / 4) + x.val, by omega⟩))
    (hv : ∀ i (x : Fin 128), v (ix2 i x) = iblk m c 2 t (ix2 i ⟨128 * (w / 4) + x.val, by omega⟩))
    (ho : ∀ i (x : Fin 128), o (ix2 i x) = iblk m c 3 t (ix2 i ⟨128 * w + x.val, by omega⟩))
    (hd : ∀ i (x : Fin 128), d (ix2 i x) = k0_pay5 (iblk m c 5 t) (iblk m c 6 t) (ix2 i ⟨128 * w + x.val, by omega⟩)) :
    Head A t.val w (iblk m c 4 t) q k d v o := by
  have e1 : ∀ (y : ℕ) (x : Fin 128), (128 * y + x.val) % 128 = x.val := fun y x => by omega
  have e2 : ∀ (y : ℕ) (x : Fin 128), (128 * y + x.val) / 128 = y := fun y x => by omega
  refine ⟨hw, fun i x => ?_, fun i x => ?_, fun i x => ?_, fun i x => ?_, fun i x => ?_, fun i => in4 h t i w hw⟩
  · refine (hq i x).trans ((in0 h t _ _).trans ?_)
    simp only [e1, e2]
  · refine (hk i x).trans ((in1 h t _ _).trans ?_)
    simp only [e1, e2]
  · refine (hv i x).trans ((in2 h t _ _).trans ?_)
    simp only [e1, e2]
  · refine (hd i x).trans ((dop_at h t _ _).trans ?_)
    simp only [e1, e2]
  · refine (ho i x).trans ((in3 h t _ _).trans ?_)
    simp only [e1, e2]
    unfold lane
    by_cases hx : x.val < 64
    · rw [if_pos hx, if_pos hx, show (64 * w + x.val) / 64 = w by omega, show (64 * w + x.val) % 64 = x.val by omega]
    · rw [if_neg hx, if_neg hx]

end Cert.Kernel15Ideal.Attn
-- ==== Proof.AttnSteps.lean ====
/- What one row tile of the attention's backward call leaves, over the reals. -/
module

public import proofs.«01_k».proof.Proof.AttnTiles

@[expose] public section

set_option maxRecDepth 16384

noncomputable section

namespace Cert.Kernel15Ideal.Attn

open Cert.Kernel15Ideal Cert.Kernel15Ideal.Gen
open Cert.Attn Cert.Reals
open Idealize.ShloMosaic Idealize.ShloMosaic.TcCoe Idealize.ShloMosaic.Tactic

/-! ## The heads -/

section Slices

variable (g : Vec Ideal S256x512 .bf16) (sp : Vec Ideal S512x1024 .bf16) (D : FVec Ideal S256x1024 .bf16) (i : Fin 256) (x : Fin 128)

theorem slice0 : k0_pay9 g sp (ix2 i x) = k0_pay5 g sp (ix2 i ⟨128 * 0 + x.val, by omega⟩) := by
  unfold k0_pay9
  generalize k0_pay5 g sp = D
  pointwise []
theorem slice1 : k0_pay20 D (ix2 i x) = D (ix2 i ⟨128 * 1 + x.val, by omega⟩) := by pointwise [k0_pay20]
theorem slice2 : k0_pay29 D (ix2 i x) = D (ix2 i ⟨128 * 2 + x.val, by omega⟩) := by pointwise [k0_pay29]
theorem slice3 : k0_pay39 D (ix2 i x) = D (ix2 i ⟨128 * 3 + x.val, by omega⟩) := by pointwise [k0_pay39]
theorem slice4 : k0_pay47 D (ix2 i x) = D (ix2 i ⟨128 * 4 + x.val, by omega⟩) := by pointwise [k0_pay47]
theorem slice5 : k0_pay58 D (ix2 i x) = D (ix2 i ⟨128 * 5 + x.val, by omega⟩) := by pointwise [k0_pay58]
theorem slice6 : k0_pay68 D (ix2 i x) = D (ix2 i ⟨128 * 6 + x.val, by omega⟩) := by pointwise [k0_pay68]
theorem slice7 : k0_pay76 D (ix2 i x) = D (ix2 i ⟨128 * 7 + x.val, by omega⟩) := by pointwise [k0_pay76]

end Slices

/-! ## Sums -/

/-- Four heads' rows below `n` of example `b`, in 128 lanes. -/
def four (f : ℕ → ℕ → ℝ) (kv b n d : ℕ) : ℝ := if d < 64 then ∑ g : Fin 4, ∑ i ∈ Finset.range n, f (4 * kv + g.val) (2048 * b + i) else 0

theorem four_step (f : ℕ → ℕ → ℝ) (kv t d : ℕ) {h0 h1 h2 h3 : ℕ} (e0 : h0 = 4 * kv) (e1 : h1 = 4 * kv + 1) (e2 : h2 = 4 * kv + 2) (e3 : h3 = 4 * kv + 3) :
    four f kv (t / 8) (256 * (t % 8)) d + lane d (∑ i : Fin 256, f h0 (256 * t + i.val)) + lane d (∑ i : Fin 256, f h1 (256 * t + i.val))
      + lane d (∑ i : Fin 256, f h2 (256 * t + i.val)) + lane d (∑ i : Fin 256, f h3 (256 * t + i.val)) = four f kv (t / 8) (256 * (t % 8 + 1)) d := by
  subst e0 e1 e2 e3
  have e : ∀ i : Fin 256, 2048 * (t / 8) + (256 * (t % 8) + i.val) = 256 * t + i.val := fun i => by omega
  unfold four lane
  by_cases hd : d < 64
  · simp only [if_pos hd, sum_tile, Fin.sum_univ_four, e]
    simp only [Fin.val_zero, Fin.val_one, Fin.val_two, show ((3 : Fin 4) : ℕ) = 3 from rfl, add_zero]
    ring
  · simp only [if_neg hd, add_zero]

theorem dkn_four (A : Args) (b n j kv d : ℕ) (hd : d < 128) : dkn A b n j (128 * kv + d) = four (fun h r => ds A h r j * A.q r (64 * h + d)) kv b n d := by
  unfold dkn dkh four
  rw [show (128 * kv + d) % 128 = d by omega, show (128 * kv + d) / 128 = kv by omega]
theorem dvn_four (A : Args) (b n j kv d : ℕ) (hd : d < 128) : dvn A b n j (128 * kv + d) = four (fun h r => p A h r j * A.ct r (512 + (64 * h + d))) kv b n d := by
  unfold dvn dvh four
  rw [show (128 * kv + d) % 128 = d by omega, show (128 * kv + d) / 128 = kv by omega]

section Halves

variable {A : Args} {t : ℕ} {h0 h1 h2 h3 : ℕ} {L : Vec Ideal S256x128 .f32}
  {q0 q1 q2 q3 o0 o1 o2 o3 : Vec Ideal S256x128 .bf16} {k0 k1 k2 k3 v0 v1 v2 v3 : Vec Ideal S2048x128 .bf16} {d0 d1 d2 d3 : FVec Ideal S256x128 .bf16}
  (kv : ℕ) (e0 : h0 = 4 * kv) (e1 : h1 = 4 * kv + 1) (e2 : h2 = 4 * kv + 2) (e3 : h3 = 4 * kv + 3)
  (H0 : Head A t h0 L q0 k0 d0 v0 o0) (H1 : Head A t h1 L q1 k1 d1 v1 o1) (H2 : Head A t h2 L q2 k2 d2 v2 o2) (H3 : Head A t h3 L q3 k3 d3 v3 o3)
  (x : Vec Ideal S2048x128 .f32) (j : Fin 2048) (d : Fin 128)
include e0 e1 e2 e3 H0 H1 H2 H3

/-- Four heads add to a group of the keys' gradient. -/
theorem dk_half (hx : x (ix2 j d) = ((dkn A (t / 8) (256 * (t % 8)) j.val (128 * kv + d.val) : ℝ) : EReal)) :
    dkT (BitVec.ofNat 32 h3) L q3 k3 d3 v3 o3 (dkT (BitVec.ofNat 32 h2) L q2 k2 d2 v2 o2 (dkT (BitVec.ofNat 32 h1) L q1 k1 d1 v1 o1
      (dkT (BitVec.ofNat 32 h0) L q0 k0 d0 v0 o0 x))) (ix2 j d) = ((dkn A (t / 8) (256 * (t % 8 + 1)) j.val (128 * kv + d.val) : ℝ) : EReal) := by
  refine (dkT_at H3 _ j d _ (dkT_at H2 _ j d _ (dkT_at H1 _ j d _ (dkT_at H0 x j d _ hx)))).trans (congrArg Real.toEReal ?_)
  rw [dkn_four A _ _ _ _ _ d.isLt, dkn_four A _ _ _ _ _ d.isLt]
  exact four_step (fun h r => ds A h r j.val * A.q r (64 * h + d.val)) kv t d.val e0 e1 e2 e3

/-- Four heads add to a group of the values' gradient. -/
theorem dv_half (hx : x (ix2 j d) = ((dvn A (t / 8) (256 * (t % 8)) j.val (128 * kv + d.val) : ℝ) : EReal)) :
    dvT (BitVec.ofNat 32 h3) L q3 k3 d3 (dvT (BitVec.ofNat 32 h2) L q2 k2 d2 (dvT (BitVec.ofNat 32 h1) L q1 k1 d1
      (dvT (BitVec.ofNat 32 h0) L q0 k0 d0 x))) (ix2 j d) = ((dvn A (t / 8) (256 * (t % 8 + 1)) j.val (128 * kv + d.val) : ℝ) : EReal) := by
  refine (dvT_at H3 _ j d _ (dvT_at H2 _ j d _ (dvT_at H1 _ j d _ (dvT_at H0 x j d _ hx)))).trans (congrArg Real.toEReal ?_)
  rw [dvn_four A _ _ _ _ _ d.isLt, dvn_four A _ _ _ _ _ d.isLt]
  exact four_step (fun h r => p A h r j.val * A.ct r (512 + (64 * h + d.val))) kv t d.val e0 e1 e2 e3

end Halves

/-! ## The queries' gradient -/

/-- A row of the queries' gradient, each head's 64 columns in 128 lanes. -/
def dqs (A : Args) (t r k : ℕ) : ℝ :=
  lane (k % 128) (∑ j : Fin 2048, ds A (k / 128) (256 * t + r) j.val * A.k (2048 * (t / 8) + j.val) (64 * (k / 128 / 4) + k % 128))

theorem dq_tile {A : Args} {t w off : ℕ} {L : Vec Ideal S256x128 .f32} {q : Vec Ideal S256x128 .bf16} {k : Vec Ideal S2048x128 .bf16}
    {d : FVec Ideal S256x128 .bf16} {v : Vec Ideal S2048x128 .bf16} {o : Vec Ideal S256x128 .bf16} (hoff : off = 128 * w)
    (H : Head A t w L q k d v o) (i : Fin 256) (x : Fin 128) :
    dqT (BitVec.ofNat 32 w) L q k d v o (ix2 i x) = ((dqs A t i.val (off + x.val) : ℝ) : EReal) := by
  refine (dqT_at H i x).trans (congrArg Real.toEReal ?_)
  unfold dqs
  rw [hoff, show (128 * w + x.val) % 128 = x.val by omega, show (128 * w + x.val) / 128 = w by omega]

/-- Columns written one group after another. -/
theorem canon_step {n0 n1 w off : ℕ} (f : ℕ → ℝ) (inb : ∀ a, (![0, off] : Fin 2 → ℕ) a + (![n0, w] : Fin 2 → ℕ) a ≤ (⟨2, ![n0, n1]⟩ : Shape).size a)
    (x : FVec Ideal ⟨2, ![n0, w]⟩ .f32) (L : List (View.Piece (Elt Ideal) ⟨2, ![n0, n1]⟩ .f32)) (r : Fin n0)
    (hx : ∀ d : Fin w, x (ix2 r d) = ((f (off + d.val) : ℝ) : EReal))
    (hL : ∀ c : Fin n1, c.val < off → View.canon (Val := Elt Ideal) (s := ⟨2, ![n0, n1]⟩) (e := .f32) L (ix2 r c) = ((f c.val : ℝ) : EReal))
    (c : Fin n1) (hc : c.val < off + w) :
    View.canon (Val := Elt Ideal) (s := ⟨2, ![n0, n1]⟩) (e := .f32) (⟨Rect.unit ![0, off] ![n0, w] inb, x⟩ :: L) (ix2 r c) = ((f c.val : ℝ) : EReal) := by
  by_cases h : c.val < off
  · exact (canon_skip inb x L r c (.inl h)).trans (hL c h)
  · have hw : c.val = off + (c.val - off) := by omega
    refine (canon_hit inb x L r ⟨c.val - off, by omega⟩ c hw).trans ((hx _).trans ?_)
    exact congrArg (fun y => ((f y : ℝ) : EReal)) hw.symm

/-- Each head's lanes go back to its columns; the remainder of the rounding is zero. -/
theorem pay2_at (X : Vec Ideal S256x1024 .f32) (G : Vec Ideal S1024x512 .bf16) (f : ℕ → ℕ → ℝ) (hX : ∀ i k, X (ix2 i k) = ((f i.val k.val : ℝ) : EReal))
    (hG : ∀ k c, G (ix2 k c) = ((if k.val % 128 < 64 ∧ c.val = 64 * (k.val / 128) + k.val % 128 then 1 else 0 : ℝ) : EReal)) (i : Fin 256) (c : Fin 512) :
    k0_pay2 X G (ix2 i c) = ((f i.val (128 * (c.val / 64) + c.val % 64) : ℝ) : EReal) := by
  pointwise [k0_pay2]
  simp only [hX, hG, ← EReal.coe_sub, ← EReal.coe_mul, coe_sum, ← EReal.coe_add]
  refine congrArg Real.toEReal ?_
  simp only [sub_self, zero_mul, Finset.sum_const_zero, add_zero]
  refine (Finset.sum_eq_single (⟨128 * (c.val / 64) + c.val % 64, by omega⟩ : Fin 1024) ?_ ?_).trans ?_
  · intro b _ hb
    rw [if_neg, mul_zero]
    refine fun hh => hb (Fin.ext ?_)
    show b.val = 128 * (c.val / 64) + c.val % 64
    omega
  · exact fun hh => absurd (Finset.mem_univ _) hh
  · rw [if_pos ⟨by dsimp only; omega, by dsimp only; omega⟩, mul_one]

/-- A row of the queries' gradient at its column. -/
theorem dqs_at (A : Args) (t r c : ℕ) (hr : r < 256) : dqs A t r (128 * (c / 64) + c % 64) = dq A (256 * t + r) c := by
  unfold dqs dq lane key
  rw [show (128 * (c / 64) + c % 64) % 128 = c % 64 by omega, show (128 * (c / 64) + c % 64) / 128 = c / 64 by omega,
    if_pos (by omega : c % 64 < 64), show 2048 * ((256 * t + r) / 2048) = 2048 * (t / 8) by omega]

end Cert.Kernel15Ideal.Attn
-- ==== Proof.AttnOut.lean ====
/- What the attention's backward call leaves, over the reals. -/
module

public import proofs.«01_k».proof.Proof.AttnSteps
public import Idealize.ShloMosaic.Lib.Pipeline.ReadBack

@[expose] public section

set_option maxRecDepth 16384

noncomputable section

namespace Cert.Kernel15Ideal.Attn

open Cert.Kernel15Ideal Cert.Kernel15Ideal.Gen
open Cert.Attn Cert.Reals
open Idealize.ShloMosaic Idealize.ShloMosaic.TcCoe Idealize.ShloMosaic.Tactic

/-- A block written in two groups of columns, each written four times. -/
theorem two_halves {n0 : ℕ} (f : ℕ → ℝ) (i1 : ∀ a, (![0, 128] : Fin 2 → ℕ) a + (![n0, 128] : Fin 2 → ℕ) a ≤ (⟨2, ![n0, 256]⟩ : Shape).size a)
    (i0 : ∀ a, (![0, 0] : Fin 2 → ℕ) a + (![n0, 128] : Fin 2 → ℕ) a ≤ (⟨2, ![n0, 256]⟩ : Shape).size a)
    (p0 p1 p2 p3 q0 : FVec Ideal ⟨2, ![n0, 128]⟩ .f32) (L : List (View.Piece (Elt Ideal) ⟨2, ![n0, 256]⟩ .f32)) (j : Fin n0) (c : Fin 256)
    (hp : ∀ d : Fin 128, p0 (ix2 j d) = ((f (128 * 1 + d.val) : ℝ) : EReal)) (hq : ∀ d : Fin 128, q0 (ix2 j d) = ((f (128 * 0 + d.val) : ℝ) : EReal)) :
    View.canon (Val := Elt Ideal) (s := ⟨2, ![n0, 256]⟩) (e := .f32) (⟨Rect.unit ![0, 128] ![n0, 128] i1, p0⟩ :: ⟨Rect.unit ![0, 128] ![n0, 128] i1, p1⟩
      :: ⟨Rect.unit ![0, 128] ![n0, 128] i1, p2⟩ :: ⟨Rect.unit ![0, 128] ![n0, 128] i1, p3⟩ :: ⟨Rect.unit ![0, 0] ![n0, 128] i0, q0⟩ :: L) (ix2 j c)
      = ((f c.val : ℝ) : EReal) := by
  by_cases h : c.val < 128
  · refine (canon_skip i1 _ _ j c (.inl h)).trans ((canon_skip i1 _ _ j c (.inl h)).trans ((canon_skip i1 _ _ j c (.inl h)).trans
      ((canon_skip i1 _ _ j c (.inl h)).trans ((canon_hit i0 _ _ j ⟨c.val, h⟩ c (by simp)).trans ((hq _).trans ?_)))))
    exact congrArg (fun y => ((f y : ℝ) : EReal)) (by simp)
  · refine (canon_hit i1 _ _ j ⟨c.val - 128, by omega⟩ c (by dsimp only; omega)).trans ((hp _).trans ?_)
    exact congrArg (fun y => ((f y : ℝ) : EReal)) (by dsimp only; omega)

theorem dkn_zero (A : Args) (b j c : ℕ) : dkn A b (256 * 0) j c = 0 := by unfold dkn dkh; simp
theorem dvn_zero (A : Args) (b j c : ℕ) : dvn A b (256 * 0) j c = 0 := by unfold dvn dvh; simp

theorem pay3_at (j : Fin 2048) (k : Fin 256) : k0_pay3 (F := Ideal) (ix2 j k) = ((0 : ℝ) : EReal) := by pointwise [k0_pay3]; simp
theorem pay4_at (j : Fin 2048) (k : Fin 256) : k0_pay4 (F := Ideal) (ix2 j k) = ((0 : ℝ) : EReal) := by pointwise [k0_pay4]; simp

variable {m : (ℓ : Loc nD τ sig) → Buf (Elt Ideal) ℓ} {c : Dev nD} {A : Args}
  (h : Reads (m ((c : Thread nD τ).loc main_arg0)) (m ((c : Thread nD τ).loc main_arg1)) (m ((c : Thread nD τ).loc main_arg2)) (m ((c : Thread nD τ).loc main_arg3)) A)
  (t : Fin cfg0.N)
include h

/-- A head's tiles. -/
theorem head_ld (w : ℕ) (hw : w < 8) {off ko : ℕ} (ho : off = 128 * w) (hk : ko = 128 * (w / 4))
    {inbq : ∀ a, (![0, off] : Fin 2 → ℕ) a + (![256, 128] : Fin 2 → ℕ) a ≤ S256x1024.size a}
    {inbk : ∀ a, (![0, ko] : Fin 2 → ℕ) a + (![2048, 128] : Fin 2 → ℕ) a ≤ S2048x256.size a} {d : FVec Ideal S256x128 .bf16}
    (hd : ∀ i (x : Fin 128), d (ix2 i x) = k0_pay5 (iblk m c 5 t) (iblk m c 6 t) (ix2 i ⟨128 * w + x.val, by omega⟩)) :
    Head A t.val w (iblk m c 4 t) (View.ld (Val := Elt Ideal) (iblk m c 0 t) (Rect.unit (s := S256x1024) ![0, off] ![256, 128] inbq))
      (View.ld (Val := Elt Ideal) (iblk m c 1 t) (Rect.unit (s := S2048x256) ![0, ko] ![2048, 128] inbk)) d
      (View.ld (Val := Elt Ideal) (iblk m c 2 t) (Rect.unit (s := S2048x256) ![0, ko] ![2048, 128] inbk))
      (View.ld (Val := Elt Ideal) (iblk m c 3 t) (Rect.unit (s := S256x1024) ![0, off] ![256, 128] inbq)) := by
  subst ho hk
  exact head_of h t w hw _ _ d _ _ (fun i x => ld_at inbq (e := .bf16) (iblk m c 0 t) i x _ rfl) (fun i x => ld_at inbk (e := .bf16) (iblk m c 1 t) i x _ rfl)
    (fun i x => ld_at inbk (e := .bf16) (iblk m c 2 t) i x _ rfl) (fun i x => ld_at inbq (e := .bf16) (iblk m c 3 t) i x _ rfl) hd

/-- The queries' gradient that a point leaves. -/
theorem after8 : (outsAt0 m c t.val t.isLt).1 = fun y => ((dq A (256 * t.val + (y 0).val) (y 1).val : ℝ) : EReal) := by
  obtain ⟨G, hG⟩ : ∃ G : S256x512.Idx → EReal, G = fun y => ((dq A (256 * t.val + (y 0).val) (y 1).val : ℝ) : EReal) := ⟨_, rfl⟩
  rw [← hG]
  by_cases h0 : t.val % 8 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    simp only [dq_0, dq_1, dq_2, dq_3, dq_4, dq_5, dq_6, dq_7]
    rw [hG]
    funext y
    obtain ⟨i, k, rfl⟩ : ∃ i k, y = ix2 i k := ⟨y 0, y 1, (ix2_eta y).symm⟩
    refine (pay2_at _ _ (dqs A t.val) (fun i k => ?_) (fun k j => in7 t j k) i k).trans (congrArg Real.toEReal (dqs_at A t.val i.val k.val i.isLt))
    rw [View.readCov_eq_canon']
    refine (congrArg (View.canon _) (emb_eq _ i k k (by simp))).trans ?_
    exact canon_step (dqs A t.val i.val) _ _ _ i (fun d => dq_tile rfl (head_ld h t 7 (by decide) rfl rfl (slice7 _)) i d)
      (canon_step (dqs A t.val i.val) _ _ _ i (fun d => dq_tile rfl (head_ld h t 6 (by decide) rfl rfl (slice6 _)) i d)
      (canon_step (dqs A t.val i.val) _ _ _ i (fun d => dq_tile rfl (head_ld h t 5 (by decide) rfl rfl (slice5 _)) i d)
      (canon_step (dqs A t.val i.val) _ _ _ i (fun d => dq_tile rfl (head_ld h t 4 (by decide) rfl rfl (slice4 _)) i d)
      (canon_step (dqs A t.val i.val) _ _ _ i (fun d => dq_tile rfl (head_ld h t 3 (by decide) rfl rfl (slice3 _)) i d)
      (canon_step (dqs A t.val i.val) _ _ _ i (fun d => dq_tile rfl (head_ld h t 2 (by decide) rfl rfl (slice2 _)) i d)
      (canon_step (dqs A t.val i.val) _ _ _ i (fun d => dq_tile rfl (head_ld h t 1 (by decide) rfl rfl (slice1 _)) i d)
      (canon_step (dqs A t.val i.val) _ _ _ i (fun d => dq_tile rfl (head_ld h t 0 (by decide) rfl rfl (slice0 _ _)) i d)
        (fun c hc => absurd hc (Nat.not_lt_zero _)))))))) ) k k.isLt

omit t in
/-- The keys' gradient that a point leaves: the row tiles so far. -/
theorem after9 : ∀ (n : ℕ) (hn : n < cfg0.N), (outsAt0 m c n hn).2.1
    = fun y => ((dkn A (n / 8) (256 * (n % 8 + 1)) (y 0).val (y 1).val : ℝ) : EReal)
  | n, hn => by
    obtain ⟨G, hG⟩ : ∃ G : S2048x256.Idx → EReal, G = fun y => ((dkn A (n / 8) (256 * (n % 8 + 1)) (y 0).val (y 1).val : ℝ) : EReal) := ⟨_, rfl⟩
    rw [← hG]
    by_cases h0 : n % 8 = 0
    · rw [outsAt0_A m c ⟨n, hn⟩ h0]
      frame_open
      simp (disch := decide) only [↓ View.readCov_skip, ↓ View.readCov_cons_toLoadRect, ↓ View.readCov_fill]
      frame_out
      simp only [dk_0, dk_1, dk_2, dk_3, dk_4, dk_5, dk_6, dk_7]
      rw [hG]
      funext y
      obtain ⟨j, k, rfl⟩ : ∃ j k, y = ix2 j k := ⟨y 0, y 1, (ix2_eta y).symm⟩
      have hz : ∀ k, dkn A (n / 8) (256 * (n % 8)) j.val k = 0 := fun k => by rw [h0]; exact dkn_zero A _ _ _
      exact two_halves (dkn A (n / 8) (256 * (n % 8 + 1)) j.val) _ _ _ _ _ _ _ _ j k
        (fun d => dk_half 1 rfl rfl rfl rfl (head_ld h ⟨n, hn⟩ 4 (by decide) rfl rfl (slice4 _)) (head_ld h ⟨n, hn⟩ 5 (by decide) rfl rfl (slice5 _))
          (head_ld h ⟨n, hn⟩ 6 (by decide) rfl rfl (slice6 _)) (head_ld h ⟨n, hn⟩ 7 (by decide) rfl rfl (slice7 _)) _ j d
          ((ld_at _ (e := .f32) _ j d ⟨128 + d.val, by omega⟩ rfl).trans ((pay3_at _ _).trans (congrArg Real.toEReal (hz _).symm))))
        (fun d => dk_half 0 rfl rfl rfl rfl (head_ld h ⟨n, hn⟩ 0 (by decide) rfl rfl (slice0 _ _)) (head_ld h ⟨n, hn⟩ 1 (by decide) rfl rfl (slice1 _))
          (head_ld h ⟨n, hn⟩ 2 (by decide) rfl rfl (slice2 _)) (head_ld h ⟨n, hn⟩ 3 (by decide) rfl rfl (slice3 _)) _ j d
          ((ld_at _ (e := .f32) _ j d ⟨0 + d.val, by omega⟩ rfl).trans ((pay3_at _ _).trans (congrArg Real.toEReal (hz _).symm))))
    · have e0 := after9 (n - 1) (Nat.lt_of_le_of_lt (Nat.sub_le _ _) hn)
      rw [show (n - 1) / 8 = n / 8 by omega, show (n - 1) % 8 + 1 = n % 8 by omega] at e0
      rw [outsAt0_B m c ⟨n, hn⟩ h0]
      frame_open
      simp (disch := decide) only [↓ View.readCov_skip, ↓ View.readCov_cons_toLoadRect, ↓ View.readCov_fill]
      frame_out
      simp only [dk_0, dk_1, dk_2, dk_3, dk_4, dk_5, dk_6, dk_7]
      rw [hG]
      funext y
      obtain ⟨j, k, rfl⟩ : ∃ j k, y = ix2 j k := ⟨y 0, y 1, (ix2_eta y).symm⟩
      exact two_halves (dkn A (n / 8) (256 * (n % 8 + 1)) j.val) _ _ _ _ _ _ _ _ j k
        (fun d => dk_half 1 rfl rfl rfl rfl (head_ld h ⟨n, hn⟩ 4 (by decide) rfl rfl (slice4 _)) (head_ld h ⟨n, hn⟩ 5 (by decide) rfl rfl (slice5 _))
          (head_ld h ⟨n, hn⟩ 6 (by decide) rfl rfl (slice6 _)) (head_ld h ⟨n, hn⟩ 7 (by decide) rfl rfl (slice7 _)) _ j d
          ((ld_at _ (e := .f32) _ j d ⟨128 + d.val, by omega⟩ rfl).trans (congrFun e0 _)))
        (fun d => dk_half 0 rfl rfl rfl rfl (head_ld h ⟨n, hn⟩ 0 (by decide) rfl rfl (slice0 _ _)) (head_ld h ⟨n, hn⟩ 1 (by decide) rfl rfl (slice1 _))
          (head_ld h ⟨n, hn⟩ 2 (by decide) rfl rfl (slice2 _)) (head_ld h ⟨n, hn⟩ 3 (by decide) rfl rfl (slice3 _)) _ j d
          ((ld_at _ (e := .f32) _ j d ⟨0 + d.val, by omega⟩ rfl).trans ((congrFun e0 _).trans (congrArg (fun z => ((dkn A (n / 8) (256 * (n % 8)) j.val z : ℝ) : EReal)) (show 0 + d.val = 128 * 0 + d.val by omega)))))

omit t in
/-- The values' gradient that a point leaves: the row tiles so far. -/
theorem after10 : ∀ (n : ℕ) (hn : n < cfg0.N), (outsAt0 m c n hn).2.2
    = fun y => ((dvn A (n / 8) (256 * (n % 8 + 1)) (y 0).val (y 1).val : ℝ) : EReal)
  | n, hn => by
    obtain ⟨G, hG⟩ : ∃ G : S2048x256.Idx → EReal, G = fun y => ((dvn A (n / 8) (256 * (n % 8 + 1)) (y 0).val (y 1).val : ℝ) : EReal) := ⟨_, rfl⟩
    rw [← hG]
    by_cases h0 : n % 8 = 0
    · rw [outsAt0_A m c ⟨n, hn⟩ h0]
      frame_open
      simp (disch := decide) only [↓ View.readCov_skip, ↓ View.readCov_cons_toLoadRect, ↓ View.readCov_fill]
      frame_out
      simp only [dv_0, dv_1, dv_2, dv_3, dv_4, dv_5, dv_6, dv_7]
      rw [hG]
      funext y
      obtain ⟨j, k, rfl⟩ : ∃ j k, y = ix2 j k := ⟨y 0, y 1, (ix2_eta y).symm⟩
      have hz : ∀ k, dvn A (n / 8) (256 * (n % 8)) j.val k = 0 := fun k => by rw [h0]; exact dvn_zero A _ _ _
      exact two_halves (dvn A (n / 8) (256 * (n % 8 + 1)) j.val) _ _ _ _ _ _ _ _ j k
        (fun d => dv_half 1 rfl rfl rfl rfl (head_ld h ⟨n, hn⟩ 4 (by decide) rfl rfl (slice4 _)) (head_ld h ⟨n, hn⟩ 5 (by decide) rfl rfl (slice5 _))
          (head_ld h ⟨n, hn⟩ 6 (by decide) rfl rfl (slice6 _)) (head_ld h ⟨n, hn⟩ 7 (by decide) rfl rfl (slice7 _)) _ j d
          ((ld_at _ (e := .f32) _ j d ⟨128 + d.val, by omega⟩ rfl).trans ((pay4_at _ _).trans (congrArg Real.toEReal (hz _).symm))))
        (fun d => dv_half 0 rfl rfl rfl rfl (head_ld h ⟨n, hn⟩ 0 (by decide) rfl rfl (slice0 _ _)) (head_ld h ⟨n, hn⟩ 1 (by decide) rfl rfl (slice1 _))
          (head_ld h ⟨n, hn⟩ 2 (by decide) rfl rfl (slice2 _)) (head_ld h ⟨n, hn⟩ 3 (by decide) rfl rfl (slice3 _)) _ j d
          ((ld_at _ (e := .f32) _ j d ⟨0 + d.val, by omega⟩ rfl).trans ((pay4_at _ _).trans (congrArg Real.toEReal (hz _).symm))))
    · have e0 := after10 (n - 1) (Nat.lt_of_le_of_lt (Nat.sub_le _ _) hn)
      rw [show (n - 1) / 8 = n / 8 by omega, show (n - 1) % 8 + 1 = n % 8 by omega] at e0
      rw [outsAt0_B m c ⟨n, hn⟩ h0]
      frame_open
      simp (disch := decide) only [↓ View.readCov_skip, ↓ View.readCov_cons_toLoadRect, ↓ View.readCov_fill]
      frame_out
      simp only [dv_0, dv_1, dv_2, dv_3, dv_4, dv_5, dv_6, dv_7]
      rw [hG]
      funext y
      obtain ⟨j, k, rfl⟩ : ∃ j k, y = ix2 j k := ⟨y 0, y 1, (ix2_eta y).symm⟩
      exact two_halves (dvn A (n / 8) (256 * (n % 8 + 1)) j.val) _ _ _ _ _ _ _ _ j k
        (fun d => dv_half 1 rfl rfl rfl rfl (head_ld h ⟨n, hn⟩ 4 (by decide) rfl rfl (slice4 _)) (head_ld h ⟨n, hn⟩ 5 (by decide) rfl rfl (slice5 _))
          (head_ld h ⟨n, hn⟩ 6 (by decide) rfl rfl (slice6 _)) (head_ld h ⟨n, hn⟩ 7 (by decide) rfl rfl (slice7 _)) _ j d
          ((ld_at _ (e := .f32) _ j d ⟨128 + d.val, by omega⟩ rfl).trans (congrFun e0 _)))
        (fun d => dv_half 0 rfl rfl rfl rfl (head_ld h ⟨n, hn⟩ 0 (by decide) rfl rfl (slice0 _ _)) (head_ld h ⟨n, hn⟩ 1 (by decide) rfl rfl (slice1 _))
          (head_ld h ⟨n, hn⟩ 2 (by decide) rfl rfl (slice2 _)) (head_ld h ⟨n, hn⟩ 3 (by decide) rfl rfl (slice3 _)) _ j d
          ((ld_at _ (e := .f32) _ j d ⟨0 + d.val, by omega⟩ rfl).trans ((congrFun e0 _).trans (congrArg (fun z => ((dvn A (n / 8) (256 * (n % 8)) j.val z : ℝ) : EReal)) (show 0 + d.val = 128 * 0 + d.val by omega)))))

/-- The result arrays. -/
def dqArr (A : Args) : S4096x512.Idx → EReal := fun i => ((dq A (i 0).val (i 1).val : ℝ) : EReal)
def dkArr (A : Args) : S4096x256.Idx → EReal := fun i => ((dk A (i 0).val (i 1).val : ℝ) : EReal)
def dvArr (A : Args) : S4096x256.Idx → EReal := fun i => ((dv A (i 0).val (i 1).val : ℝ) : EReal)

omit t in
theorem final8 : (dats m 0 c).arrAt 8 cfg0.N = dqArr A := by
  refine (dats m 0 c).arrAt_eq_of_covers 8 _ (by decide +kernel) fun t hf y => ?_
  blk_simp
  rw [after0_8]
  refine (congrFun (after8 h t) y).trans ?_
  unfold dqArr
  blk_simp [idx t]
  rw [Nat.mul_comm 256]

omit t in
theorem final9 : (dats m 0 c).arrAt 9 cfg0.N = dkArr A := by
  refine (dats m 0 c).arrAt_eq_of_covers 9 _ (by decide +kernel) fun t hf y => ?_
  blk_simp
  rw [after0_9]
  have h1 := (flush0_9 t).mp hf
  refine (congrFun (after9 h t.val t.isLt) y).trans ?_
  unfold dkArr dk
  have hy : (y 0).val < 2048 := (y 0).isLt
  blk_simp [idx t]
  rw [h1, show (t.val / 8 * 2048 + (y 0).val) / 2048 = t.val / 8 by omega, show (t.val / 8 * 2048 + (y 0).val) % 2048 = (y 0).val by omega]

omit t in
theorem final10 : (dats m 0 c).arrAt 10 cfg0.N = dvArr A := by
  refine (dats m 0 c).arrAt_eq_of_covers 10 _ (by decide +kernel) fun t hf y => ?_
  blk_simp
  rw [after0_10]
  have h1 := (flush0_10 t).mp hf
  refine (congrFun (after10 h t.val t.isLt) y).trans ?_
  unfold dvArr dv
  have hy : (y 0).val < 2048 := (y 0).isLt
  blk_simp [idx t]
  rw [h1, show (t.val / 8 * 2048 + (y 0).val) / 2048 = t.val / 8 by omega, show (t.val / 8 * 2048 + (y 0).val) % 2048 = (y 0).val by omega]

end Cert.Kernel15Ideal.Attn
-- ==== Proof.AttnRef.lean ====
/- The reference's scores, weights and their gradients over the reals. -/
module

public import proofs.«01_k».proof.Proof.AttnSpec
public import proofs.«01_k».proof.Proof.Gen.Reference15Ideal.Read
public import Idealize.ShloMosaic.Lib.Pipeline.ValueKit

@[expose] public section

set_option maxRecDepth 16384

noncomputable section

namespace Cert.Reference15Ideal.Attn

open Cert.Reference15Ideal Cert.Reference15Ideal.Gen Cert.Reference15Ideal.Read
open Cert.Attn Cert.Reals
open Idealize.ShloMosaic Idealize.ShloMosaic.TcCoe Idealize.ShloMosaic.Tactic

/-- The arguments' entries are `A`. -/
structure Reads (x0 : FVec Ideal S4096x512 .f32) (x1 x2 : FVec Ideal S4096x128 .f32) (x3 : FVec Ideal S4096x1024 .f32) (A : Args) : Prop where
  q : ∀ r k, x0 (ix2 r k) = ((A.q r.val k.val : ℝ) : EReal)
  k : ∀ r k, x1 (ix2 r k) = ((A.k r.val k.val : ℝ) : EReal)
  v : ∀ r k, x2 (ix2 r k) = ((A.v r.val k.val : ℝ) : EReal)
  ct : ∀ r k, x3 (ix2 r k) = ((A.ct r.val k.val : ℝ) : EReal)

variable {x0 : FVec Ideal S4096x512 .f32} {x1 x2 : FVec Ideal S4096x128 .f32} {x3 : FVec Ideal S4096x1024 .f32} {A : Args} (h : Reads x0 x1 x2 x3 A)
include h

/-- The scores. -/
theorem s_at (b : Fin 2) (kv : Fin 2) (g : Fin 4) (i j : Fin 2048) :
    val_main_v4 (F := Ideal) x0 x1 (ix5 b kv g i j) = ((s A (4 * kv.val + g.val) (2048 * b.val + i.val) j.val : ℝ) : EReal) := by
  pointwise [val_main_v4, val_main_v3, val_main_v0, val_main_v1]
  simp only [h.q, h.k, ← EReal.coe_mul, coe_sum]
  unfold s key
  refine congrArg _ (Finset.sum_congr rfl fun d _ => ?_)
  rw [mul_comm]
  refine congrArg₂ (· * ·) (congrArg₂ A.q ?_ ?_) (congrArg₂ A.k ?_ ?_) <;> simp <;> omega

/-- The greatest of a row's scores is a real. -/
theorem m5_at (b : Fin 2) (kv : Fin 2) (g : Fin 4) (i : Fin 2048) : ∃ y : ℝ, val_main_v5 (F := Ideal) x0 x1 (ix4 b kv g i) = y := by
  unfold val_main_v5
  exact row_real _ (val_main_cst (F := Ideal)) reducesTo_S2x2x4x2048x2048_S2x2x4x2048_d4 h_S_
    (fun _ => bot_eq) (fun i => by rw [eq_ix5 i]; exact ⟨_, s_at h _ _ _ _ _⟩) (by omega) b kv g i

omit h in
theorem max_bot (a : EReal) (ha : a = ⊥) (y : ℝ) : FloatOps.maximumf (F := Ideal) (φ := .f32) a (y : EReal) = (y : EReal) := by
  rw [ha]; exact max_eq_right bot_le

/-- The number the softmax takes off a row's scores is a real. -/
theorem m_at (b : Fin 2) (kv : Fin 2) (g : Fin 4) (i : Fin 2048) : ∃ y : ℝ, val_main_v12 (F := Ideal) x0 x1 (ix4 b kv g i) = y := by
  obtain ⟨y, hy⟩ := m5_at h b kv g i
  exact ⟨y, by rw [val_main_v12_apply, hy]; exact max_bot _ (by rw [val_main_v11_apply]; exact bot_eq) y⟩

/-- The exponentials, over the number taken off. -/
theorem e_at (b : Fin 2) (kv : Fin 2) (g : Fin 4) (i j : Fin 2048) (y : ℝ) (hy : val_main_v12 (F := Ideal) x0 x1 (ix4 b kv g i) = y) :
    val_main_v25 (F := Ideal) x0 x1 (ix5 b kv g i j) = ((Real.exp (s A (4 * kv.val + g.val) (2048 * b.val + i.val) j.val - y) : ℝ) : EReal) := by
  have e := s_at h b kv g i j
  revert e hy
  generalize hv : val_main_v4 (F := Ideal) x0 x1 = v
  generalize hw : val_main_v12 (F := Ideal) x0 x1 = w
  intro hy e
  pointwise [val_main_v25, val_main_v24, val_main_v23, val_main_v22, hv, hw]
  refine (congrArg Ideal.exp (congrArg₂ (· - ·) e hy)).trans ?_
  rw [← EReal.coe_sub, Ideal.exp_coe]

/-- The weights. -/
theorem p_at (b : Fin 2) (kv : Fin 2) (g : Fin 4) (i j : Fin 2048) :
    val_main_v29 (F := Ideal) x0 x1 (ix5 b kv g i j) = ((p A (4 * kv.val + g.val) (2048 * b.val + i.val) j.val : ℝ) : EReal) := by
  obtain ⟨y, hy⟩ := m_at h b kv g i
  have e := fun j => e_at h b kv g i j y hy
  revert e
  generalize hv : val_main_v25 (F := Ideal) x0 x1 = v
  intro e
  pointwise [val_main_v29, val_main_v28, val_main_v27, val_main_v26, val_main_cst_7, hv]
  refine (congrArg₂ Ideal.div (e j) (Finset.sum_congr rfl fun x _ => e x)).trans ?_
  rw [coe_sum, div_real _ _ (sum_exp_pos fun j => s A _ _ j - y).ne', soft]

/-- The weights' gradient. -/
theorem dp_at (b : Fin 2) (kv : Fin 2) (g : Fin 4) (i j : Fin 2048) :
    val_main_v39 (F := Ideal) x2 x3 (ix5 b kv g i j) = ((dp A (4 * kv.val + g.val) (2048 * b.val + i.val) j.val : ℝ) : EReal) := by
  pointwise [val_main_v39, val_main_v38, val_main_v37, val_main_v36, val_main_v2]
  simp only [h.v, h.ct, ← EReal.coe_mul, coe_sum]
  unfold dp key
  refine congrArg _ (Finset.sum_congr rfl fun d _ => ?_)
  refine congrArg₂ (· * ·) (congrArg₂ A.ct ?_ ?_) (congrArg₂ A.v ?_ ?_) <;> simp <;> omega

/-- The scores' gradient. -/
theorem ds_at (b : Fin 2) (kv : Fin 2) (g : Fin 4) (i j : Fin 2048) :
    val_main_v53 (F := Ideal) x0 x1 x2 x3 (ix5 b kv g i j) = ((ds A (4 * kv.val + g.val) (2048 * b.val + i.val) j.val : ℝ) : EReal) := by
  obtain ⟨y, hy⟩ := m_at h b kv g i
  have e := fun j => e_at h b kv g i j y hy
  have e' := fun j => dp_at h b kv g i j
  revert e e'
  generalize hv : val_main_v25 (F := Ideal) x0 x1 = v
  generalize hw : val_main_v39 (F := Ideal) x2 x3 = w
  intro e e'
  pointwise [val_main_v53, val_main_v52, val_main_v51, val_main_v50, val_main_cst_10, val_main_v49, val_main_v48, val_main_v47, val_main_v46, val_main_v45, val_main_cst_9, val_main_v44, val_main_v43, val_main_v42, val_main_v32, val_main_v31, val_main_cst_8, val_main_v30, val_main_v27, val_main_v26, val_main_cst_7, hv, hw]
  have hl : ∑ x : Fin 2048, v (ix5 b kv g i x) = ((∑ x : Fin 2048, Real.exp (s A (4 * kv.val + g.val) (2048 * b.val + i.val) x.val - y) : ℝ) : EReal) :=
    (Finset.sum_congr rfl fun x _ => e x).trans (coe_sum _ _)
  have hp := (sum_exp_pos fun j => s A (4 * kv.val + g.val) (2048 * b.val + i.val) j - y).ne'
  change (Ideal.div (w (ix5 b kv g i j)) (∑ x, v (ix5 b kv g i x)) + ∑ _x : Fin 1, -∑ x, w (ix5 b kv g i x) * Ideal.div 1
    ((∑ x, v (ix5 b kv g i x)) * ∑ x, v (ix5 b kv g i x)) * v (ix5 b kv g i x)) * v (ix5 b kv g i j) = _
  rw [hl, ← EReal.coe_mul, one_real, div_real _ _ (mul_ne_zero hp hp), e', e, div_real _ _ hp]
  simp only [e, e', ← EReal.coe_mul, coe_sum, ← EReal.coe_neg, ← EReal.coe_add, Finset.univ_unique, Finset.sum_singleton]
  rw [ds_quot A _ _ _ y _ rfl]

end Cert.Reference15Ideal.Attn
-- ==== Proof.AttnRefOut.lean ====
/- The gradients of the attention's reference over the reals. -/
module

public import proofs.«01_k».proof.Proof.AttnRef
public import proofs.«01_k».proof.Proof.Gen.Reference15Ideal.Read
public import Idealize.ShloMosaic.Lib.Pipeline.ValueKit

@[expose] public section

set_option maxRecDepth 16384

noncomputable section

namespace Cert.Reference15Ideal.Attn

open Cert.Reference15Ideal Cert.Reference15Ideal.Gen Cert.Reference15Ideal.Read
open Cert.Attn Cert.Reals
open Idealize.ShloMosaic Idealize.ShloMosaic.TcCoe Idealize.ShloMosaic.Tactic

variable {x0 : FVec Ideal S4096x512 .f32} {x1 x2 : FVec Ideal S4096x128 .f32} {x3 : FVec Ideal S4096x1024 .f32} {A : Args} (h : Reads x0 x1 x2 x3 A)
include h

theorem v54_at (b : Fin 2) (kv : Fin 2) (j i : Fin 2048) (g : Fin 4) :
    val_main_v54 (F := Ideal) x0 x1 x2 x3 (ix5 b kv j i g) = ((ds A (4 * kv.val + g.val) (2048 * b.val + i.val) j.val : ℝ) : EReal) := by
  have e := ds_at h b kv g i j
  revert e
  generalize hv : val_main_v53 (F := Ideal) x0 x1 x2 x3 = v
  intro e
  pointwise [val_main_v54, hv]
  exact e

theorem dq_at (r : Fin 4096) (c : Fin 512) : val_main_v61 (F := Ideal) x0 x1 x2 x3 (ix2 r c) = ((dq A r.val c.val : ℝ) : EReal) := by
  have e := v54_at h
  revert e
  generalize hv : val_main_v54 (F := Ideal) x0 x1 x2 x3 = v
  intro e
  pointwise [val_main_v61, val_main_v56, val_main_v55, val_main_v1, hv]
  simp only [e, h.k, ← EReal.coe_mul, coe_sum]
  unfold dq key
  refine congrArg _ (Finset.sum_congr rfl fun d _ => ?_)
  refine congrArg₂ (· * ·) (congrArg₂ (ds A · · d.val) ?_ ?_) (congrArg₂ A.k ?_ ?_) <;> first | rfl | ((try dsimp only) <;> omega)

omit h in
theorem zero_real : FloatOps.sitofp (F := Ideal) FTy.f32 (0#32) = (((0 : ℝ)) : EReal) := by
  show (((0#32 : BitVec 32).toInt : ℝ) : EReal) = _
  norm_num

omit h in
theorem dk_pos (A : Args) (r c : ℕ) (hc : c % 128 < 64) : dk A r c = ∑ g : Fin 4, ∑ i : Fin 2048, ds A (4 * (c / 128) + g.val) (2048 * (r / 2048) + i.val) (r % 2048) * A.q (2048 * (r / 2048) + i.val) ((64 * (4 * (c / 128) + g.val) + c % 128)) := by
  unfold dk dkn
  rw [if_pos hc]
  refine Finset.sum_congr rfl fun g _ => ?_
  unfold dkh
  rw [Finset.sum_range]

omit h in
theorem dk_neg (A : Args) (r c : ℕ) (hc : ¬ c % 128 < 64) : dk A r c = 0 := by
  unfold dk dkn
  rw [if_neg hc]

theorem dk_at (r : Fin 4096) (c : Fin 256) : val_main_v64 (F := Ideal) x0 x1 x2 x3 (ix2 r c) = ((dk A r.val c.val : ℝ) : EReal) := by
  have e := v54_at h
  revert e
  generalize hv : val_main_v54 (F := Ideal) x0 x1 x2 x3 = v
  intro e
  pointwise [val_main_v64, val_main_v63, val_main_v62, val_main_v60, val_main_v58, val_main_v57, val_main_call0_v0, val_main_c, val_main_v0, hv]
  split
  · next hc =>
    simp only [e, h.q, ← EReal.coe_mul, coe_sum]
    refine congrArg Real.toEReal ?_
    refine Eq.trans ?_ (dk_pos A r.val c.val hc.2).symm
    refine Finset.sum_comm.trans (Finset.sum_congr rfl fun g _ => Finset.sum_congr rfl fun i _ => ?_)
    exact congrArg₂ (· * ·) rfl (congrArg₂ A.q (by omega) (by omega))
  · next hc =>
    refine Eq.trans ?_ (congrArg Real.toEReal (dk_neg A r.val c.val fun hh => hc ⟨by omega, hh⟩)).symm
    exact zero_real

omit h in
theorem dv_pos (A : Args) (r c : ℕ) (hc : c % 128 < 64) : dv A r c = ∑ g : Fin 4, ∑ i : Fin 2048, p A (4 * (c / 128) + g.val) (2048 * (r / 2048) + i.val) (r % 2048) * A.ct (2048 * (r / 2048) + i.val) (512 + (64 * (4 * (c / 128) + g.val) + c % 128)) := by
  unfold dv dvn
  rw [if_pos hc]
  refine Finset.sum_congr rfl fun g _ => ?_
  unfold dvh
  rw [Finset.sum_range]

omit h in
theorem dv_neg (A : Args) (r c : ℕ) (hc : ¬ c % 128 < 64) : dv A r c = 0 := by
  unfold dv dvn
  rw [if_neg hc]

theorem dv_at (r : Fin 4096) (c : Fin 256) : val_main_v67 (F := Ideal) x0 x1 x3 (ix2 r c) = ((dv A r.val c.val : ℝ) : EReal) := by
  have e := p_at h
  revert e
  generalize hv : val_main_v29 (F := Ideal) x0 x1 = v
  intro e
  pointwise [val_main_v67, val_main_v66, val_main_v65, val_main_v59, val_main_v41, val_main_v40, val_main_call1_v0, val_main_c_11, val_main_v38, val_main_v37, val_main_v36, hv]
  split
  · next hc =>
    simp only [e, h.ct, ← EReal.coe_mul, coe_sum]
    refine congrArg Real.toEReal ?_
    refine Eq.trans ?_ (dv_pos A r.val c.val hc.2).symm
    refine Finset.sum_congr rfl fun g _ => Finset.sum_congr rfl fun i _ => ?_
    exact (mul_comm _ _).trans (congrArg₂ (· * ·) rfl (congrArg₂ A.ct (by omega) (by omega)))
  · next hc =>
    refine Eq.trans ?_ (congrArg Real.toEReal (dv_neg A r.val c.val fun hh => hc ⟨by omega, hh⟩)).symm
    exact zero_real

end Cert.Reference15Ideal.Attn
-- ==== Proof.AttnEq.lean ====
/- Finite arguments are real numbers, and the two programs of the attention's gradients have the same results. -/
module

public import proofs.«01_k».proof.Proof.AttnOut
public import proofs.«01_k».proof.Proof.AttnRefOut
public import proofs.«01_k».proof.Proof.Gen.Kernel15Ideal.Value
public import proofs.«01_k».proof.Proof.Gen.Reference15Ideal.Run
public import proofs.«01_k».proof.Proof.Gen.Reference15Ideal.Read

@[expose] public section

set_option maxRecDepth 16384

noncomputable section

namespace Cert.Reference15Ideal.Attn

open Cert.Attn Cert.Reference15Ideal Cert.Reference15Ideal.Read
open Cert.Reals
open Idealize.ShloMosaic Idealize.ShloMosaic.TcCoe Idealize.ShloMosaic.Tactic

variable {x0 : FVec Ideal S4096x512 .f32} {x1 x2 : FVec Ideal S4096x128 .f32} {x3 : FVec Ideal S4096x1024 .f32} {A : Args} (h : Reads x0 x1 x2 x3 A)
include h

/-- The results as arrays. -/
theorem dq_arr : val_main_v61 (F := Ideal) x0 x1 x2 x3 = fun i => ((dq A (i 0).val (i 1).val : ℝ) : EReal) :=
  funext fun i => by have e := dq_at h (i 0) (i 1); rwa [ix2_eta] at e
theorem dk_arr : val_main_v64 (F := Ideal) x0 x1 x2 x3 = fun i => ((dk A (i 0).val (i 1).val : ℝ) : EReal) :=
  funext fun i => by have e := dk_at h (i 0) (i 1); rwa [ix2_eta] at e
theorem dv_arr : val_main_v67 (F := Ideal) x0 x1 x3 = fun i => ((dv A (i 0).val (i 1).val : ℝ) : EReal) :=
  funext fun i => by have e := dv_at h (i 0) (i 1); rwa [ix2_eta] at e

end Cert.Reference15Ideal.Attn

namespace Cert.Kernel15Ideal.Attn

open Cert.Attn Cert.Reals
open Idealize.ShloMosaic Idealize.ShloMosaic.TcCoe Idealize.ShloMosaic.Tactic
open Idealize.SL.Sem

section Pre

open Cert.Pre_finite15

/-- The precondition's side conditions. -/
theorem pre_facts : Cert.Pre_finite15.Facts where
  bcast_S_S4096x512 := by decide
  bcast_S_S4096x128 := by decide
  bcast_S_S4096x1024 := by decide

variable [Cert.Pre_finite15.Facts] (x0 : FVec Ideal S4096x512 .f32) (x1 x2 : FVec Ideal S4096x128 .f32) (x3 : FVec Ideal S4096x1024 .f32)

theorem real0 (h : (Cert.Pre_finite15.fn (F := Ideal) x0 x1 x2 x3).1 = fun _ => 1#1) (i) : ((x0 i).toReal : EReal) = x0 i := by
  have h' := congrFun h i
  pointwise [Cert.Pre_finite15.fn] at h'
  exact real_of_lt _ h'
theorem real1 (h : (Cert.Pre_finite15.fn (F := Ideal) x0 x1 x2 x3).2.1 = fun _ => 1#1) (i) : ((x1 i).toReal : EReal) = x1 i := by
  have h' := congrFun h i
  pointwise [Cert.Pre_finite15.fn] at h'
  exact real_of_lt _ h'
theorem real2 (h : (Cert.Pre_finite15.fn (F := Ideal) x0 x1 x2 x3).2.2.1 = fun _ => 1#1) (i) : ((x2 i).toReal : EReal) = x2 i := by
  have h' := congrFun h i
  pointwise [Cert.Pre_finite15.fn] at h'
  exact real_of_lt _ h'
theorem real3 (h : (Cert.Pre_finite15.fn (F := Ideal) x0 x1 x2 x3).2.2.2 = fun _ => 1#1) (i) : ((x3 i).toReal : EReal) = x3 i := by
  have h' := congrFun h i
  pointwise [Cert.Pre_finite15.fn] at h'
  exact real_of_lt _ h'

end Pre

attribute [local instance] Cert.Kernel15Ideal.Gen.facts Cert.Reference15Ideal.Gen.facts

/-- The arguments' entries, by row and column numbers. -/
def argsOf (m : (ℓ : Loc Cert.Kernel15Ideal.nD Cert.Kernel15Ideal.τ Cert.Kernel15Ideal.sig) → Buf (Elt Ideal) ℓ) (c : Dev Cert.Kernel15Ideal.nD) : Args where
  q := entries (n0 := 4096) (n1 := 512) (m ((c.tc : Thread Cert.Kernel15Ideal.nD Cert.Kernel15Ideal.τ).loc Cert.Kernel15Ideal.main_arg0))
  k := entries (n0 := 4096) (n1 := 128) (m ((c.tc : Thread Cert.Kernel15Ideal.nD Cert.Kernel15Ideal.τ).loc Cert.Kernel15Ideal.main_arg1))
  v := entries (n0 := 4096) (n1 := 128) (m ((c.tc : Thread Cert.Kernel15Ideal.nD Cert.Kernel15Ideal.τ).loc Cert.Kernel15Ideal.main_arg2))
  ct := entries (n0 := 4096) (n1 := 1024) (m ((c.tc : Thread Cert.Kernel15Ideal.nD Cert.Kernel15Ideal.τ).loc Cert.Kernel15Ideal.main_arg3))

/-- Finite arguments are the reals their entries are. -/
theorem reads_of_finite [Cert.Pre_finite15.Facts] (m) (h : Cert.Pre_Kernel15Ideal_finite15 m) (c : Dev Cert.Kernel15Ideal.nD) :
    Reads (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (argsOf m c) where
  q := entries_at _ (real0 _ _ _ _ (h c).1)
  k := entries_at _ (real1 _ _ _ _ (h c).2.1)
  v := entries_at _ (real2 _ _ _ _ (h c).2.2.1)
  ct := entries_at _ (real3 _ _ _ _ (h c).2.2.2)

/-- The kernel of the attention's gradients and its reference have the same results on finite arguments. -/
theorem algebraic [Cert.Pre_finite15.Facts] : Cert.algebraic_Kernel15Ideal_Reference15Ideal_pre_finite15 := by
  intro m g m' g' hpre hargs
  have hk := fun c => reads_of_finite m hpre c
  refine ⟨fun c => dqArr (argsOf m c), fun c => dkArr (argsOf m c), fun c => dvArr (argsOf m c), ?_, ?_⟩
  · refine (θ_run Cert.Kernel15Ideal.defs _ _).mono (fun r h c => ?_) (Cert.Kernel15Ideal.Value.run_blocks m g)
    exact ⟨(h c).1.trans (final8 (hk c)), (h c).2.1.trans (final9 (hk c)), (h c).2.2.1.trans (final10 (hk c)), (h c).2.2.2⟩
  · refine (θ_run Cert.Reference15Ideal.defs _ _).mono (fun r h c => ?_) (Cert.Reference15Ideal.Value.run m' g')
    obtain ⟨e0, e1, e2, e3⟩ := hargs c
    have hr : Cert.Reference15Ideal.Attn.Reads _ _ _ _ (argsOf m c) := ⟨fun r k => (congrFun e0 _).trans ((hk c).q r k), fun r k => (congrFun e1 _).trans ((hk c).k r k),
      fun r k => (congrFun e2 _).trans ((hk c).v r k), fun r k => (congrFun e3 _).trans ((hk c).ct r k)⟩
    exact ⟨(h c).1.trans ((Cert.Reference15Ideal.Read.val_main_v61_eq m' c).trans (Cert.Reference15Ideal.Attn.dq_arr hr)),
      (h c).2.1.trans ((Cert.Reference15Ideal.Read.val_main_v64_eq m' c).trans (Cert.Reference15Ideal.Attn.dk_arr hr)),
      (h c).2.2.1.trans ((Cert.Reference15Ideal.Read.val_main_v67_eq _ _ _).trans (Cert.Reference15Ideal.Attn.dv_arr hr)), (h c).2.2.2⟩

end Cert.Kernel15Ideal.Attn
-- ==== Proof.LossSpec.lean ====
/- The loss head over the reals, by row and column numbers: the loss and its gradients through the last norm. -/
module

public import proofs.«01_k».proof.Proof.NormGrad

@[expose] public section

noncomputable section

namespace Cert.LossHead

open Cert.Reals Cert.NormGrad

/-- The call's arguments: the input, the last norm's gain and the target. -/
structure Data where
  x : ℕ → ℕ → ℝ
  gn : ℕ → ℝ
  tg : ℕ → ℕ → ℝ

variable (B : Data)

/-- The input and the gain alone, for the norm. -/
def core : Args where
  n := 0
  dp := fun _ _ => 0
  ct := fun _ _ => 0
  x := B.x
  gn := B.gn
  w := fun _ _ => 0

/-- The normalised input less the target. -/
def err (r k : ℕ) : ℝ := xh (core B) r k * B.gn k - B.tg r k

/-- A row's mean square error. -/
def lrow (r : ℕ) : ℝ := (∑ k : Fin 1024, err B r k * err B r k) / 1024

/-- The loss: half the sum of the rows. -/
def loss : ℝ := 1 / 2 * ∑ r ∈ Finset.range 4096, lrow B r

/-- The gradient through the norm, of a thousand-and-twenty-fourth of the error: its product is with the identity. -/
def grad : Args where
  n := 1024
  dp := fun r k => err B r k * (1 / 1024)
  ct := fun _ _ => 0
  x := B.x
  gn := B.gn
  w := fun k j => if j = k then 1 else 0

theorem dy_eq (r k : ℕ) (h : k < 1024) : dy (grad B) r k = err B r k * (1 / 1024) := by
  unfold dy grad
  simp only [mul_ite, mul_one, mul_zero]
  rw [Finset.sum_ite_eq' (Finset.range 1024) k]
  rw [if_pos (Finset.mem_range.mpr h)]

theorem thousandth : Idealize.ShloMosaic.Ideal.ofBits Idealize.ShloMosaic.FTy.f32 981467136#32 = (((1 : ℝ) / 1024 : ℝ) : EReal) := by
  simp [Idealize.ShloMosaic.Ideal.ofBits, Idealize.ShloMosaic.Ideal.ieee, -EReal.coe_mul]; norm_num
theorem two : Idealize.ShloMosaic.Ideal.ofBits Idealize.ShloMosaic.FTy.f32 1073741824#32 = ((2 : ℝ) : EReal) := by
  simp [Idealize.ShloMosaic.Ideal.ofBits, Idealize.ShloMosaic.Ideal.ieee, -EReal.coe_mul]; norm_num

end Cert.LossHead
-- ==== Proof.LossHead.lean ====
/- The loss head: the sum of the rows' errors, and the gradient through the last norm. -/
module

public import proofs.«01_k».proof.Proof.LossSpec
public import proofs.«01_k».proof.Proof.Finite
public import proofs.«01_k».proof.Proof.Gen.Kernel16Ideal.Value
public import proofs.«01_k».proof.Defs
public import Idealize.ShloMosaic.Lib.Pipeline.ValueKit

@[expose] public section

set_option maxRecDepth 16384

noncomputable section

namespace Cert.Kernel16Ideal.LossHead

open Cert.Kernel16Ideal Cert.Kernel16Ideal.Gen
open Cert.NormGrad Cert.LossHead Cert.Reals
open Idealize.ShloMosaic Idealize.ShloMosaic.TcCoe Idealize.ShloMosaic.Tactic

/-- The block index of every window at a point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] :=
  (by decide +kernel : ∀ t : Fin grid0.N, _)

/-- The arguments' entries are `B`. -/
structure Reads (m : (ℓ : Loc nD τ sig) → Buf (Elt Ideal) ℓ) (c : Dev nD) (B : Data) : Prop where
  x : ∀ r k, m ((c : Thread nD τ).loc main_arg0) (ix2 r k) = ((B.x r.val k.val : ℝ) : EReal)
  gn : ∀ k, m ((c : Thread nD τ).loc main_arg1) (ix2 0 k) = ((B.gn k.val : ℝ) : EReal)
  tg : ∀ r k, m ((c : Thread nD τ).loc main_arg2) (ix2 r k) = ((B.tg r.val k.val : ℝ) : EReal)

variable {m : (ℓ : Loc nD τ sig) → Buf (Elt Ideal) ℓ} {c : Dev nD} {B : Data} (h : Reads m c B) (t : Fin cfg0.N)
include h

theorem in0 (j : Fin 512) (k : Fin 1024) : iblk m c 0 t (ix2 j k) = ((B.x (512 * t.val + j.val) k.val : ℝ) : EReal) := by
  have ht := Nat.lt_of_lt_of_eq t.isLt N_0
  have e : iblk m c 0 t (ix2 j k) = m ((c : Thread nD τ).loc main_arg0) (ix2 ⟨512 * t.val + j.val, by omega⟩ k) := by
    blk_ext [iblk, V, idx t]
  exact e.trans (h.x _ _)

theorem in1 (k : Fin 1024) : iblk m c 1 t (ix2 0 k) = ((B.gn k.val : ℝ) : EReal) := by
  have e : iblk m c 1 t (ix2 0 k) = m ((c : Thread nD τ).loc main_arg1) (ix2 0 k) := by
    blk_ext [iblk, V, idx t]
  exact e.trans (h.gn _)

theorem in2 (j : Fin 512) (k : Fin 1024) : iblk m c 2 t (ix2 j k) = ((B.tg (512 * t.val + j.val) k.val : ℝ) : EReal) := by
  have ht := Nat.lt_of_lt_of_eq t.isLt N_0
  have e : iblk m c 2 t (ix2 j k) = m ((c : Thread nD τ).loc main_arg2) (ix2 ⟨512 * t.val + j.val, by omega⟩ k) := by
    blk_ext [iblk, V, idx t]
  exact e.trans (h.tg _ _)

theorem rs_blk (j : Fin 512) (z : Fin 1) : k0_pay10 (F := Ideal) (iblk m c 0 t) (ix2 j z) = ((rs (grad B) (512 * t.val + j.val) : ℝ) : EReal) := by
  have e := in0 h t
  generalize iblk m c 0 t = a at e ⊢
  pointwise [k0_pay10]
  simp only [e, width, eps_eq, ← EReal.coe_mul, ← EReal.coe_add, coe_sum, div_width]
  exact rs_eq (grad B) _

theorem xh_blk (j : Fin 512) (k : Fin 1024) : k0_pay11 (F := Ideal) (iblk m c 0 t) (ix2 j k) = ((xh (grad B) (512 * t.val + j.val) k.val : ℝ) : EReal) := by
  have e := in0 h t
  have e' := rs_blk h t
  generalize iblk m c 0 t = a at e e' ⊢
  revert e'
  generalize hp : k0_pay10 (F := Ideal) a = p
  intro e'
  pointwise [k0_pay11, hp]
  simp only [e, e', ← EReal.coe_mul]
  rfl

theorem err_blk (j : Fin 512) (k : Fin 1024) :
    k0_pay6 (F := Ideal) (iblk m c 0 t) (iblk m c 1 t) (iblk m c 2 t) (ix2 j k) = ((err B (512 * t.val + j.val) k.val : ℝ) : EReal) := by
  have e0 := in0 h t
  have e1 := in1 h t
  have e2 := in2 h t
  generalize iblk m c 0 t = a at e0 ⊢
  generalize iblk m c 1 t = b at e1 ⊢
  generalize iblk m c 2 t = d at e2 ⊢
  pointwise [k0_pay6]
  simp only [e0, e1, e2, width, eps_eq, ← EReal.coe_mul, ← EReal.coe_add, coe_sum, div_width]
  have er := rs_eq (core B) (512 * t.val + j.val)
  simp only [core] at er
  rw [er, ← EReal.coe_mul, ← EReal.coe_mul, ← EReal.coe_sub]
  rfl

/-- The block's part of the loss. -/
theorem loss_blk (z z' : Fin 1) : k0_pay7 (F := Ideal) (iblk m c 0 t) (iblk m c 1 t) (iblk m c 2 t) (ix2 z z')
    = ((1 / 2 * ∑ j : Fin 512, lrow B (512 * t.val + j.val) : ℝ) : EReal) := by
  have e := err_blk h t
  generalize iblk m c 0 t = a at e ⊢
  generalize iblk m c 1 t = b at e ⊢
  generalize iblk m c 2 t = d at e ⊢
  revert e
  generalize hp : k0_pay6 (F := Ideal) a b d = p
  intro e
  pointwise [k0_pay7, hp]
  simp only [e, width, half, ← EReal.coe_mul, coe_sum, div_width]
  rfl

theorem dy_blk (j : Fin 512) (k : Fin 1024) :
    k0_pay8 (F := Ideal) (iblk m c 0 t) (iblk m c 1 t) (iblk m c 2 t) (ix2 j k) = ((dy (grad B) (512 * t.val + j.val) k.val : ℝ) : EReal) := by
  have e := err_blk h t
  generalize iblk m c 0 t = a at e ⊢
  generalize iblk m c 1 t = b at e ⊢
  generalize iblk m c 2 t = d at e ⊢
  revert e
  generalize hp : k0_pay6 (F := Ideal) a b d = p
  intro e
  pointwise [k0_pay8, hp]
  rw [e, thousandth, ← EReal.coe_mul, dy_eq B _ _ k.isLt]

/-- The input's gradient on the block. -/
theorem dx_blk (j : Fin 512) (k : Fin 1024) :
    k0_pay1 (F := Ideal) k0_pay9 (k0_pay10 (iblk m c 0 t)) (k0_pay11 (iblk m c 0 t)) (k0_pay12 (iblk m c 0 t) (iblk m c 1 t) (iblk m c 2 t))
      (k0_pay13 (iblk m c 0 t) (iblk m c 1 t) (iblk m c 2 t)) (ix2 j k) = ((dx (grad B) (512 * t.val + j.val) k.val : ℝ) : EReal) := by
  have e1 := in1 h t
  have ed := dy_blk h t
  have er := rs_blk h t
  have ex := xh_blk h t
  generalize iblk m c 0 t = a at ed er ex ⊢
  generalize iblk m c 1 t = b at e1 ed ⊢
  generalize iblk m c 2 t = d at ed ⊢
  revert ed er ex
  generalize hp : k0_pay8 (F := Ideal) a b d = p
  generalize hq : k0_pay10 (F := Ideal) a = q
  generalize hy : k0_pay11 (F := Ideal) a = y
  intro ed er ex
  pointwise [k0_pay1, k0_pay9, k0_pay12, k0_pay13, hp, hq, hy]
  simp only [e1, ed, er, ex, width, ← EReal.coe_mul, ← EReal.coe_add, coe_sum, div_width, ← EReal.coe_sub, zero_add]
  congr 1
  unfold dx
  rw [show (grad B).ct (512 * t.val + j.val) k.val = 0 from rfl, zero_add]
  rfl

/-- The block's part of the gain's gradient, added to what is there. -/
theorem dgn_blk (u : Vec Ideal S1x1024 .f32) (z : Fin 1) (k : Fin 1024) :
    k0_pay5 (F := Ideal) (k0_pay8 (iblk m c 0 t) (iblk m c 1 t) (iblk m c 2 t)) (k0_pay11 (iblk m c 0 t)) u (ix2 z k)
    = u (ix2 z k) + ((∑ j : Fin 512, dy (grad B) (512 * t.val + j.val) k.val * xh (grad B) (512 * t.val + j.val) k.val : ℝ) : EReal) := by
  have ed := dy_blk h t
  have ex := xh_blk h t
  generalize iblk m c 0 t = a at ed ex ⊢
  generalize iblk m c 1 t = b at ed ⊢
  generalize iblk m c 2 t = d at ed ⊢
  revert ed ex
  generalize k0_pay8 (F := Ideal) a b d = p
  generalize k0_pay11 (F := Ideal) a = y
  intro ed ex
  pointwise [k0_pay5]
  simp only [ed, ex, ← EReal.coe_mul, coe_sum]

/-- What a point leaves of the input's gradient. -/
theorem after4 (j : Fin 512) (k : Fin 1024) : (outsAt0 m c t.val t.isLt).2.1 (ix2 j k) = ((dx (grad B) (512 * t.val + j.val) k.val : ℝ) : EReal) := by
  by_cases h0 : t.val % 8 = 0
  · rw [outsAt0_A m c t h0]
    frame_out
    exact dx_blk h t j k
  · rw [outsAt0_B m c t h0]
    frame_out
    exact dx_blk h t j k

omit t in
/-- What a point leaves of the loss: the row tiles so far. -/
theorem after3 : ∀ (n : ℕ) (hn : n < cfg0.N) (z z' : Fin 1), (outsAt0 m c n hn).1 (ix2 z z')
    = ((1 / 2 * ∑ r ∈ Finset.range (512 * (n + 1)), lrow B r : ℝ) : EReal)
  | n, hn, z, z' => by
    have e := loss_blk h ⟨n, hn⟩ z z'
    have hN := Nat.lt_of_lt_of_eq hn N_0
    by_cases h0 : n % 8 = 0
    · rw [outsAt0_A m c ⟨n, hn⟩ h0]
      frame_out
      revert e
      generalize k0_pay7 (F := Ideal) _ _ _ = v
      intro e
      pointwise [k0_pay4, k0_pay2]
      rw [e]
      have hz : n = 0 := by omega
      subst hz
      rw [sum_tile]
      simp
    · have e0 := after3 (n - 1) (Nat.lt_of_le_of_lt (Nat.sub_le _ _) hn) z z'
      rw [outsAt0_B m c ⟨n, hn⟩ h0]
      frame_out
      revert e e0
      generalize k0_pay7 (F := Ideal) _ _ _ = v
      generalize (outsAt0 m c (n - 1) _).1 = u
      intro e e0
      pointwise [k0_pay4]
      rw [e, e0, ← EReal.coe_add, Nat.sub_add_cancel (by omega), sum_tile, mul_add]

omit t in
/-- What a point leaves of the gain's gradient: the row tiles so far. -/
theorem after5 : ∀ (n : ℕ) (hn : n < cfg0.N) (z : Fin 1) (k : Fin 1024), (outsAt0 m c n hn).2.2 (ix2 z k)
    = ((∑ r ∈ Finset.range (512 * (n + 1)), dy (grad B) r k.val * xh (grad B) r k.val : ℝ) : EReal)
  | n, hn, z, k => by
    have hN := Nat.lt_of_lt_of_eq hn N_0
    by_cases h0 : n % 8 = 0
    · rw [outsAt0_A m c ⟨n, hn⟩ h0]
      frame_out
      rw [dgn_blk h ⟨n, hn⟩]
      pointwise [k0_pay3]
      have hz : n = 0 := by omega
      subst hz
      rw [sum_tile]
      simp
    · have e0 := after5 (n - 1) (Nat.lt_of_le_of_lt (Nat.sub_le _ _) hn) z k
      rw [outsAt0_B m c ⟨n, hn⟩ h0]
      frame_out
      rw [dgn_blk h ⟨n, hn⟩]
      rw [e0, ← EReal.coe_add, Nat.sub_add_cancel (by omega), sum_tile]

/-- The result arrays. -/
def lossArr (B : Data) : S1x1.Idx → EReal := fun _ => ((loss B : ℝ) : EReal)
def dxArr (B : Data) : S4096x1024.Idx → EReal := fun i => ((dx (grad B) (i 0).val (i 1).val : ℝ) : EReal)
def dgnArr (B : Data) : S1x1024.Idx → EReal := fun i => ((dgn (grad B) (i 1).val : ℝ) : EReal)

omit t in
theorem final3 : (dats m 0 c).arrAt 3 cfg0.N = lossArr B := by
  refine (dats m 0 c).arrAt_eq_of_covers 3 _ (by decide +kernel) fun t hf y => ?_
  blk_simp
  rw [after0_3]
  have ht := Nat.lt_of_lt_of_eq t.isLt N_0
  have h1 := (flush0_3 t).mp hf
  have e := after3 h t.val t.isLt (y 0) (y 1)
  rw [ix2_eta] at e
  refine e.trans ?_
  unfold lossArr loss
  rw [show t.val = 7 by omega]

omit t in
theorem final4 : (dats m 0 c).arrAt 4 cfg0.N = dxArr B := by
  refine (dats m 0 c).arrAt_eq_of_covers 4 _ (by decide +kernel) fun t hf y => ?_
  blk_simp
  rw [after0_4]
  have e := after4 h t (y 0) (y 1)
  rw [ix2_eta] at e
  refine e.trans ?_
  unfold dxArr
  blk_simp [idx t]
  rw [Nat.mul_comm 512]

omit t in
theorem final5 : (dats m 0 c).arrAt 5 cfg0.N = dgnArr B := by
  refine (dats m 0 c).arrAt_eq_of_covers 5 _ (by decide +kernel) fun t hf y => ?_
  blk_simp
  rw [after0_5]
  have ht := Nat.lt_of_lt_of_eq t.isLt N_0
  have h1 := (flush0_5 t).mp hf
  have e := after5 h t.val t.isLt (y 0) (y 1)
  rw [ix2_eta] at e
  refine e.trans ?_
  unfold dgnArr dgn
  blk_simp [idx t]
  rw [show t.val = 7 by omega]

end Cert.Kernel16Ideal.LossHead
-- ==== Proof.LossEq.lean ====
/- The reference of the loss head over the reals, and the equality of the two programs. -/
module

public import proofs.«01_k».proof.Proof.LossHead
public import proofs.«01_k».proof.Proof.Gen.Reference16Ideal.Run
public import proofs.«01_k».proof.Proof.Gen.Reference16Ideal.Read

@[expose] public section

set_option maxRecDepth 16384

noncomputable section

namespace Cert.Reference16Ideal.LossHead

open Cert.Reference16Ideal Cert.Reference16Ideal.Read
open Cert.NormGrad Cert.LossHead Cert.Reals
open Idealize.ShloMosaic Idealize.ShloMosaic.TcCoe Idealize.ShloMosaic.Tactic

/-- The reference's arguments are the reals `B`. -/
structure Reads (x0 : FVec Ideal S4096x1024 .f32) (x1 : FVec Ideal S1x1024 .f32) (x2 : FVec Ideal S4096x1024 .f32) (B : Data) : Prop where
  x : ∀ r k, x0 (ix2 r k) = ((B.x r.val k.val : ℝ) : EReal)
  gn : ∀ k, x1 (ix2 0 k) = ((B.gn k.val : ℝ) : EReal)
  tg : ∀ r k, x2 (ix2 r k) = ((B.tg r.val k.val : ℝ) : EReal)

variable {x0 : FVec Ideal S4096x1024 .f32} {x1 : FVec Ideal S1x1024 .f32} {x2 : FVec Ideal S4096x1024 .f32} {B : Data} (h : Reads x0 x1 x2 B)
include h

theorem ms_at (r : Fin 4096) (z : Fin 1) : val_main_v6 (F := Ideal) x0 (ix2 r z) = ((ms (grad B) r.val : ℝ) : EReal) := by
  pointwise [val_main_v6, val_main_v5, val_main_v4, val_main_v3, val_main_v2, val_main_v1, val_main_v0, val_main_cst, val_main_cst_0, val_main_cst_1]
  simp only [h.x, width, eps_eq, ← EReal.coe_mul, coe_sum, div_width, ← EReal.coe_add]
  rfl

theorem rs_at (r : Fin 4096) (z : Fin 1) : val_main_v7 (F := Ideal) x0 (ix2 r z) = ((rs (grad B) r.val : ℝ) : EReal) := by
  have e := ms_at h
  pointwise [val_main_v7]
  rw [e]; exact rs_eq (grad B) _

/-- The root's derivative. -/
theorem droot_at (r : Fin 4096) (z : Fin 1) : val_main_v10 (F := Ideal) x0 (ix2 r z) = ((-1 / 2 * (rs (grad B) r.val / ms (grad B) r.val) : ℝ) : EReal) := by
  have e := ms_at h
  have e' := rs_at h
  pointwise [val_main_v10, val_main_v9, val_main_v8, val_main_cst_2]
  rw [e, e', div_real _ _ (ms_pos (grad B) _).ne', neg_half, ← EReal.coe_mul]

theorem xh_at (r : Fin 4096) (k : Fin 1024) : val_main_v12 (F := Ideal) x0 (ix2 r k) = ((xh (grad B) r.val k.val : ℝ) : EReal) := by
  have e := rs_at h
  pointwise [val_main_v12, val_main_v11]
  rw [e, h.x, ← EReal.coe_mul]; rfl

theorem err_at (r : Fin 4096) (k : Fin 1024) : val_main_v15 (F := Ideal) x0 x1 x2 (ix2 r k) = ((err B r.val k.val : ℝ) : EReal) := by
  have e := xh_at h
  pointwise [val_main_v15, val_main_v14, val_main_v13]
  rw [e, h.gn, h.tg, ← EReal.coe_mul, ← EReal.coe_sub]; rfl

theorem lrow_at (r : Fin 4096) : val_main_v21 (F := Ideal) x0 x1 x2 (ix1 r) = ((lrow B r.val : ℝ) : EReal) := by
  have e := err_at h
  pointwise [val_main_v21, val_main_v20, val_main_v19, val_main_v16, val_main_cst_4, val_main_cst_5]
  simp only [e, width, ← EReal.coe_mul, coe_sum, div_width]
  rfl

theorem loss_at (z z' : Fin 1) : val_main_v24 (F := Ideal) x0 x1 x2 (ix2 z z') = ((loss B : ℝ) : EReal) := by
  have e := lrow_at h
  pointwise [val_main_v24, val_main_v23, val_main_v22, val_main_cst_6, val_main_cst_7]
  simp only [e, half, coe_sum, ← EReal.coe_mul]
  congr 1

/-- The norm's result's cotangent. -/
theorem dy_at (r : Fin 4096) (k : Fin 1024) : val_main_v30 (F := Ideal) x0 x1 x2 (ix2 r k) = ((dy (grad B) r.val k.val : ℝ) : EReal) := by
  have e := err_at h
  pointwise [val_main_v30, val_main_v29, val_main_v28, val_main_v27, val_main_v26, val_main_v25, val_main_v18, val_main_v17, val_main_cst_3, val_main_cst_8, val_main_cst_9, val_main_cst_10]
  simp only [e, two, half, width, ← EReal.coe_mul]
  rw [dy_eq B _ _ k.isLt]
  rw [div_width, ← EReal.coe_mul]
  congr 1
  ring

theorem dgn_at (z : Fin 1) (k : Fin 1024) : val_main_v33 (F := Ideal) x0 x1 x2 (ix2 z k) = ((dgn (grad B) k.val : ℝ) : EReal) := by
  have e := xh_at h
  have e' := dy_at h
  pointwise [val_main_v33, val_main_v32, val_main_v31, val_main_cst_11]
  simp only [e, e', ← EReal.coe_mul, coe_sum]
  congr 1
  unfold dgn
  rw [Finset.sum_range]
  exact Finset.sum_congr rfl fun r _ => mul_comm _ _

/-- The mean square's cotangent, a row at a time. -/
theorem dms_at (r : Fin 4096) (z : Fin 1) : val_main_v43 (F := Ideal) x0 x1 x2 (ix2 r z)
    = (((∑ l : Fin 1024, B.x r.val l.val * (dy (grad B) r.val l.val * B.gn l.val)) * (-1 / 2 * (rs (grad B) r.val / ms (grad B) r.val)) / 1024 : ℝ) : EReal) := by
  have e := droot_at h
  have e' := dy_at h
  pointwise [val_main_v43, val_main_v42, val_main_v41, val_main_v38, val_main_v37, val_main_v36, val_main_v35, val_main_v34, val_main_cst_12, val_main_cst_13]
  simp only [e, e', h.x, h.gn, width, ← EReal.coe_mul, coe_sum, div_width]

theorem dx_at (r : Fin 4096) (k : Fin 1024) : val_main_v49 (F := Ideal) x0 x1 x2 (ix2 r k) = ((dx (grad B) r.val k.val : ℝ) : EReal) := by
  have e := dms_at h
  have e' := dy_at h
  have e'' := rs_at h
  pointwise [val_main_v49, val_main_v48, val_main_v47, val_main_v46, val_main_v45, val_main_v44, val_main_v40, val_main_v39, val_main_v35, val_main_v34, val_main_cst_14]
  simp only [e, e', e'', h.x, h.gn, ← EReal.coe_mul, ← EReal.coe_add, coe_sum]
  rw [Fin.sum_univ_one, ← dx_chain (grad B), show (grad B).ct r.val k.val = 0 from rfl, zero_add]
  rfl

/-- The results as arrays. -/
theorem loss_arr : val_main_v24 (F := Ideal) x0 x1 x2 = fun _ => ((loss B : ℝ) : EReal) :=
  funext fun i => by have e := loss_at h (i 0) (i 1); rwa [ix2_eta] at e
theorem dx_arr : val_main_v49 (F := Ideal) x0 x1 x2 = fun i => ((dx (grad B) (i 0).val (i 1).val : ℝ) : EReal) :=
  funext fun i => by have e := dx_at h (i 0) (i 1); rwa [ix2_eta] at e
theorem dgn_arr : val_main_v33 (F := Ideal) x0 x1 x2 = fun i => ((dgn (grad B) (i 1).val : ℝ) : EReal) :=
  funext fun i => by have e := dgn_at h (i 0) (i 1); rwa [ix2_eta] at e

end Cert.Reference16Ideal.LossHead

namespace Cert.Kernel16Ideal.LossHead

open Cert.NormGrad Cert.LossHead Cert.Reals
open Idealize.ShloMosaic Idealize.ShloMosaic.TcCoe Idealize.ShloMosaic.Tactic
open Idealize.SL.Sem

section Pre

open Cert.Pre_finite16

/-- The precondition's side conditions. -/
theorem pre_facts : Cert.Pre_finite16.Facts where
  bcast_S_S4096x1024 := by decide
  bcast_S_S1x1024 := by decide

variable [Cert.Pre_finite16.Facts] (x0 : FVec Ideal S4096x1024 .f32) (x1 : FVec Ideal S1x1024 .f32) (x2 : FVec Ideal S4096x1024 .f32)

theorem real0 (h : (Cert.Pre_finite16.fn (F := Ideal) x0 x1 x2).1 = fun _ => 1#1) (i) : ((x0 i).toReal : EReal) = x0 i := by
  have h' := congrFun h i
  pointwise [Cert.Pre_finite16.fn] at h'
  exact real_of_lt _ h'
theorem real1 (h : (Cert.Pre_finite16.fn (F := Ideal) x0 x1 x2).2.1 = fun _ => 1#1) (i) : ((x1 i).toReal : EReal) = x1 i := by
  have h' := congrFun h i
  pointwise [Cert.Pre_finite16.fn] at h'
  exact real_of_lt _ h'
theorem real2 (h : (Cert.Pre_finite16.fn (F := Ideal) x0 x1 x2).2.2 = fun _ => 1#1) (i) : ((x2 i).toReal : EReal) = x2 i := by
  have h' := congrFun h i
  pointwise [Cert.Pre_finite16.fn] at h'
  exact real_of_lt _ h'

end Pre

attribute [local instance] Cert.Kernel16Ideal.Gen.facts Cert.Reference16Ideal.Gen.facts

/-- The arguments' entries, by row and column numbers. -/
def argsOf (m : (ℓ : Loc Cert.Kernel16Ideal.nD Cert.Kernel16Ideal.τ Cert.Kernel16Ideal.sig) → Buf (Elt Ideal) ℓ) (c : Dev Cert.Kernel16Ideal.nD) : Data where
  x := entries (n0 := 4096) (n1 := 1024) (m ((c.tc : Thread Cert.Kernel16Ideal.nD Cert.Kernel16Ideal.τ).loc Cert.Kernel16Ideal.main_arg0))
  gn := entries (n0 := 1) (n1 := 1024) (m ((c.tc : Thread Cert.Kernel16Ideal.nD Cert.Kernel16Ideal.τ).loc Cert.Kernel16Ideal.main_arg1)) 0
  tg := entries (n0 := 4096) (n1 := 1024) (m ((c.tc : Thread Cert.Kernel16Ideal.nD Cert.Kernel16Ideal.τ).loc Cert.Kernel16Ideal.main_arg2))

/-- Finite arguments are the reals their entries are. -/
theorem reads_of_finite [Cert.Pre_finite16.Facts] (m) (h : Cert.Pre_Kernel16Ideal_finite16 m) (c : Dev Cert.Kernel16Ideal.nD) : Reads m c (argsOf m c) where
  x := entries_at _ (real0 _ _ _ (h c).1)
  gn := entries_at _ (real1 _ _ _ (h c).2.1) 0
  tg := entries_at _ (real2 _ _ _ (h c).2.2)

theorem algebraic [Cert.Pre_finite16.Facts] : Cert.algebraic_Kernel16Ideal_Reference16Ideal_pre_finite16 := by
  intro m g m' g' hpre hargs
  have hk := fun c => reads_of_finite m hpre c
  refine ⟨fun c => lossArr (argsOf m c), fun c => dxArr (argsOf m c), fun c => dgnArr (argsOf m c), ?_, ?_⟩
  · refine (θ_run Cert.Kernel16Ideal.defs _ _).mono (fun r h c => ?_) (Cert.Kernel16Ideal.Value.run_blocks m g)
    exact ⟨(h c).1.trans (final3 (hk c)), (h c).2.1.trans (final4 (hk c)), (h c).2.2.1.trans (final5 (hk c)), (h c).2.2.2⟩
  · refine (θ_run Cert.Reference16Ideal.defs _ _).mono (fun r h c => ?_) (Cert.Reference16Ideal.Value.run m' g')
    obtain ⟨e0, e1, e2⟩ := hargs c
    have hr : Cert.Reference16Ideal.LossHead.Reads _ _ _ (argsOf m c) := ⟨fun r k => (congrFun e0 _).trans ((hk c).x r k),
      fun k => (congrFun e1 _).trans ((hk c).gn k), fun r k => (congrFun e2 _).trans ((hk c).tg r k)⟩
    exact ⟨(h c).1.trans ((Cert.Reference16Ideal.Read.val_main_v24_eq _ _ _).trans (Cert.Reference16Ideal.LossHead.loss_arr hr)),
      (h c).2.1.trans ((Cert.Reference16Ideal.Read.val_main_v49_eq m' c).trans (Cert.Reference16Ideal.LossHead.dx_arr hr)),
      (h c).2.2.1.trans ((Cert.Reference16Ideal.Read.val_main_v33_eq _ _ _).trans (Cert.Reference16Ideal.LossHead.dgn_arr hr)), (h c).2.2.2⟩

end Cert.Kernel16Ideal.LossHead
-- ==== Proof.OdIn.lean ====
/- The call that takes an odd mixer's gradient through its input product and the norm before it. -/
module

public import proofs.«01_k».proof.Proof.NormGrad
public import proofs.«01_k».proof.Proof.Finite
public import proofs.«01_k».proof.Proof.Gen.Kernel11Ideal.Value
public import proofs.«01_k».proof.Defs
public import Idealize.ShloMosaic.Lib.Pipeline.ValueKit

@[expose] public section

set_option maxRecDepth 16384

noncomputable section

namespace Cert.Kernel11Ideal.OdIn

open Cert.Kernel11Ideal Cert.Kernel11Ideal.Gen
open Cert.NormGrad Cert.Reals
open Idealize.ShloMosaic Idealize.ShloMosaic.TcCoe Idealize.ShloMosaic.Tactic

/-- The block index of every window at a point. -/
theorem idx : ∀ t : Fin cfg0.N, win0_0.index t = ![t.val, 0] ∧ win0_1.index t = ![t.val, 1] ∧ win0_2.index t = ![t.val, 2]
    ∧ win0_3.index t = ![1, 0] ∧ win0_4.index t = ![2, 0] ∧ win0_5.index t = ![0, 0] ∧ win0_6.index t = ![t.val, 0] ∧ win0_7.index t = ![0, 0]
    ∧ win0_8.index t = ![t.val, 0] ∧ win0_9.index t = ![t.val, 0] ∧ win0_10.index t = ![0, 0] :=
  (by decide +kernel : ∀ t : Fin grid0.N, _)

/-- The arguments' entries are `A`. -/
structure Reads (m : (ℓ : Loc nD τ sig) → Buf (Elt Ideal) ℓ) (c : Dev nD) (A : Args) : Prop where
  n : A.n = 1536
  dp : ∀ r k, m ((c : Thread nD τ).loc main_arg0) (ix2 r k) = ((A.dp r.val k.val : ℝ) : EReal)
  ct : ∀ r k, m ((c : Thread nD τ).loc main_arg1) (ix2 r k) = ((A.ct r.val k.val : ℝ) : EReal)
  x : ∀ r k, m ((c : Thread nD τ).loc main_arg2) (ix2 r k) = ((A.x r.val k.val : ℝ) : EReal)
  gn : ∀ k, m ((c : Thread nD τ).loc main_arg3) (ix2 0 k) = ((A.gn k.val : ℝ) : EReal)
  w : ∀ r k, m ((c : Thread nD τ).loc main_arg4) (ix2 r k) = ((A.w r.val k.val : ℝ) : EReal)

variable {m : (ℓ : Loc nD τ sig) → Buf (Elt Ideal) ℓ} {c : Dev nD} {A : Args} (h : Reads m c A) (t : Fin cfg0.N)
include h

/-- The two gate inputs' columns come first, then the pool's. -/
theorem in0 (j k : Fin 512) : iblk m c 0 t (ix2 j k) = ((A.dp (512 * t.val + j.val) (512 + k.val) : ℝ) : EReal) := by
  have ht := Nat.lt_of_lt_of_eq t.isLt N_0
  have e : iblk m c 0 t (ix2 j k) = V m c main_v3 (ix2 ⟨512 * t.val + j.val, by omega⟩ ⟨0 + k.val, by omega⟩) := by
    blk_ext [iblk, idx t]
  rw [e]
  entry_read
  pointwise
  split
  · exact h.dp _ _
  · rename_i hc
    exact absurd (lt_trans k.isLt (by norm_num)) hc

theorem in1 (j k : Fin 512) : iblk m c 1 t (ix2 j k) = ((A.dp (512 * t.val + j.val) (1024 + k.val) : ℝ) : EReal) := by
  have ht := Nat.lt_of_lt_of_eq t.isLt N_0
  have e : iblk m c 1 t (ix2 j k) = V m c main_v3 (ix2 ⟨512 * t.val + j.val, by omega⟩ ⟨512 + k.val, by omega⟩) := by
    blk_ext [iblk, idx t]
  rw [e]
  entry_read
  pointwise
  split
  · refine (h.dp _ _).trans (congrArg (fun q => ((A.dp (512 * t.val + j.val) q : ℝ) : EReal)) ?_)
    dsimp only
    omega
  · rename_i hc
    exact absurd (show 512 + k.val < 1024 by omega) hc

theorem in2 (j k : Fin 512) : iblk m c 2 t (ix2 j k) = ((A.dp (512 * t.val + j.val) (k.val) : ℝ) : EReal) := by
  have ht := Nat.lt_of_lt_of_eq t.isLt N_0
  have e : iblk m c 2 t (ix2 j k) = V m c main_v3 (ix2 ⟨512 * t.val + j.val, by omega⟩ ⟨1024 + k.val, by omega⟩) := by
    blk_ext [iblk, idx t]
  rw [e]
  entry_read
  pointwise
  exact h.dp _ _

/-- The weights' rows in the same order. -/
theorem in3 (j : Fin 512) (k : Fin 1024) : iblk m c 3 t (ix2 j k) = ((A.w k.val (512 + j.val) : ℝ) : EReal) := by
  have e : iblk m c 3 t (ix2 j k) = V m c main_v5 (ix2 ⟨512 + j.val, by omega⟩ k) := by
    blk_ext [iblk, idx t]
  rw [e]
  entry_read
  pointwise
  exact h.w _ _

theorem in4 (j : Fin 512) (k : Fin 1024) : iblk m c 4 t (ix2 j k) = ((A.w k.val (1024 + j.val) : ℝ) : EReal) := by
  have e : iblk m c 4 t (ix2 j k) = V m c main_v5 (ix2 ⟨1024 + j.val, by omega⟩ k) := by
    blk_ext [iblk, idx t]
  rw [e]
  entry_read
  pointwise
  exact h.w _ _

theorem in5 (j : Fin 512) (k : Fin 1024) : iblk m c 5 t (ix2 j k) = ((A.w k.val (j.val) : ℝ) : EReal) := by
  have e : iblk m c 5 t (ix2 j k) = V m c main_v5 (ix2 ⟨j.val, by omega⟩ k) := by
    blk_ext [iblk, idx t]
  rw [e]
  entry_read
  pointwise
  exact h.w _ _

theorem in6 (j : Fin 512) (k : Fin 1024) : iblk m c 6 t (ix2 j k) = ((A.x (512 * t.val + j.val) k.val : ℝ) : EReal) := by
  have ht := Nat.lt_of_lt_of_eq t.isLt N_0
  have e : iblk m c 6 t (ix2 j k) = m ((c : Thread nD τ).loc main_arg2) (ix2 ⟨512 * t.val + j.val, by omega⟩ k) := by
    blk_ext [iblk, V, idx t]
  exact e.trans (h.x _ _)

theorem in7 (k : Fin 1024) : iblk m c 7 t (ix2 0 k) = ((A.gn k.val : ℝ) : EReal) := by
  have e : iblk m c 7 t (ix2 0 k) = m ((c : Thread nD τ).loc main_arg3) (ix2 0 k) := by
    blk_ext [iblk, V, idx t]
  exact e.trans (h.gn _)

theorem in8 (j : Fin 512) (k : Fin 1024) : iblk m c 8 t (ix2 j k) = ((A.ct (512 * t.val + j.val) k.val : ℝ) : EReal) := by
  have ht := Nat.lt_of_lt_of_eq t.isLt N_0
  have e : iblk m c 8 t (ix2 j k) = m ((c : Thread nD τ).loc main_arg1) (ix2 ⟨512 * t.val + j.val, by omega⟩ k) := by
    blk_ext [iblk, V, idx t]
  exact e.trans (h.ct _ _)

omit h t in
/-- A product in three pieces of 512 columns, the first piece last. -/
theorem three (f : ℕ → ℝ) : (∑ j : Fin 512, f (512 + j.val)) + (∑ j : Fin 512, f (1024 + j.val)) + ∑ j : Fin 512, f j.val = ∑ j ∈ Finset.range 1536, f j := by
  have e0 := sum_tile 0 512 f
  have e1 := sum_tile 1 512 f
  have e2 := sum_tile 2 512 f
  norm_num at e0 e1 e2
  rw [e2, e1, e0]
  ring

/-- The product's operands at a point. -/
def dyV (m : (ℓ : Loc nD τ sig) → Buf (Elt Ideal) ℓ) (c : Dev nD) (t : Fin cfg0.N) : FVec Ideal S512x1024 .f32 :=
  k0_pay4 (F := Ideal) (iblk m c 0 t) (iblk m c 3 t) (iblk m c 1 t) (iblk m c 4 t) (iblk m c 2 t) (iblk m c 5 t)

/-- The normalised input's cotangent on the block. -/
theorem dy_blk (j : Fin 512) (k : Fin 1024) : dyV m c t (ix2 j k) = ((dy A (512 * t.val + j.val) k.val : ℝ) : EReal) := by
  unfold dyV
  have e0 := in0 h t
  have e1 := in1 h t
  have e2 := in2 h t
  have e3 := in3 h t
  have e4 := in4 h t
  have e5 := in5 h t
  generalize iblk m c 0 t = a0 at e0 ⊢
  generalize iblk m c 1 t = a1 at e1 ⊢
  generalize iblk m c 2 t = a2 at e2 ⊢
  generalize iblk m c 3 t = b0 at e3 ⊢
  generalize iblk m c 4 t = b1 at e4 ⊢
  generalize iblk m c 5 t = b2 at e5 ⊢
  pointwise [k0_pay4]
  simp only [e0, e1, e2, e3, e4, e5, ← EReal.coe_mul, coe_sum, ← EReal.coe_add]
  congr 1
  unfold dy
  rw [h.n]
  exact three (fun q => A.dp (512 * t.val + j.val) q * A.w k.val q)

theorem rs_blk (j : Fin 512) (z : Fin 1) : k0_pay5 (F := Ideal) (iblk m c 6 t) (ix2 j z) = ((rs A (512 * t.val + j.val) : ℝ) : EReal) := by
  have e := in6 h t
  generalize iblk m c 6 t = a at e ⊢
  pointwise [k0_pay5]
  simp only [e, width, eps_eq, ← EReal.coe_mul, ← EReal.coe_add, coe_sum, div_width, rs_eq A]

theorem xh_blk (j : Fin 512) (k : Fin 1024) : k0_pay6 (F := Ideal) (iblk m c 6 t) (ix2 j k) = ((xh A (512 * t.val + j.val) k.val : ℝ) : EReal) := by
  have e := in6 h t
  have e' := rs_blk h t
  generalize iblk m c 6 t = a at e e' ⊢
  revert e'
  generalize hp : k0_pay5 (F := Ideal) a = p
  intro e'
  pointwise [k0_pay6, hp]
  simp only [e, e', ← EReal.coe_mul]
  rfl

/-- The input's gradient on the block. -/
theorem dx_blk (j : Fin 512) (k : Fin 1024) :
    k0_pay1 (F := Ideal) (iblk m c 8 t) (k0_pay5 (iblk m c 6 t)) (k0_pay6 (iblk m c 6 t))
      (k0_pay7 (iblk m c 0 t) (iblk m c 3 t) (iblk m c 1 t) (iblk m c 4 t) (iblk m c 2 t) (iblk m c 5 t) (iblk m c 7 t))
      (k0_pay8 (iblk m c 0 t) (iblk m c 3 t) (iblk m c 1 t) (iblk m c 4 t) (iblk m c 2 t) (iblk m c 5 t) (iblk m c 6 t) (iblk m c 7 t)) (ix2 j k)
      = ((dx A (512 * t.val + j.val) k.val : ℝ) : EReal) := by
  have e7 := in7 h t
  have e8 := in8 h t
  have ed := dy_blk h t
  have er := rs_blk h t
  have ex := xh_blk h t
  unfold dyV at ed
  generalize iblk m c 0 t = a0 at ed ⊢
  generalize iblk m c 1 t = a1 at ed ⊢
  generalize iblk m c 2 t = a2 at ed ⊢
  generalize iblk m c 3 t = b0 at ed ⊢
  generalize iblk m c 4 t = b1 at ed ⊢
  generalize iblk m c 5 t = b2 at ed ⊢
  generalize iblk m c 6 t = x at er ex ⊢
  generalize iblk m c 7 t = g at e7 ⊢
  generalize iblk m c 8 t = d at e8 ⊢
  unfold k0_pay8 k0_pay7
  revert ed er ex
  generalize k0_pay4 (F := Ideal) a0 b0 a1 b1 a2 b2 = p
  generalize k0_pay5 (F := Ideal) x = q
  generalize k0_pay6 (F := Ideal) x = y
  intro ed er ex
  pointwise [k0_pay1]
  simp only [e7, e8, ed, er, ex, width, ← EReal.coe_mul, ← EReal.coe_add, coe_sum, div_width, ← EReal.coe_sub]
  rfl

/-- The block's part of the gain's gradient, added to what was there. -/
theorem dgn_blk (u : Vec Ideal S1x1024 .f32) (z : Fin 1) (k : Fin 1024) (s : ℝ) (hu : u (ix2 z k) = ((s : ℝ) : EReal)) :
    k0_pay3 (F := Ideal) (dyV m c t) (k0_pay6 (iblk m c 6 t)) u (ix2 z k)
      = ((s + ∑ j : Fin 512, dy A (512 * t.val + j.val) k.val * xh A (512 * t.val + j.val) k.val : ℝ) : EReal) := by
  have ed := dy_blk h t
  have ex := xh_blk h t
  revert ed ex
  generalize dyV m c t = p
  generalize k0_pay6 (F := Ideal) (iblk m c 6 t) = y
  intro ed ex
  pointwise [k0_pay3]
  simp only [hu, ed, ex, ← EReal.coe_mul, coe_sum, ← EReal.coe_add]

/-- What a point leaves of the input's gradient. -/
theorem after9 (j : Fin 512) (k : Fin 1024) : (outsAt0 m c t.val t.isLt).1 (ix2 j k) = ((dx A (512 * t.val + j.val) k.val : ℝ) : EReal) := by
  by_cases h0 : t.val % 8 = 0
  · rw [outsAt0_A m c t h0]
    frame_out
    exact dx_blk h t j k
  · rw [outsAt0_B m c t h0]
    frame_out
    exact dx_blk h t j k

omit t in
/-- What a point leaves of the gain's gradient: the row tiles so far. -/
theorem after10 : ∀ (n : ℕ) (hn : n < cfg0.N) (z : Fin 1) (k : Fin 1024), (outsAt0 m c n hn).2 (ix2 z k)
    = ((∑ r ∈ Finset.range (512 * (n + 1)), dy A r k.val * xh A r k.val : ℝ) : EReal)
  | n, hn, z, k => by
    have hN := Nat.lt_of_lt_of_eq hn N_0
    by_cases h0 : n % 8 = 0
    · rw [outsAt0_A m c ⟨n, hn⟩ h0]
      frame_out
      refine (dgn_blk h ⟨n, hn⟩ _ z k 0 ?_).trans ?_
      · pointwise [k0_pay2]
        rfl
      · have hz : n = 0 := by omega
        subst hz
        rw [sum_tile]
        simp
    · have e0 := after10 (n - 1) (Nat.lt_of_le_of_lt (Nat.sub_le _ _) hn) z k
      rw [outsAt0_B m c ⟨n, hn⟩ h0]
      frame_out
      refine (dgn_blk h ⟨n, hn⟩ _ z k _ e0).trans ?_
      rw [Nat.sub_add_cancel (by omega), sum_tile]

/-- The result arrays. -/
def dxArr (A : Args) : S4096x1024.Idx → EReal := fun i => ((dx A (i 0).val (i 1).val : ℝ) : EReal)
def dgnArr (A : Args) : S1x1024.Idx → EReal := fun i => ((dgn A (i 1).val : ℝ) : EReal)

omit t in
theorem final9 : (dats m 0 c).arrAt 9 cfg0.N = dxArr A := by
  refine (dats m 0 c).arrAt_eq_of_covers 9 _ (by decide +kernel) fun t hf y => ?_
  blk_simp
  rw [after0_9]
  have e := after9 h t (y 0) (y 1)
  rw [ix2_eta] at e
  refine e.trans ?_
  unfold dxArr
  blk_simp [idx t]
  rw [Nat.mul_comm 512]

omit t in
theorem final10 : (dats m 0 c).arrAt 10 cfg0.N = dgnArr A := by
  refine (dats m 0 c).arrAt_eq_of_covers 10 _ (by decide +kernel) fun t hf y => ?_
  blk_simp
  rw [after0_10]
  have ht := Nat.lt_of_lt_of_eq t.isLt N_0
  have h1 := (flush0_10 t).mp hf
  have e := after10 h t.val t.isLt (y 0) (y 1)
  rw [ix2_eta] at e
  refine e.trans ?_
  unfold dgnArr dgn
  blk_simp [idx t]
  rw [show t.val = 7 by omega]

end Cert.Kernel11Ideal.OdIn
-- ==== Proof.OdInEq.lean ====
/- The reference of the odd mixer's input gradient over the reals, and the equality of the two programs. -/
module

public import proofs.«01_k».proof.Proof.OdIn
public import proofs.«01_k».proof.Proof.Gen.Reference11Ideal.Run
public import proofs.«01_k».proof.Proof.Gen.Reference11Ideal.Read

@[expose] public section

set_option maxRecDepth 16384

noncomputable section

namespace Cert.Reference11Ideal.OdIn

open Cert.Reference11Ideal Cert.Reference11Ideal.Read
open Cert.NormGrad Cert.Reals
open Idealize.ShloMosaic Idealize.ShloMosaic.TcCoe Idealize.ShloMosaic.Tactic

/-- The reference's arguments are the reals `A`. -/
structure Reads (x0 : FVec Ideal S4096x1536 .f32) (x1 x2 : FVec Ideal S4096x1024 .f32) (x3 : FVec Ideal S1x1024 .f32) (x4 : FVec Ideal S1024x1536 .f32) (A : Args) : Prop where
  n : A.n = 1536
  dp : ∀ r k, x0 (ix2 r k) = ((A.dp r.val k.val : ℝ) : EReal)
  ct : ∀ r k, x1 (ix2 r k) = ((A.ct r.val k.val : ℝ) : EReal)
  x : ∀ r k, x2 (ix2 r k) = ((A.x r.val k.val : ℝ) : EReal)
  gn : ∀ k, x3 (ix2 0 k) = ((A.gn k.val : ℝ) : EReal)
  w : ∀ r k, x4 (ix2 r k) = ((A.w r.val k.val : ℝ) : EReal)

variable {x0 : FVec Ideal S4096x1536 .f32} {x1 x2 : FVec Ideal S4096x1024 .f32} {x3 : FVec Ideal S1x1024 .f32} {x4 : FVec Ideal S1024x1536 .f32} {A : Args}
  (h : Reads x0 x1 x2 x3 x4 A)
include h

theorem ms_at (r : Fin 4096) (z : Fin 1) : val_main_v6 (F := Ideal) x2 (ix2 r z) = ((ms A r.val : ℝ) : EReal) := by
  pointwise [val_main_v6, val_main_v5, val_main_v4, val_main_v3, val_main_v2, val_main_v1, val_main_v0, val_main_cst, val_main_cst_0, val_main_cst_1]
  simp only [h.x, width, eps_eq, ← EReal.coe_mul, coe_sum, div_width, ← EReal.coe_add]
  rfl

theorem rs_at (r : Fin 4096) (z : Fin 1) : val_main_v7 (F := Ideal) x2 (ix2 r z) = ((rs A r.val : ℝ) : EReal) := by
  have e := ms_at h
  pointwise [val_main_v7]
  rw [e]; exact rs_eq A _

/-- The root's derivative. -/
theorem droot_at (r : Fin 4096) (z : Fin 1) : val_main_v10 (F := Ideal) x2 (ix2 r z) = ((-1 / 2 * (rs A r.val / ms A r.val) : ℝ) : EReal) := by
  have e := ms_at h
  have e' := rs_at h
  pointwise [val_main_v10, val_main_v9, val_main_v8, val_main_cst_2]
  rw [e, e', div_real _ _ (ms_pos A _).ne', neg_half, ← EReal.coe_mul]

theorem xh_at (r : Fin 4096) (k : Fin 1024) : val_main_v12 (F := Ideal) x2 (ix2 r k) = ((xh A r.val k.val : ℝ) : EReal) := by
  have e := rs_at h
  pointwise [val_main_v12, val_main_v11]
  rw [e, h.x, ← EReal.coe_mul]; rfl

theorem dy_at (r : Fin 4096) (k : Fin 1024) : val_main_v16 (F := Ideal) x0 x4 (ix2 r k) = ((dy A r.val k.val : ℝ) : EReal) := by
  pointwise [val_main_v16]
  simp only [h.dp, h.w, ← EReal.coe_mul, coe_sum]
  congr 1
  unfold dy
  rw [h.n, Finset.sum_range]

theorem dgn_at (z : Fin 1) (k : Fin 1024) : val_main_v19 (F := Ideal) x0 x2 x4 (ix2 z k) = ((dgn A k.val : ℝ) : EReal) := by
  have e := xh_at h
  have e' := dy_at h
  pointwise [val_main_v19, val_main_v18, val_main_v17, val_main_cst_3]
  simp only [e, e', ← EReal.coe_mul, coe_sum]
  congr 1
  unfold dgn
  rw [Finset.sum_range]
  exact Finset.sum_congr rfl fun r _ => mul_comm _ _

/-- The mean square's cotangent, a row at a time. -/
theorem dms_at (r : Fin 4096) (z : Fin 1) : val_main_v30 (F := Ideal) x0 x2 x3 x4 (ix2 r z)
    = (((∑ l : Fin 1024, A.x r.val l.val * (dy A r.val l.val * A.gn l.val)) * (-1 / 2 * (rs A r.val / ms A r.val)) / 1024 : ℝ) : EReal) := by
  have e := droot_at h
  have e' := dy_at h
  pointwise [val_main_v30, val_main_v29, val_main_v28, val_main_v24, val_main_v23, val_main_v22, val_main_v21, val_main_v20, val_main_cst_4, val_main_cst_5]
  simp only [e, e', h.x, h.gn, width, ← EReal.coe_mul, coe_sum, div_width]

theorem dx_at (r : Fin 4096) (k : Fin 1024) : val_main_v36 (F := Ideal) x0 x1 x2 x3 x4 (ix2 r k) = ((dx A r.val k.val : ℝ) : EReal) := by
  have e := dms_at h
  have e' := dy_at h
  have e'' := rs_at h
  pointwise [val_main_v36, val_main_v35, val_main_v34, val_main_v33, val_main_v32, val_main_v31, val_main_v27, val_main_v26, val_main_v25, val_main_v21, val_main_v20, val_main_cst_6]
  simp only [e, e', e'', h.x, h.ct, h.gn, ← EReal.coe_mul, ← EReal.coe_add, coe_sum]
  rw [Fin.sum_univ_one, dx_chain]

/-- The results as arrays. -/
theorem dx_arr : val_main_v36 (F := Ideal) x0 x1 x2 x3 x4 = fun i => ((dx A (i 0).val (i 1).val : ℝ) : EReal) :=
  funext fun i => by have e := dx_at h (i 0) (i 1); rwa [ix2_eta] at e
theorem dgn_arr : val_main_v19 (F := Ideal) x0 x2 x4 = fun i => ((dgn A (i 1).val : ℝ) : EReal) :=
  funext fun i => by have e := dgn_at h (i 0) (i 1); rwa [ix2_eta] at e

end Cert.Reference11Ideal.OdIn

namespace Cert.Kernel11Ideal.OdIn

open Cert.NormGrad Cert.Reals
open Idealize.ShloMosaic Idealize.ShloMosaic.TcCoe Idealize.ShloMosaic.Tactic
open Idealize.SL.Sem

section Pre

open Cert.Pre_finite11

/-- The precondition's side conditions. -/
theorem pre_facts : Cert.Pre_finite11.Facts where
  bcast_S_S4096x1536 := by decide
  bcast_S_S4096x1024 := by decide
  bcast_S_S1x1024 := by decide
  bcast_S_S1024x1536 := by decide

variable [Cert.Pre_finite11.Facts] (x0 : FVec Ideal S4096x1536 .f32) (x1 x2 : FVec Ideal S4096x1024 .f32) (x3 : FVec Ideal S1x1024 .f32) (x4 : FVec Ideal S1024x1536 .f32)

theorem real0 (h : (Cert.Pre_finite11.fn (F := Ideal) x0 x1 x2 x3 x4).1 = fun _ => 1#1) (i) : ((x0 i).toReal : EReal) = x0 i := by
  have h' := congrFun h i
  pointwise [Cert.Pre_finite11.fn] at h'
  exact real_of_lt _ h'
theorem real1 (h : (Cert.Pre_finite11.fn (F := Ideal) x0 x1 x2 x3 x4).2.1 = fun _ => 1#1) (i) : ((x1 i).toReal : EReal) = x1 i := by
  have h' := congrFun h i
  pointwise [Cert.Pre_finite11.fn] at h'
  exact real_of_lt _ h'
theorem real2 (h : (Cert.Pre_finite11.fn (F := Ideal) x0 x1 x2 x3 x4).2.2.1 = fun _ => 1#1) (i) : ((x2 i).toReal : EReal) = x2 i := by
  have h' := congrFun h i
  pointwise [Cert.Pre_finite11.fn] at h'
  exact real_of_lt _ h'
theorem real3 (h : (Cert.Pre_finite11.fn (F := Ideal) x0 x1 x2 x3 x4).2.2.2.1 = fun _ => 1#1) (i) : ((x3 i).toReal : EReal) = x3 i := by
  have h' := congrFun h i
  pointwise [Cert.Pre_finite11.fn] at h'
  exact real_of_lt _ h'
theorem real4 (h : (Cert.Pre_finite11.fn (F := Ideal) x0 x1 x2 x3 x4).2.2.2.2 = fun _ => 1#1) (i) : ((x4 i).toReal : EReal) = x4 i := by
  have h' := congrFun h i
  pointwise [Cert.Pre_finite11.fn] at h'
  exact real_of_lt _ h'

end Pre

attribute [local instance] Cert.Kernel11Ideal.Gen.facts Cert.Reference11Ideal.Gen.facts

/-- The arguments' entries, by row and column numbers. -/
def argsOf (m : (ℓ : Loc Cert.Kernel11Ideal.nD Cert.Kernel11Ideal.τ Cert.Kernel11Ideal.sig) → Buf (Elt Ideal) ℓ) (c : Dev Cert.Kernel11Ideal.nD) : Args where
  n := 1536
  dp := entries (n0 := 4096) (n1 := 1536) (m ((c.tc : Thread Cert.Kernel11Ideal.nD Cert.Kernel11Ideal.τ).loc Cert.Kernel11Ideal.main_arg0))
  ct := entries (n0 := 4096) (n1 := 1024) (m ((c.tc : Thread Cert.Kernel11Ideal.nD Cert.Kernel11Ideal.τ).loc Cert.Kernel11Ideal.main_arg1))
  x := entries (n0 := 4096) (n1 := 1024) (m ((c.tc : Thread Cert.Kernel11Ideal.nD Cert.Kernel11Ideal.τ).loc Cert.Kernel11Ideal.main_arg2))
  gn := entries (n0 := 1) (n1 := 1024) (m ((c.tc : Thread Cert.Kernel11Ideal.nD Cert.Kernel11Ideal.τ).loc Cert.Kernel11Ideal.main_arg3)) 0
  w := entries (n0 := 1024) (n1 := 1536) (m ((c.tc : Thread Cert.Kernel11Ideal.nD Cert.Kernel11Ideal.τ).loc Cert.Kernel11Ideal.main_arg4))

/-- Finite arguments are the reals their entries are. -/
theorem reads_of_finite [Cert.Pre_finite11.Facts] (m) (h : Cert.Pre_Kernel11Ideal_finite11 m) (c : Dev Cert.Kernel11Ideal.nD) : Reads m c (argsOf m c) where
  n := rfl
  dp := entries_at _ (real0 _ _ _ _ _ (h c).1)
  ct := entries_at _ (real1 _ _ _ _ _ (h c).2.1)
  x := entries_at _ (real2 _ _ _ _ _ (h c).2.2.1)
  gn := entries_at _ (real3 _ _ _ _ _ (h c).2.2.2.1) 0
  w := entries_at _ (real4 _ _ _ _ _ (h c).2.2.2.2)

theorem algebraic [Cert.Pre_finite11.Facts] : Cert.algebraic_Kernel11Ideal_Reference11Ideal_pre_finite11 := by
  intro m g m' g' hpre hargs
  have hk := fun c => reads_of_finite m hpre c
  refine ⟨fun c => dxArr (argsOf m c), fun c => dgnArr (argsOf m c), ?_, ?_⟩
  · refine (θ_run Cert.Kernel11Ideal.defs _ _).mono (fun r h c => ?_) (Cert.Kernel11Ideal.Value.run_blocks m g)
    exact ⟨(h c).1.trans (final9 (hk c)), (h c).2.1.trans (final10 (hk c)), (h c).2.2⟩
  · refine (θ_run Cert.Reference11Ideal.defs _ _).mono (fun r h c => ?_) (Cert.Reference11Ideal.Value.run m' g')
    obtain ⟨e0, e1, e2, e3, e4⟩ := hargs c
    have hr : Cert.Reference11Ideal.OdIn.Reads _ _ _ _ _ (argsOf m c) := ⟨(hk c).n, fun r k => (congrFun e0 _).trans ((hk c).dp r k), fun r k => (congrFun e1 _).trans ((hk c).ct r k),
      fun r k => (congrFun e2 _).trans ((hk c).x r k), fun k => (congrFun e3 _).trans ((hk c).gn k), fun r k => (congrFun e4 _).trans ((hk c).w r k)⟩
    exact ⟨(h c).1.trans ((Cert.Reference11Ideal.Read.val_main_v36_eq m' c).trans (Cert.Reference11Ideal.OdIn.dx_arr hr)),
      (h c).2.1.trans ((Cert.Reference11Ideal.Read.val_main_v19_eq _ _ _).trans (Cert.Reference11Ideal.OdIn.dgn_arr hr)), (h c).2.2⟩

end Cert.Kernel11Ideal.OdIn
-- ==== Proof.EvFwd.lean ====
/- The even mixer's input product with the norm before it: 512 rows a point, each point the whole width in two pieces. -/
module

public import proofs.«01_k».proof.Proof.NormSpec
public import proofs.«01_k».proof.Proof.Gen.Kernel12Ideal.Value
public import proofs.«01_k».proof.Proof.Gen.Reference12Ideal.Run
public import proofs.«01_k».proof.Proof.Gen.Reference12Ideal.Read
public import proofs.«01_k».proof.Defs
public import Idealize.ShloMosaic.Lib.Pipeline.ValueKit

@[expose] public section

set_option maxRecDepth 16384

noncomputable section

namespace Cert.Kernel12Ideal.EvFwd

open Cert.Kernel12Ideal Cert.Kernel12Ideal.Gen
open Cert.Norm
open Idealize.ShloMosaic Idealize.ShloMosaic.TcCoe Idealize.ShloMosaic.Tactic
open Idealize.SL.Sem

/-- The block index of every window at a point. -/
theorem idx : ∀ t : Fin cfg0.N, win0_0.index t = ![t.val, 0] ∧ win0_1.index t = ![0, 0] ∧ win0_2.index t = ![0, 0] ∧ win0_3.index t = ![2, 0]
    ∧ win0_4.index t = ![t.val, 0] ∧ win0_5.index t = ![t.val, 0] ∧ win0_6.index t = ![t.val, 0] :=
  (by decide +kernel : ∀ t : Fin grid0.N, _)

section Pay

variable {x : ℕ → ℕ → EReal} {g : ℕ → EReal} {r : ℕ} {v : Vec Ideal S512x1024 .f32} {u : Vec Ideal S1x1024 .f32} {j : Fin 512}
  (hv : ∀ k, v (ix2 j k) = x r k.val) (hu : ∀ k, u (ix2 0 k) = g k.val)
include hv hu

/-- The normalised rows of a block. -/
theorem pay1 (k : Fin 1024) : k0_pay1 (F := Ideal) v u (ix2 j k) = rms x g r k.val := by
  pointwise [k0_pay1]
  exact rms_of hv hu k

theorem pay2 (w : Vec Ideal S1536x1024 .bf16) (k : Fin 1536) : k0_pay2 (F := Ideal) v u w (ix2 j k) = ∑ l : Fin 1024, rms x g r l.val * w (ix2 k l) := by
  have e := pay1 hv hu
  revert e
  generalize hp : k0_pay1 (F := Ideal) v u = p
  intro e
  pointwise [k0_pay2, hp]
  exact Finset.sum_congr rfl fun l _ => congrArg (· * _) (e l)

theorem pay3 (w : Vec Ideal S768x1024 .bf16) (k : Fin 768) : k0_pay3 (F := Ideal) v u w (ix2 j k) = ∑ l : Fin 1024, rms x g r l.val * w (ix2 k l) := by
  have e := pay1 hv hu
  revert e
  generalize hp : k0_pay1 (F := Ideal) v u = p
  intro e
  pointwise [k0_pay3, hp]
  exact Finset.sum_congr rfl fun l _ => congrArg (· * _) (e l)

end Pay

variable (m : (ℓ : Loc nD τ sig) → Buf (Elt Ideal) ℓ) (c : Dev nD)

/-- The input, the gain and the weights, by row and column numbers. -/
def x : ℕ → ℕ → EReal := cells (n0 := 4096) (n1 := 1024) (m ((c : Thread nD τ).loc main_arg0))
def g : ℕ → EReal := cells (n0 := 1) (n1 := 1024) (m ((c : Thread nD τ).loc main_arg1)) 0
def w : ℕ → ℕ → EReal := cells (n0 := 1024) (n1 := 2304) (m ((c : Thread nD τ).loc main_arg2))

/-- Point `t` loads 512 rows of the input. -/
theorem in0 (t : Fin cfg0.N) (j : Fin 512) (k : Fin 1024) : iblk m c 0 t (ix2 j k) = x m c (512 * t.val + j.val) k.val := by
  have ht := Nat.lt_of_lt_of_eq t.isLt N_0
  have e : iblk m c 0 t (ix2 j k) = m ((c : Thread nD τ).loc main_arg0) (ix2 ⟨512 * t.val + j.val, by omega⟩ k) := by
    blk_ext [iblk, V, idx t]
  exact e.trans (cells_at (n0 := 4096) (n1 := 1024) _ _ _)

theorem in1 (t : Fin cfg0.N) (k : Fin 1024) : iblk m c 1 t (ix2 0 k) = g m c k.val := by
  have e : iblk m c 1 t (ix2 0 k) = m ((c : Thread nD τ).loc main_arg1) (ix2 0 k) := by
    blk_ext [iblk, V, idx t]
  exact e.trans (cells_at (n0 := 1) (n1 := 1024) _ _ _)

/-- The first 1536 columns of the weights, transposed. -/
theorem in2 (t : Fin cfg0.N) (j : Fin 1536) (k : Fin 1024) : X0_2 m c t (ix2 j k) = w m c k.val j.val := by
  have e : X0_2 m c t (ix2 j k) = V m c main_v1 (ix2 ⟨j.val, by omega⟩ k) := by
    unfold X0_2 Pipeline.Window.fill
    rw [dif_pos (moved0_2 t _)]
    blk_ext [iblk, idx t]
  rw [e]
  entry_read
  pointwise
  exact cells_at (n0 := 1024) (n1 := 2304) _ _ _

/-- The last 768. -/
theorem in3 (t : Fin cfg0.N) (j : Fin 768) (k : Fin 1024) : iblk m c 3 t (ix2 j k) = w m c k.val (1536 + j.val) := by
  have e : iblk m c 3 t (ix2 j k) = V m c main_v1 (ix2 ⟨1536 + j.val, by omega⟩ k) := by
    blk_ext [iblk, idx t]
  rw [e]
  entry_read
  pointwise
  exact cells_at (n0 := 1024) (n1 := 2304) _ _ _

/-- What a point leaves in each window. -/
theorem after4 (t : Fin cfg0.N) (j : Fin 512) (k : Fin 1536) : (outsAt0 m c t).1 (ix2 j k) = nn (rms (x m c) (g m c)) (w m c) (512 * t.val + j.val) k.val := by
  unfold outsAt0
  frame_out
  exact (pay2 (in0 m c t j) (in1 m c t) _ k).trans (Finset.sum_congr rfl fun l _ => congrArg (_ * ·) (in2 m c t k l))

theorem after5 (t : Fin cfg0.N) (j : Fin 512) (k : Fin 768) : (outsAt0 m c t).2.1 (ix2 j k) = nn (rms (x m c) (g m c)) (w m c) (512 * t.val + j.val) (1536 + k.val) := by
  unfold outsAt0
  frame_out
  exact (pay3 (in0 m c t j) (in1 m c t) _ k).trans (Finset.sum_congr rfl fun l _ => congrArg (_ * ·) (in3 m c t k l))

theorem after6 (t : Fin cfg0.N) (j : Fin 512) (k : Fin 1024) : (outsAt0 m c t).2.2 (ix2 j k) = rms (x m c) (g m c) (512 * t.val + j.val) k.val := by
  unfold outsAt0
  frame_out
  exact pay1 (in0 m c t j) (in1 m c t) k

/-- The result arrays. -/
def aArr : S4096x1536.Idx → EReal := fun i => nn (rms (x m c) (g m c)) (w m c) (i 0).val (i 1).val
def bArr : S4096x768.Idx → EReal := fun i => nn (rms (x m c) (g m c)) (w m c) (i 0).val (1536 + (i 1).val)
def hArr : S4096x1024.Idx → EReal := fun i => rms (x m c) (g m c) (i 0).val (i 1).val

theorem final4 : (dats m 0 c).arrAt 4 cfg0.N = aArr m c := by
  refine (dats m 0 c).arrAt_eq_of_covers 4 _ (by decide +kernel) fun t hf y => ?_
  blk_simp
  rw [after0_4]
  have e := after4 m c t (y 0) (y 1)
  rw [ix2_eta] at e
  refine e.trans ?_
  unfold aArr
  blk_simp [idx t]
  rw [Nat.mul_comm 512]

theorem final5 : (dats m 0 c).arrAt 5 cfg0.N = bArr m c := by
  refine (dats m 0 c).arrAt_eq_of_covers 5 _ (by decide +kernel) fun t hf y => ?_
  blk_simp
  rw [after0_5]
  have e := after5 m c t (y 0) (y 1)
  rw [ix2_eta] at e
  refine e.trans ?_
  unfold bArr
  blk_simp [idx t]
  rw [Nat.mul_comm 512]

theorem final6 : (dats m 0 c).arrAt 6 cfg0.N = hArr m c := by
  refine (dats m 0 c).arrAt_eq_of_covers 6 _ (by decide +kernel) fun t hf y => ?_
  blk_simp
  rw [after0_6]
  have e := after6 m c t (y 0) (y 1)
  rw [ix2_eta] at e
  refine e.trans ?_
  unfold hArr
  blk_simp [idx t]
  rw [Nat.mul_comm 512]

section Ref

open Cert.Reference12Ideal Cert.Reference12Ideal.Read

variable (x0 : FVec Ideal Cert.Reference12Ideal.S4096x1024 .f32) (x1 : FVec Ideal Cert.Reference12Ideal.S1x1024 .f32) (x2 : FVec Ideal Cert.Reference12Ideal.S1024x2304 .f32)

/-- The reference's normalised input. -/
theorem ref_h (r : Fin 4096) (k : Fin 1024) : val_main_v11 (F := Ideal) x0 x1 (ix2 r k) = rms (cells (n0 := 4096) (n1 := 1024) x0) (cells (n0 := 1) (n1 := 1024) x1 0) r.val k.val := by
  pointwise [val_main_v11, val_main_v10, val_main_v9, val_main_v8, val_main_v7, val_main_v6, val_main_v5, val_main_v4, val_main_v3, val_main_v2, val_main_v1, val_main_v0, val_main_cst, val_main_cst_0, val_main_cst_1]
  exact rms_of (fun k => cells_at (n0 := 4096) (n1 := 1024) x0 r k) (fun k => cells_at (n0 := 1) (n1 := 1024) x1 0 k) k

/-- Its product. -/
theorem ref_p (r : Fin 4096) (k : Fin 2304) : val_main_v12 (F := Ideal) x0 x1 x2 (ix2 r k)
    = nn (rms (cells (n0 := 4096) (n1 := 1024) x0) (cells (n0 := 1) (n1 := 1024) x1 0)) (cells (n0 := 1024) (n1 := 2304) x2) r.val k.val := by
  have e := ref_h x0 x1 r
  revert e
  generalize hv : val_main_v11 (F := Ideal) x0 x1 = v
  intro e
  pointwise [val_main_v12, hv]
  exact Finset.sum_congr rfl fun l _ => congrArg₂ (· * ·) (e l) (cells_at (n0 := 1024) (n1 := 2304) x2 l k)

theorem ref_a (r : Fin 4096) (k : Fin 1536) : val_main_v13 (F := Ideal) x0 x1 x2 (ix2 r k)
    = nn (rms (cells (n0 := 4096) (n1 := 1024) x0) (cells (n0 := 1) (n1 := 1024) x1 0)) (cells (n0 := 1024) (n1 := 2304) x2) r.val k.val := by
  have e := ref_p x0 x1 x2 r ⟨k.val, by omega⟩
  revert e
  generalize hv : val_main_v12 (F := Ideal) x0 x1 x2 = v
  intro e
  pointwise [val_main_v13, hv]
  exact e

theorem ref_b (r : Fin 4096) (k : Fin 768) : val_main_v14 (F := Ideal) x0 x1 x2 (ix2 r k)
    = nn (rms (cells (n0 := 4096) (n1 := 1024) x0) (cells (n0 := 1) (n1 := 1024) x1 0)) (cells (n0 := 1024) (n1 := 2304) x2) r.val (1536 + k.val) := by
  have e := ref_p x0 x1 x2 r ⟨1536 + k.val, by omega⟩
  revert e
  generalize hv : val_main_v12 (F := Ideal) x0 x1 x2 = v
  intro e
  pointwise [val_main_v14, hv]
  exact e

theorem ref_n (r : Fin 4096) (k : Fin 1024) : val_main_v15 (F := Ideal) x0 x1 (ix2 r k)
    = rms (cells (n0 := 4096) (n1 := 1024) x0) (cells (n0 := 1) (n1 := 1024) x1 0) r.val k.val := by
  have e := ref_h x0 x1 r k
  revert e
  generalize hv : val_main_v11 (F := Ideal) x0 x1 = v
  intro e
  pointwise [val_main_v15, hv]
  exact e

end Ref

attribute [local instance] Cert.Kernel12Ideal.Gen.facts Cert.Reference12Ideal.Gen.facts

/-- The normalised input and the product, of three arrays. -/
def hOf (a : S4096x1024.Idx → EReal) (b : S1x1024.Idx → EReal) : ℕ → ℕ → EReal := rms (cells (n0 := 4096) (n1 := 1024) a) (cells (n0 := 1) (n1 := 1024) b 0)
def pOf (a : S4096x1024.Idx → EReal) (b : S1x1024.Idx → EReal) (v : S1024x2304.Idx → EReal) : ℕ → ℕ → EReal := nn (hOf a b) (cells (n0 := 1024) (n1 := 2304) v)

theorem algebraic : Cert.algebraic_Kernel12Ideal_Reference12Ideal := by
  intro m g0 m' g' _ hargs
  refine ⟨fun c => aArr m c, fun c => bArr m c, fun c => hArr m c, ?_, ?_⟩
  · refine (θ_run Cert.Kernel12Ideal.defs _ _).mono (fun r h c => ?_) (Cert.Kernel12Ideal.Value.run_blocks m g0)
    exact ⟨(h c).1.trans (final4 m c), (h c).2.1.trans (final5 m c), (h c).2.2.1.trans (final6 m c), (h c).2.2.2⟩
  · refine (θ_run Cert.Reference12Ideal.defs _ _).mono (fun r h c => ?_) (Cert.Reference12Ideal.Value.run m' g')
    obtain ⟨e0, e1, e2⟩ := hargs c
    refine ⟨(h c).1.trans ((Cert.Reference12Ideal.Read.val_main_v13_eq _ _ _).trans (funext fun i => ?_)),
      (h c).2.1.trans ((Cert.Reference12Ideal.Read.val_main_v14_eq _ _ _).trans (funext fun i => ?_)),
      (h c).2.2.1.trans ((Cert.Reference12Ideal.Read.val_main_v15_eq _ _).trans (funext fun i => ?_)), (h c).2.2.2⟩
    · rw [← ix2_eta i]
      exact (ref_a _ _ _ (i 0) (i 1)).trans (congr3 (fun a b v => pOf a b v (i 0).val (i 1).val) e0 e1 e2)
    · rw [← ix2_eta i]
      exact (ref_b _ _ _ (i 0) (i 1)).trans (congr3 (fun a b v => pOf a b v (i 0).val (1536 + (i 1).val)) e0 e1 e2)
    · rw [← ix2_eta i]
      exact (ref_n _ _ (i 0) (i 1)).trans (congrArg₂ (fun a b => hOf a b (i 0).val (i 1).val) e0 e1)

end Cert.Kernel12Ideal.EvFwd
-- ==== Proof.OdFwd.lean ====
/- The odd mixer's input product with the norm before it: 512 rows a point, each point the whole width in three pieces. -/
module

public import proofs.«01_k».proof.Proof.NormSpec
public import proofs.«01_k».proof.Proof.Gen.Kernel13Ideal.Value
public import proofs.«01_k».proof.Proof.Gen.Reference13Ideal.Run
public import proofs.«01_k».proof.Proof.Gen.Reference13Ideal.Read
public import proofs.«01_k».proof.Defs
public import Idealize.ShloMosaic.Lib.Pipeline.ValueKit

@[expose] public section

set_option maxRecDepth 16384

noncomputable section

namespace Cert.Kernel13Ideal.OdFwd

open Cert.Kernel13Ideal Cert.Kernel13Ideal.Gen
open Cert.Norm
open Idealize.ShloMosaic Idealize.ShloMosaic.TcCoe Idealize.ShloMosaic.Tactic
open Idealize.SL.Sem

/-- The block index of every window at a point. -/
theorem idx : ∀ t : Fin cfg0.N, win0_0.index t = ![t.val, 0] ∧ win0_1.index t = ![0, 0] ∧ win0_2.index t = ![0, 0] ∧ win0_3.index t = ![1, 0]
    ∧ win0_4.index t = ![2, 0] ∧ win0_5.index t = ![t.val, 0] ∧ win0_6.index t = ![t.val, 0] ∧ win0_7.index t = ![t.val, 0] ∧ win0_8.index t = ![t.val, 0] :=
  (by decide +kernel : ∀ t : Fin grid0.N, _)

section Pay

variable {x : ℕ → ℕ → EReal} {g : ℕ → EReal} {r : ℕ} {v : Vec Ideal S512x1024 .f32} {u : Vec Ideal S1x1024 .f32} {j : Fin 512}
  (hv : ∀ k, v (ix2 j k) = x r k.val) (hu : ∀ k, u (ix2 0 k) = g k.val)
include hv hu

/-- The normalised rows of a block. -/
theorem pay1 (k : Fin 1024) : k0_pay1 (F := Ideal) v u (ix2 j k) = rms x g r k.val := by
  pointwise [k0_pay1]
  exact rms_of hv hu k

theorem pay2 {w : Vec Ideal S512x1024 .bf16} {b : ℕ → ℕ → EReal} {q : ℕ} {k : Fin 512} (hw : ∀ l, w (ix2 k l) = b l.val q) :
    k0_pay2 (F := Ideal) v u w (ix2 j k) = nn (rms x g) b r q := by
  have e := pay1 hv hu
  revert e
  generalize hp : k0_pay1 (F := Ideal) v u = p
  intro e
  pointwise [k0_pay2, hp]
  exact Finset.sum_congr rfl fun l _ => congrArg₂ (· * ·) (e l) (hw l)

theorem pay3 {w : Vec Ideal S512x1024 .bf16} {b : ℕ → ℕ → EReal} {q : ℕ} {k : Fin 512} (hw : ∀ l, w (ix2 k l) = b l.val q) :
    k0_pay3 (F := Ideal) v u w (ix2 j k) = nn (rms x g) b r q := by
  have e := pay1 hv hu
  revert e
  generalize hp : k0_pay1 (F := Ideal) v u = p
  intro e
  pointwise [k0_pay3, hp]
  exact Finset.sum_congr rfl fun l _ => congrArg₂ (· * ·) (e l) (hw l)

theorem pay4 {w : Vec Ideal S512x1024 .bf16} {b : ℕ → ℕ → EReal} {q : ℕ} {k : Fin 512} (hw : ∀ l, w (ix2 k l) = b l.val q) :
    k0_pay4 (F := Ideal) v u w (ix2 j k) = nn (rms x g) b r q := by
  have e := pay1 hv hu
  revert e
  generalize hp : k0_pay1 (F := Ideal) v u = p
  intro e
  pointwise [k0_pay4, hp]
  exact Finset.sum_congr rfl fun l _ => congrArg₂ (· * ·) (e l) (hw l)

end Pay

variable (m : (ℓ : Loc nD τ sig) → Buf (Elt Ideal) ℓ) (c : Dev nD)

/-- The input, the gain and the weights, by row and column numbers. -/
def x : ℕ → ℕ → EReal := cells (n0 := 4096) (n1 := 1024) (m ((c : Thread nD τ).loc main_arg0))
def g : ℕ → EReal := cells (n0 := 1) (n1 := 1024) (m ((c : Thread nD τ).loc main_arg1)) 0
def w : ℕ → ℕ → EReal := cells (n0 := 1024) (n1 := 1536) (m ((c : Thread nD τ).loc main_arg2))

/-- Point `t` loads 512 rows of the input. -/
theorem in0 (t : Fin cfg0.N) (j : Fin 512) (k : Fin 1024) : iblk m c 0 t (ix2 j k) = x m c (512 * t.val + j.val) k.val := by
  have ht := Nat.lt_of_lt_of_eq t.isLt N_0
  have e : iblk m c 0 t (ix2 j k) = m ((c : Thread nD τ).loc main_arg0) (ix2 ⟨512 * t.val + j.val, by omega⟩ k) := by
    blk_ext [iblk, V, idx t]
  exact e.trans (cells_at (n0 := 4096) (n1 := 1024) _ _ _)

theorem in1 (t : Fin cfg0.N) (k : Fin 1024) : iblk m c 1 t (ix2 0 k) = g m c k.val := by
  have e : iblk m c 1 t (ix2 0 k) = m ((c : Thread nD τ).loc main_arg1) (ix2 0 k) := by
    blk_ext [iblk, V, idx t]
  exact e.trans (cells_at (n0 := 1) (n1 := 1024) _ _ _)

/-- The weights' columns, transposed, 512 to a window. -/
theorem in2 (t : Fin cfg0.N) (j : Fin 512) (k : Fin 1024) : iblk m c 2 t (ix2 j k) = w m c k.val (j.val) := by
  have e : iblk m c 2 t (ix2 j k) = V m c main_v1 (ix2 ⟨j.val, by omega⟩ k) := by
    blk_ext [iblk, idx t]
  rw [e]
  entry_read
  pointwise
  exact cells_at (n0 := 1024) (n1 := 1536) _ _ _

theorem in3 (t : Fin cfg0.N) (j : Fin 512) (k : Fin 1024) : iblk m c 3 t (ix2 j k) = w m c k.val (512 + j.val) := by
  have e : iblk m c 3 t (ix2 j k) = V m c main_v1 (ix2 ⟨512 + j.val, by omega⟩ k) := by
    blk_ext [iblk, idx t]
  rw [e]
  entry_read
  pointwise
  exact cells_at (n0 := 1024) (n1 := 1536) _ _ _

theorem in4 (t : Fin cfg0.N) (j : Fin 512) (k : Fin 1024) : iblk m c 4 t (ix2 j k) = w m c k.val (1024 + j.val) := by
  have e : iblk m c 4 t (ix2 j k) = V m c main_v1 (ix2 ⟨1024 + j.val, by omega⟩ k) := by
    blk_ext [iblk, idx t]
  rw [e]
  entry_read
  pointwise
  exact cells_at (n0 := 1024) (n1 := 1536) _ _ _

/-- What a point leaves in each window. -/
theorem after5 (t : Fin cfg0.N) (j k : Fin 512) :
    out0_5 (iblk m c 0 t) (iblk m c 1 t) (iblk m c 2 t) (iblk m c 3 t) (iblk m c 4 t) (ix2 j k) = nn (rms (x m c) (g m c)) (w m c) (512 * t.val + j.val) k.val := by
  frame_out
  exact pay2 (in0 m c t j) (in1 m c t) (in2 m c t k)

theorem after6 (t : Fin cfg0.N) (j k : Fin 512) :
    out0_6 (iblk m c 0 t) (iblk m c 1 t) (iblk m c 2 t) (iblk m c 3 t) (iblk m c 4 t) (ix2 j k) = nn (rms (x m c) (g m c)) (w m c) (512 * t.val + j.val) (512 + k.val) := by
  frame_out
  exact pay3 (in0 m c t j) (in1 m c t) (in3 m c t k)

theorem after7 (t : Fin cfg0.N) (j k : Fin 512) :
    out0_7 (iblk m c 0 t) (iblk m c 1 t) (iblk m c 2 t) (iblk m c 3 t) (iblk m c 4 t) (ix2 j k) = nn (rms (x m c) (g m c)) (w m c) (512 * t.val + j.val) (1024 + k.val) := by
  frame_out
  exact pay4 (in0 m c t j) (in1 m c t) (in4 m c t k)

theorem after8 (t : Fin cfg0.N) (j : Fin 512) (k : Fin 1024) :
    out0_8 (iblk m c 0 t) (iblk m c 1 t) (iblk m c 2 t) (iblk m c 3 t) (iblk m c 4 t) (ix2 j k) = rms (x m c) (g m c) (512 * t.val + j.val) k.val := by
  frame_out
  exact pay1 (in0 m c t j) (in1 m c t) k

/-- The result arrays. -/
def pArr : S4096x512.Idx → EReal := fun i => nn (rms (x m c) (g m c)) (w m c) (i 0).val (i 1).val
def uArr : S4096x512.Idx → EReal := fun i => nn (rms (x m c) (g m c)) (w m c) (i 0).val (512 + (i 1).val)
def vArr : S4096x512.Idx → EReal := fun i => nn (rms (x m c) (g m c)) (w m c) (i 0).val (1024 + (i 1).val)
def hArr : S4096x1024.Idx → EReal := fun i => rms (x m c) (g m c) (i 0).val (i 1).val

theorem final5 : (dats m 0 c).arrAt 5 cfg0.N = pArr m c := by
  refine (dats m 0 c).arrAt_eq_of_covers 5 _ (by decide +kernel) fun t hf y => ?_
  blk_simp
  rw [after0_5]
  have e := after5 m c t (y 0) (y 1)
  rw [ix2_eta] at e
  refine e.trans ?_
  unfold pArr
  blk_simp [idx t]
  rw [Nat.mul_comm 512]

theorem final6 : (dats m 0 c).arrAt 6 cfg0.N = uArr m c := by
  refine (dats m 0 c).arrAt_eq_of_covers 6 _ (by decide +kernel) fun t hf y => ?_
  blk_simp
  rw [after0_6]
  have e := after6 m c t (y 0) (y 1)
  rw [ix2_eta] at e
  refine e.trans ?_
  unfold uArr
  blk_simp [idx t]
  rw [Nat.mul_comm 512]

theorem final7 : (dats m 0 c).arrAt 7 cfg0.N = vArr m c := by
  refine (dats m 0 c).arrAt_eq_of_covers 7 _ (by decide +kernel) fun t hf y => ?_
  blk_simp
  rw [after0_7]
  have e := after7 m c t (y 0) (y 1)
  rw [ix2_eta] at e
  refine e.trans ?_
  unfold vArr
  blk_simp [idx t]
  rw [Nat.mul_comm 512]

theorem final8 : (dats m 0 c).arrAt 8 cfg0.N = hArr m c := by
  refine (dats m 0 c).arrAt_eq_of_covers 8 _ (by decide +kernel) fun t hf y => ?_
  blk_simp
  rw [after0_8]
  have e := after8 m c t (y 0) (y 1)
  rw [ix2_eta] at e
  refine e.trans ?_
  unfold hArr
  blk_simp [idx t]
  rw [Nat.mul_comm 512]

section Ref

open Cert.Reference13Ideal Cert.Reference13Ideal.Read

variable (x0 : FVec Ideal Cert.Reference13Ideal.S4096x1024 .f32) (x1 : FVec Ideal Cert.Reference13Ideal.S1x1024 .f32) (x2 : FVec Ideal Cert.Reference13Ideal.S1024x1536 .f32)

/-- The reference's normalised input. -/
theorem ref_h (r : Fin 4096) (k : Fin 1024) : val_main_v11 (F := Ideal) x0 x1 (ix2 r k) = rms (cells (n0 := 4096) (n1 := 1024) x0) (cells (n0 := 1) (n1 := 1024) x1 0) r.val k.val := by
  pointwise [val_main_v11, val_main_v10, val_main_v9, val_main_v8, val_main_v7, val_main_v6, val_main_v5, val_main_v4, val_main_v3, val_main_v2, val_main_v1, val_main_v0, val_main_cst, val_main_cst_0, val_main_cst_1]
  exact rms_of (fun k => cells_at (n0 := 4096) (n1 := 1024) x0 r k) (fun k => cells_at (n0 := 1) (n1 := 1024) x1 0 k) k

/-- Its product. -/
theorem ref_p (r : Fin 4096) (k : Fin 1536) : val_main_v12 (F := Ideal) x0 x1 x2 (ix2 r k)
    = nn (rms (cells (n0 := 4096) (n1 := 1024) x0) (cells (n0 := 1) (n1 := 1024) x1 0)) (cells (n0 := 1024) (n1 := 1536) x2) r.val k.val := by
  have e := ref_h x0 x1 r
  revert e
  generalize hv : val_main_v11 (F := Ideal) x0 x1 = v
  intro e
  pointwise [val_main_v12, hv]
  exact Finset.sum_congr rfl fun l _ => congrArg₂ (· * ·) (e l) (cells_at (n0 := 1024) (n1 := 1536) x2 l k)

theorem ref_p0 (r : Fin 4096) (k : Fin 512) : val_main_v13 (F := Ideal) x0 x1 x2 (ix2 r k)
    = nn (rms (cells (n0 := 4096) (n1 := 1024) x0) (cells (n0 := 1) (n1 := 1024) x1 0)) (cells (n0 := 1024) (n1 := 1536) x2) r.val k.val := by
  have e := ref_p x0 x1 x2 r ⟨k.val, by omega⟩
  revert e
  generalize hv : val_main_v12 (F := Ideal) x0 x1 x2 = v
  intro e
  pointwise [val_main_v13, hv]
  exact e

theorem ref_u (r : Fin 4096) (k : Fin 512) : val_main_v14 (F := Ideal) x0 x1 x2 (ix2 r k)
    = nn (rms (cells (n0 := 4096) (n1 := 1024) x0) (cells (n0 := 1) (n1 := 1024) x1 0)) (cells (n0 := 1024) (n1 := 1536) x2) r.val (512 + k.val) := by
  have e := ref_p x0 x1 x2 r ⟨512 + k.val, by omega⟩
  revert e
  generalize hv : val_main_v12 (F := Ideal) x0 x1 x2 = v
  intro e
  pointwise [val_main_v14, hv]
  exact e

theorem ref_v (r : Fin 4096) (k : Fin 512) : val_main_v15 (F := Ideal) x0 x1 x2 (ix2 r k)
    = nn (rms (cells (n0 := 4096) (n1 := 1024) x0) (cells (n0 := 1) (n1 := 1024) x1 0)) (cells (n0 := 1024) (n1 := 1536) x2) r.val (1024 + k.val) := by
  have e := ref_p x0 x1 x2 r ⟨1024 + k.val, by omega⟩
  revert e
  generalize hv : val_main_v12 (F := Ideal) x0 x1 x2 = v
  intro e
  pointwise [val_main_v15, hv]
  exact e

theorem ref_n (r : Fin 4096) (k : Fin 1024) : val_main_v16 (F := Ideal) x0 x1 (ix2 r k)
    = rms (cells (n0 := 4096) (n1 := 1024) x0) (cells (n0 := 1) (n1 := 1024) x1 0) r.val k.val := by
  have e := ref_h x0 x1 r k
  revert e
  generalize hv : val_main_v11 (F := Ideal) x0 x1 = v
  intro e
  pointwise [val_main_v16, hv]
  exact e

end Ref

attribute [local instance] Cert.Kernel13Ideal.Gen.facts Cert.Reference13Ideal.Gen.facts

/-- The normalised input and the product, of three arrays. -/
def hOf (a : S4096x1024.Idx → EReal) (b : S1x1024.Idx → EReal) : ℕ → ℕ → EReal := rms (cells (n0 := 4096) (n1 := 1024) a) (cells (n0 := 1) (n1 := 1024) b 0)
def pOf (a : S4096x1024.Idx → EReal) (b : S1x1024.Idx → EReal) (v : S1024x1536.Idx → EReal) : ℕ → ℕ → EReal := nn (hOf a b) (cells (n0 := 1024) (n1 := 1536) v)

theorem algebraic : Cert.algebraic_Kernel13Ideal_Reference13Ideal := by
  intro m g0 m' g' _ hargs
  refine ⟨fun c => pArr m c, fun c => uArr m c, fun c => vArr m c, fun c => hArr m c, ?_, ?_⟩
  · refine (θ_run Cert.Kernel13Ideal.defs _ _).mono (fun r h c => ?_) (Cert.Kernel13Ideal.Value.run_blocks m g0)
    exact ⟨(h c).1.trans (final5 m c), (h c).2.1.trans (final6 m c), (h c).2.2.1.trans (final7 m c), (h c).2.2.2.1.trans (final8 m c), (h c).2.2.2.2⟩
  · refine (θ_run Cert.Reference13Ideal.defs _ _).mono (fun r h c => ?_) (Cert.Reference13Ideal.Value.run m' g')
    obtain ⟨e0, e1, e2⟩ := hargs c
    refine ⟨(h c).1.trans ((Cert.Reference13Ideal.Read.val_main_v13_eq _ _ _).trans (funext fun i => ?_)),
      (h c).2.1.trans ((Cert.Reference13Ideal.Read.val_main_v14_eq _ _ _).trans (funext fun i => ?_)),
      (h c).2.2.1.trans ((Cert.Reference13Ideal.Read.val_main_v15_eq _ _ _).trans (funext fun i => ?_)),
      (h c).2.2.2.1.trans ((Cert.Reference13Ideal.Read.val_main_v16_eq _ _).trans (funext fun i => ?_)), (h c).2.2.2.2⟩
    · rw [← ix2_eta i]
      exact (ref_p0 _ _ _ (i 0) (i 1)).trans (congr3 (fun a b v => pOf a b v (i 0).val (i 1).val) e0 e1 e2)
    · rw [← ix2_eta i]
      exact (ref_u _ _ _ (i 0) (i 1)).trans (congr3 (fun a b v => pOf a b v (i 0).val (512 + (i 1).val)) e0 e1 e2)
    · rw [← ix2_eta i]
      exact (ref_v _ _ _ (i 0) (i 1)).trans (congr3 (fun a b v => pOf a b v (i 0).val (1024 + (i 1).val)) e0 e1 e2)
    · rw [← ix2_eta i]
      exact (ref_n _ _ (i 0) (i 1)).trans (congrArg₂ (fun a b => hOf a b (i 0).val (i 1).val) e0 e1)

end Cert.Kernel13Ideal.OdFwd
-- ==== Proof.MixFwd.lean ====
/- The mixers' output product: both programs end with the residual plus the mix times the output weights. -/
module

public import proofs.«01_k».proof.Proof.NormSpec
public import proofs.«01_k».proof.Proof.Gen.Kernel14Ideal.Value
public import proofs.«01_k».proof.Proof.Gen.Reference14Ideal.Run
public import proofs.«01_k».proof.Proof.Gen.Reference14Ideal.Read
public import proofs.«01_k».proof.Defs
public import Idealize.ShloMosaic.Lib.Pipeline.ValueKit

@[expose] public section

set_option maxRecDepth 16384

noncomputable section

namespace Cert.Kernel14Ideal.MixFwd

open Cert.Kernel14Ideal Cert.Kernel14Ideal.Gen
open Cert.Norm
open Idealize.ShloMosaic Idealize.ShloMosaic.TcCoe Idealize.ShloMosaic.Tactic
open Idealize.SL.Sem

/-- The block index of every window at a point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem pay (x : Vec Ideal S512x1024 .f32) (v : Vec Ideal S512x1024 .bf16) (w : Vec Ideal S1024x1024 .bf16) (j : Fin 512) (k : Fin 1024) :
    k0_pay1 (F := Ideal) x v w (ix2 j k) = x (ix2 j k) + ∑ l : Fin 1024, v (ix2 j l) * w (ix2 l k) := by
  pointwise [k0_pay1]

/-- A residual plus a product. -/
def res (a x b : ℕ → ℕ → EReal) (r k : ℕ) : EReal := x r k + ∑ l : Fin 1024, a r l.val * b l.val k

variable (m : (ℓ : Loc nD τ sig) → Buf (Elt Ideal) ℓ) (c : Dev nD)

/-- The mix, the residual and the weights, by row and column numbers. -/
def mix : ℕ → ℕ → EReal := cells (n0 := 4096) (n1 := 1024) (m ((c : Thread nD τ).loc main_arg0))
def x : ℕ → ℕ → EReal := cells (n0 := 4096) (n1 := 1024) (m ((c : Thread nD τ).loc main_arg1))
def w : ℕ → ℕ → EReal := cells (n0 := 1024) (n1 := 1024) (m ((c : Thread nD τ).loc main_arg2))

/-- Point `t` loads 512 rows of the mix. -/
theorem in0 (t : Fin cfg0.N) (j : Fin 512) (k : Fin 1024) : iblk m c 0 t (ix2 j k) = mix m c (512 * t.val + j.val) k.val := by
  have ht := Nat.lt_of_lt_of_eq t.isLt N_0
  have e : iblk m c 0 t (ix2 j k) = V m c main_v0 (ix2 ⟨512 * t.val + j.val, by omega⟩ k) := by
    blk_ext [iblk, idx t]
  rw [e]
  entry_read
  pointwise
  exact cells_at (n0 := 4096) (n1 := 1024) _ _ _

/-- Every point loads the whole weights. -/
theorem in1 (t : Fin cfg0.N) (j k : Fin 1024) : iblk m c 1 t (ix2 j k) = w m c j.val k.val := by
  have e : iblk m c 1 t (ix2 j k) = V m c main_v1 (ix2 j k) := by
    blk_ext [iblk, idx t]
  rw [e]
  entry_read
  pointwise
  exact cells_at (n0 := 1024) (n1 := 1024) _ _ _

/-- Point `t` loads 512 rows of the residual. -/
theorem in2 (t : Fin cfg0.N) (j : Fin 512) (k : Fin 1024) : iblk m c 2 t (ix2 j k) = x m c (512 * t.val + j.val) k.val := by
  have ht := Nat.lt_of_lt_of_eq t.isLt N_0
  have e : iblk m c 2 t (ix2 j k) = m ((c : Thread nD τ).loc main_arg1) (ix2 ⟨512 * t.val + j.val, by omega⟩ k) := by
    blk_ext [iblk, V, idx t]
  exact e.trans (cells_at (n0 := 4096) (n1 := 1024) _ _ _)

theorem after3 (t : Fin cfg0.N) (j : Fin 512) (k : Fin 1024) :
    out0_3 (iblk m c 0 t) (iblk m c 1 t) (iblk m c 2 t) (ix2 j k) = res (mix m c) (x m c) (w m c) (512 * t.val + j.val) k.val := by
  frame_out
  exact (pay _ _ _ j k).trans (congrArg₂ (· + ·) (in2 m c t j k) (Finset.sum_congr rfl fun l _ => congrArg₂ (· * ·) (in0 m c t j l) (in1 m c t l k)))

/-- The result array. -/
def yArr : S4096x1024.Idx → EReal := fun i => res (mix m c) (x m c) (w m c) (i 0).val (i 1).val

theorem final : (dats m 0 c).arrAt 3 cfg0.N = yArr m c := by
  refine (dats m 0 c).arrAt_eq_of_covers 3 _ (by decide +kernel) fun t hf y => ?_
  blk_simp
  rw [after0_3]
  have e := after3 m c t (y 0) (y 1)
  rw [ix2_eta] at e
  refine e.trans ?_
  unfold yArr
  blk_simp [idx t]
  rw [Nat.mul_comm 512]

/-- The reference's result. -/
theorem ref_at (x0 x1 : FVec Ideal Cert.Reference14Ideal.S4096x1024 .f32) (x2 : FVec Ideal Cert.Reference14Ideal.S1024x1024 .f32) (r : Fin 4096) (k : Fin 1024) :
    Cert.Reference14Ideal.Read.val_main_v1 (F := Ideal) x0 x1 x2 (ix2 r k)
      = res (cells (n0 := 4096) (n1 := 1024) x0) (cells (n0 := 4096) (n1 := 1024) x1) (cells (n0 := 1024) (n1 := 1024) x2) r.val k.val := by
  pointwise [Cert.Reference14Ideal.Read.val_main_v1, Cert.Reference14Ideal.Read.val_main_v0]
  exact congrArg₂ (· + ·) (cells_at (n0 := 4096) (n1 := 1024) x1 r k) (Finset.sum_congr rfl fun s _ =>
    (congrArg₂ (· * ·) (cells_at (n0 := 4096) (n1 := 1024) x0 r s) (cells_at (n0 := 1024) (n1 := 1024) x2 s k)))

attribute [local instance] Cert.Kernel14Ideal.Gen.facts Cert.Reference14Ideal.Gen.facts

theorem algebraic : Cert.algebraic_Kernel14Ideal_Reference14Ideal := by
  intro m g m' g' _ hargs
  refine ⟨fun c => yArr m c, ?_, ?_⟩
  · refine (θ_run Cert.Kernel14Ideal.defs _ _).mono (fun r h c => ?_) (Cert.Kernel14Ideal.Value.run_blocks m g)
    exact ⟨(h c).1.trans (final m c), (h c).2⟩
  · refine (θ_run Cert.Reference14Ideal.defs _ _).mono (fun r h c => ?_) (Cert.Reference14Ideal.Value.run m' g')
    refine ⟨(h c).1.trans ((Cert.Reference14Ideal.Read.val_main_v1_eq _ _ _).trans (funext fun i => ?_)), (h c).2⟩
    obtain ⟨e0, e1, e2⟩ := hargs c
    rw [← ix2_eta i]
    refine (ref_at _ _ _ (i 0) (i 1)).trans ?_
    exact congr3 (fun a b v => res (cells (n0 := 4096) (n1 := 1024) a) (cells (n0 := 4096) (n1 := 1024) b) (cells (n0 := 1024) (n1 := 1024) v) (i 0).val (i 1).val) e0 e1 e2

end Cert.Kernel14Ideal.MixFwd
-- ==== Proof.AttnFwdSpec.lean ====
/- The attention's results over the reals, however a row's exponentials are shifted. -/
module

public import proofs.«01_k».proof.Proof.AttnSpec

@[expose] public section

noncomputable section

namespace Cert.Attn

open Cert.Reals
open Idealize.ShloMosaic Idealize.ShloMosaic.Tactic

variable (A : Args) (U : ℕ → ℕ → EReal)

/-- The attention's result on any values `U`, infinite ones too. -/
def oE (h r d : ℕ) : EReal := ∑ j : Fin 2048, ((p A h r j.val : ℝ) : EReal) * U (key r j.val) (64 * (h / 4) + d)
/-- A head's lanes: its 64 columns, and zeros beside them. -/
def laneE (c : ℕ) (x : EReal) : EReal := if c < 64 then x else 0

theorem mul_padE (c : ℕ) (x y : EReal) : x * laneE c y = laneE c (x * y) := by
  unfold laneE
  split
  · rfl
  · exact mul_zero x
theorem sum_padE {n : ℕ} (c : ℕ) (f : Fin n → EReal) : ∑ i, laneE c (f i) = laneE c (∑ i, f i) := by unfold laneE; split <;> simp

/-- A real that is not negative distributes over any sum. -/
theorem sum_mul_real {n : ℕ} (t : Finset (Fin n)) (f : Fin n → EReal) (x : ℝ) (hx : 0 ≤ x) : (∑ j ∈ t, f j) * (x : EReal) = ∑ j ∈ t, f j * (x : EReal) := by
  classical
  induction t using Finset.induction_on with
  | empty => simp
  | insert a t ha ih =>
    rw [Finset.sum_insert ha, Finset.sum_insert ha, ← ih, mul_comm, EReal.left_distrib_of_nonneg_of_ne_top (EReal.coe_nonneg.mpr hx) (EReal.coe_ne_top x), mul_comm, mul_comm (x : EReal)]

/-- Dividing after the product with the values is weighing them, on any values. -/
theorem out_eq (h r d : ℕ) (y : ℝ) :
    Ideal.div (∑ j : Fin 2048, ((Real.exp (s A h r j.val - y) : ℝ) : EReal) * U (key r j.val) (64 * (h / 4) + d)) ((∑ j : Fin 2048, Real.exp (s A h r j.val - y) : ℝ) : EReal)
      = oE A U h r d := by
  have hp := sum_exp_pos fun j => s A h r j - y
  rw [Ideal.div_coe hp.ne', sum_mul_real _ _ _ (one_div_pos.mpr hp).le]
  unfold oE
  refine Finset.sum_congr rfl fun j _ => ?_
  rw [← soft A h r j.val y, mul_assoc, mul_comm (U _ _), ← mul_assoc, ← EReal.coe_mul, mul_one_div]

/-- The logarithm of the exponentials' sum does not depend on the shift. -/
theorem log_eq (h r : ℕ) (y : ℝ) : y + Real.log (∑ j : Fin 2048, Real.exp (s A h r j.val - y)) = Real.log (l A h r) := by
  rw [sum_shift, Real.log_mul (l_pos A h r).ne' (Real.exp_pos _).ne', Real.log_exp]
  ring

/-- The kernel's greatest entry of a row of real numbers is a real. -/
theorem max_real {n0 n1 : ℕ} (x : FVec Ideal ⟨2, ![n0, n1]⟩ .f32) (h : (⟨2, ![n0, n1]⟩ : Shape).Reduces [1] ⟨1, ![n0]⟩) (hφ : FKind.Formats .f32)
    (hacc : (0xFF800000#32 : BitVec FTy.f32.bits) = FKind.maximumf.neutral .f32 hφ) (hn : 0 < n1) (hx : ∀ i, ∃ y : ℝ, x i = y) (j : (⟨1, ![n0]⟩ : Shape).Idx) :
    ∃ y : ℝ, multiReduction .maximumf [1] ⟨1, ![n0]⟩ x 0xFF800000#32 h hφ hacc j = y := by
  rw [Ideal.multiReduction_maximumf_single]
  have e : FloatOps.ofBits (F := Ideal) FTy.f32 0xFF800000#32 = (⊥ : EReal) := bot_eq
  rw [e]
  exact fold_real _ _ (fun i => hx _) ⟨⟨0, hn⟩, Finset.mem_univ _⟩

end Cert.Attn
-- ==== Proof.AttnFwdHead.lean ====
/- One head of the attention's forward body, over the reals: its scores, their exponentials, its result and its log-sum. -/
module

public import proofs.«01_k».proof.Proof.AttnFwdSpec
public import proofs.«01_k».proof.Proof.AttnHead
public import proofs.«01_k».proof.Proof.Gen.Kernel17Ideal.Skeleton
public import Idealize.ShloMosaic.Lib.Pipeline.ValueKit

@[expose] public section

set_option maxRecDepth 16384

noncomputable section

namespace Cert.Kernel17Ideal.AttnFwd

open Cert.Kernel17Ideal Cert.Kernel17Ideal.Gen
open Cert.Attn Cert.Reals
open Cert.Kernel15Ideal.Attn (lane sum_pad lane_eq)
open Idealize.ShloMosaic Idealize.ShloMosaic.TcCoe Idealize.ShloMosaic.Tactic

variable [Facts₀] [Facts]

/-! ## The head's values, as the body computes them -/

/-- The scores. -/
def scT (q : Vec Ideal S512x128 .bf16) (k : Vec Ideal S2048x128 .bf16) : FVec Ideal S512x2048 .f32 :=
  matmul (φ₁ := .bf16) (φ₂ := .bf16) dot_S512x128_S2048x128_S512x2048_1_1_0_0_n_n none (shapeCast S512x128 q shapeCasts_S512x128_S512x128)
    (shapeCast S2048x128 k shapeCasts_S2048x128_S2048x128) (constant S512x2048 .f32 0x00000000#32)
/-- A row's greatest score. -/
def mxT (x : FVec Ideal S512x2048 .f32) : FVec Ideal S512x1 .f32 :=
  shapeCast S512x1 (multiReduction .maximumf [1] S512 x 0xFF800000#32 reduces_S512x2048_S512 (.inl rfl) rfl) shapeCasts_S512_S512x1
/-- The exponentials. -/
def exT (x : FVec Ideal S512x2048 .f32) : FVec Ideal S512x2048 .f32 :=
  exp (subf x (broadcastTo S512x2048 (mxT x) broadcasts_S512x1_S512x2048))
/-- Their sums. -/
def lsT (x : FVec Ideal S512x2048 .f32) : FVec Ideal S512x1 .f32 :=
  shapeCast S512x1 (multiReduction .add [1] S512 (exT x) 0x00000000#32 reduces_S512x2048_S512 (.inl rfl) rfl) shapeCasts_S512_S512x1
/-- The head's result. -/
def oT (x : FVec Ideal S512x2048 .f32) (v : Vec Ideal S2048x128 .bf16) : FVec Ideal S512x128 .bf16 :=
  truncf .bf16 (divf (matmul (φ₁ := .bf16) (φ₂ := .bf16) dot_S512x2048_S2048x128_S512x128_1_0_0_1_n_n none (truncf .bf16 (exT x) bitsLt_bf16_f32)
    (shapeCast S2048x128 v shapeCasts_S2048x128_S2048x128) (constant S512x128 .f32 0x00000000#32))
    (broadcastTo S512x128 (lsT x) broadcasts_S512x1_S512x128)) bitsLt_bf16_f32
/-- The log-sums, the head's put in its lane. -/
def lseT (w : BitVec 32) (x : FVec Ideal S512x2048 .f32) (p : FVec Ideal S512x128 .f32) : FVec Ideal S512x128 .f32 :=
  select (cmpi .eq (iota .tc S512x128 32 [1] iota_S512x128_d1_w32) (broadcast S512x128 w))
    (broadcastTo S512x128 (shapeCast S512x1 (addf (mxT x) (log (lsT x))) shapeCasts_S512x1_S512x1) broadcasts_S512x1_S512x128) p

/-! ## Their values -/

/-- The operands of head `h` at the point `t`: the row tile's queries, its example's keys and values. -/
structure Head (A : Args) (U : ℕ → ℕ → EReal) (t h : ℕ) (q : Vec Ideal S512x128 .bf16) (k v : Vec Ideal S2048x128 .bf16) : Prop where
  h8 : h < 8
  q : ∀ i c, q (ix2 i c) = ((lane c.val (A.q (512 * t + i.val) (64 * h + c.val)) : ℝ) : EReal)
  k : ∀ j c, k (ix2 j c) = ((lane c.val (A.k (2048 * (t / 4) + j.val) (64 * (h / 4) + c.val)) : ℝ) : EReal)
  v : ∀ j c, v (ix2 j c) = laneE c.val (U (2048 * (t / 4) + j.val) (64 * (h / 4) + c.val))

variable {A : Args} {U : ℕ → ℕ → EReal} {t h : ℕ} {q : Vec Ideal S512x128 .bf16} {k v : Vec Ideal S2048x128 .bf16} (H : Head A U t h q k v)
include H

theorem key_at (i : Fin 512) (j : ℕ) : key (512 * t + i.val) j = 2048 * (t / 4) + j := by unfold key; omega

theorem scT_at (i : Fin 512) (j : Fin 2048) : scT q k (ix2 i j) = ((s A h (512 * t + i.val) j.val : ℝ) : EReal) := by
  pointwise [scT]
  simp only [H.q, H.k, ← EReal.coe_mul, coe_sum]
  rw [sum_pad (fun c => A.q (512 * t + i.val) (64 * h + c)) (fun c => A.k (2048 * (t / 4) + j.val) (64 * (h / 4) + c))]
  unfold s
  simp only [key_at H]

theorem mxT_at (i : Fin 512) : ∃ y : ℝ, ∀ z, mxT (scT q k) (ix2 i z) = y := by
  have e : ∀ i, ∃ y : ℝ, scT q k i = y := fun i => by rw [← ix2_eta i]; exact ⟨_, scT_at H _ _⟩
  revert e
  generalize scT q k = x
  intro e
  obtain ⟨y, hy⟩ := max_real x reduces_S512x2048_S512 (.inl rfl) rfl (by omega) e (ix1 i)
  revert hy
  generalize hv : multiReduction .maximumf [1] S512 x 0xFF800000#32 reduces_S512x2048_S512 (.inl rfl) rfl = u
  intro hy
  refine ⟨y, fun z => ?_⟩
  unfold mxT
  rw [hv]
  pointwise
  exact hy

theorem exT_at (i : Fin 512) (j : Fin 2048) (y : ℝ) (hy : ∀ z, mxT (scT q k) (ix2 i z) = y) :
    exT (scT q k) (ix2 i j) = ((Real.exp (s A h (512 * t + i.val) j.val - y) : ℝ) : EReal) := by
  have e := scT_at H i j
  revert e hy
  generalize scT q k = x
  generalize hv : mxT x = u
  intro hy e
  pointwise [exT, hv]
  refine (congrArg Ideal.exp (congrArg₂ (· - ·) e (hy _))).trans ?_
  rw [← EReal.coe_sub, Ideal.exp_coe]

theorem lsT_at (i : Fin 512) (z : Fin 1) (y : ℝ) (hy : ∀ z, mxT (scT q k) (ix2 i z) = y) :
    lsT (scT q k) (ix2 i z) = ((∑ j : Fin 2048, Real.exp (s A h (512 * t + i.val) j.val - y) : ℝ) : EReal) := by
  have e := fun j => exT_at H i j y hy
  revert e
  generalize scT q k = x
  generalize hv : exT x = u
  intro e
  pointwise [lsT, hv]
  exact (Finset.sum_congr rfl fun x _ => e x).trans (coe_sum _ _)

/-- The head's result, in its lanes. -/
theorem oT_at (i : Fin 512) (c : Fin 128) : oT (scT q k) v (ix2 i c) = laneE c.val (oE A U h (512 * t + i.val) c.val) := by
  obtain ⟨y, hy⟩ := mxT_at H i
  have e := fun j => exT_at H i j y hy
  have e' := fun z => lsT_at H i z y hy
  revert e e'
  generalize scT q k = x
  generalize hv : exT x = u
  generalize hw : lsT x = w
  intro e e'
  pointwise [oT, hv, hw]
  simp only [e, e', H.v, mul_padE, sum_padE]
  rw [← out_eq A U h (512 * t + i.val) c.val y]
  simp only [key_at H]
  unfold laneE
  split
  · rfl
  · rw [Ideal.div_coe (sum_exp_pos fun j => s A _ _ j - y).ne', zero_mul]

/-- The log-sums after the head: its own in its lane, what was there in the others. -/
theorem lseT_at (p : FVec Ideal S512x128 .f32) (i : Fin 512) (c : Fin 128) : lseT (BitVec.ofNat 32 h) (scT q k) p (ix2 i c)
    = if c.val = h then ((Real.log (l A h (512 * t + i.val)) : ℝ) : EReal) else p (ix2 i c) := by
  have h8 := H.h8
  obtain ⟨y, hy⟩ := mxT_at H i
  have e' := fun z => lsT_at H i z y hy
  revert e' hy
  generalize scT q k = x
  generalize hv : mxT x = u
  generalize hw : lsT x = w
  intro hy e'
  pointwise [lseT, hv, hw]
  rw [lane_eq c ⟨h, h8⟩]
  by_cases hc : c.val = h
  · rw [if_pos hc, if_pos hc]
    refine (congrArg₂ (· + ·) (hy _) (congrArg Ideal.log (e' _))).trans ?_
    rw [Ideal.log_coe, if_neg (not_le.mpr (sum_exp_pos fun j => s A _ _ j - y)), ← EReal.coe_add, log_eq]
  · rw [if_neg hc, if_neg hc]
    rfl

end Cert.Kernel17Ideal.AttnFwd
-- ==== Proof.AttnFwdStage.lean ====
/- The stages of the attention's forward body are the heads' values. -/
module

public import proofs.«01_k».proof.Proof.AttnFwdHead

@[expose] public section

set_option maxRecDepth 16384

noncomputable section

namespace Cert.Kernel17Ideal.AttnFwd

open Cert.Kernel17Ideal Cert.Kernel17Ideal.Gen
open Idealize.ShloMosaic Idealize.ShloMosaic.TcCoe Idealize.ShloMosaic.Tactic

variable [Facts₀] [Facts] (q q' : Vec Ideal S512x128 .bf16) (k k' v : Vec Ideal S2048x128 .bf16) (x : FVec Ideal S512x128 .f32)

theorem o_0 : k0_pay12 q k v = oT (scT q k) v := rfl
theorem o_1 : k0_pay19 (k0_pay14 q k) (k0_pay16 q k) v = oT (scT q k) v := rfl
theorem o_2 : k0_pay25 q k v = oT (scT q k) v := rfl
theorem o_3 : k0_pay30 q k v = oT (scT q k) v := rfl
theorem o_4 : k0_pay36 (k0_pay32 q k) v = oT (scT q k) v := rfl
theorem o_5 : k0_pay42 q k v = oT (scT q k) v := rfl
theorem o_6 : k0_pay47 q k v = oT (scT q k) v := rfl
theorem o_7 : k0_pay5 (k0_pay49 q) (k0_pay50 k) v = oT (scT q k) v := rfl

theorem l_0 : k0_pay13 q k = lseT 0#32 (scT q k) (broadcast S512x128 (Scalar.ofBits .f32 0x00000000#32)) := rfl
theorem l_1 : k0_pay20 (iota Kind.tc S512x128 32 [1] iota_S512x128_d1_w32) x (k0_pay14 q k) (k0_pay15 q k) (k0_pay16 q k) = lseT 1#32 (scT q k) x := rfl
theorem l_23 : k0_pay31 (iota Kind.tc S512x128 32 [1] iota_S512x128_d1_w32) x (k0_pay22 q k) (k0_pay24 q k) q' k' = lseT 3#32 (scT q' k') (lseT 2#32 (scT q k) x) := rfl
theorem l_4 : k0_pay37 (iota Kind.tc S512x128 32 [1] iota_S512x128_d1_w32) x (k0_pay32 q k) = lseT 4#32 (scT q k) x := rfl
theorem l_56 : k0_pay48 (iota Kind.tc S512x128 32 [1] iota_S512x128_d1_w32) x (k0_pay39 q k) (k0_pay41 q k) q' k' = lseT 6#32 (scT q' k') (lseT 5#32 (scT q k) x) := rfl
theorem l_7 : k0_pay6 (iota Kind.tc S512x128 32 [1] iota_S512x128_d1_w32) x (k0_pay49 q) (k0_pay50 k) = lseT 7#32 (scT q k) x := rfl

end Cert.Kernel17Ideal.AttnFwd
-- ==== Proof.AttnFwdIn.lean ====
/- The blocks the attention's forward call reads, over the reals. -/
module

public import proofs.«01_k».proof.Proof.AttnFwdStage
public import proofs.«01_k».proof.Proof.AttnHostVal
public import proofs.«01_k».proof.Proof.AttnTiles
public import proofs.«01_k».proof.Proof.Gen.Kernel17Ideal.Frame
public import Idealize.ShloMosaic.Lib.Pipeline.ValueKit

@[expose] public section

set_option maxRecDepth 16384

noncomputable section

namespace Cert.Kernel17Ideal.AttnFwd

open Cert.Kernel17Ideal Cert.Kernel17Ideal.Gen
open Cert.Attn Cert.Reals
open Cert.Kernel15Ideal.Attn (lane pad8 pad2 hga pad8_at pad2_at hga_at hsp_at ld_at)
open Idealize.ShloMosaic Idealize.ShloMosaic.TcCoe Idealize.ShloMosaic.Tactic

attribute [local instance] Cert.Kernel15Ideal.Gen.facts

/-- The block index of every window at a point. -/
theorem idx : ∀ t : Fin cfg0.N, win0_0.index t = ![t.val, 0] ∧ win0_1.index t = ![t.val / 4, 0] ∧ win0_2.index t = ![t.val / 4, 0]
    ∧ win0_3.index t = ![0, 0] ∧ win0_4.index t = ![t.val, 1] ∧ win0_5.index t = ![t.val, 0] ∧ win0_6.index t = ![t.val, 0] :=
  (by decide +kernel : ∀ t : Fin grid0.N, _)

/-- The entries of the queries and keys are `A`'s, those of the values `U`'s. -/
structure Reads (x0 : FVec Ideal S4096x512 .f32) (x1 x2 : FVec Ideal S4096x128 .f32) (A : Args) (U : ℕ → ℕ → EReal) : Prop where
  q : ∀ r k, x0 (ix2 r k) = ((A.q r.val k.val : ℝ) : EReal)
  k : ∀ r k, x1 (ix2 r k) = ((A.k r.val k.val : ℝ) : EReal)
  v : ∀ r k, x2 (ix2 r k) = U r.val k.val

/-- The values in lanes, whatever they are. -/
theorem pad2E_at (x : FVec Ideal S4096x128 .f32) (f : ℕ → ℕ → EReal) (hf : ∀ r k, x (ix2 r k) = f r.val k.val) (r : Fin 4096) (k : Fin 256) :
    pad2 x (ix2 r k) = laneE (k.val % 128) (f r.val (64 * (k.val / 128) + k.val % 128)) := by
  pointwise [pad2]
  split
  · next e =>
    rw [hf]
    unfold laneE
    rw [if_pos e.2]
    exact congrArg₂ f rfl (by simp only; omega)
  · next e =>
    unfold laneE
    rw [if_neg (by omega)]
    exact Cert.Kernel15Ideal.Attn.zero_real.trans EReal.coe_zero

section Operands

variable (m : (ℓ : Loc nD τ sig) → Buf (Elt Ideal) ℓ) (c : Dev nD)

theorem V_gather : V m c main_v10 = hga := rfl
theorem V_q : V m c main_v14 = pad8 (m ((c : Thread nD τ).loc main_arg0)) := rfl
theorem V_k : V m c main_v18 = pad2 (m ((c : Thread nD τ).loc main_arg1)) := rfl
theorem V_v : V m c main_v22 = pad2 (m ((c : Thread nD τ).loc main_arg2)) := rfl
theorem V_mix : V m c main_v23 = m ((c : Thread nD τ).loc main_arg3) := rfl

end Operands

variable {m : (ℓ : Loc nD τ sig) → Buf (Elt Ideal) ℓ} {c : Dev nD} {A : Args} {U : ℕ → ℕ → EReal}
  (h : Reads (m ((c : Thread nD τ).loc main_arg0)) (m ((c : Thread nD τ).loc main_arg1)) (m ((c : Thread nD τ).loc main_arg2)) A U)
  (t : Fin cfg0.N)
include h

/-- The queries, each head's 64 columns in 128 lanes. -/
theorem in0 (j : Fin 512) (k : Fin 1024) : iblk m c 0 t (ix2 j k)
    = ((lane (k.val % 128) (A.q (512 * t.val + j.val) (64 * (k.val / 128) + k.val % 128)) : ℝ) : EReal) := by
  have ht := Nat.lt_of_lt_of_eq t.isLt N_0
  have e : iblk m c 0 t (ix2 j k) = V m c main_v14 (ix2 ⟨512 * t.val + j.val, by omega⟩ k) := by
    blk_ext [iblk, idx t]
  exact e.trans ((congrFun (V_q m c) _).trans (pad8_at _ A.q h.q _ _))

/-- The keys and the values. -/
theorem in1 (j : Fin 2048) (k : Fin 256) : iblk m c 1 t (ix2 j k)
    = ((lane (k.val % 128) (A.k (2048 * (t.val / 4) + j.val) (64 * (k.val / 128) + k.val % 128)) : ℝ) : EReal) := by
  have ht := Nat.lt_of_lt_of_eq t.isLt N_0
  have e : iblk m c 1 t (ix2 j k) = V m c main_v18 (ix2 ⟨2048 * (t.val / 4) + j.val, by omega⟩ k) := by
    blk_ext [iblk, idx t]
  exact e.trans ((congrFun (V_k m c) _).trans (pad2_at _ A.k h.k _ _))

theorem in2 (j : Fin 2048) (k : Fin 256) : iblk m c 2 t (ix2 j k)
    = laneE (k.val % 128) (U (2048 * (t.val / 4) + j.val) (64 * (k.val / 128) + k.val % 128)) := by
  have ht := Nat.lt_of_lt_of_eq t.isLt N_0
  have e : iblk m c 2 t (ix2 j k) = V m c main_v22 (ix2 ⟨2048 * (t.val / 4) + j.val, by omega⟩ k) := by
    blk_ext [iblk, idx t]
  exact e.trans ((congrFun (V_v m c) _).trans (pad2E_at _ U h.v _ _))

omit h in
/-- The table that takes the lanes' first 64 columns. -/
theorem in3 (j : Fin 512) (k : Fin 1024) : iblk m c 3 t (ix2 k j)
    = ((if k.val % 128 < 64 ∧ j.val = 64 * (k.val / 128) + k.val % 128 then 1 else 0 : ℝ) : EReal) := by
  have e : iblk m c 3 t (ix2 k j) = V m c main_v10 (ix2 k j) := by
    blk_ext [iblk, idx t]
  exact e.trans ((congrFun (V_gather m c) _).trans ((hga_at _ _).trans (hsp_at _ _)))

/-- A head's operands are its tiles of the blocks. -/
theorem head_ld (w : ℕ) (hw : w < 8) {off ko : ℕ} (ho : off = 128 * w) (hk : ko = 128 * (w / 4))
    {inbq : ∀ a, (![0, off] : Fin 2 → ℕ) a + (![512, 128] : Fin 2 → ℕ) a ≤ S512x1024.size a}
    {inbk : ∀ a, (![0, ko] : Fin 2 → ℕ) a + (![2048, 128] : Fin 2 → ℕ) a ≤ S2048x256.size a} :
    Head A U t.val w (View.ld (Val := Elt Ideal) (iblk m c 0 t) (Rect.unit (s := S512x1024) ![0, off] ![512, 128] inbq))
      (View.ld (Val := Elt Ideal) (iblk m c 1 t) (Rect.unit (s := S2048x256) ![0, ko] ![2048, 128] inbk))
      (View.ld (Val := Elt Ideal) (iblk m c 2 t) (Rect.unit (s := S2048x256) ![0, ko] ![2048, 128] inbk)) := by
  subst ho hk
  have e1 : ∀ (y : ℕ) (x : Fin 128), (128 * y + x.val) % 128 = x.val := fun y x => by omega
  have e2 : ∀ (y : ℕ) (x : Fin 128), (128 * y + x.val) / 128 = y := fun y x => by omega
  refine ⟨hw, fun i x => ?_, fun i x => ?_, fun i x => ?_⟩
  · refine (ld_at inbq (e := .bf16) (iblk m c 0 t) i x ⟨128 * w + x.val, by omega⟩ rfl).trans ((in0 h t _ _).trans ?_)
    simp only [e1, e2]
  · refine (ld_at inbk (e := .bf16) (iblk m c 1 t) i x ⟨128 * (w / 4) + x.val, by omega⟩ rfl).trans ((in1 h t _ _).trans ?_)
    simp only [e1, e2]
  · refine (ld_at inbk (e := .bf16) (iblk m c 2 t) i x ⟨128 * (w / 4) + x.val, by omega⟩ rfl).trans ((in2 h t _ _).trans ?_)
    simp only [e1, e2]

end Cert.Kernel17Ideal.AttnFwd
-- ==== Proof.AttnFwdOut.lean ====
/- What the attention's forward call leaves, over the reals. -/
module

public import proofs.«01_k».proof.Proof.AttnFwdIn

@[expose] public section

set_option maxRecDepth 16384

noncomputable section

namespace Cert.Kernel17Ideal.AttnFwd

open Cert.Kernel17Ideal Cert.Kernel17Ideal.Gen
open Cert.Attn Cert.Reals
open Cert.Kernel15Ideal.Attn (lane emb_eq)
open Idealize.ShloMosaic Idealize.ShloMosaic.TcCoe Idealize.ShloMosaic.Tactic

/-- The result's row in lanes: each head's 64 columns in 128. -/
def op (A : Args) (U : ℕ → ℕ → EReal) (r k : ℕ) : EReal := laneE (k % 128) (oE A U (k / 128) r (k % 128))
/-- A row's log-sums, the heads' side by side and zeros beside them. -/
def ls (A : Args) (r k : ℕ) : ℝ := if k < 8 then Real.log (l A k r) else 0

/-- A head's columns of the result. -/
theorem op_tile {A : Args} {U : ℕ → ℕ → EReal} {t w off : ℕ} {q : Vec Ideal S512x128 .bf16} {k v : Vec Ideal S2048x128 .bf16} (hoff : off = 128 * w) (H : Head A U t w q k v)
    (i : Fin 512) (c : Fin 1024) :
    View.TileAt (Val := Elt Ideal) (S := S512x1024) (e := .bf16) (ix2 i c) ![0, off] ![512, 128] (oT (scT q k) v) (op A U (512 * t + i.val) c.val) := by
  intro x hx
  have e0 : i.val = 0 + (x 0).val := hx 0
  have e1 : c.val = off + (x 1).val := hx 1
  have e2 : (x 1).val < 128 := (x 1).isLt
  have e := oT_at H (x 0) (x 1)
  rw [ix2_eta] at e
  refine e.trans ?_
  unfold op
  rw [show c.val / 128 = w by omega, show c.val % 128 = (x 1).val by omega, show i.val = (x 0).val by omega]

/-- The lanes' first 64 columns, taken by the table. -/
theorem pay7_at (X : Vec Ideal S512x1024 .bf16) (G : Vec Ideal S1024x512 .bf16) (f : ℕ → ℕ → EReal) (hX : ∀ i k, X (ix2 i k) = f i.val k.val)
    (hG : ∀ k c, G (ix2 k c) = ((if k.val % 128 < 64 ∧ c.val = 64 * (k.val / 128) + k.val % 128 then 1 else 0 : ℝ) : EReal)) (i : Fin 512) (c : Fin 512) :
    k0_pay7 X G (ix2 i c) = f i.val (128 * (c.val / 64) + c.val % 64) := by
  pointwise [k0_pay7]
  simp only [hX, hG]
  refine (Finset.sum_eq_single (⟨128 * (c.val / 64) + c.val % 64, by omega⟩ : Fin 1024) ?_ ?_).trans ?_
  · intro b _ hb
    rw [if_neg, EReal.coe_zero, mul_zero]
    refine fun hh => hb (Fin.ext ?_)
    show b.val = 128 * (c.val / 64) + c.val % 64
    omega
  · exact fun hh => absurd (Finset.mem_univ _) hh
  · rw [if_pos ⟨by dsimp only; omega, by dsimp only; omega⟩, EReal.coe_one, mul_one]

theorem op_gather (A : Args) (U : ℕ → ℕ → EReal) (r c : ℕ) : op A U r (128 * (c / 64) + c % 64) = oE A U (c / 64) r (c % 64) := by
  unfold op laneE
  rw [show (128 * (c / 64) + c % 64) % 128 = c % 64 by omega, show (128 * (c / 64) + c % 64) / 128 = c / 64 by omega, if_pos (by omega)]

theorem zero_lane (i : Fin 512) (c : Fin 128) : (broadcast S512x128 (Scalar.ofBits .f32 0x00000000#32) : FVec Ideal S512x128 .f32) (ix2 i c) = ((0 : ℝ) : EReal) := by
  pointwise []
  simp

/-- The eight heads' log-sums, put in their lanes one after another. -/
theorem ls_at {A : Args} {U : ℕ → ℕ → EReal} {t : ℕ} {q0 q1 q2 q3 q4 q5 q6 q7 : Vec Ideal S512x128 .bf16} {k0 k1 k2 k3 k4 k5 k6 k7 v0 v1 v2 v3 v4 v5 v6 v7 : Vec Ideal S2048x128 .bf16}
    (H0 : Head A U t 0 q0 k0 v0) (H1 : Head A U t 1 q1 k1 v1) (H2 : Head A U t 2 q2 k2 v2) (H3 : Head A U t 3 q3 k3 v3)
    (H4 : Head A U t 4 q4 k4 v4) (H5 : Head A U t 5 q5 k5 v5) (H6 : Head A U t 6 q6 k6 v6) (H7 : Head A U t 7 q7 k7 v7) (i : Fin 512) (c : Fin 128) :
    lseT 7#32 (scT q7 k7) (lseT 6#32 (scT q6 k6) (lseT 5#32 (scT q5 k5) (lseT 4#32 (scT q4 k4) (lseT 3#32 (scT q3 k3) (lseT 2#32 (scT q2 k2)
      (lseT 1#32 (scT q1 k1) (lseT 0#32 (scT q0 k0) (broadcast S512x128 (Scalar.ofBits .f32 0x00000000#32))))))))) (ix2 i c)
      = ((ls A (512 * t + i.val) c.val : ℝ) : EReal) := by
  refine (lseT_at H7 _ i c).trans ?_
  rw [show (6#32 : BitVec 32) = BitVec.ofNat 32 6 from rfl, lseT_at H6, show (5#32 : BitVec 32) = BitVec.ofNat 32 5 from rfl, lseT_at H5,
    show (4#32 : BitVec 32) = BitVec.ofNat 32 4 from rfl, lseT_at H4, show (3#32 : BitVec 32) = BitVec.ofNat 32 3 from rfl, lseT_at H3,
    show (2#32 : BitVec 32) = BitVec.ofNat 32 2 from rfl, lseT_at H2, show (1#32 : BitVec 32) = BitVec.ofNat 32 1 from rfl, lseT_at H1,
    show (0#32 : BitVec 32) = BitVec.ofNat 32 0 from rfl, lseT_at H0]
  unfold ls
  by_cases hc : c.val < 8
  · rw [if_pos hc]
    generalize hz : c.val = z at hc ⊢
    interval_cases z <;> simp
  · rw [if_neg hc]
    repeat rw [if_neg (by omega)]
    exact zero_lane i c

end Cert.Kernel17Ideal.AttnFwd
-- ==== Proof.AttnFwdBlocks.lean ====
/- What a point of the attention's forward call leaves, and the result arrays. -/
module

public import proofs.«01_k».proof.Proof.AttnFwdOut

@[expose] public section

set_option maxRecDepth 16384

noncomputable section

namespace Cert.Kernel17Ideal.AttnFwd

open Cert.Kernel17Ideal Cert.Kernel17Ideal.Gen
open Cert.Attn Cert.Reals
open Cert.Kernel15Ideal.Attn (lane emb_eq)
open Idealize.ShloMosaic Idealize.ShloMosaic.TcCoe Idealize.ShloMosaic.Tactic

/-- Eight heads' columns, side by side. -/
theorem cols_at {A : Args} {U : ℕ → ℕ → EReal} {t : ℕ} {q0 q1 q2 q3 q4 q5 q6 q7 : Vec Ideal S512x128 .bf16} {k0 k1 k2 k3 k4 k5 k6 k7 v0 v1 v2 v3 v4 v5 v6 v7 : Vec Ideal S2048x128 .bf16}
    (H0 : Head A U t 0 q0 k0 v0) (H1 : Head A U t 1 q1 k1 v1) (H2 : Head A U t 2 q2 k2 v2) (H3 : Head A U t 3 q3 k3 v3) (H4 : Head A U t 4 q4 k4 v4) (H5 : Head A U t 5 q5 k5 v5) (H6 : Head A U t 6 q6 k6 v6) (H7 : Head A U t 7 q7 k7 v7) (i : Fin 512) (c : Fin 1024) :
    View.canon (Val := Elt Ideal) (e := .bf16) [⟨Rect.unit (s := S512x1024) ![0, 896] ![512, 128] inb_S512x1024_S512x128_0_896, oT (scT q7 k7) v7⟩,
      ⟨Rect.unit (s := S512x1024) ![0, 768] ![512, 128] inb_S512x1024_S512x128_0_768, oT (scT q6 k6) v6⟩,
      ⟨Rect.unit (s := S512x1024) ![0, 640] ![512, 128] inb_S512x1024_S512x128_0_640, oT (scT q5 k5) v5⟩,
      ⟨Rect.unit (s := S512x1024) ![0, 512] ![512, 128] inb_S512x1024_S512x128_0_512, oT (scT q4 k4) v4⟩,
      ⟨Rect.unit (s := S512x1024) ![0, 384] ![512, 128] inb_S512x1024_S512x128_0_384, oT (scT q3 k3) v3⟩,
      ⟨Rect.unit (s := S512x1024) ![0, 256] ![512, 128] inb_S512x1024_S512x128_0_256, oT (scT q2 k2) v2⟩,
      ⟨Rect.unit (s := S512x1024) ![0, 128] ![512, 128] inb_S512x1024_S512x128_0_128, oT (scT q1 k1) v1⟩,
      ⟨Rect.unit (s := S512x1024) ![0, 0] ![512, 128] inb_S512x1024_S512x128_0_0, oT (scT q0 k0) v0⟩] (ix2 i c) = op A U (512 * t + i.val) c.val :=
  View.canon_eq_of_allAt _ _ _ (View.cover_of_tiled_head _ _ _ rfl _)
    (View.allAt_cons_unit _ _ _ _ _ (op_tile rfl H7 i c) (View.allAt_cons_unit _ _ _ _ _ (op_tile rfl H6 i c) (View.allAt_cons_unit _ _ _ _ _ (op_tile rfl H5 i c) (View.allAt_cons_unit _ _ _ _ _ (op_tile rfl H4 i c) (View.allAt_cons_unit _ _ _ _ _ (op_tile rfl H3 i c) (View.allAt_cons_unit _ _ _ _ _ (op_tile rfl H2 i c) (View.allAt_cons_unit _ _ _ _ _ (op_tile rfl H1 i c) (View.allAt_cons_unit _ _ _ _ _ (op_tile rfl H0 i c) (View.allAt_nil _ _)))))))))

variable {m : (ℓ : Loc nD τ sig) → Buf (Elt Ideal) ℓ} {c : Dev nD} {A : Args} {U : ℕ → ℕ → EReal}
  (h : Reads (m ((c : Thread nD τ).loc main_arg0)) (m ((c : Thread nD τ).loc main_arg1)) (m ((c : Thread nD τ).loc main_arg2)) A U)
  (t : Fin cfg0.N)
include h

/-- The result that a point leaves. -/
theorem after4 : (outsAt0 m c t).1 = fun y => oE A U ((y 1).val / 64) (512 * t.val + (y 0).val) ((y 1).val % 64) := by
  obtain ⟨G, hG⟩ : ∃ G : S512x512.Idx → EReal, G = fun y => oE A U ((y 1).val / 64) (512 * t.val + (y 0).val) ((y 1).val % 64) := ⟨_, rfl⟩
  rw [← hG]
  unfold outsAt0
  frame_out
  simp only [o_0, o_1, o_2, o_3, o_4, o_5, o_6, o_7]
  rw [hG]
  funext y
  obtain ⟨i, k, rfl⟩ : ∃ i k, y = ix2 i k := ⟨y 0, y 1, (ix2_eta y).symm⟩
  refine (pay7_at _ _ (fun r => op A U (512 * t.val + r)) (fun i k => ?_) (fun k j => in3 t j k) i k).trans (op_gather A U _ _)
  rw [View.readCov_eq_canon']
  refine (congrArg (View.canon _) (emb_eq _ i k k (by simp))).trans ?_
  exact cols_at (head_ld h t 0 (by decide) rfl rfl) (head_ld h t 1 (by decide) rfl rfl) (head_ld h t 2 (by decide) rfl rfl) (head_ld h t 3 (by decide) rfl rfl)
      (head_ld h t 4 (by decide) rfl rfl) (head_ld h t 5 (by decide) rfl rfl) (head_ld h t 6 (by decide) rfl rfl) (head_ld h t 7 (by decide) rfl rfl) i k

/-- The result in lanes. -/
theorem after5 : (outsAt0 m c t).2.1 = fun y => op A U (512 * t.val + (y 0).val) (y 1).val := by
  obtain ⟨G, hG⟩ : ∃ G : S512x1024.Idx → EReal, G = fun y => op A U (512 * t.val + (y 0).val) (y 1).val := ⟨_, rfl⟩
  rw [← hG]
  unfold outsAt0
  frame_out
  simp only [o_0, o_1, o_2, o_3, o_4, o_5, o_6, o_7]
  rw [hG]
  funext y
  obtain ⟨i, k, rfl⟩ : ∃ i k, y = ix2 i k := ⟨y 0, y 1, (ix2_eta y).symm⟩
  exact cols_at (head_ld h t 0 (by decide) rfl rfl) (head_ld h t 1 (by decide) rfl rfl) (head_ld h t 2 (by decide) rfl rfl) (head_ld h t 3 (by decide) rfl rfl)
      (head_ld h t 4 (by decide) rfl rfl) (head_ld h t 5 (by decide) rfl rfl) (head_ld h t 6 (by decide) rfl rfl) (head_ld h t 7 (by decide) rfl rfl) i k

/-- The log-sums. -/
theorem after6 : (outsAt0 m c t).2.2 = fun y => ((ls A (512 * t.val + (y 0).val) (y 1).val : ℝ) : EReal) := by
  obtain ⟨G, hG⟩ : ∃ G : S512x128.Idx → EReal, G = fun y => ((ls A (512 * t.val + (y 0).val) (y 1).val : ℝ) : EReal) := ⟨_, rfl⟩
  rw [← hG]
  unfold outsAt0
  frame_out
  simp only [l_0, l_1, l_23, l_4, l_56, l_7]
  rw [hG]
  funext y
  obtain ⟨i, k, rfl⟩ : ∃ i k, y = ix2 i k := ⟨y 0, y 1, (ix2_eta y).symm⟩
  exact ls_at (head_ld h t 0 (by decide) rfl rfl) (head_ld h t 1 (by decide) rfl rfl) (head_ld h t 2 (by decide) rfl rfl) (head_ld h t 3 (by decide) rfl rfl)
      (head_ld h t 4 (by decide) rfl rfl) (head_ld h t 5 (by decide) rfl rfl) (head_ld h t 6 (by decide) rfl rfl) (head_ld h t 7 (by decide) rfl rfl) i k

/-- The result arrays. -/
def opArr (A : Args) (U : ℕ → ℕ → EReal) : S4096x1024.Idx → EReal := fun i => op A U (i 0).val (i 1).val
def lsArr (A : Args) : S4096x128.Idx → EReal := fun i => ((ls A (i 0).val (i 1).val : ℝ) : EReal)
/-- The attention's half of the mix. -/
def half (A : Args) (U : ℕ → ℕ → EReal) : S4096x1024.Idx → EReal := fun i => oE A U (((i 1).val - 512) / 64) (i 0).val (((i 1).val - 512) % 64)
/-- The mix: its first half as it was, the attention's beside it. -/
def mixArr (A : Args) (U : ℕ → ℕ → EReal) (x : S4096x1024.Idx → EReal) : S4096x1024.Idx → EReal := fun i => if (i 1).val / 512 = 1 then half A U i else x i

omit h t in
theorem A4 : (dats m 0 c).A 4 = V m c main_v23 := A_eq m c 4

omit h t in
/-- The points' blocks of the mix are its second half. -/
theorem covers4 : (cfg0.win 4).CoversWhere (fun β => β 1 = 1) := by decide +kernel

/-- What a point writes of the mix, at its place. -/
theorem written4 (y : ((cfg0.win 4).xblock (cfg0.grid.coords t)).Idx) :
    (outsAt0 m c t).1 ((cfg0.win 4).xinj (cfg0.grid.coords t) y) = half A U (((cfg0.win 4).blk t).view.emb y) := by
  generalize hz : (cfg0.win 4).xinj (cfg0.grid.coords t) y = z
  refine (congrFun (after4 h t) z).trans ?_
  have z0 : (y 0).val = (z 0).val := by rw [← hz]
  have z1 : (y 1).val = (z 1).val := by rw [← hz]
  have z2 : (z 1).val < 512 := (z 1).isLt
  have e0 : ((((cfg0.win 4).blk t).view.emb y) 0).val = 512 * t.val + (z 0).val := by
    blk_simp [idx t]
    omega
  have e1 : ((((cfg0.win 4).blk t).view.emb y) 1).val = 512 + (z 1).val := by
    blk_simp [idx t]
    omega
  unfold half
  rw [e0, e1, Nat.add_sub_cancel_left]

omit t in
/-- The mix after the call: the written half, and the other as it was. -/
theorem final4_at (i : S4096x1024.Idx) : (dats m 0 c).arrAt 4 cfg0.N i = if (i 1).val / 512 = 1 then half A U i else (dats m 0 c).A 4 i := by
  refine (dats m 0 c).arrAt_apply_of_coversWhere 4 (half A U) (P := fun i => (i 1).val / 512 = 1) (fun β => β 1 = 1) covers4 (fun t hf y => ?_) (fun j => Iff.rfl) i
  blk_simp
  rw [after0_4]
  exact written4 h t y

omit t in
theorem final4 : (dats m 0 c).arrAt 4 cfg0.N = mixArr A U (m ((c : Thread nD τ).loc main_arg3)) := by
  funext i
  refine (final4_at h i).trans ?_
  rw [A4, V_mix]
  rfl

omit t in
theorem final5 : (dats m 0 c).arrAt 5 cfg0.N = opArr A U := by
  refine (dats m 0 c).arrAt_eq_of_covers 5 _ (by decide +kernel) fun t hf y => ?_
  blk_simp
  rw [after0_5]
  refine (congrFun (after5 h t) y).trans ?_
  unfold opArr
  blk_simp [idx t]
  rw [Nat.mul_comm 512]

omit t in
theorem final6 : (dats m 0 c).arrAt 6 cfg0.N = lsArr A := by
  refine (dats m 0 c).arrAt_eq_of_covers 6 _ (by decide +kernel) fun t hf y => ?_
  blk_simp
  rw [after0_6]
  refine (congrFun (after6 h t) y).trans ?_
  unfold lsArr
  blk_simp [idx t]
  rw [Nat.mul_comm 512]

end Cert.Kernel17Ideal.AttnFwd
-- ==== Proof.AttnFwdRef.lean ====
/- The attention's reference over the reals: the weights, the result and the log-sums. -/
module

public import proofs.«01_k».proof.Proof.AttnRefOut
public import proofs.«01_k».proof.Proof.AttnFwdSpec
public import proofs.«01_k».proof.Proof.AttnHostVal
public import proofs.«01_k».proof.Proof.Gen.Reference17Ideal.Read
public import Idealize.ShloMosaic.Lib.Pipeline.ValueKit

@[expose] public section

set_option maxRecDepth 16384

noncomputable section

namespace Cert.Reference17Ideal.AttnFwd

open Cert.Reference17Ideal Cert.Reference17Ideal.Gen Cert.Reference17Ideal.Read
open Cert.Attn Cert.Reals
open Cert.Reference15Ideal.Attn (max_bot zero_real)
open Idealize.ShloMosaic Idealize.ShloMosaic.TcCoe Idealize.ShloMosaic.Tactic

/-- The entries of the queries and keys are `A`'s, those of the values `U`'s. -/
structure Reads (x0 : FVec Ideal S4096x512 .f32) (x1 x2 : FVec Ideal S4096x128 .f32) (A : Args) (U : ℕ → ℕ → EReal) : Prop where
  q : ∀ r k, x0 (ix2 r k) = ((A.q r.val k.val : ℝ) : EReal)
  k : ∀ r k, x1 (ix2 r k) = ((A.k r.val k.val : ℝ) : EReal)
  v : ∀ r k, x2 (ix2 r k) = U r.val k.val

variable {x0 : FVec Ideal S4096x512 .f32} {x1 x2 : FVec Ideal S4096x128 .f32} {A : Args} {U : ℕ → ℕ → EReal} (h : Reads x0 x1 x2 A U)
include h

/-- The scores. -/
theorem s_at (b : Fin 2) (kv : Fin 2) (g : Fin 4) (i j : Fin 2048) :
    val_main_v4 (F := Ideal) x0 x1 (ix5 b kv g i j) = ((s A (4 * kv.val + g.val) (2048 * b.val + i.val) j.val : ℝ) : EReal) := by
  pointwise [val_main_v4, val_main_v3, val_main_v0, val_main_v1]
  simp only [h.q, h.k, ← EReal.coe_mul, coe_sum]
  unfold s key
  refine congrArg _ (Finset.sum_congr rfl fun d _ => ?_)
  rw [mul_comm]
  refine congrArg₂ (· * ·) (congrArg₂ A.q ?_ ?_) (congrArg₂ A.k ?_ ?_) <;> simp <;> omega

/-- The greatest of a row's scores is a real. -/
theorem m5_at (b : Fin 2) (kv : Fin 2) (g : Fin 4) (i : Fin 2048) : ∃ y : ℝ, val_main_v5 (F := Ideal) x0 x1 (ix4 b kv g i) = y := by
  unfold val_main_v5
  exact row_real _ (val_main_cst (F := Ideal)) reducesTo_S2x2x4x2048x2048_S2x2x4x2048_d4 h_S_
    (fun _ => bot_eq) (fun i => by rw [eq_ix5 i]; exact ⟨_, s_at h _ _ _ _ _⟩) (by omega) b kv g i

/-- The number the softmax takes off a row's scores is a real. -/
theorem m_at (b : Fin 2) (kv : Fin 2) (g : Fin 4) (i : Fin 2048) : ∃ y : ℝ, val_main_v7 (F := Ideal) x0 x1 (ix4 b kv g i) = y := by
  obtain ⟨y, hy⟩ := m5_at h b kv g i
  exact ⟨y, by rw [val_main_v7_apply, hy]; exact max_bot _ (by rw [val_main_v6_apply]; exact bot_eq) y⟩

/-- The exponentials, over the number taken off. -/
theorem e_at (b : Fin 2) (kv : Fin 2) (g : Fin 4) (i j : Fin 2048) (y : ℝ) (hy : val_main_v7 (F := Ideal) x0 x1 (ix4 b kv g i) = y) :
    val_main_v11 (F := Ideal) x0 x1 (ix5 b kv g i j) = ((Real.exp (s A (4 * kv.val + g.val) (2048 * b.val + i.val) j.val - y) : ℝ) : EReal) := by
  have e := s_at h b kv g i j
  revert e hy
  generalize hv : val_main_v4 (F := Ideal) x0 x1 = v
  generalize hw : val_main_v7 (F := Ideal) x0 x1 = w
  intro hy e
  pointwise [val_main_v11, val_main_v10, val_main_v9, val_main_v8, hv, hw]
  refine (congrArg Ideal.exp (congrArg₂ (· - ·) e hy)).trans ?_
  rw [← EReal.coe_sub, Ideal.exp_coe]

/-- The weights. -/
theorem p_at (b : Fin 2) (kv : Fin 2) (g : Fin 4) (i j : Fin 2048) :
    val_main_v15 (F := Ideal) x0 x1 (ix5 b kv g i j) = ((p A (4 * kv.val + g.val) (2048 * b.val + i.val) j.val : ℝ) : EReal) := by
  obtain ⟨y, hy⟩ := m_at h b kv g i
  have e := fun j => e_at h b kv g i j y hy
  revert e
  generalize hv : val_main_v11 (F := Ideal) x0 x1 = v
  intro e
  pointwise [val_main_v15, val_main_v14, val_main_v13, val_main_v12, val_main_cst_1, hv]
  refine (congrArg₂ Ideal.div (e j) (Finset.sum_congr rfl fun x _ => e x)).trans ?_
  rw [coe_sum, div_real _ _ (sum_exp_pos fun j => s A _ _ j - y).ne', soft]

/-- The result. -/
theorem o_at (r : Fin 4096) (c : Fin 512) : val_main_v18 (F := Ideal) x0 x1 x2 (ix2 r c) = oE A U (c.val / 64) r.val (c.val % 64) := by
  have e := p_at h
  revert e
  generalize hv : val_main_v15 (F := Ideal) x0 x1 = v
  intro e
  pointwise [val_main_v18, val_main_v17, val_main_v16, val_main_v2, hv]
  simp only [e, h.v]
  unfold oE key
  refine Finset.sum_congr rfl fun d _ => (mul_comm _ _).trans ?_
  refine congrArg₂ (· * ·) (congrArg₂ (fun x y => ((p A x y d.val : ℝ) : EReal)) ?_ ?_) (congrArg₂ U ?_ ?_) <;> first | rfl | ((try dsimp only) <;> omega)

/-- A row's log-sum. -/
theorem log_at (b : Fin 2) (kv : Fin 2) (g : Fin 4) (i : Fin 2048) :
    val_main_v21 (F := Ideal) x0 x1 (ix4 b kv g i) = ((Real.log (l A (4 * kv.val + g.val) (2048 * b.val + i.val)) : ℝ) : EReal) := by
  have e := fun j => s_at h b kv g i j
  revert e
  generalize hv : val_main_v4 (F := Ideal) x0 x1 = v
  intro e
  pointwise [val_main_v21, val_main_v20, val_main_cst_2, val_main_v19, hv]
  refine (congrArg Ideal.log ((Finset.sum_congr rfl fun x _ => (congrArg Ideal.exp (e x)).trans (Ideal.exp_coe _)).trans (coe_sum _ _))).trans ?_
  refine (Ideal.log_coe _).trans (if_neg (not_le.mpr (l_pos A (4 * kv.val + g.val) (2048 * b.val + i.val))))

/-- The log-sums, the heads' side by side and zeros beside them. -/
theorem lse_at (r : Fin 4096) (c : Fin 128) : val_main_v25 (F := Ideal) x0 x1 (ix2 r c)
    = ((if c.val < 8 then Real.log (l A c.val r.val) else 0 : ℝ) : EReal) := by
  have e := log_at h
  revert e
  generalize hv : val_main_v21 (F := Ideal) x0 x1 = v
  intro e
  pointwise [val_main_v25, val_main_v24, val_main_v23, val_main_v22, val_main_call0_v0, val_main_c, hv]
  split
  · next hc =>
    rw [e]
    exact congrArg Real.toEReal (congrArg Real.log (congrArg₂ (l A) (by simp only; omega) (by simp only; omega)))
  · next hc =>
    exact zero_real

/-- The mix: its first half as given, the result beside it. -/
theorem mix_at (x3 : FVec Ideal S4096x1024 .f32) (r : Fin 4096) (c : Fin 1024) : val_main_v28 (F := Ideal) x0 x1 x2 x3 (ix2 r c)
    = if c.val / 512 = 1 then oE A U ((c.val - 512) / 64) r.val ((c.val - 512) % 64) else x3 (ix2 r c) := by
  have e := o_at h
  revert e
  generalize hv : val_main_v18 (F := Ideal) x0 x1 x2 = v
  intro e
  pointwise [val_main_v28, val_main_v27, val_main_v26, hv]
  split
  · next hc =>
    rw [if_neg (by omega)]
  · next hc =>
    exact (e r ⟨c.val - 512, by omega⟩).trans (if_pos (by omega)).symm

/-- The result in lanes. -/
theorem op_at (r : Fin 4096) (k : Fin 1024) : val_main_v32 (F := Ideal) x0 x1 x2 (ix2 r k)
    = laneE (k.val % 128) (oE A U (k.val / 128) r.val (k.val % 128)) := by
  have e := o_at h
  revert e
  generalize hv : val_main_v18 (F := Ideal) x0 x1 x2 = v
  intro e
  pointwise [val_main_v32, val_main_v31, val_main_v30, val_main_v29, val_main_call1_v0, val_main_c_3, hv]
  unfold laneE
  split
  · next hc =>
    rw [e, if_pos (by omega)]
    exact congrArg₂ (oE A U · r.val ·) (by simp only; omega) (by simp only; omega)
  · next hc =>
    rw [if_neg (by omega)]
    exact zero_real.trans EReal.coe_zero

end Cert.Reference17Ideal.AttnFwd
-- ==== Proof.AttnFwdEq.lean ====
/- Finite queries and keys are real numbers, and the two programs of the attention's forward pass have the same results. -/
module

public import proofs.«01_k».proof.Proof.AttnFwdBlocks
public import proofs.«01_k».proof.Proof.AttnFwdRef
public import proofs.«01_k».proof.Proof.Gen.Kernel17Ideal.Value
public import proofs.«01_k».proof.Proof.Gen.Reference17Ideal.Run
public import proofs.«01_k».proof.Proof.Gen.Reference17Ideal.Read

@[expose] public section

set_option maxRecDepth 16384

noncomputable section

namespace Cert.Kernel17Ideal.AttnFwd

open Cert.Attn Cert.Reals
open Idealize.ShloMosaic Idealize.ShloMosaic.TcCoe Idealize.ShloMosaic.Tactic
open Idealize.SL.Sem

section Arrays

open Cert.Reference17Ideal Cert.Reference17Ideal.Read

variable {x0 : FVec Ideal S4096x512 .f32} {x1 x2 : FVec Ideal S4096x128 .f32} {A : Args} {U : ℕ → ℕ → EReal} (h : Cert.Reference17Ideal.AttnFwd.Reads x0 x1 x2 A U)
include h

/-- The reference's results as arrays. -/
theorem mix_arr (x3 : FVec Ideal S4096x1024 .f32) : val_main_v28 (F := Ideal) x0 x1 x2 x3 = mixArr A U x3 :=
  funext fun i => by have e := Cert.Reference17Ideal.AttnFwd.mix_at h x3 (i 0) (i 1); rwa [ix2_eta] at e
theorem op_arr : val_main_v32 (F := Ideal) x0 x1 x2 = opArr A U :=
  funext fun i => by have e := Cert.Reference17Ideal.AttnFwd.op_at h (i 0) (i 1); rwa [ix2_eta] at e
theorem ls_arr : val_main_v25 (F := Ideal) x0 x1 = lsArr A :=
  funext fun i => by have e := Cert.Reference17Ideal.AttnFwd.lse_at h (i 0) (i 1); rwa [ix2_eta] at e

end Arrays

section Pre

open Cert.Pre_finite17

/-- The precondition's side conditions. -/
theorem pre_facts : Cert.Pre_finite17.Facts where
  bcast_S_S4096x512 := by decide
  bcast_S_S4096x128 := by decide

variable [Cert.Pre_finite17.Facts] (x0 : FVec Ideal S4096x512 .f32) (x1 x2 : FVec Ideal S4096x128 .f32) (x3 : FVec Ideal S4096x1024 .f32)

theorem real0 (h : (Cert.Pre_finite17.fn (F := Ideal) x0 x1 x2 x3).1 = fun _ => 1#1) (i) : ((x0 i).toReal : EReal) = x0 i := by
  have h' := congrFun h i
  pointwise [Cert.Pre_finite17.fn] at h'
  exact real_of_lt _ h'
theorem real1 (h : (Cert.Pre_finite17.fn (F := Ideal) x0 x1 x2 x3).2 = fun _ => 1#1) (i) : ((x1 i).toReal : EReal) = x1 i := by
  have h' := congrFun h i
  pointwise [Cert.Pre_finite17.fn] at h'
  exact real_of_lt _ h'

end Pre

attribute [local instance] Cert.Kernel17Ideal.Gen.facts Cert.Reference17Ideal.Gen.facts

/-- The arguments' entries, by row and column numbers; the values are apart, and the forward pass has no gradient to read. -/
def argsOf (m : (ℓ : Loc Cert.Kernel17Ideal.nD Cert.Kernel17Ideal.τ Cert.Kernel17Ideal.sig) → Buf (Elt Ideal) ℓ) (c : Dev Cert.Kernel17Ideal.nD) : Args where
  q := entries (n0 := 4096) (n1 := 512) (m ((c.tc : Thread Cert.Kernel17Ideal.nD Cert.Kernel17Ideal.τ).loc Cert.Kernel17Ideal.main_arg0))
  k := entries (n0 := 4096) (n1 := 128) (m ((c.tc : Thread Cert.Kernel17Ideal.nD Cert.Kernel17Ideal.τ).loc Cert.Kernel17Ideal.main_arg1))
  v := fun _ _ => 0
  ct := fun _ _ => 0

/-- The values' entries, infinite ones too. -/
def valsOf (m : (ℓ : Loc Cert.Kernel17Ideal.nD Cert.Kernel17Ideal.τ Cert.Kernel17Ideal.sig) → Buf (Elt Ideal) ℓ) (c : Dev Cert.Kernel17Ideal.nD) (r k : ℕ) : EReal :=
  (m ((c.tc : Thread Cert.Kernel17Ideal.nD Cert.Kernel17Ideal.τ).loc Cert.Kernel17Ideal.main_arg2) : Vec Ideal S4096x128 .f32) (ix2 (Fin.ofNat 4096 r) (Fin.ofNat 128 k))

/-- A number below the bound is its own remainder. -/
theorem ofNat_val {n : ℕ} [NeZero n] (r : Fin n) : Fin.ofNat n r.val = r := Fin.ext (Nat.mod_eq_of_lt r.isLt)

/-- Finite queries and keys are the reals their entries are. -/
theorem reads_of_finite [Cert.Pre_finite17.Facts] (m) (h : Cert.Pre_Kernel17Ideal_finite17 m) (c : Dev Cert.Kernel17Ideal.nD) :
    Reads (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (argsOf m c) (valsOf m c) where
  q := entries_at _ (real0 _ _ _ _ (h c).1)
  k := entries_at _ (real1 _ _ _ _ (h c).2)
  v r k := by unfold valsOf; rw [ofNat_val, ofNat_val]

/-- The kernel of the attention's forward pass and its reference have the same results on finite queries and keys. -/
theorem algebraic [Cert.Pre_finite17.Facts] : Cert.algebraic_Kernel17Ideal_Reference17Ideal_pre_finite17 := by
  intro m g m' g' hpre hargs
  have hk := fun c => reads_of_finite m hpre c
  refine ⟨fun c => mixArr (argsOf m c) (valsOf m c) (m ((c.tc : Thread Cert.Kernel17Ideal.nD Cert.Kernel17Ideal.τ).loc Cert.Kernel17Ideal.main_arg3)), fun c => opArr (argsOf m c) (valsOf m c), fun c => lsArr (argsOf m c), ?_, ?_⟩
  · refine (θ_run Cert.Kernel17Ideal.defs _ _).mono (fun r h c => ?_) (Cert.Kernel17Ideal.Value.run_blocks m g)
    exact ⟨(h c).1.trans (final4 (hk c)), (h c).2.1.trans (final5 (hk c)), (h c).2.2.1.trans (final6 (hk c)), (h c).2.2.2⟩
  · refine (θ_run Cert.Reference17Ideal.defs _ _).mono (fun r h c => ?_) (Cert.Reference17Ideal.Value.run m' g')
    obtain ⟨e0, e1, e2, e3⟩ := hargs c
    have hr : Cert.Reference17Ideal.AttnFwd.Reads _ _ _ (argsOf m c) (valsOf m c) := ⟨fun r k => (congrFun e0 _).trans ((hk c).q r k), fun r k => (congrFun e1 _).trans ((hk c).k r k),
      fun r k => (congrFun e2 _).trans ((hk c).v r k)⟩
    exact ⟨(h c).1.trans ((Cert.Reference17Ideal.Read.val_main_v28_eq _ _ _ _).trans ((mix_arr hr _).trans (congrArg (mixArr (argsOf m c) (valsOf m c)) e3))),
      (h c).2.1.trans ((Cert.Reference17Ideal.Read.val_main_v32_eq _ _ _).trans (op_arr hr)),
      (h c).2.2.1.trans ((Cert.Reference17Ideal.Read.val_main_v25_eq _ _).trans (ls_arr hr)), (h c).2.2.2⟩

end Cert.Kernel17Ideal.AttnFwd
-- ==== Proof.lean ====
/- The claims, each from the run that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.FfnFrame
public import proofs.«01_k».proof.Proof.FfnKernel
public import proofs.«01_k».proof.Proof.FfnEq
public import proofs.«01_k».proof.Proof.ConvEq
public import proofs.«01_k».proof.Proof.InGradEq
public import proofs.«01_k».proof.Proof.OutGradEq
public import proofs.«01_k».proof.Proof.FwdKernel
public import proofs.«01_k».proof.Proof.FwdEq
public import proofs.«01_k».proof.Proof.MixGrad
public import proofs.«01_k».proof.Proof.EvGrad
public import proofs.«01_k».proof.Proof.OdGrad
public import proofs.«01_k».proof.Proof.MixBwd
public import proofs.«01_k».proof.Proof.EvInEq
public import proofs.«01_k».proof.Proof.AttnEq
public import proofs.«01_k».proof.Proof.LossEq
public import proofs.«01_k».proof.Proof.OdInEq
public import proofs.«01_k».proof.Proof.EvFwd
public import proofs.«01_k».proof.Proof.OdFwd
public import proofs.«01_k».proof.Proof.MixFwd
public import Idealize.ShloMosaic.Adequacy
public import Idealize.ShloMosaic.Init
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.AttnFwdEq
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read

@[expose] public section

noncomputable section

namespace Cert.Proof

open Idealize.ShloMosaic Idealize.SL.Sem Cert.Kernel

/-- The reference writes only its results. -/
theorem frame_reference : Cert.quiescent_ReferenceIdeal (hReferenceIdeal := Cert.ReferenceIdeal.Gen.facts) :=
  fun m ρ _ => (θ_run Cert.ReferenceIdeal.defs _ _).mono (fun r h => ⟨fun c => (h c).2.2.2.2.2, Idealize.ShloMosaic.sem_eq_zero_of_no_sems (by decide) r.2⟩) (Cert.ReferenceIdeal.Value.run m ρ)

/-- The second reference writes only its results. -/
theorem frame_reference2 : Cert.quiescent_Reference2Ideal (hReference2Ideal := Cert.Reference2Ideal.Gen.facts) :=
  fun m ρ _ => (θ_run Cert.Reference2Ideal.defs _ _).mono (fun r h => ⟨fun c => (h c).2.2, Idealize.ShloMosaic.sem_eq_zero_of_no_sems (by decide) r.2⟩) (Cert.Reference2Ideal.Value.run m ρ)

/-- The third reference writes only its result. -/
theorem frame_reference3 : Cert.quiescent_Reference3Ideal (hReference3Ideal := Cert.Reference3Ideal.Gen.facts) :=
  fun m ρ _ => (θ_run Cert.Reference3Ideal.defs _ _).mono (fun r h => ⟨fun c => (h c).2, Idealize.ShloMosaic.sem_eq_zero_of_no_sems (by decide) r.2⟩) (Cert.Reference3Ideal.Value.run m ρ)

/-- The fourth reference writes only its result. -/
theorem frame_reference4 : Cert.quiescent_Reference4Ideal (hReference4Ideal := Cert.Reference4Ideal.Gen.facts) :=
  fun m ρ _ => (θ_run Cert.Reference4Ideal.defs _ _).mono (fun r h => ⟨fun c => (h c).2, Idealize.ShloMosaic.sem_eq_zero_of_no_sems (by decide) r.2⟩) (Cert.Reference4Ideal.Value.run m ρ)

/-- The fifth reference writes only its results. -/
theorem frame_reference5 : Cert.quiescent_Reference5Ideal (hReference5Ideal := Cert.Reference5Ideal.Gen.facts) :=
  fun m ρ _ => (θ_run Cert.Reference5Ideal.defs _ _).mono (fun r h => ⟨fun c => (h c).2.2.2, Idealize.ShloMosaic.sem_eq_zero_of_no_sems (by decide) r.2⟩) (Cert.Reference5Ideal.Value.run m ρ)

/-- The sixth reference writes only its result. -/
theorem frame_reference6 : Cert.quiescent_Reference6Ideal (hReference6Ideal := Cert.Reference6Ideal.Gen.facts) :=
  fun m ρ _ => (θ_run Cert.Reference6Ideal.defs _ _).mono (fun r h => ⟨fun c => (h c).2, Idealize.ShloMosaic.sem_eq_zero_of_no_sems (by decide) r.2⟩) (Cert.Reference6Ideal.Value.run m ρ)

/-- The seventh reference writes only its result. -/
theorem frame_reference7 : Cert.quiescent_Reference7Ideal (hReference7Ideal := Cert.Reference7Ideal.Gen.facts) :=
  fun m ρ _ => (θ_run Cert.Reference7Ideal.defs _ _).mono (fun r h => ⟨fun c => (h c).2, Idealize.ShloMosaic.sem_eq_zero_of_no_sems (by decide) r.2⟩) (Cert.Reference7Ideal.Value.run m ρ)

/-- The eighth reference writes only its result. -/
theorem frame_reference8 : Cert.quiescent_Reference8Ideal (hReference8Ideal := Cert.Reference8Ideal.Gen.facts) :=
  fun m ρ _ => (θ_run Cert.Reference8Ideal.defs _ _).mono (fun r h => ⟨fun c => (h c).2, Idealize.ShloMosaic.sem_eq_zero_of_no_sems (by decide) r.2⟩) (Cert.Reference8Ideal.Value.run m ρ)

/-- The ninth reference writes only its results. -/
theorem frame_reference9 : Cert.quiescent_Reference9Ideal (hReference9Ideal := Cert.Reference9Ideal.Gen.facts) :=
  fun m ρ _ => (θ_run Cert.Reference9Ideal.defs _ _).mono (fun r h => ⟨fun c => (h c).2.2, Idealize.ShloMosaic.sem_eq_zero_of_no_sems (by decide) r.2⟩) (Cert.Reference9Ideal.Value.run m ρ)

/-- The tenth reference writes only its results. -/
theorem frame_reference10 : Cert.quiescent_Reference10Ideal (hReference10Ideal := Cert.Reference10Ideal.Gen.facts) :=
  fun m ρ _ => (θ_run Cert.Reference10Ideal.defs _ _).mono (fun r h => ⟨fun c => (h c).2.2, Idealize.ShloMosaic.sem_eq_zero_of_no_sems (by decide) r.2⟩) (Cert.Reference10Ideal.Value.run m ρ)

/-- The eleventh reference writes only its results. -/
theorem frame_reference11 : Cert.quiescent_Reference11Ideal (hReference11Ideal := Cert.Reference11Ideal.Gen.facts) :=
  fun m ρ _ => (θ_run Cert.Reference11Ideal.defs _ _).mono (fun r h => ⟨fun c => (h c).2.2, Idealize.ShloMosaic.sem_eq_zero_of_no_sems (by decide) r.2⟩) (Cert.Reference11Ideal.Value.run m ρ)

/-- The twelfth reference writes only its results. -/
theorem frame_reference12 : Cert.quiescent_Reference12Ideal (hReference12Ideal := Cert.Reference12Ideal.Gen.facts) :=
  fun m ρ _ => (θ_run Cert.Reference12Ideal.defs _ _).mono (fun r h => ⟨fun c => (h c).2.2.2, Idealize.ShloMosaic.sem_eq_zero_of_no_sems (by decide) r.2⟩) (Cert.Reference12Ideal.Value.run m ρ)

/-- The thirteenth reference writes only its results. -/
theorem frame_reference13 : Cert.quiescent_Reference13Ideal (hReference13Ideal := Cert.Reference13Ideal.Gen.facts) :=
  fun m ρ _ => (θ_run Cert.Reference13Ideal.defs _ _).mono (fun r h => ⟨fun c => (h c).2.2.2.2, Idealize.ShloMosaic.sem_eq_zero_of_no_sems (by decide) r.2⟩) (Cert.Reference13Ideal.Value.run m ρ)

/-- The fourteenth reference writes only its result. -/
theorem frame_reference14 : Cert.quiescent_Reference14Ideal (hReference14Ideal := Cert.Reference14Ideal.Gen.facts) :=
  fun m ρ _ => (θ_run Cert.Reference14Ideal.defs _ _).mono (fun r h => ⟨fun c => (h c).2, Idealize.ShloMosaic.sem_eq_zero_of_no_sems (by decide) r.2⟩) (Cert.Reference14Ideal.Value.run m ρ)

/-- The fifteenth reference writes only its results. -/
theorem frame_reference15 : Cert.quiescent_Reference15Ideal (hReference15Ideal := Cert.Reference15Ideal.Gen.facts) :=
  fun m ρ _ => (θ_run Cert.Reference15Ideal.defs _ _).mono (fun r h => ⟨fun c => (h c).2.2.2, Idealize.ShloMosaic.sem_eq_zero_of_no_sems (by decide) r.2⟩) (Cert.Reference15Ideal.Value.run m ρ)

/-- The sixteenth reference writes only its results. -/
theorem frame_reference16 : Cert.quiescent_Reference16Ideal (hReference16Ideal := Cert.Reference16Ideal.Gen.facts) :=
  fun m ρ _ => (θ_run Cert.Reference16Ideal.defs _ _).mono (fun r h => ⟨fun c => (h c).2.2.2, Idealize.ShloMosaic.sem_eq_zero_of_no_sems (by decide) r.2⟩) (Cert.Reference16Ideal.Value.run m ρ)
theorem frame_reference17 : Cert.quiescent_Reference17Ideal (hReference17Ideal := Cert.Reference17Ideal.Gen.facts) :=
  fun m ρ _ => (θ_run Cert.Reference17Ideal.defs _ _).mono (fun r h => ⟨fun c => (h c).2.2.2, Idealize.ShloMosaic.sem_eq_zero_of_no_sems (by decide) r.2⟩) (Cert.Reference17Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Reals.pre_facts, Cert.Kernel10Ideal.EvIn.pre_facts, Cert.Kernel11Ideal.OdIn.pre_facts, Cert.Kernel15Ideal.Attn.pre_facts, Cert.Kernel16Ideal.LossHead.pre_facts, Cert.Kernel17Ideal.AttnFwd.pre_facts, Cert.Kernel2Ideal.Conv.conv_facts,
  Cert.Kernel.Ffn.frame_kernel,
  fun m ρ _ => Cert.KernelIdeal.Ffn.frame m ρ,
  fun m ρ _ => Cert.KernelIdeal.Ffn.frame m ρ,
  frame_reference, fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  Cert.Kernel5.Fwd.frame_kernel,
  fun m ρ _ => Cert.Kernel5Ideal.Fwd.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  fun m ρ _ => Cert.Kernel10Ideal.Gen.frame m ρ,
  frame_reference10, fun m ρ _ => frame_reference10 m ρ trivial,
  fun m ρ _ => Cert.Kernel11.Gen.frame m ρ,
  fun m ρ _ => Cert.Kernel11Ideal.Gen.frame m ρ,
  fun m ρ _ => Cert.Kernel11Ideal.Gen.frame m ρ,
  frame_reference11, fun m ρ _ => frame_reference11 m ρ trivial,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  fun m ρ _ => Cert.Kernel15Ideal.Gen.frame m ρ,
  frame_reference15, fun m ρ _ => frame_reference15 m ρ trivial,
  fun m ρ _ => Cert.Kernel16.Gen.frame m ρ,
  fun m ρ _ => Cert.Kernel16Ideal.Gen.frame m ρ,
  fun m ρ _ => Cert.Kernel16Ideal.Gen.frame m ρ,
  frame_reference16, fun m ρ _ => frame_reference16 m ρ trivial,
  fun m ρ _ => Cert.Kernel17.Gen.frame m ρ,
  fun m ρ _ => Cert.Kernel17Ideal.Gen.frame m ρ,
  fun m ρ _ => Cert.Kernel17Ideal.Gen.frame m ρ,
  frame_reference17, fun m ρ _ => frame_reference17 m ρ trivial,
  trivial, @Cert.KernelIdeal.Ffn.algebraic Cert.Reals.pre_facts,
  trivial, @Cert.Kernel2Ideal.Conv.algebraic Cert.Kernel2Ideal.Conv.conv_facts,
  trivial, Cert.Kernel3Ideal.InGrad.algebraic, trivial, Cert.Kernel4Ideal.OutGrad.algebraic,
  trivial, Cert.Kernel5Ideal.Fwd.algebraic, trivial, Cert.Kernel6Ideal.MixGrad.algebraic,
  trivial, Cert.Kernel7Ideal.EvGrad.algebraic, trivial, Cert.Kernel8Ideal.OdGrad.algebraic, trivial, Cert.Kernel9Ideal.MixBwd.algebraic,
  trivial, @Cert.Kernel10Ideal.EvIn.algebraic Cert.Kernel10Ideal.EvIn.pre_facts, trivial, @Cert.Kernel11Ideal.OdIn.algebraic Cert.Kernel11Ideal.OdIn.pre_facts,
  trivial, Cert.Kernel12Ideal.EvFwd.algebraic, trivial, Cert.Kernel13Ideal.OdFwd.algebraic, trivial, Cert.Kernel14Ideal.MixFwd.algebraic,
  trivial, @Cert.Kernel15Ideal.Attn.algebraic Cert.Kernel15Ideal.Attn.pre_facts,
  trivial, @Cert.Kernel16Ideal.LossHead.algebraic Cert.Kernel16Ideal.LossHead.pre_facts,
  trivial, @Cert.Kernel17Ideal.AttnFwd.algebraic Cert.Kernel17Ideal.AttnFwd.pre_facts⟩

end Cert.Proof

end
